-- ==== Defs.lean ====
def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_finite [hPre_finite : Cert.Pre_finite.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8)) (m ((c.tc : Thread Cert.FfnFwdIdeal.nD Cert.FfnFwdIdeal.τ).loc Cert.FfnFwdIdeal.main_arg9)) (m ((c.tc : Thread Cert.FfnFwdIdeal.nD Cert.FfnFwdIdeal.τ).loc Cert.FfnFwdIdeal.main_arg10))) = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_finite [hPre_finite : Cert.Pre_finite.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_finite.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7)) (m ((c.tc : Thread Cert.FfnFwdRefIdeal.nD Cert.FfnFwdRefIdeal.τ).loc Cert.FfnFwdRefIdeal.main_arg8)) (m ((c.tc : Thread Cert.FfnFwdRefIdeal.nD Cert.FfnFwdRefIdeal.τ).loc Cert.FfnFwdRefIdeal.main_arg9)) (m ((c.tc : Thread Cert.FfnFwdRefIdeal.nD Cert.FfnFwdRefIdeal.τ).loc Cert.FfnFwdRefIdeal.main_arg10))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_finite_mix [hPre_finite_mix : Cert.Pre_finite_mix.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_finite_mix.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)) (m ((c.tc : Thread Cert.MixFwdIdeal.nD Cert.MixFwdIdeal.τ).loc Cert.MixFwdIdeal.main_arg11)) (m ((c.tc : Thread Cert.MixFwdIdeal.nD Cert.MixFwdIdeal.τ).loc Cert.MixFwdIdeal.main_arg12)) (m ((c.tc : Thread Cert.MixFwdIdeal.nD Cert.MixFwdIdeal.τ).loc Cert.MixFwdIdeal.main_arg13)) (m ((c.tc : Thread Cert.MixFwdIdeal.nD Cert.MixFwdIdeal.τ).loc Cert.MixFwdIdeal.main_arg14)) (m ((c.tc : Thread Cert.MixFwdIdeal.nD Cert.MixFwdIdeal.τ).loc Cert.MixFwdIdeal.main_arg15))) = (fun _ => 1#1)

def Pre_MixFwdRefIdeal (m : (ℓ : Loc Cert.MixFwdRefIdeal.nD Cert.MixFwdRefIdeal.τ Cert.MixFwdRefIdeal.sig) → Buf (Elt Ideal) ℓ) : Prop :=
  True

def Pre_MixFwdRefIdeal_finite_mix [hPre_finite_mix : Cert.Pre_finite_mix.Facts] (m : (ℓ : Loc Cert.MixFwdRefIdeal.nD Cert.MixFwdRefIdeal.τ Cert.MixFwdRefIdeal.sig) → Buf (Elt Ideal) ℓ) : Prop :=
  ∀ c : Dev Cert.MixFwdRefIdeal.nD,
    (Cert.Pre_finite_mix.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10)) (m ((c.tc : Thread Cert.MixFwdRefIdeal.nD Cert.MixFwdRefIdeal.τ).loc Cert.MixFwdRefIdeal.main_arg11)) (m ((c.tc : Thread Cert.MixFwdRefIdeal.nD Cert.MixFwdRefIdeal.τ).loc Cert.MixFwdRefIdeal.main_arg12)) (m ((c.tc : Thread Cert.MixFwdRefIdeal.nD Cert.MixFwdRefIdeal.τ).loc Cert.MixFwdRefIdeal.main_arg13)) (m ((c.tc : Thread Cert.MixFwdRefIdeal.nD Cert.MixFwdRefIdeal.τ).loc Cert.MixFwdRefIdeal.main_arg14)) (m ((c.tc : Thread Cert.MixFwdRefIdeal.nD Cert.MixFwdRefIdeal.τ).loc Cert.MixFwdRefIdeal.main_arg15))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Wada (m : (ℓ : Loc Cert.Wada.nD Cert.Wada.τ Cert.Wada.sig) → Buf (Elt Bits) ℓ) : Prop :=
  True

def Pre_WadaIdeal (m : (ℓ : Loc Cert.WadaIdeal.nD Cert.WadaIdeal.τ Cert.WadaIdeal.sig) → Buf (Elt Ideal) ℓ) : Prop :=
  True

def Pre_WadaRefIdeal (m : (ℓ : Loc Cert.WadaRefIdeal.nD Cert.WadaRefIdeal.τ Cert.WadaRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_finite_mix_bwd [hPre_finite_mix_bwd : Cert.Pre_finite_mix_bwd.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_finite_mix_bwd.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10)) (m ((c.tc : Thread Cert.MixBwdIdeal.nD Cert.MixBwdIdeal.τ).loc Cert.MixBwdIdeal.main_arg11)) (m ((c.tc : Thread Cert.MixBwdIdeal.nD Cert.MixBwdIdeal.τ).loc Cert.MixBwdIdeal.main_arg12))) = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_finite_mix_bwd [hPre_finite_mix_bwd : Cert.Pre_finite_mix_bwd.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_finite_mix_bwd.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10)) (m ((c.tc : Thread Cert.MixBwdRefIdeal.nD Cert.MixBwdRefIdeal.τ).loc Cert.MixBwdRefIdeal.main_arg11)) (m ((c.tc : Thread Cert.MixBwdRefIdeal.nD Cert.MixBwdRefIdeal.τ).loc Cert.MixBwdRefIdeal.main_arg12))) = (fun _ => 1#1)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6)
      ∧ r.2.mem ((c.tc : Thread Cert.FfnFwd.nD Cert.FfnFwd.τ).loc Cert.FfnFwd.main_arg7) = m ((c.tc : Thread Cert.FfnFwd.nD Cert.FfnFwd.τ).loc Cert.FfnFwd.main_arg7)
      ∧ r.2.mem ((c.tc : Thread Cert.FfnFwd.nD Cert.FfnFwd.τ).loc Cert.FfnFwd.main_arg8) = m ((c.tc : Thread Cert.FfnFwd.nD Cert.FfnFwd.τ).loc Cert.FfnFwd.main_arg8)
      ∧ r.2.mem ((c.tc : Thread Cert.FfnFwd.nD Cert.FfnFwd.τ).loc Cert.FfnFwd.main_arg9) = m ((c.tc : Thread Cert.FfnFwd.nD Cert.FfnFwd.τ).loc Cert.FfnFwd.main_arg9)
      ∧ r.2.mem ((c.tc : Thread Cert.FfnFwd.nD Cert.FfnFwd.τ).loc Cert.FfnFwd.main_arg10) = m ((c.tc : Thread Cert.FfnFwd.nD Cert.FfnFwd.τ).loc Cert.FfnFwd.main_arg10))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
      ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8)
      ∧ r.2.mem ((c.tc : Thread Cert.FfnFwdIdeal.nD Cert.FfnFwdIdeal.τ).loc Cert.FfnFwdIdeal.main_arg9) = m ((c.tc : Thread Cert.FfnFwdIdeal.nD Cert.FfnFwdIdeal.τ).loc Cert.FfnFwdIdeal.main_arg9)
      ∧ r.2.mem ((c.tc : Thread Cert.FfnFwdIdeal.nD Cert.FfnFwdIdeal.τ).loc Cert.FfnFwdIdeal.main_arg10) = m ((c.tc : Thread Cert.FfnFwdIdeal.nD Cert.FfnFwdIdeal.τ).loc Cert.FfnFwdIdeal.main_arg10))
      ∧ r.2.sem = fun _ => 0)

def quiescent_FfnFwdIdeal_pre_finite [hFfnFwdIdeal : Cert.FfnFwdIdeal.Facts] [hPre_finite : Cert.Pre_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_finite m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
      ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8)
      ∧ r.2.mem ((c.tc : Thread Cert.FfnFwdIdeal.nD Cert.FfnFwdIdeal.τ).loc Cert.FfnFwdIdeal.main_arg9) = m ((c.tc : Thread Cert.FfnFwdIdeal.nD Cert.FfnFwdIdeal.τ).loc Cert.FfnFwdIdeal.main_arg9)
      ∧ r.2.mem ((c.tc : Thread Cert.FfnFwdIdeal.nD Cert.FfnFwdIdeal.τ).loc Cert.FfnFwdIdeal.main_arg10) = m ((c.tc : Thread Cert.FfnFwdIdeal.nD Cert.FfnFwdIdeal.τ).loc Cert.FfnFwdIdeal.main_arg10))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6)
      ∧ r.2.mem ((c.tc : Thread Cert.FfnFwdRefIdeal.nD Cert.FfnFwdRefIdeal.τ).loc Cert.FfnFwdRefIdeal.main_arg7) = m ((c.tc : Thread Cert.FfnFwdRefIdeal.nD Cert.FfnFwdRefIdeal.τ).loc Cert.FfnFwdRefIdeal.main_arg7)
      ∧ r.2.mem ((c.tc : Thread Cert.FfnFwdRefIdeal.nD Cert.FfnFwdRefIdeal.τ).loc Cert.FfnFwdRefIdeal.main_arg8) = m ((c.tc : Thread Cert.FfnFwdRefIdeal.nD Cert.FfnFwdRefIdeal.τ).loc Cert.FfnFwdRefIdeal.main_arg8)
      ∧ r.2.mem ((c.tc : Thread Cert.FfnFwdRefIdeal.nD Cert.FfnFwdRefIdeal.τ).loc Cert.FfnFwdRefIdeal.main_arg9) = m ((c.tc : Thread Cert.FfnFwdRefIdeal.nD Cert.FfnFwdRefIdeal.τ).loc Cert.FfnFwdRefIdeal.main_arg9)
      ∧ r.2.mem ((c.tc : Thread Cert.FfnFwdRefIdeal.nD Cert.FfnFwdRefIdeal.τ).loc Cert.FfnFwdRefIdeal.main_arg10) = m ((c.tc : Thread Cert.FfnFwdRefIdeal.nD Cert.FfnFwdRefIdeal.τ).loc Cert.FfnFwdRefIdeal.main_arg10))
      ∧ r.2.sem = fun _ => 0)

def quiescent_FfnFwdRefIdeal_pre_finite [hFfnFwdRefIdeal : Cert.FfnFwdRefIdeal.Facts] [hPre_finite : Cert.Pre_finite.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_finite m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6)
      ∧ r.2.mem ((c.tc : Thread Cert.FfnFwdRefIdeal.nD Cert.FfnFwdRefIdeal.τ).loc Cert.FfnFwdRefIdeal.main_arg7) = m ((c.tc : Thread Cert.FfnFwdRefIdeal.nD Cert.FfnFwdRefIdeal.τ).loc Cert.FfnFwdRefIdeal.main_arg7)
      ∧ r.2.mem ((c.tc : Thread Cert.FfnFwdRefIdeal.nD Cert.FfnFwdRefIdeal.τ).loc Cert.FfnFwdRefIdeal.main_arg8) = m ((c.tc : Thread Cert.FfnFwdRefIdeal.nD Cert.FfnFwdRefIdeal.τ).loc Cert.FfnFwdRefIdeal.main_arg8)
      ∧ r.2.mem ((c.tc : Thread Cert.FfnFwdRefIdeal.nD Cert.FfnFwdRefIdeal.τ).loc Cert.FfnFwdRefIdeal.main_arg9) = m ((c.tc : Thread Cert.FfnFwdRefIdeal.nD Cert.FfnFwdRefIdeal.τ).loc Cert.FfnFwdRefIdeal.main_arg9)
      ∧ r.2.mem ((c.tc : Thread Cert.FfnFwdRefIdeal.nD Cert.FfnFwdRefIdeal.τ).loc Cert.FfnFwdRefIdeal.main_arg10) = m ((c.tc : Thread Cert.FfnFwdRefIdeal.nD Cert.FfnFwdRefIdeal.τ).loc Cert.FfnFwdRefIdeal.main_arg10))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11)
      ∧ r.2.mem ((c.tc : Thread Cert.MixFwd.nD Cert.MixFwd.τ).loc Cert.MixFwd.main_arg12) = m ((c.tc : Thread Cert.MixFwd.nD Cert.MixFwd.τ).loc Cert.MixFwd.main_arg12)
      ∧ r.2.mem ((c.tc : Thread Cert.MixFwd.nD Cert.MixFwd.τ).loc Cert.MixFwd.main_arg13) = m ((c.tc : Thread Cert.MixFwd.nD Cert.MixFwd.τ).loc Cert.MixFwd.main_arg13)
      ∧ r.2.mem ((c.tc : Thread Cert.MixFwd.nD Cert.MixFwd.τ).loc Cert.MixFwd.main_arg14) = m ((c.tc : Thread Cert.MixFwd.nD Cert.MixFwd.τ).loc Cert.MixFwd.main_arg14)
      ∧ r.2.mem ((c.tc : Thread Cert.MixFwd.nD Cert.MixFwd.τ).loc Cert.MixFwd.main_arg15) = m ((c.tc : Thread Cert.MixFwd.nD Cert.MixFwd.τ).loc Cert.MixFwd.main_arg15))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
      ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14)
      ∧ r.2.mem ((c.tc : Thread Cert.MixFwdIdeal.nD Cert.MixFwdIdeal.τ).loc Cert.MixFwdIdeal.main_arg15) = m ((c.tc : Thread Cert.MixFwdIdeal.nD Cert.MixFwdIdeal.τ).loc Cert.MixFwdIdeal.main_arg15))
      ∧ r.2.sem = fun _ => 0)

def quiescent_MixFwdIdeal_pre_finite_mix [hMixFwdIdeal : Cert.MixFwdIdeal.Facts] [hPre_finite_mix : Cert.Pre_finite_mix.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_finite_mix m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
      ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14)
      ∧ r.2.mem ((c.tc : Thread Cert.MixFwdIdeal.nD Cert.MixFwdIdeal.τ).loc Cert.MixFwdIdeal.main_arg15) = m ((c.tc : Thread Cert.MixFwdIdeal.nD Cert.MixFwdIdeal.τ).loc Cert.MixFwdIdeal.main_arg15))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11)
      ∧ r.2.mem ((c.tc : Thread Cert.MixFwdRefIdeal.nD Cert.MixFwdRefIdeal.τ).loc Cert.MixFwdRefIdeal.main_arg12) = m ((c.tc : Thread Cert.MixFwdRefIdeal.nD Cert.MixFwdRefIdeal.τ).loc Cert.MixFwdRefIdeal.main_arg12)
      ∧ r.2.mem ((c.tc : Thread Cert.MixFwdRefIdeal.nD Cert.MixFwdRefIdeal.τ).loc Cert.MixFwdRefIdeal.main_arg13) = m ((c.tc : Thread Cert.MixFwdRefIdeal.nD Cert.MixFwdRefIdeal.τ).loc Cert.MixFwdRefIdeal.main_arg13)
      ∧ r.2.mem ((c.tc : Thread Cert.MixFwdRefIdeal.nD Cert.MixFwdRefIdeal.τ).loc Cert.MixFwdRefIdeal.main_arg14) = m ((c.tc : Thread Cert.MixFwdRefIdeal.nD Cert.MixFwdRefIdeal.τ).loc Cert.MixFwdRefIdeal.main_arg14)
      ∧ r.2.mem ((c.tc : Thread Cert.MixFwdRefIdeal.nD Cert.MixFwdRefIdeal.τ).loc Cert.MixFwdRefIdeal.main_arg15) = m ((c.tc : Thread Cert.MixFwdRefIdeal.nD Cert.MixFwdRefIdeal.τ).loc Cert.MixFwdRefIdeal.main_arg15))
      ∧ r.2.sem = fun _ => 0)

def quiescent_MixFwdRefIdeal_pre_finite_mix [hMixFwdRefIdeal : Cert.MixFwdRefIdeal.Facts] [hPre_finite_mix : Cert.Pre_finite_mix.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal_finite_mix m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11)
      ∧ r.2.mem ((c.tc : Thread Cert.MixFwdRefIdeal.nD Cert.MixFwdRefIdeal.τ).loc Cert.MixFwdRefIdeal.main_arg12) = m ((c.tc : Thread Cert.MixFwdRefIdeal.nD Cert.MixFwdRefIdeal.τ).loc Cert.MixFwdRefIdeal.main_arg12)
      ∧ r.2.mem ((c.tc : Thread Cert.MixFwdRefIdeal.nD Cert.MixFwdRefIdeal.τ).loc Cert.MixFwdRefIdeal.main_arg13) = m ((c.tc : Thread Cert.MixFwdRefIdeal.nD Cert.MixFwdRefIdeal.τ).loc Cert.MixFwdRefIdeal.main_arg13)
      ∧ r.2.mem ((c.tc : Thread Cert.MixFwdRefIdeal.nD Cert.MixFwdRefIdeal.τ).loc Cert.MixFwdRefIdeal.main_arg14) = m ((c.tc : Thread Cert.MixFwdRefIdeal.nD Cert.MixFwdRefIdeal.τ).loc Cert.MixFwdRefIdeal.main_arg14)
      ∧ r.2.mem ((c.tc : Thread Cert.MixFwdRefIdeal.nD Cert.MixFwdRefIdeal.τ).loc Cert.MixFwdRefIdeal.main_arg15) = m ((c.tc : Thread Cert.MixFwdRefIdeal.nD Cert.MixFwdRefIdeal.τ).loc Cert.MixFwdRefIdeal.main_arg15))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1)
      ∧ r.2.mem ((c.tc : Thread Cert.Pair.nD Cert.Pair.τ).loc Cert.Pair.main_arg2) = m ((c.tc : Thread Cert.Pair.nD Cert.Pair.τ).loc Cert.Pair.main_arg2)
      ∧ r.2.mem ((c.tc : Thread Cert.Pair.nD Cert.Pair.τ).loc Cert.Pair.main_arg3) = m ((c.tc : Thread Cert.Pair.nD Cert.Pair.τ).loc Cert.Pair.main_arg3))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
      ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
      ∧ r.2.mem ((c.tc : Thread Cert.PairIdeal.nD Cert.PairIdeal.τ).loc Cert.PairIdeal.main_arg3) = m ((c.tc : Thread Cert.PairIdeal.nD Cert.PairIdeal.τ).loc Cert.PairIdeal.main_arg3))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1)
      ∧ r.2.mem ((c.tc : Thread Cert.PairRefIdeal.nD Cert.PairRefIdeal.τ).loc Cert.PairRefIdeal.main_arg2) = m ((c.tc : Thread Cert.PairRefIdeal.nD Cert.PairRefIdeal.τ).loc Cert.PairRefIdeal.main_arg2)
      ∧ r.2.mem ((c.tc : Thread Cert.PairRefIdeal.nD Cert.PairRefIdeal.τ).loc Cert.PairRefIdeal.main_arg3) = m ((c.tc : Thread Cert.PairRefIdeal.nD Cert.PairRefIdeal.τ).loc Cert.PairRefIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Wada [hWada : Cert.Wada.Facts] : Prop :=
  ∀ (m : (ℓ : Loc Cert.Wada.nD Cert.Wada.τ Cert.Wada.sig) → Buf (Elt Bits) ℓ) (g : Dev Cert.Wada.nD → PrngReg), Pre_Wada m →
    θ_run (Cert.Wada.defs (F := Bits)) (onTc (τ := Cert.Wada.τ) (Cert.Wada.main (F := Bits))) ⟨m, fun _ => 0, g⟩ (fun r => (∀ c : Dev Cert.Wada.nD,
      r.2.mem ((c.tc : Thread Cert.Wada.nD Cert.Wada.τ).loc Cert.Wada.main_arg0) = m ((c.tc : Thread Cert.Wada.nD Cert.Wada.τ).loc Cert.Wada.main_arg0)
      ∧ r.2.mem ((c.tc : Thread Cert.Wada.nD Cert.Wada.τ).loc Cert.Wada.main_arg1) = m ((c.tc : Thread Cert.Wada.nD Cert.Wada.τ).loc Cert.Wada.main_arg1)
      ∧ r.2.mem ((c.tc : Thread Cert.Wada.nD Cert.Wada.τ).loc Cert.Wada.main_arg2) = m ((c.tc : Thread Cert.Wada.nD Cert.Wada.τ).loc Cert.Wada.main_arg2)
      ∧ r.2.mem ((c.tc : Thread Cert.Wada.nD Cert.Wada.τ).loc Cert.Wada.main_arg3) = m ((c.tc : Thread Cert.Wada.nD Cert.Wada.τ).loc Cert.Wada.main_arg3)
      ∧ r.2.mem ((c.tc : Thread Cert.Wada.nD Cert.Wada.τ).loc Cert.Wada.main_arg4) = m ((c.tc : Thread Cert.Wada.nD Cert.Wada.τ).loc Cert.Wada.main_arg4))
      ∧ r.2.sem = fun _ => 0)

def quiescent_WadaIdeal [hWadaIdeal : Cert.WadaIdeal.Facts] : Prop :=
  ∀ (m : (ℓ : Loc Cert.WadaIdeal.nD Cert.WadaIdeal.τ Cert.WadaIdeal.sig) → Buf (Elt Ideal) ℓ) (g : Dev Cert.WadaIdeal.nD → PrngReg), Pre_WadaIdeal m →
    θ_run (Cert.WadaIdeal.defs (F := Ideal)) (onTc (τ := Cert.WadaIdeal.τ) (Cert.WadaIdeal.main (F := Ideal))) ⟨m, fun _ => 0, g⟩ (fun r => (∀ c : Dev Cert.WadaIdeal.nD,
      r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
      ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1)
      ∧ r.2.mem ((c.tc : Thread Cert.WadaIdeal.nD Cert.WadaIdeal.τ).loc Cert.WadaIdeal.main_arg2) = m ((c.tc : Thread Cert.WadaIdeal.nD Cert.WadaIdeal.τ).loc Cert.WadaIdeal.main_arg2)
      ∧ r.2.mem ((c.tc : Thread Cert.WadaIdeal.nD Cert.WadaIdeal.τ).loc Cert.WadaIdeal.main_arg3) = m ((c.tc : Thread Cert.WadaIdeal.nD Cert.WadaIdeal.τ).loc Cert.WadaIdeal.main_arg3)
      ∧ r.2.mem ((c.tc : Thread Cert.WadaIdeal.nD Cert.WadaIdeal.τ).loc Cert.WadaIdeal.main_arg4) = m ((c.tc : Thread Cert.WadaIdeal.nD Cert.WadaIdeal.τ).loc Cert.WadaIdeal.main_arg4))
      ∧ r.2.sem = fun _ => 0)

def quiescent_WadaRefIdeal [hWadaRefIdeal : Cert.WadaRefIdeal.Facts] : Prop :=
  ∀ (m : (ℓ : Loc Cert.WadaRefIdeal.nD Cert.WadaRefIdeal.τ Cert.WadaRefIdeal.sig) → Buf (Elt Ideal) ℓ) (g : Dev Cert.WadaRefIdeal.nD → PrngReg), Pre_WadaRefIdeal m →
    θ_run (Cert.WadaRefIdeal.defs (F := Ideal)) (onTc (τ := Cert.WadaRefIdeal.τ) (Cert.WadaRefIdeal.main (F := Ideal))) ⟨m, fun _ => 0, g⟩ (fun r => (∀ c : Dev Cert.WadaRefIdeal.nD,
      r.2.mem ((c.tc : Thread Cert.WadaRefIdeal.nD Cert.WadaRefIdeal.τ).loc Cert.WadaRefIdeal.main_arg0) = m ((c.tc : Thread Cert.WadaRefIdeal.nD Cert.WadaRefIdeal.τ).loc Cert.WadaRefIdeal.main_arg0)
      ∧ r.2.mem ((c.tc : Thread Cert.WadaRefIdeal.nD Cert.WadaRefIdeal.τ).loc Cert.WadaRefIdeal.main_arg1) = m ((c.tc : Thread Cert.WadaRefIdeal.nD Cert.WadaRefIdeal.τ).loc Cert.WadaRefIdeal.main_arg1)
      ∧ r.2.mem ((c.tc : Thread Cert.WadaRefIdeal.nD Cert.WadaRefIdeal.τ).loc Cert.WadaRefIdeal.main_arg2) = m ((c.tc : Thread Cert.WadaRefIdeal.nD Cert.WadaRefIdeal.τ).loc Cert.WadaRefIdeal.main_arg2)
      ∧ r.2.mem ((c.tc : Thread Cert.WadaRefIdeal.nD Cert.WadaRefIdeal.τ).loc Cert.WadaRefIdeal.main_arg3) = m ((c.tc : Thread Cert.WadaRefIdeal.nD Cert.WadaRefIdeal.τ).loc Cert.WadaRefIdeal.main_arg3)
      ∧ r.2.mem ((c.tc : Thread Cert.WadaRefIdeal.nD Cert.WadaRefIdeal.τ).loc Cert.WadaRefIdeal.main_arg4) = m ((c.tc : Thread Cert.WadaRefIdeal.nD Cert.WadaRefIdeal.τ).loc Cert.WadaRefIdeal.main_arg4))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10)
      ∧ r.2.mem ((c.tc : Thread Cert.MixBwd.nD Cert.MixBwd.τ).loc Cert.MixBwd.main_arg11) = m ((c.tc : Thread Cert.MixBwd.nD Cert.MixBwd.τ).loc Cert.MixBwd.main_arg11)
      ∧ r.2.mem ((c.tc : Thread Cert.MixBwd.nD Cert.MixBwd.τ).loc Cert.MixBwd.main_arg12) = m ((c.tc : Thread Cert.MixBwd.nD Cert.MixBwd.τ).loc Cert.MixBwd.main_arg12))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
      ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12))
      ∧ r.2.sem = fun _ => 0)

def quiescent_MixBwdIdeal_pre_finite_mix_bwd [hMixBwdIdeal : Cert.MixBwdIdeal.Facts] [hPre_finite_mix_bwd : Cert.Pre_finite_mix_bwd.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_finite_mix_bwd m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
      ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10)
      ∧ r.2.mem ((c.tc : Thread Cert.MixBwdRefIdeal.nD Cert.MixBwdRefIdeal.τ).loc Cert.MixBwdRefIdeal.main_arg11) = m ((c.tc : Thread Cert.MixBwdRefIdeal.nD Cert.MixBwdRefIdeal.τ).loc Cert.MixBwdRefIdeal.main_arg11)
      ∧ r.2.mem ((c.tc : Thread Cert.MixBwdRefIdeal.nD Cert.MixBwdRefIdeal.τ).loc Cert.MixBwdRefIdeal.main_arg12) = m ((c.tc : Thread Cert.MixBwdRefIdeal.nD Cert.MixBwdRefIdeal.τ).loc Cert.MixBwdRefIdeal.main_arg12))
      ∧ r.2.sem = fun _ => 0)

def quiescent_MixBwdRefIdeal_pre_finite_mix_bwd [hMixBwdRefIdeal : Cert.MixBwdRefIdeal.Facts] [hPre_finite_mix_bwd : Cert.Pre_finite_mix_bwd.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_finite_mix_bwd m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10)
      ∧ r.2.mem ((c.tc : Thread Cert.MixBwdRefIdeal.nD Cert.MixBwdRefIdeal.τ).loc Cert.MixBwdRefIdeal.main_arg11) = m ((c.tc : Thread Cert.MixBwdRefIdeal.nD Cert.MixBwdRefIdeal.τ).loc Cert.MixBwdRefIdeal.main_arg11)
      ∧ r.2.mem ((c.tc : Thread Cert.MixBwdRefIdeal.nD Cert.MixBwdRefIdeal.τ).loc Cert.MixBwdRefIdeal.main_arg12) = m ((c.tc : Thread Cert.MixBwdRefIdeal.nD Cert.MixBwdRefIdeal.τ).loc Cert.MixBwdRefIdeal.main_arg12))
      ∧ r.2.sem = fun _ => 0)

def preserves_FfnFwd_FfnFwdIdeal : Prop :=
  True

def algebraic_FfnFwdIdeal_FfnFwdRefIdeal_pre_finite [hFfnFwdIdeal : Cert.FfnFwdIdeal.Facts] [hFfnFwdRefIdeal : Cert.FfnFwdRefIdeal.Facts] [hPre_finite : Cert.Pre_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_finite m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)
      ∧ m' ((c.tc : Thread Cert.FfnFwdRefIdeal.nD Cert.FfnFwdRefIdeal.τ).loc Cert.FfnFwdRefIdeal.main_arg7) = m ((c.tc : Thread Cert.FfnFwdIdeal.nD Cert.FfnFwdIdeal.τ).loc Cert.FfnFwdIdeal.main_arg7)
      ∧ m' ((c.tc : Thread Cert.FfnFwdRefIdeal.nD Cert.FfnFwdRefIdeal.τ).loc Cert.FfnFwdRefIdeal.main_arg8) = m ((c.tc : Thread Cert.FfnFwdIdeal.nD Cert.FfnFwdIdeal.τ).loc Cert.FfnFwdIdeal.main_arg8)
      ∧ m' ((c.tc : Thread Cert.FfnFwdRefIdeal.nD Cert.FfnFwdRefIdeal.τ).loc Cert.FfnFwdRefIdeal.main_arg9) = m ((c.tc : Thread Cert.FfnFwdIdeal.nD Cert.FfnFwdIdeal.τ).loc Cert.FfnFwdIdeal.main_arg9)
      ∧ m' ((c.tc : Thread Cert.FfnFwdRefIdeal.nD Cert.FfnFwdRefIdeal.τ).loc Cert.FfnFwdRefIdeal.main_arg10) = m ((c.tc : Thread Cert.FfnFwdIdeal.nD Cert.FfnFwdIdeal.τ).loc Cert.FfnFwdIdeal.main_arg10)) →
    ∃ (v0 : (c : Dev Cert.FfnFwdIdeal.nD) → Buf (Elt Ideal) ((c.tc : Thread Cert.FfnFwdIdeal.nD Cert.FfnFwdIdeal.τ).loc Cert.FfnFwdIdeal.main_v49_0)) (v1 : (c : Dev Cert.FfnFwdIdeal.nD) → Buf (Elt Ideal) ((c.tc : Thread Cert.FfnFwdIdeal.nD Cert.FfnFwdIdeal.τ).loc Cert.FfnFwdIdeal.main_v49_1)) (v2 : (c : Dev Cert.FfnFwdIdeal.nD) → Buf (Elt Ideal) ((c.tc : Thread Cert.FfnFwdIdeal.nD Cert.FfnFwdIdeal.τ).loc Cert.FfnFwdIdeal.main_v49_2)) (v3 : (c : Dev Cert.FfnFwdIdeal.nD) → Buf (Elt Ideal) ((c.tc : Thread Cert.FfnFwdIdeal.nD Cert.FfnFwdIdeal.τ).loc Cert.FfnFwdIdeal.main_v49_3)) (v4 : (c : Dev Cert.FfnFwdIdeal.nD) → Buf (Elt Ideal) ((c.tc : Thread Cert.FfnFwdIdeal.nD Cert.FfnFwdIdeal.τ).loc Cert.FfnFwdIdeal.main_v49_4)) (v5 : (c : Dev Cert.FfnFwdIdeal.nD) → Buf (Elt Ideal) ((c.tc : Thread Cert.FfnFwdIdeal.nD Cert.FfnFwdIdeal.τ).loc Cert.FfnFwdIdeal.main_v49_5)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v49_0) = v0 c
          ∧ r.2.mem ((c.tc : Thread Cert.FfnFwdIdeal.nD Cert.FfnFwdIdeal.τ).loc Cert.FfnFwdIdeal.main_v49_1) = v1 c
          ∧ r.2.mem ((c.tc : Thread Cert.FfnFwdIdeal.nD Cert.FfnFwdIdeal.τ).loc Cert.FfnFwdIdeal.main_v49_2) = v2 c
          ∧ r.2.mem ((c.tc : Thread Cert.FfnFwdIdeal.nD Cert.FfnFwdIdeal.τ).loc Cert.FfnFwdIdeal.main_v49_3) = v3 c
          ∧ r.2.mem ((c.tc : Thread Cert.FfnFwdIdeal.nD Cert.FfnFwdIdeal.τ).loc Cert.FfnFwdIdeal.main_v49_4) = v4 c
          ∧ r.2.mem ((c.tc : Thread Cert.FfnFwdIdeal.nD Cert.FfnFwdIdeal.τ).loc Cert.FfnFwdIdeal.main_v49_5) = v5 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
          ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
          ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8)
          ∧ r.2.mem ((c.tc : Thread Cert.FfnFwdIdeal.nD Cert.FfnFwdIdeal.τ).loc Cert.FfnFwdIdeal.main_arg9) = m ((c.tc : Thread Cert.FfnFwdIdeal.nD Cert.FfnFwdIdeal.τ).loc Cert.FfnFwdIdeal.main_arg9)
          ∧ r.2.mem ((c.tc : Thread Cert.FfnFwdIdeal.nD Cert.FfnFwdIdeal.τ).loc Cert.FfnFwdIdeal.main_arg10) = m ((c.tc : Thread Cert.FfnFwdIdeal.nD Cert.FfnFwdIdeal.τ).loc Cert.FfnFwdIdeal.main_arg10))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v150) = v0 c
          ∧ r.2.mem ((c.tc : Thread Cert.FfnFwdRefIdeal.nD Cert.FfnFwdRefIdeal.τ).loc Cert.FfnFwdRefIdeal.main_v158) = v1 c
          ∧ r.2.mem ((c.tc : Thread Cert.FfnFwdRefIdeal.nD Cert.FfnFwdRefIdeal.τ).loc Cert.FfnFwdRefIdeal.main_v162) = v2 c
          ∧ r.2.mem ((c.tc : Thread Cert.FfnFwdRefIdeal.nD Cert.FfnFwdRefIdeal.τ).loc Cert.FfnFwdRefIdeal.main_v163) = v3 c
          ∧ r.2.mem ((c.tc : Thread Cert.FfnFwdRefIdeal.nD Cert.FfnFwdRefIdeal.τ).loc Cert.FfnFwdRefIdeal.main_v167) = v4 c
          ∧ r.2.mem ((c.tc : Thread Cert.FfnFwdRefIdeal.nD Cert.FfnFwdRefIdeal.τ).loc Cert.FfnFwdRefIdeal.main_v170) = v5 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6)
          ∧ r.2.mem ((c.tc : Thread Cert.FfnFwdRefIdeal.nD Cert.FfnFwdRefIdeal.τ).loc Cert.FfnFwdRefIdeal.main_arg7) = m' ((c.tc : Thread Cert.FfnFwdRefIdeal.nD Cert.FfnFwdRefIdeal.τ).loc Cert.FfnFwdRefIdeal.main_arg7)
          ∧ r.2.mem ((c.tc : Thread Cert.FfnFwdRefIdeal.nD Cert.FfnFwdRefIdeal.τ).loc Cert.FfnFwdRefIdeal.main_arg8) = m' ((c.tc : Thread Cert.FfnFwdRefIdeal.nD Cert.FfnFwdRefIdeal.τ).loc Cert.FfnFwdRefIdeal.main_arg8)
          ∧ r.2.mem ((c.tc : Thread Cert.FfnFwdRefIdeal.nD Cert.FfnFwdRefIdeal.τ).loc Cert.FfnFwdRefIdeal.main_arg9) = m' ((c.tc : Thread Cert.FfnFwdRefIdeal.nD Cert.FfnFwdRefIdeal.τ).loc Cert.FfnFwdRefIdeal.main_arg9)
          ∧ r.2.mem ((c.tc : Thread Cert.FfnFwdRefIdeal.nD Cert.FfnFwdRefIdeal.τ).loc Cert.FfnFwdRefIdeal.main_arg10) = m' ((c.tc : Thread Cert.FfnFwdRefIdeal.nD Cert.FfnFwdRefIdeal.τ).loc Cert.FfnFwdRefIdeal.main_arg10))

def preserves_MixFwd_MixFwdIdeal : Prop :=
  IdealRules.named_const.Statement Cert.MixFwdIdeal.κ "gelu_c1" .f32 0x3D122279#32 ((80338380498831 / 2251799813685248 : ℝ) : EReal)

def algebraic_MixFwdIdeal_MixFwdRefIdeal_pre_finite_mix [hMixFwdIdeal : Cert.MixFwdIdeal.Facts] [hMixFwdRefIdeal : Cert.MixFwdRefIdeal.Facts] [hPre_finite_mix : Cert.Pre_finite_mix.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal_finite_mix m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)
      ∧ m' ((c.tc : Thread Cert.MixFwdRefIdeal.nD Cert.MixFwdRefIdeal.τ).loc Cert.MixFwdRefIdeal.main_arg11) = m ((c.tc : Thread Cert.MixFwdIdeal.nD Cert.MixFwdIdeal.τ).loc Cert.MixFwdIdeal.main_arg11)
      ∧ m' ((c.tc : Thread Cert.MixFwdRefIdeal.nD Cert.MixFwdRefIdeal.τ).loc Cert.MixFwdRefIdeal.main_arg12) = m ((c.tc : Thread Cert.MixFwdIdeal.nD Cert.MixFwdIdeal.τ).loc Cert.MixFwdIdeal.main_arg12)
      ∧ m' ((c.tc : Thread Cert.MixFwdRefIdeal.nD Cert.MixFwdRefIdeal.τ).loc Cert.MixFwdRefIdeal.main_arg13) = m ((c.tc : Thread Cert.MixFwdIdeal.nD Cert.MixFwdIdeal.τ).loc Cert.MixFwdIdeal.main_arg13)
      ∧ m' ((c.tc : Thread Cert.MixFwdRefIdeal.nD Cert.MixFwdRefIdeal.τ).loc Cert.MixFwdRefIdeal.main_arg14) = m ((c.tc : Thread Cert.MixFwdIdeal.nD Cert.MixFwdIdeal.τ).loc Cert.MixFwdIdeal.main_arg14)
      ∧ m' ((c.tc : Thread Cert.MixFwdRefIdeal.nD Cert.MixFwdRefIdeal.τ).loc Cert.MixFwdRefIdeal.main_arg15) = m ((c.tc : Thread Cert.MixFwdIdeal.nD Cert.MixFwdIdeal.τ).loc Cert.MixFwdIdeal.main_arg15)) →
    ∃ (v0 : (c : Dev Cert.MixFwdIdeal.nD) → Buf (Elt Ideal) ((c.tc : Thread Cert.MixFwdIdeal.nD Cert.MixFwdIdeal.τ).loc Cert.MixFwdIdeal.main_v46_0)) (v1 : (c : Dev Cert.MixFwdIdeal.nD) → Buf (Elt Ideal) ((c.tc : Thread Cert.MixFwdIdeal.nD Cert.MixFwdIdeal.τ).loc Cert.MixFwdIdeal.main_v46_1)) (v2 : (c : Dev Cert.MixFwdIdeal.nD) → Buf (Elt Ideal) ((c.tc : Thread Cert.MixFwdIdeal.nD Cert.MixFwdIdeal.τ).loc Cert.MixFwdIdeal.main_v46_2)) (v3 : (c : Dev Cert.MixFwdIdeal.nD) → Buf (Elt Ideal) ((c.tc : Thread Cert.MixFwdIdeal.nD Cert.MixFwdIdeal.τ).loc Cert.MixFwdIdeal.main_v46_3)) (v4 : (c : Dev Cert.MixFwdIdeal.nD) → Buf (Elt Ideal) ((c.tc : Thread Cert.MixFwdIdeal.nD Cert.MixFwdIdeal.τ).loc Cert.MixFwdIdeal.main_v46_4)) (v5 : (c : Dev Cert.MixFwdIdeal.nD) → Buf (Elt Ideal) ((c.tc : Thread Cert.MixFwdIdeal.nD Cert.MixFwdIdeal.τ).loc Cert.MixFwdIdeal.main_v46_5)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v46_0) = v0 c
          ∧ r.2.mem ((c.tc : Thread Cert.MixFwdIdeal.nD Cert.MixFwdIdeal.τ).loc Cert.MixFwdIdeal.main_v46_1) = v1 c
          ∧ r.2.mem ((c.tc : Thread Cert.MixFwdIdeal.nD Cert.MixFwdIdeal.τ).loc Cert.MixFwdIdeal.main_v46_2) = v2 c
          ∧ r.2.mem ((c.tc : Thread Cert.MixFwdIdeal.nD Cert.MixFwdIdeal.τ).loc Cert.MixFwdIdeal.main_v46_3) = v3 c
          ∧ r.2.mem ((c.tc : Thread Cert.MixFwdIdeal.nD Cert.MixFwdIdeal.τ).loc Cert.MixFwdIdeal.main_v46_4) = v4 c
          ∧ r.2.mem ((c.tc : Thread Cert.MixFwdIdeal.nD Cert.MixFwdIdeal.τ).loc Cert.MixFwdIdeal.main_v46_5) = v5 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
          ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
          ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
          ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14)
          ∧ r.2.mem ((c.tc : Thread Cert.MixFwdIdeal.nD Cert.MixFwdIdeal.τ).loc Cert.MixFwdIdeal.main_arg15) = m ((c.tc : Thread Cert.MixFwdIdeal.nD Cert.MixFwdIdeal.τ).loc Cert.MixFwdIdeal.main_arg15))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v200) = v0 c
          ∧ r.2.mem ((c.tc : Thread Cert.MixFwdRefIdeal.nD Cert.MixFwdRefIdeal.τ).loc Cert.MixFwdRefIdeal.main_v202) = v1 c
          ∧ r.2.mem ((c.tc : Thread Cert.MixFwdRefIdeal.nD Cert.MixFwdRefIdeal.τ).loc Cert.MixFwdRefIdeal.main_v204) = v2 c
          ∧ r.2.mem ((c.tc : Thread Cert.MixFwdRefIdeal.nD Cert.MixFwdRefIdeal.τ).loc Cert.MixFwdRefIdeal.main_v205) = v3 c
          ∧ r.2.mem ((c.tc : Thread Cert.MixFwdRefIdeal.nD Cert.MixFwdRefIdeal.τ).loc Cert.MixFwdRefIdeal.main_v206) = v4 c
          ∧ r.2.mem ((c.tc : Thread Cert.MixFwdRefIdeal.nD Cert.MixFwdRefIdeal.τ).loc Cert.MixFwdRefIdeal.main_v210) = v5 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10)
          ∧ r.2.mem ((c.tc : Thread Cert.MixFwdRefIdeal.nD Cert.MixFwdRefIdeal.τ).loc Cert.MixFwdRefIdeal.main_arg11) = m' ((c.tc : Thread Cert.MixFwdRefIdeal.nD Cert.MixFwdRefIdeal.τ).loc Cert.MixFwdRefIdeal.main_arg11)
          ∧ r.2.mem ((c.tc : Thread Cert.MixFwdRefIdeal.nD Cert.MixFwdRefIdeal.τ).loc Cert.MixFwdRefIdeal.main_arg12) = m' ((c.tc : Thread Cert.MixFwdRefIdeal.nD Cert.MixFwdRefIdeal.τ).loc Cert.MixFwdRefIdeal.main_arg12)
          ∧ r.2.mem ((c.tc : Thread Cert.MixFwdRefIdeal.nD Cert.MixFwdRefIdeal.τ).loc Cert.MixFwdRefIdeal.main_arg13) = m' ((c.tc : Thread Cert.MixFwdRefIdeal.nD Cert.MixFwdRefIdeal.τ).loc Cert.MixFwdRefIdeal.main_arg13)
          ∧ r.2.mem ((c.tc : Thread Cert.MixFwdRefIdeal.nD Cert.MixFwdRefIdeal.τ).loc Cert.MixFwdRefIdeal.main_arg14) = m' ((c.tc : Thread Cert.MixFwdRefIdeal.nD Cert.MixFwdRefIdeal.τ).loc Cert.MixFwdRefIdeal.main_arg14)
          ∧ r.2.mem ((c.tc : Thread Cert.MixFwdRefIdeal.nD Cert.MixFwdRefIdeal.τ).loc Cert.MixFwdRefIdeal.main_arg15) = m' ((c.tc : Thread Cert.MixFwdRefIdeal.nD Cert.MixFwdRefIdeal.τ).loc Cert.MixFwdRefIdeal.main_arg15))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1_0)) (v1 : (c : Dev Cert.ModIdeal.nD) → Buf (Elt Ideal) ((c.tc : Thread Cert.ModIdeal.nD Cert.ModIdeal.τ).loc Cert.ModIdeal.main_v1_1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1_0) = v0 c
          ∧ r.2.mem ((c.tc : Thread Cert.ModIdeal.nD Cert.ModIdeal.τ).loc Cert.ModIdeal.main_v1_1) = v1 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v6) = v0 c
          ∧ r.2.mem ((c.tc : Thread Cert.ModRefIdeal.nD Cert.ModRefIdeal.τ).loc Cert.ModRefIdeal.main_v0) = v1 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v4)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v4) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v3) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m' ((c.tc : Thread Cert.PairRefIdeal.nD Cert.PairRefIdeal.τ).loc Cert.PairRefIdeal.main_arg0) = m ((c.tc : Thread Cert.PairIdeal.nD Cert.PairIdeal.τ).loc Cert.PairIdeal.main_arg0)
      ∧ m' ((c.tc : Thread Cert.PairRefIdeal.nD Cert.PairRefIdeal.τ).loc Cert.PairRefIdeal.main_arg1) = m ((c.tc : Thread Cert.PairIdeal.nD Cert.PairIdeal.τ).loc Cert.PairIdeal.main_arg1)
      ∧ m' ((c.tc : Thread Cert.PairRefIdeal.nD Cert.PairRefIdeal.τ).loc Cert.PairRefIdeal.main_arg2) = m ((c.tc : Thread Cert.PairIdeal.nD Cert.PairIdeal.τ).loc Cert.PairIdeal.main_arg2)
      ∧ m' ((c.tc : Thread Cert.PairRefIdeal.nD Cert.PairRefIdeal.τ).loc Cert.PairRefIdeal.main_arg3) = m ((c.tc : Thread Cert.PairIdeal.nD Cert.PairIdeal.τ).loc Cert.PairIdeal.main_arg3)) →
    ∃ (v0 : (c : Dev Cert.PairIdeal.nD) → Buf (Elt Ideal) ((c.tc : Thread Cert.PairIdeal.nD Cert.PairIdeal.τ).loc Cert.PairIdeal.main_v9_0)) (v1 : (c : Dev Cert.PairIdeal.nD) → Buf (Elt Ideal) ((c.tc : Thread Cert.PairIdeal.nD Cert.PairIdeal.τ).loc Cert.PairIdeal.main_v9_1)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v9_0) = v0 c
          ∧ r.2.mem ((c.tc : Thread Cert.PairIdeal.nD Cert.PairIdeal.τ).loc Cert.PairIdeal.main_v9_1) = v1 c
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
          ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
          ∧ r.2.mem ((c.tc : Thread Cert.PairIdeal.nD Cert.PairIdeal.τ).loc Cert.PairIdeal.main_arg3) = m ((c.tc : Thread Cert.PairIdeal.nD Cert.PairIdeal.τ).loc Cert.PairIdeal.main_arg3))
      ∧ θ_run (Cert.PairRefIdeal.defs (F := Ideal)) (onTc (τ := Cert.PairRefIdeal.τ) (Cert.PairRefIdeal.main (F := Ideal))) ⟨m', fun _ => 0, g'⟩ (fun r => ∀ c : Dev Cert.PairRefIdeal.nD,
          r.2.mem ((c.tc : Thread Cert.PairRefIdeal.nD Cert.PairRefIdeal.τ).loc Cert.PairRefIdeal.main_v4) = v0 c
          ∧ r.2.mem ((c.tc : Thread Cert.PairRefIdeal.nD Cert.PairRefIdeal.τ).loc Cert.PairRefIdeal.main_v7) = v1 c
          ∧ r.2.mem ((c.tc : Thread Cert.PairRefIdeal.nD Cert.PairRefIdeal.τ).loc Cert.PairRefIdeal.main_arg0) = m' ((c.tc : Thread Cert.PairRefIdeal.nD Cert.PairRefIdeal.τ).loc Cert.PairRefIdeal.main_arg0)
          ∧ r.2.mem ((c.tc : Thread Cert.PairRefIdeal.nD Cert.PairRefIdeal.τ).loc Cert.PairRefIdeal.main_arg1) = m' ((c.tc : Thread Cert.PairRefIdeal.nD Cert.PairRefIdeal.τ).loc Cert.PairRefIdeal.main_arg1)
          ∧ r.2.mem ((c.tc : Thread Cert.PairRefIdeal.nD Cert.PairRefIdeal.τ).loc Cert.PairRefIdeal.main_arg2) = m' ((c.tc : Thread Cert.PairRefIdeal.nD Cert.PairRefIdeal.τ).loc Cert.PairRefIdeal.main_arg2)
          ∧ r.2.mem ((c.tc : Thread Cert.PairRefIdeal.nD Cert.PairRefIdeal.τ).loc Cert.PairRefIdeal.main_arg3) = m' ((c.tc : Thread Cert.PairRefIdeal.nD Cert.PairRefIdeal.τ).loc Cert.PairRefIdeal.main_arg3))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Wada_WadaIdeal : Prop :=
  True

def algebraic_WadaIdeal_WadaRefIdeal [hWadaIdeal : Cert.WadaIdeal.Facts] [hWadaRefIdeal : Cert.WadaRefIdeal.Facts] : Prop :=
  ∀ (m : (ℓ : Loc Cert.WadaIdeal.nD Cert.WadaIdeal.τ Cert.WadaIdeal.sig) → Buf (Elt Ideal) ℓ) (g : Dev Cert.WadaIdeal.nD → PrngReg)
    (m' : (ℓ : Loc Cert.WadaRefIdeal.nD Cert.WadaRefIdeal.τ Cert.WadaRefIdeal.sig) → Buf (Elt Ideal) ℓ) (g' : Dev Cert.WadaRefIdeal.nD → PrngReg), Pre_WadaIdeal m →
    (∀ c : Dev Cert.WadaIdeal.nD,
      m' ((c.tc : Thread Cert.WadaRefIdeal.nD Cert.WadaRefIdeal.τ).loc Cert.WadaRefIdeal.main_arg0) = m ((c.tc : Thread Cert.WadaIdeal.nD Cert.WadaIdeal.τ).loc Cert.WadaIdeal.main_arg0)
      ∧ m' ((c.tc : Thread Cert.WadaRefIdeal.nD Cert.WadaRefIdeal.τ).loc Cert.WadaRefIdeal.main_arg1) = m ((c.tc : Thread Cert.WadaIdeal.nD Cert.WadaIdeal.τ).loc Cert.WadaIdeal.main_arg1)
      ∧ m' ((c.tc : Thread Cert.WadaRefIdeal.nD Cert.WadaRefIdeal.τ).loc Cert.WadaRefIdeal.main_arg2) = m ((c.tc : Thread Cert.WadaIdeal.nD Cert.WadaIdeal.τ).loc Cert.WadaIdeal.main_arg2)
      ∧ m' ((c.tc : Thread Cert.WadaRefIdeal.nD Cert.WadaRefIdeal.τ).loc Cert.WadaRefIdeal.main_arg3) = m ((c.tc : Thread Cert.WadaIdeal.nD Cert.WadaIdeal.τ).loc Cert.WadaIdeal.main_arg3)
      ∧ m' ((c.tc : Thread Cert.WadaRefIdeal.nD Cert.WadaRefIdeal.τ).loc Cert.WadaRefIdeal.main_arg4) = m ((c.tc : Thread Cert.WadaIdeal.nD Cert.WadaIdeal.τ).loc Cert.WadaIdeal.main_arg4)) →
    ∃ (v0 : (c : Dev Cert.WadaIdeal.nD) → Buf (Elt Ideal) ((c.tc : Thread Cert.WadaIdeal.nD Cert.WadaIdeal.τ).loc Cert.WadaIdeal.main_v6_0)) (v1 : (c : Dev Cert.WadaIdeal.nD) → Buf (Elt Ideal) ((c.tc : Thread Cert.WadaIdeal.nD Cert.WadaIdeal.τ).loc Cert.WadaIdeal.main_v6_1)) (v2 : (c : Dev Cert.WadaIdeal.nD) → Buf (Elt Ideal) ((c.tc : Thread Cert.WadaIdeal.nD Cert.WadaIdeal.τ).loc Cert.WadaIdeal.main_v6_2)) (v3 : (c : Dev Cert.WadaIdeal.nD) → Buf (Elt Ideal) ((c.tc : Thread Cert.WadaIdeal.nD Cert.WadaIdeal.τ).loc Cert.WadaIdeal.main_v6_3)),
      θ_run (Cert.WadaIdeal.defs (F := Ideal)) (onTc (τ := Cert.WadaIdeal.τ) (Cert.WadaIdeal.main (F := Ideal))) ⟨m, fun _ => 0, g⟩ (fun r => ∀ c : Dev Cert.WadaIdeal.nD,
          r.2.mem ((c.tc : Thread Cert.WadaIdeal.nD Cert.WadaIdeal.τ).loc Cert.WadaIdeal.main_v6_0) = v0 c
          ∧ r.2.mem ((c.tc : Thread Cert.WadaIdeal.nD Cert.WadaIdeal.τ).loc Cert.WadaIdeal.main_v6_1) = v1 c
          ∧ r.2.mem ((c.tc : Thread Cert.WadaIdeal.nD Cert.WadaIdeal.τ).loc Cert.WadaIdeal.main_v6_2) = v2 c
          ∧ r.2.mem ((c.tc : Thread Cert.WadaIdeal.nD Cert.WadaIdeal.τ).loc Cert.WadaIdeal.main_v6_3) = v3 c
          ∧ r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
          ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1)
          ∧ r.2.mem ((c.tc : Thread Cert.WadaIdeal.nD Cert.WadaIdeal.τ).loc Cert.WadaIdeal.main_arg2) = m ((c.tc : Thread Cert.WadaIdeal.nD Cert.WadaIdeal.τ).loc Cert.WadaIdeal.main_arg2)
          ∧ r.2.mem ((c.tc : Thread Cert.WadaIdeal.nD Cert.WadaIdeal.τ).loc Cert.WadaIdeal.main_arg3) = m ((c.tc : Thread Cert.WadaIdeal.nD Cert.WadaIdeal.τ).loc Cert.WadaIdeal.main_arg3)
          ∧ r.2.mem ((c.tc : Thread Cert.WadaIdeal.nD Cert.WadaIdeal.τ).loc Cert.WadaIdeal.main_arg4) = m ((c.tc : Thread Cert.WadaIdeal.nD Cert.WadaIdeal.τ).loc Cert.WadaIdeal.main_arg4))
      ∧ θ_run (Cert.WadaRefIdeal.defs (F := Ideal)) (onTc (τ := Cert.WadaRefIdeal.τ) (Cert.WadaRefIdeal.main (F := Ideal))) ⟨m', fun _ => 0, g'⟩ (fun r => ∀ c : Dev Cert.WadaRefIdeal.nD,
          r.2.mem ((c.tc : Thread Cert.WadaRefIdeal.nD Cert.WadaRefIdeal.τ).loc Cert.WadaRefIdeal.main_v5) = v0 c
          ∧ r.2.mem ((c.tc : Thread Cert.WadaRefIdeal.nD Cert.WadaRefIdeal.τ).loc Cert.WadaRefIdeal.main_v29) = v1 c
          ∧ r.2.mem ((c.tc : Thread Cert.WadaRefIdeal.nD Cert.WadaRefIdeal.τ).loc Cert.WadaRefIdeal.main_v10) = v2 c
          ∧ r.2.mem ((c.tc : Thread Cert.WadaRefIdeal.nD Cert.WadaRefIdeal.τ).loc Cert.WadaRefIdeal.main_v16) = v3 c
          ∧ r.2.mem ((c.tc : Thread Cert.WadaRefIdeal.nD Cert.WadaRefIdeal.τ).loc Cert.WadaRefIdeal.main_arg0) = m' ((c.tc : Thread Cert.WadaRefIdeal.nD Cert.WadaRefIdeal.τ).loc Cert.WadaRefIdeal.main_arg0)
          ∧ r.2.mem ((c.tc : Thread Cert.WadaRefIdeal.nD Cert.WadaRefIdeal.τ).loc Cert.WadaRefIdeal.main_arg1) = m' ((c.tc : Thread Cert.WadaRefIdeal.nD Cert.WadaRefIdeal.τ).loc Cert.WadaRefIdeal.main_arg1)
          ∧ r.2.mem ((c.tc : Thread Cert.WadaRefIdeal.nD Cert.WadaRefIdeal.τ).loc Cert.WadaRefIdeal.main_arg2) = m' ((c.tc : Thread Cert.WadaRefIdeal.nD Cert.WadaRefIdeal.τ).loc Cert.WadaRefIdeal.main_arg2)
          ∧ r.2.mem ((c.tc : Thread Cert.WadaRefIdeal.nD Cert.WadaRefIdeal.τ).loc Cert.WadaRefIdeal.main_arg3) = m' ((c.tc : Thread Cert.WadaRefIdeal.nD Cert.WadaRefIdeal.τ).loc Cert.WadaRefIdeal.main_arg3)
          ∧ r.2.mem ((c.tc : Thread Cert.WadaRefIdeal.nD Cert.WadaRefIdeal.τ).loc Cert.WadaRefIdeal.main_arg4) = m' ((c.tc : Thread Cert.WadaRefIdeal.nD Cert.WadaRefIdeal.τ).loc Cert.WadaRefIdeal.main_arg4))

def preserves_MixBwd_MixBwdIdeal : Prop :=
  IdealRules.named_const.Statement Cert.MixBwdIdeal.κ "gelu_c1" .f32 0x3D122279#32 ((80338380498831 / 2251799813685248 : ℝ) : EReal)
  ∧ IdealRules.named_const.Statement Cert.MixBwdIdeal.κ "gelu_3c1" .f32 0x3DDB33B6#32 ((241015141496493 / 2251799813685248 : ℝ) : EReal)

def algebraic_MixBwdIdeal_MixBwdRefIdeal_pre_finite_mix_bwd [hMixBwdIdeal : Cert.MixBwdIdeal.Facts] [hMixBwdRefIdeal : Cert.MixBwdRefIdeal.Facts] [hPre_finite_mix_bwd : Cert.Pre_finite_mix_bwd.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_finite_mix_bwd m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)
      ∧ m' ((c.tc : Thread Cert.MixBwdRefIdeal.nD Cert.MixBwdRefIdeal.τ).loc Cert.MixBwdRefIdeal.main_arg7) = m ((c.tc : Thread Cert.MixBwdIdeal.nD Cert.MixBwdIdeal.τ).loc Cert.MixBwdIdeal.main_arg7)
      ∧ m' ((c.tc : Thread Cert.MixBwdRefIdeal.nD Cert.MixBwdRefIdeal.τ).loc Cert.MixBwdRefIdeal.main_arg8) = m ((c.tc : Thread Cert.MixBwdIdeal.nD Cert.MixBwdIdeal.τ).loc Cert.MixBwdIdeal.main_arg8)
      ∧ m' ((c.tc : Thread Cert.MixBwdRefIdeal.nD Cert.MixBwdRefIdeal.τ).loc Cert.MixBwdRefIdeal.main_arg9) = m ((c.tc : Thread Cert.MixBwdIdeal.nD Cert.MixBwdIdeal.τ).loc Cert.MixBwdIdeal.main_arg9)
      ∧ m' ((c.tc : Thread Cert.MixBwdRefIdeal.nD Cert.MixBwdRefIdeal.τ).loc Cert.MixBwdRefIdeal.main_arg10) = m ((c.tc : Thread Cert.MixBwdIdeal.nD Cert.MixBwdIdeal.τ).loc Cert.MixBwdIdeal.main_arg10)
      ∧ m' ((c.tc : Thread Cert.MixBwdRefIdeal.nD Cert.MixBwdRefIdeal.τ).loc Cert.MixBwdRefIdeal.main_arg11) = m ((c.tc : Thread Cert.MixBwdIdeal.nD Cert.MixBwdIdeal.τ).loc Cert.MixBwdIdeal.main_arg11)
      ∧ m' ((c.tc : Thread Cert.MixBwdRefIdeal.nD Cert.MixBwdRefIdeal.τ).loc Cert.MixBwdRefIdeal.main_arg12) = m ((c.tc : Thread Cert.MixBwdIdeal.nD Cert.MixBwdIdeal.τ).loc Cert.MixBwdIdeal.main_arg12)) →
    ∃ (v0 : (c : Dev Cert.MixBwdIdeal.nD) → Buf (Elt Ideal) ((c.tc : Thread Cert.MixBwdIdeal.nD Cert.MixBwdIdeal.τ).loc Cert.MixBwdIdeal.main_v52_3)) (v1 : (c : Dev Cert.MixBwdIdeal.nD) → Buf (Elt Ideal) ((c.tc : Thread Cert.MixBwdIdeal.nD Cert.MixBwdIdeal.τ).loc Cert.MixBwdIdeal.main_v52_5)) (v2 : (c : Dev Cert.MixBwdIdeal.nD) → Buf (Elt Ideal) ((c.tc : Thread Cert.MixBwdIdeal.nD Cert.MixBwdIdeal.τ).loc Cert.MixBwdIdeal.main_v52_6)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v52_3) = v0 c
          ∧ r.2.mem ((c.tc : Thread Cert.MixBwdIdeal.nD Cert.MixBwdIdeal.τ).loc Cert.MixBwdIdeal.main_v52_5) = v1 c
          ∧ r.2.mem ((c.tc : Thread Cert.MixBwdIdeal.nD Cert.MixBwdIdeal.τ).loc Cert.MixBwdIdeal.main_v52_6) = v2 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
          ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
          ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
          ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v182) = v0 c
          ∧ r.2.mem ((c.tc : Thread Cert.MixBwdRefIdeal.nD Cert.MixBwdRefIdeal.τ).loc Cert.MixBwdRefIdeal.main_v185) = v1 c
          ∧ r.2.mem ((c.tc : Thread Cert.MixBwdRefIdeal.nD Cert.MixBwdRefIdeal.τ).loc Cert.MixBwdRefIdeal.main_v188) = v2 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6)
          ∧ r.2.mem ((c.tc : Thread Cert.MixBwdRefIdeal.nD Cert.MixBwdRefIdeal.τ).loc Cert.MixBwdRefIdeal.main_arg7) = m' ((c.tc : Thread Cert.MixBwdRefIdeal.nD Cert.MixBwdRefIdeal.τ).loc Cert.MixBwdRefIdeal.main_arg7)
          ∧ r.2.mem ((c.tc : Thread Cert.MixBwdRefIdeal.nD Cert.MixBwdRefIdeal.τ).loc Cert.MixBwdRefIdeal.main_arg8) = m' ((c.tc : Thread Cert.MixBwdRefIdeal.nD Cert.MixBwdRefIdeal.τ).loc Cert.MixBwdRefIdeal.main_arg8)
          ∧ r.2.mem ((c.tc : Thread Cert.MixBwdRefIdeal.nD Cert.MixBwdRefIdeal.τ).loc Cert.MixBwdRefIdeal.main_arg9) = m' ((c.tc : Thread Cert.MixBwdRefIdeal.nD Cert.MixBwdRefIdeal.τ).loc Cert.MixBwdRefIdeal.main_arg9)
          ∧ r.2.mem ((c.tc : Thread Cert.MixBwdRefIdeal.nD Cert.MixBwdRefIdeal.τ).loc Cert.MixBwdRefIdeal.main_arg10) = m' ((c.tc : Thread Cert.MixBwdRefIdeal.nD Cert.MixBwdRefIdeal.τ).loc Cert.MixBwdRefIdeal.main_arg10)
          ∧ r.2.mem ((c.tc : Thread Cert.MixBwdRefIdeal.nD Cert.MixBwdRefIdeal.τ).loc Cert.MixBwdRefIdeal.main_arg11) = m' ((c.tc : Thread Cert.MixBwdRefIdeal.nD Cert.MixBwdRefIdeal.τ).loc Cert.MixBwdRefIdeal.main_arg11)
          ∧ r.2.mem ((c.tc : Thread Cert.MixBwdRefIdeal.nD Cert.MixBwdRefIdeal.τ).loc Cert.MixBwdRefIdeal.main_arg12) = m' ((c.tc : Thread Cert.MixBwdRefIdeal.nD Cert.MixBwdRefIdeal.τ).loc Cert.MixBwdRefIdeal.main_arg12))

def Claim : Prop :=
  ∃ (hFfnFwd : Cert.FfnFwd.Facts) (hFfnFwdIdeal : Cert.FfnFwdIdeal.Facts) (hFfnFwdRefIdeal : Cert.FfnFwdRefIdeal.Facts) (hMixFwd : Cert.MixFwd.Facts) (hMixFwdIdeal : Cert.MixFwdIdeal.Facts) (hMixFwdRefIdeal : Cert.MixFwdRefIdeal.Facts) (hMod : Cert.Mod.Facts) (hModIdeal : Cert.ModIdeal.Facts) (hModRefIdeal : Cert.ModRefIdeal.Facts) (hWgrad : Cert.Wgrad.Facts) (hWgradIdeal : Cert.WgradIdeal.Facts) (hWgradRefIdeal : Cert.WgradRefIdeal.Facts) (hPair : Cert.Pair.Facts) (hPairIdeal : Cert.PairIdeal.Facts) (hPairRefIdeal : Cert.PairRefIdeal.Facts) (hAdam : Cert.Adam.Facts) (hAdamIdeal : Cert.AdamIdeal.Facts) (hAdamRefIdeal : Cert.AdamRefIdeal.Facts) (hWada : Cert.Wada.Facts) (hWadaIdeal : Cert.WadaIdeal.Facts) (hWadaRefIdeal : Cert.WadaRefIdeal.Facts) (hMixBwd : Cert.MixBwd.Facts) (hMixBwdIdeal : Cert.MixBwdIdeal.Facts) (hMixBwdRefIdeal : Cert.MixBwdRefIdeal.Facts) (hPre_finite : Cert.Pre_finite.Facts) (hPre_finite_mix : Cert.Pre_finite_mix.Facts) (hPre_finite_mix_bwd : Cert.Pre_finite_mix_bwd.Facts),
    quiescent_FfnFwd (hFfnFwd := hFfnFwd)
    ∧ quiescent_FfnFwdIdeal (hFfnFwdIdeal := hFfnFwdIdeal)
    ∧ quiescent_FfnFwdIdeal_pre_finite (hFfnFwdIdeal := hFfnFwdIdeal) (hPre_finite := hPre_finite)
    ∧ quiescent_FfnFwdRefIdeal (hFfnFwdRefIdeal := hFfnFwdRefIdeal)
    ∧ quiescent_FfnFwdRefIdeal_pre_finite (hFfnFwdRefIdeal := hFfnFwdRefIdeal) (hPre_finite := hPre_finite)
    ∧ quiescent_MixFwd (hMixFwd := hMixFwd)
    ∧ quiescent_MixFwdIdeal (hMixFwdIdeal := hMixFwdIdeal)
    ∧ quiescent_MixFwdIdeal_pre_finite_mix (hMixFwdIdeal := hMixFwdIdeal) (hPre_finite_mix := hPre_finite_mix)
    ∧ quiescent_MixFwdRefIdeal (hMixFwdRefIdeal := hMixFwdRefIdeal)
    ∧ quiescent_MixFwdRefIdeal_pre_finite_mix (hMixFwdRefIdeal := hMixFwdRefIdeal) (hPre_finite_mix := hPre_finite_mix)
    ∧ quiescent_Mod (hMod := hMod)
    ∧ quiescent_ModIdeal (hModIdeal := hModIdeal)
    ∧ quiescent_ModRefIdeal (hModRefIdeal := hModRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Pair (hPair := hPair)
    ∧ quiescent_PairIdeal (hPairIdeal := hPairIdeal)
    ∧ quiescent_PairRefIdeal (hPairRefIdeal := hPairRefIdeal)
    ∧ quiescent_Adam (hAdam := hAdam)
    ∧ quiescent_AdamIdeal (hAdamIdeal := hAdamIdeal)
    ∧ quiescent_AdamRefIdeal (hAdamRefIdeal := hAdamRefIdeal)
    ∧ quiescent_Wada (hWada := hWada)
    ∧ quiescent_WadaIdeal (hWadaIdeal := hWadaIdeal)
    ∧ quiescent_WadaRefIdeal (hWadaRefIdeal := hWadaRefIdeal)
    ∧ quiescent_MixBwd (hMixBwd := hMixBwd)
    ∧ quiescent_MixBwdIdeal (hMixBwdIdeal := hMixBwdIdeal)
    ∧ quiescent_MixBwdIdeal_pre_finite_mix_bwd (hMixBwdIdeal := hMixBwdIdeal) (hPre_finite_mix_bwd := hPre_finite_mix_bwd)
    ∧ quiescent_MixBwdRefIdeal (hMixBwdRefIdeal := hMixBwdRefIdeal)
    ∧ quiescent_MixBwdRefIdeal_pre_finite_mix_bwd (hMixBwdRefIdeal := hMixBwdRefIdeal) (hPre_finite_mix_bwd := hPre_finite_mix_bwd)
    ∧ preserves_FfnFwd_FfnFwdIdeal
    ∧ algebraic_FfnFwdIdeal_FfnFwdRefIdeal_pre_finite (hFfnFwdIdeal := hFfnFwdIdeal) (hFfnFwdRefIdeal := hFfnFwdRefIdeal) (hPre_finite := hPre_finite)
    ∧ preserves_MixFwd_MixFwdIdeal
    ∧ algebraic_MixFwdIdeal_MixFwdRefIdeal_pre_finite_mix (hMixFwdIdeal := hMixFwdIdeal) (hMixFwdRefIdeal := hMixFwdRefIdeal) (hPre_finite_mix := hPre_finite_mix)
    ∧ preserves_Mod_ModIdeal
    ∧ algebraic_ModIdeal_ModRefIdeal (hModIdeal := hModIdeal) (hModRefIdeal := hModRefIdeal)
    ∧ preserves_Wgrad_WgradIdeal
    ∧ algebraic_WgradIdeal_WgradRefIdeal (hWgradIdeal := hWgradIdeal) (hWgradRefIdeal := hWgradRefIdeal)
    ∧ preserves_Pair_PairIdeal
    ∧ algebraic_PairIdeal_PairRefIdeal (hPairIdeal := hPairIdeal) (hPairRefIdeal := hPairRefIdeal)
    ∧ preserves_Adam_AdamIdeal
    ∧ algebraic_AdamIdeal_AdamRefIdeal (hAdamIdeal := hAdamIdeal) (hAdamRefIdeal := hAdamRefIdeal)
    ∧ preserves_Wada_WadaIdeal
    ∧ algebraic_WadaIdeal_WadaRefIdeal (hWadaIdeal := hWadaIdeal) (hWadaRefIdeal := hWadaRefIdeal)
    ∧ preserves_MixBwd_MixBwdIdeal
    ∧ algebraic_MixBwdIdeal_MixBwdRefIdeal_pre_finite_mix_bwd (hMixBwdIdeal := hMixBwdIdeal) (hMixBwdRefIdeal := hMixBwdRefIdeal) (hPre_finite_mix_bwd := hPre_finite_mix_bwd)
-- ==== Pre_finite.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S1x5632 .f32) (main_arg9 : FVec F S1x2816x1024 .f32) (main_arg10 : FVec F S1x8192x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x5632 .f32 := Host.absf main_arg8
  let main_cst_14 : FVec F S_ .f32 := constant S_ .f32 0x7F800000#32
  let main_v33 : FVec F S1x5632 .f32 := broadcastInDim S1x5632 ![] bcast_S_S1x5632 main_cst_14
  let main_v34 : IVec S1x5632 1 := cmpf .olt main_v32 main_v33
  let main_c_15 : IVec S_ 1 := constantI S_ 1 1#1
  let main_v35 : IVec S_ 1 := (fun x v => Host.reduce IntOp.andi x v reducesTo_S1x5632_S_d0_1 h_S_) main_v34 main_c_15
  let main_v36 : FVec F S1x2816x1024 .f32 := Host.absf main_arg9
  let main_cst_16 : FVec F S_ .f32 := constant S_ .f32 0x7F800000#32
  let main_v37 : FVec F S1x2816x1024 .f32 := broadcastInDim S1x2816x1024 ![] bcast_S_S1x2816x1024 main_cst_16
  let main_v38 : IVec S1x2816x1024 1 := cmpf .olt main_v36 main_v37
  let main_c_17 : IVec S_ 1 := constantI S_ 1 1#1
  let main_v39 : IVec S_ 1 := (fun x v => Host.reduce IntOp.andi x v reducesTo_S1x2816x1024_S_d0_1_2 h_S_) main_v38 main_c_17
  let main_v40 : FVec F S1x8192x1024 .f32 := Host.absf main_arg10
  let main_cst_18 : FVec F S_ .f32 := constant S_ .f32 0x7F800000#32
  let main_v41 : FVec F S1x8192x1024 .f32 := broadcastInDim S1x8192x1024 ![] bcast_S_S1x8192x1024 main_cst_18
  let main_v42 : IVec S1x8192x1024 1 := cmpf .olt main_v40 main_v41
  let main_c_19 : IVec S_ 1 := constantI S_ 1 1#1
  let main_v43 : IVec S_ 1 := (fun x v => Host.reduce IntOp.andi x v reducesTo_S1x8192x1024_S_d0_1_2 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S1x1024 .f32) (main_arg5 : FVec F S1x1024 .f32) (main_arg6 : FVec F S1x1024x5632 .f32) (main_arg7 : FVec F S1x3x5632 .f32) (main_arg8 : FVec F S1x5632 .f32) (main_arg9 : FVec F S1x2816x1024 .f32) (main_arg10 : FVec F S1x8192x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024x5632 .f32 := Host.absf main_arg6
  let main_cst_10 : FVec F S_ .f32 := constant S_ .f32 0x7F800000#32
  let main_v25 : FVec F S1x1024x5632 .f32 := broadcastInDim S1x1024x5632 ![] bcast_S_S1x1024x5632 main_cst_10
  let main_v26 : IVec S1x1024x5632 1 := cmpf .olt main_v24 main_v25
  let main_c_11 : IVec S_ 1 := constantI S_ 1 1#1
  let main_v27 : IVec S_ 1 := (fun x v => Host.reduce IntOp.andi x v reducesTo_S1x1024x5632_S_d0_1_2 h_S_) main_v26 main_c_11
  let main_v28 : FVec F S1x3x5632 .f32 := Host.absf main_arg7
  let main_cst_12 : FVec F S_ .f32 := constant S_ .f32 0x7F800000#32
  let main_v29 : FVec F S1x3x5632 .f32 := broadcastInDim S1x3x5632 ![] bcast_S_S1x3x5632 main_cst_12
  let main_v30 : IVec S1x3x5632 1 := cmpf .olt main_v28 main_v29
  let main_c_13 : IVec S_ 1 := constantI S_ 1 1#1
  let main_v31 : IVec S_ 1 := (fun x v => Host.reduce IntOp.andi x v reducesTo_S1x3x5632_S_d0_1_2 h_S_) main_v30 main_c_13
  fn_part2 (F := F) main_arg8 main_arg9 main_arg10 main_v3 main_v7 main_v11 main_v15 main_v19 main_v23 main_v27 main_v31

def fn {F : FTy → Type} [FloatOps F] (main_arg0 : FVec F S1x8192x1024 .f32) (main_arg1 : FVec F S1x1024 .f32) (main_arg2 : FVec F S1x1024 .f32) (main_arg3 : FVec F S1x1024 .f32) (main_arg4 : FVec F S1x1024 .f32) (main_arg5 : FVec F S1x1024 .f32) (main_arg6 : FVec F S1x1024x5632 .f32) (main_arg7 : FVec F S1x3x5632 .f32) (main_arg8 : FVec F S1x5632 .f32) (main_arg9 : FVec F S1x2816x1024 .f32) (main_arg10 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_arg9 main_arg10 main_v3 main_v7 main_v11 main_v15
-- ==== Pre_finite_mix.lean ====
abbrev S1x8192x1024 : Shape := ⟨3, ![1, 8192, 1024]⟩
abbrev S1x1024 : Shape := ⟨2, ![1, 1024]⟩
abbrev S1x1024x1536 : Shape := ⟨3, ![1, 1024, 1536]⟩
abbrev S1x4x128 : Shape := ⟨3, ![1, 4, 128]⟩
abbrev S1x4x128x128 : Shape := ⟨4, ![1, 4, 128, 128]⟩
abbrev S1x512 : Shape := ⟨2, ![1, 512]⟩
abbrev S1x1024x1024 : Shape := ⟨3, ![1, 1024, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1536 : S_.BroadcastsInDim S1x1024x1536 (![] : Fin 0 → Fin S1x1024x1536.rank)
  reducesTo_S1x1024x1536_S_d0_1_2 : S1x1024x1536.ReducesTo [0, 1, 2] S_
  bcast_S_S1x4x128 : S_.BroadcastsInDim S1x4x128 (![] : Fin 0 → Fin S1x4x128.rank)
  reducesTo_S1x4x128_S_d0_1_2 : S1x4x128.ReducesTo [0, 1, 2] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part4 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) : IVec S_ 1 :=
  let main_v64 : IVec S_ 1 := andi main_v3 main_v7
  let main_v65 : IVec S_ 1 := andi main_v64 main_v11
  let main_v66 : IVec S_ 1 := andi main_v65 main_v15
  let main_v67 : IVec S_ 1 := andi main_v66 main_v19
  let main_v68 : IVec S_ 1 := andi main_v67 main_v23
  let main_v69 : IVec S_ 1 := andi main_v68 main_v27
  let main_v70 : IVec S_ 1 := andi main_v69 main_v31
  let main_v71 : IVec S_ 1 := andi main_v70 main_v35
  let main_v72 : IVec S_ 1 := andi main_v71 main_v39
  let main_v73 : IVec S_ 1 := andi main_v72 main_v43
  let main_v74 : IVec S_ 1 := andi main_v73 main_v47
  let main_v75 : IVec S_ 1 := andi main_v74 main_v51
  let main_v76 : IVec S_ 1 := andi main_v75 main_v55
  let main_v77 : IVec S_ 1 := andi main_v76 main_v59
  let main_v78 : IVec S_ 1 := andi main_v77 main_v63
  main_v78

def fn_part3 {F : FTy → Type} [FloatOps F] (main_arg12 : FVec F S1x4x128 .f32) (main_arg13 : FVec F S1x4x128x128 .f32) (main_arg14 : FVec F S1x512 .f32) (main_arg15 : FVec F S1x1024x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S1x4x128 .f32 := Host.absf main_arg12
  let main_cst_22 : FVec F S_ .f32 := constant S_ .f32 0x7F800000#32
  let main_v49 : FVec F S1x4x128 .f32 := broadcastInDim S1x4x128 ![] bcast_S_S1x4x128 main_cst_22
  let main_v50 : IVec S1x4x128 1 := cmpf .olt main_v48 main_v49
  let main_c_23 : IVec S_ 1 := constantI S_ 1 1#1
  let main_v51 : IVec S_ 1 := (fun x v => Host.reduce IntOp.andi x v reducesTo_S1x4x128_S_d0_1_2 h_S_) main_v50 main_c_23
  let main_v52 : FVec F S1x4x128x128 .f32 := Host.absf main_arg13
  let main_cst_24 : FVec F S_ .f32 := constant S_ .f32 0x7F800000#32
  let main_v53 : FVec F S1x4x128x128 .f32 := broadcastInDim S1x4x128x128 ![] bcast_S_S1x4x128x128 main_cst_24
  let main_v54 : IVec S1x4x128x128 1 := cmpf .olt main_v52 main_v53
  let main_c_25 : IVec S_ 1 := constantI S_ 1 1#1
  let main_v55 : IVec S_ 1 := (fun x v => Host.reduce IntOp.andi x v reducesTo_S1x4x128x128_S_d0_1_2_3 h_S_) main_v54 main_c_25
  let main_v56 : FVec F S1x512 .f32 := Host.absf main_arg14
  let main_cst_26 : FVec F S_ .f32 := constant S_ .f32 0x7F800000#32
  let main_v57 : FVec F S1x512 .f32 := broadcastInDim S1x512 ![] bcast_S_S1x512 main_cst_26
  let main_v58 : IVec S1x512 1 := cmpf .olt main_v56 main_v57
  let main_c_27 : IVec S_ 1 := constantI S_ 1 1#1
  let main_v59 : IVec S_ 1 := (fun x v => Host.reduce IntOp.andi x v reducesTo_S1x512_S_d0_1 h_S_) main_v58 main_c_27
  let main_v60 : FVec F S1x1024x1024 .f32 := Host.absf main_arg15
  let main_cst_28 : FVec F S_ .f32 := constant S_ .f32 0x7F800000#32
  let main_v61 : FVec F S1x1024x1024 .f32 := broadcastInDim S1x1024x1024 ![] bcast_S_S1x1024x1024 main_cst_28
  let main_v62 : IVec S1x1024x1024 1 := cmpf .olt main_v60 main_v61
  let main_c_29 : IVec S_ 1 := constantI S_ 1 1#1
  let main_v63 : IVec S_ 1 := (fun x v => Host.reduce IntOp.andi x v reducesTo_S1x1024x1024_S_d0_1_2 h_S_) main_v62 main_c_29
  fn_part4 (F := F) main_v3 main_v7 main_v11 main_v15 main_v19 main_v23 main_v27 main_v31 main_v35 main_v39 main_v43 main_v47 main_v51 main_v55 main_v59 main_v63

def fn_part2 {F : FTy → Type} [FloatOps F] (main_arg8 : FVec F S1x1024 .f32) (main_arg9 : FVec F S1x1024x1536 .f32) (main_arg10 : FVec F S1x4x128 .f32) (main_arg11 : FVec F S1x4x128x128 .f32) (main_arg12 : FVec F S1x4x128 .f32) (main_arg13 : FVec F S1x4x128x128 .f32) (main_arg14 : FVec F S1x512 .f32) (main_arg15 : FVec F S1x1024x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x1024 .f32 := Host.absf main_arg8
  let main_cst_14 : FVec F S_ .f32 := constant S_ .f32 0x7F800000#32
  let main_v33 : FVec F S1x1024 .f32 := broadcastInDim S1x1024 ![] bcast_S_S1x1024 main_cst_14
  let main_v34 : IVec S1x1024 1 := cmpf .olt main_v32 main_v33
  let main_c_15 : IVec S_ 1 := constantI S_ 1 1#1
  let main_v35 : IVec S_ 1 := (fun x v => Host.reduce IntOp.andi x v reducesTo_S1x1024_S_d0_1 h_S_) main_v34 main_c_15
  let main_v36 : FVec F S1x1024x1536 .f32 := Host.absf main_arg9
  let main_cst_16 : FVec F S_ .f32 := constant S_ .f32 0x7F800000#32
  let main_v37 : FVec F S1x1024x1536 .f32 := broadcastInDim S1x1024x1536 ![] bcast_S_S1x1024x1536 main_cst_16
  let main_v38 : IVec S1x1024x1536 1 := cmpf .olt main_v36 main_v37
  let main_c_17 : IVec S_ 1 := constantI S_ 1 1#1
  let main_v39 : IVec S_ 1 := (fun x v => Host.reduce IntOp.andi x v reducesTo_S1x1024x1536_S_d0_1_2 h_S_) main_v38 main_c_17
  let main_v40 : FVec F S1x4x128 .f32 := Host.absf main_arg10
  let main_cst_18 : FVec F S_ .f32 := constant S_ .f32 0x7F800000#32
  let main_v41 : FVec F S1x4x128 .f32 := broadcastInDim S1x4x128 ![] bcast_S_S1x4x128 main_cst_18
  let main_v42 : IVec S1x4x128 1 := cmpf .olt main_v40 main_v41
  let main_c_19 : IVec S_ 1 := constantI S_ 1 1#1
  let main_v43 : IVec S_ 1 := (fun x v => Host.reduce IntOp.andi x v reducesTo_S1x4x128_S_d0_1_2 h_S_) main_v42 main_c_19
  let main_v44 : FVec F S1x4x128x128 .f32 := Host.absf main_arg11
  let main_cst_20 : FVec F S_ .f32 := constant S_ .f32 0x7F800000#32
  let main_v45 : FVec F S1x4x128x128 .f32 := broadcastInDim S1x4x128x128 ![] bcast_S_S1x4x128x128 main_cst_20
  let main_v46 : IVec S1x4x128x128 1 := cmpf .olt main_v44 main_v45
  let main_c_21 : IVec S_ 1 := constantI S_ 1 1#1
  let main_v47 : IVec S_ 1 := (fun x v => Host.reduce IntOp.andi x v reducesTo_S1x4x128x128_S_d0_1_2_3 h_S_) main_v46 main_c_21
  fn_part3 (F := F) main_arg12 main_arg13 main_arg14 main_arg15 main_v3 main_v7 main_v11 main_v15 main_v19 main_v23 main_v27 main_v31 main_v35 main_v39 main_v43 main_v47

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S1x1024 .f32) (main_arg9 : FVec F S1x1024x1536 .f32) (main_arg10 : FVec F S1x4x128 .f32) (main_arg11 : FVec F S1x4x128x128 .f32) (main_arg12 : FVec F S1x4x128 .f32) (main_arg13 : FVec F S1x4x128x128 .f32) (main_arg14 : FVec F S1x512 .f32) (main_arg15 : FVec F S1x1024x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_arg8 main_arg9 main_arg10 main_arg11 main_arg12 main_arg13 main_arg14 main_arg15 main_v3 main_v7 main_v11 main_v15 main_v19 main_v23 main_v27 main_v31

def fn {F : FTy → Type} [FloatOps F] (main_arg0 : FVec F S1x8192x1024 .f32) (main_arg1 : FVec F S1x1024 .f32) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1x1024 .f32) (main_arg8 : FVec F S1x1024 .f32) (main_arg9 : FVec F S1x1024x1536 .f32) (main_arg10 : FVec F S1x4x128 .f32) (main_arg11 : FVec F S1x4x128x128 .f32) (main_arg12 : FVec F S1x4x128 .f32) (main_arg13 : FVec F S1x4x128x128 .f32) (main_arg14 : FVec F S1x512 .f32) (main_arg15 : FVec F S1x1024x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_arg9 main_arg10 main_arg11 main_arg12 main_arg13 main_arg14 main_arg15 main_v3 main_v7 main_v11 main_v15
-- ==== Pre_finite_mix_bwd.lean ====
abbrev S1x8192x1024 : Shape := ⟨3, ![1, 8192, 1024]⟩
abbrev S1x1024 : Shape := ⟨2, ![1, 1024]⟩
abbrev S1x1024x1536 : Shape := ⟨3, ![1, 1024, 1536]⟩
abbrev S1x4x128 : Shape := ⟨3, ![1, 4, 128]⟩
abbrev S1x4x128x128 : Shape := ⟨4, ![1, 4, 128, 128]⟩
abbrev S1x512 : Shape := ⟨2, ![1, 512]⟩
abbrev S1x1024x1024 : Shape := ⟨3, ![1, 1024, 1024]⟩
abbrev S8192x1024 : Shape := ⟨2, ![8192, 1024]⟩
abbrev S_ : Shape := ⟨0, ![]⟩

class Facts : Prop where
  bitsLt_bf16_f32 : FTy.bits .bf16 < FTy.bits .f32
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1536 : S_.BroadcastsInDim S1x1024x1536 (![] : Fin 0 → Fin S1x1024x1536.rank)
  reducesTo_S1x1024x1536_S_d0_1_2 : S1x1024x1536.ReducesTo [0, 1, 2] S_
  bcast_S_S1x4x128 : S_.BroadcastsInDim S1x4x128 (![] : Fin 0 → Fin S1x4x128.rank)
  reducesTo_S1x4x128_S_d0_1_2 : S1x4x128.ReducesTo [0, 1, 2] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part2 {F : FTy → Type} [FloatOps F] (main_v0 : FVec F S8192x1024 .f32) (main_v4 : IVec S_ 1) (main_v8 : IVec S_ 1) (main_v12 : IVec S_ 1) (main_v16 : IVec S_ 1) (main_v20 : IVec S_ 1) (main_v24 : IVec S_ 1) (main_v28 : IVec S_ 1) (main_v31 : IVec S1x1024x1024 1) (main_c_13 : IVec S_ 1) : IVec S_ 1 :=
  let main_v32 : IVec S_ 1 := (fun x v => Host.reduce IntOp.andi x v reducesTo_S1x1024x1024_S_d0_1_2 h_S_) main_v31 main_c_13
  let main_v33 : FVec F S8192x1024 .f32 := Host.absf main_v0
  let main_cst_14 : FVec F S_ .f32 := constant S_ .f32 0x7F800000#32
  let main_v34 : FVec F S8192x1024 .f32 := broadcastInDim S8192x1024 ![] bcast_S_S8192x1024 main_cst_14
  let main_v35 : IVec S8192x1024 1 := cmpf .olt main_v33 main_v34
  let main_c_15 : IVec S_ 1 := constantI S_ 1 1#1
  let main_v36 : IVec S_ 1 := (fun x v => Host.reduce IntOp.andi x v reducesTo_S8192x1024_S_d0_1 h_S_) main_v35 main_c_15
  let main_v37 : IVec S_ 1 := andi main_v4 main_v8
  let main_v38 : IVec S_ 1 := andi main_v37 main_v12
  let main_v39 : IVec S_ 1 := andi main_v38 main_v16
  let main_v40 : IVec S_ 1 := andi main_v39 main_v20
  let main_v41 : IVec S_ 1 := andi main_v40 main_v24
  let main_v42 : IVec S_ 1 := andi main_v41 main_v28
  let main_v43 : IVec S_ 1 := andi main_v42 main_v32
  let main_v44 : IVec S_ 1 := andi main_v43 main_v36
  main_v44

def fn_part1 {F : FTy → Type} [FloatOps F] (main_arg4 : FVec F S1x1024x1536 .f32) (main_arg5 : FVec F S1x4x128 .f32) (main_arg6 : FVec F S1x4x128x128 .f32) (main_arg10 : FVec F S1x1024x1024 .f32) (main_v0 : FVec F S8192x1024 .f32) (main_v4 : IVec S_ 1) (main_v8 : IVec S_ 1) (main_v12 : IVec S_ 1) (main_v15 : IVec S1x1024 1) (main_c_5 : IVec S_ 1) : IVec S_ 1 :=
  let main_v16 : IVec S_ 1 := (fun x v => Host.reduce IntOp.andi x v reducesTo_S1x1024_S_d0_1 h_S_) main_v15 main_c_5
  let main_v17 : FVec F S1x1024x1536 .f32 := Host.absf main_arg4
  let main_cst_6 : FVec F S_ .f32 := constant S_ .f32 0x7F800000#32
  let main_v18 : FVec F S1x1024x1536 .f32 := broadcastInDim S1x1024x1536 ![] bcast_S_S1x1024x1536 main_cst_6
  let main_v19 : IVec S1x1024x1536 1 := cmpf .olt main_v17 main_v18
  let main_c_7 : IVec S_ 1 := constantI S_ 1 1#1
  let main_v20 : IVec S_ 1 := (fun x v => Host.reduce IntOp.andi x v reducesTo_S1x1024x1536_S_d0_1_2 h_S_) main_v19 main_c_7
  let main_v21 : FVec F S1x4x128 .f32 := Host.absf main_arg5
  let main_cst_8 : FVec F S_ .f32 := constant S_ .f32 0x7F800000#32
  let main_v22 : FVec F S1x4x128 .f32 := broadcastInDim S1x4x128 ![] bcast_S_S1x4x128 main_cst_8
  let main_v23 : IVec S1x4x128 1 := cmpf .olt main_v21 main_v22
  let main_c_9 : IVec S_ 1 := constantI S_ 1 1#1
  let main_v24 : IVec S_ 1 := (fun x v => Host.reduce IntOp.andi x v reducesTo_S1x4x128_S_d0_1_2 h_S_) main_v23 main_c_9
  let main_v25 : FVec F S1x4x128x128 .f32 := Host.absf main_arg6
  let main_cst_10 : FVec F S_ .f32 := constant S_ .f32 0x7F800000#32
  let main_v26 : FVec F S1x4x128x128 .f32 := broadcastInDim S1x4x128x128 ![] bcast_S_S1x4x128x128 main_cst_10
  let main_v27 : IVec S1x4x128x128 1 := cmpf .olt main_v25 main_v26
  let main_c_11 : IVec S_ 1 := constantI S_ 1 1#1
  let main_v28 : IVec S_ 1 := (fun x v => Host.reduce IntOp.andi x v reducesTo_S1x4x128x128_S_d0_1_2_3 h_S_) main_v27 main_c_11
  let main_v29 : FVec F S1x1024x1024 .f32 := Host.absf main_arg10
  let main_cst_12 : FVec F S_ .f32 := constant S_ .f32 0x7F800000#32
  let main_v30 : FVec F S1x1024x1024 .f32 := broadcastInDim S1x1024x1024 ![] bcast_S_S1x1024x1024 main_cst_12
  let main_v31 : IVec S1x1024x1024 1 := cmpf .olt main_v29 main_v30
  let main_c_13 : IVec S_ 1 := constantI S_ 1 1#1
  fn_part2 (F := F) main_v0 main_v4 main_v8 main_v12 main_v16 main_v20 main_v24 main_v28 main_v31 main_c_13

def fn {F : FTy → Type} [FloatOps F] (main_arg0 : FVec F S1x8192x1024 .f32) (main_arg1 : FVec F S1x1024 .f32) (main_arg2 : FVec F S1x1024 .f32) (main_arg3 : FVec F S1x1024 .f32) (main_arg4 : FVec F S1x1024x1536 .f32) (main_arg5 : FVec F S1x4x128 .f32) (main_arg6 : FVec F S1x4x128x128 .f32) (main_arg7 : FVec F S1x4x128 .f32) (main_arg8 : FVec F S1x4x128x128 .f32) (main_arg9 : FVec F S1x512 .f32) (main_arg10 : FVec F S1x1024x1024 .f32) (main_arg11 : FVec F S8192x1024 .bf16) (main_arg12 : FVec F S8192x1024 .f32) : IVec S_ 1 :=
  let main_v0 : FVec F S8192x1024 .f32 := (extf .f32 · bitsLt_bf16_f32) main_arg11
  let main_v1 : FVec F S1x8192x1024 .f32 := Host.absf main_arg0
  let main_cst : FVec F S_ .f32 := constant S_ .f32 0x7F800000#32
  let main_v2 : FVec F S1x8192x1024 .f32 := broadcastInDim S1x8192x1024 ![] bcast_S_S1x8192x1024 main_cst
  let main_v3 : IVec S1x8192x1024 1 := cmpf .olt main_v1 main_v2
  let main_c : IVec S_ 1 := constantI S_ 1 1#1
  let main_v4 : IVec S_ 1 := (fun x v => Host.reduce IntOp.andi x v reducesTo_S1x8192x1024_S_d0_1_2 h_S_) main_v3 main_c
  let main_v5 : FVec F S1x1024 .f32 := Host.absf main_arg1
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_c_1 : IVec S_ 1 := constantI S_ 1 1#1
  let main_v8 : IVec S_ 1 := (fun x v => Host.reduce IntOp.andi x v reducesTo_S1x1024_S_d0_1 h_S_) main_v7 main_c_1
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : FVec F S1x1024 .f32 := Host.absf main_arg3
  let main_cst_4 : FVec F S_ .f32 := constant S_ .f32 0x7F800000#32
  let main_v14 : FVec F S1x1024 .f32 := broadcastInDim S1x1024 ![] bcast_S_S1x1024 main_cst_4
  let main_v15 : IVec S1x1024 1 := cmpf .olt main_v13 main_v14
  let main_c_5 : IVec S_ 1 := constantI S_ 1 1#1
  fn_part1 (F := F) main_arg4 main_arg5 main_arg6 main_arg10 main_v0 main_v4 main_v8 main_v12 main_v15 main_c_5
-- ==== FfnFwd.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S_ : Shape := ⟨0, ![]⟩
abbrev S6x1024 : Shape := ⟨2, ![6, 1024]⟩
abbrev S16x1024 : Shape := ⟨2, ![16, 1024]⟩
abbrev S3x5632 : Shape := ⟨2, ![3, 5632]⟩
abbrev S4x5632 : Shape := ⟨2, ![4, 5632]⟩
abbrev S8x5632 : Shape := ⟨2, ![8, 5632]⟩
abbrev S8192x1024 : Shape := ⟨2, ![8192, 1024]⟩
abbrev S8192 : Shape := ⟨1, ![8192]⟩
abbrev S8192x1 : Shape := ⟨2, ![8192, 1]⟩
abbrev S32x8x32x1024 : Shape := ⟨4, ![32, 8, 32, 1024]⟩
abbrev S32x32x8x1024 : Shape := ⟨4, ![32, 32, 8, 1024]⟩
abbrev S1024x5632 : Shape := ⟨2, ![1024, 5632]⟩
abbrev S2816x1024 : Shape := ⟨2, ![2816, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S2x256x256 : Shape := ⟨3, ![2, 256, 256]⟩
abbrev S8192x5632 : Shape := ⟨2, ![8192, 5632]⟩
abbrev S8192x2816 : Shape := ⟨2, ![8192, 2816]⟩
abbrev S8x1024 : Shape := ⟨2, ![8, 1024]⟩
abbrev S256x1024 : Shape := ⟨2, ![256, 1024]⟩
abbrev S256x5632 : Shape := ⟨2, ![256, 5632]⟩
abbrev S256x2816 : Shape := ⟨2, ![256, 2816]⟩
abbrev S16x5632 : Shape := ⟨2, ![16, 5632]⟩
abbrev S1024x768 : Shape := ⟨2, ![1024, 768]⟩
abbrev S256x768 : Shape := ⟨2, ![256, 768]⟩
abbrev S8x768 : Shape := ⟨2, ![8, 768]⟩
abbrev S248x768 : Shape := ⟨2, ![248, 768]⟩
abbrev S240x768 : Shape := ⟨2, ![240, 768]⟩
abbrev S1x768 : Shape := ⟨2, ![1, 768]⟩
abbrev S16x768 : Shape := ⟨2, ![16, 768]⟩
abbrev S768x1024 : Shape := ⟨2, ![768, 1024]⟩
abbrev S1024x512 : Shape := ⟨2, ![1024, 512]⟩
abbrev S256x512 : Shape := ⟨2, ![256, 512]⟩
abbrev S8x512 : Shape := ⟨2, ![8, 512]⟩
abbrev S248x512 : Shape := ⟨2, ![248, 512]⟩
abbrev S240x512 : Shape := ⟨2, ![240, 512]⟩
abbrev S1x512 : Shape := ⟨2, ![1, 512]⟩
abbrev S16x512 : Shape := ⟨2, ![16, 512]⟩
abbrev S512x1024 : Shape := ⟨2, ![512, 1024]⟩
abbrev S1024 : Shape := ⟨1, ![1024]⟩

abbrev nBuf : Space → Nat
  | .hbm => 112
  | .vmem => 23
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x5632, .f32⟩
  | .hbm, ⟨7, _⟩ => ⟨S1x3x5632, .f32⟩
  | .hbm, ⟨8, _⟩ => ⟨S1x5632, .f32⟩
  | .hbm, ⟨9, _⟩ => ⟨S1x2816x1024, .f32⟩
  | .hbm, ⟨10, _⟩ => ⟨S1x8192x1024, .f32⟩
  | .hbm, ⟨11, _⟩ => ⟨S_, .f32⟩
  | .hbm, ⟨12, _⟩ => ⟨S1x1024, .f32⟩
  | .hbm, ⟨13, _⟩ => ⟨S_, .f32⟩
  | .hbm, ⟨14, _⟩ => ⟨S6x1024, .f32⟩
  | .hbm, ⟨15, _⟩ => ⟨S16x1024, .f32⟩
  | .hbm, ⟨16, _⟩ => ⟨S3x5632, .f32⟩
  | .hbm, ⟨17, _⟩ => ⟨S_, .f32⟩
  | .hbm, ⟨18, _⟩ => ⟨S4x5632, .f32⟩
  | .hbm, ⟨19, _⟩ => ⟨S8x5632, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S32x8x32x1024, .bf16⟩
  | .hbm, ⟨44, _⟩ => ⟨S32x32x8x1024, .bf16⟩
  | .hbm, ⟨45, _⟩ => ⟨S8192x1024, .bf16⟩
  | .hbm, ⟨46, _⟩ => ⟨S8192x1024, .f32⟩
  | .hbm, ⟨47, _⟩ => ⟨S1024x5632, .f32⟩
  | .hbm, ⟨48, _⟩ => ⟨S1024x5632, .bf16⟩
  | .hbm, ⟨49, _⟩ => ⟨S2816x1024, .f32⟩
  | .hbm, ⟨50, _⟩ => ⟨S2816x1024, .bf16⟩
  | .hbm, ⟨51, _⟩ => ⟨S256, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S256, .i32⟩
  | .hbm, ⟨59, _⟩ => ⟨S256, .i32⟩
  | .hbm, ⟨60, _⟩ => ⟨S_, .i32⟩
  | .hbm, ⟨61, _⟩ => ⟨S256, .i32⟩
  | .hbm, ⟨62, _⟩ => ⟨S256, .i1⟩
  | .hbm, ⟨63, _⟩ => ⟨S_, .i32⟩
  | .hbm, ⟨64, _⟩ => ⟨S256, .i32⟩
  | .hbm, ⟨65, _⟩ => ⟨S256, .i1⟩
  | .hbm, ⟨66, _⟩ => ⟨S_, .i32⟩
  | .hbm, ⟨67, _⟩ => ⟨S_, .i1⟩
  | .hbm, ⟨68, _⟩ => ⟨S256, .i1⟩
  | .hbm, ⟨69, _⟩ => ⟨S256, .i1⟩
  | .hbm, ⟨70, _⟩ => ⟨S256, .i1⟩
  | .hbm, ⟨71, _⟩ => ⟨S256, .i32⟩
  | .hbm, ⟨72, _⟩ => ⟨S256, .i32⟩
  | .hbm, ⟨73, _⟩ => ⟨S256, .i32⟩
  | .hbm, ⟨74, _⟩ => ⟨S_, .i32⟩
  | .hbm, ⟨75, _⟩ => ⟨S256, .i32⟩
  | .hbm, ⟨76, _⟩ => ⟨S256, .i32⟩
  | .hbm, ⟨77, _⟩ => ⟨S_, .i32⟩
  | .hbm, ⟨78, _⟩ => ⟨S_, .i32⟩
  | .hbm, ⟨79, _⟩ => ⟨S256, .i32⟩
  | .hbm, ⟨80, _⟩ => ⟨S256, .i32⟩
  | .hbm, ⟨81, _⟩ => ⟨S256, .i32⟩
  | .hbm, ⟨82, _⟩ => ⟨S_, .i32⟩
  | .hbm, ⟨83, _⟩ => ⟨S256, .i32⟩
  | .hbm, ⟨84, _⟩ => ⟨S256, .i1⟩
  | .hbm, ⟨85, _⟩ => ⟨S256, .i32⟩
  | .hbm, ⟨86, _⟩ => ⟨S256, .i32⟩
  | .hbm, ⟨87, _⟩ => ⟨S_, .i32⟩
  | .hbm, ⟨88, _⟩ => ⟨S256, .i32⟩
  | .hbm, ⟨89, _⟩ => ⟨S256, .i1⟩
  | .hbm, ⟨90, _⟩ => ⟨S256, .i1⟩
  | .hbm, ⟨91, _⟩ => ⟨S_, .i32⟩
  | .hbm, ⟨92, _⟩ => ⟨S256, .i32⟩
  | .hbm, ⟨93, _⟩ => ⟨S256, .i32⟩
  | .hbm, ⟨94, _⟩ => ⟨S256, .i32⟩
  | .hbm, ⟨95, _⟩ => ⟨S256, .i32⟩
  | .hbm, ⟨96, _⟩ => ⟨S256x1, .i32⟩
  | .hbm, ⟨97, _⟩ => ⟨S1x256, .i32⟩
  | .hbm, ⟨98, _⟩ => ⟨S256x256, .i32⟩
  | .hbm, ⟨99, _⟩ => ⟨S256x256, .i32⟩
  | .hbm, ⟨100, _⟩ => ⟨S256x256, .i1⟩
  | .hbm, ⟨101, _⟩ => ⟨S256x256, .bf16⟩
  | .hbm, ⟨102, _⟩ => ⟨S256x256, .bf16⟩
  | .hbm, ⟨103, _⟩ => ⟨S1x256x256, .bf16⟩
  | .hbm, ⟨104, _⟩ => ⟨S1x256x256, .bf16⟩
  | .hbm, ⟨105, _⟩ => ⟨S2x256x256, .bf16⟩
  | .hbm, ⟨106, _⟩ => ⟨S8192x5632, .bf16⟩
  | .hbm, ⟨107, _⟩ => ⟨S8192x5632, .bf16⟩
  | .hbm, ⟨108, _⟩ => ⟨S8192x2816, .bf16⟩
  | .hbm, ⟨109, _⟩ => ⟨S8192x1024, .f32⟩
  | .hbm, ⟨110, _⟩ => ⟨S8192x1024, .bf16⟩
  | .hbm, ⟨111, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x5632, .bf16⟩
  | .local _ .vmem, ⟨7, _⟩ => ⟨S2816x1024, .bf16⟩
  | .local _ .vmem, ⟨8, _⟩ => ⟨S8x5632, .f32⟩
  | .local _ .vmem, ⟨9, _⟩ => ⟨S16x1024, .f32⟩
  | .local _ .vmem, ⟨10, _⟩ => ⟨S2x256x256, .bf16⟩
  | .local _ .vmem, ⟨11, _⟩ => ⟨S256x5632, .bf16⟩
  | .local _ .vmem, ⟨12, _⟩ => ⟨S256x5632, .bf16⟩
  | .local _ .vmem, ⟨13, _⟩ => ⟨S256x5632, .bf16⟩
  | .local _ .vmem, ⟨14, _⟩ => ⟨S256x5632, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S8x1024, .f32⟩
  | .local _ .vmem, ⟨22, _⟩ => ⟨S16x5632, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_c_1 : Ref sig .tc := ⟨.hbm, 60, rfl⟩
abbrev main_call0_v5 : Ref sig .tc := ⟨.hbm, 61, rfl⟩
abbrev main_call0_v6 : Ref sig .tc := ⟨.hbm, 62, rfl⟩
abbrev main_call0_c_2 : Ref sig .tc := ⟨.hbm, 63, rfl⟩
abbrev main_call0_v7 : Ref sig .tc := ⟨.hbm, 64, rfl⟩
abbrev main_call0_v8 : Ref sig .tc := ⟨.hbm, 65, rfl⟩
abbrev main_call0_c_3 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_v34 : Ref sig .tc := ⟨.hbm, 73, rfl⟩
abbrev main_c_6 : Ref sig .tc := ⟨.hbm, 74, rfl⟩
abbrev main_v35 : Ref sig .tc := ⟨.hbm, 75, rfl⟩
abbrev main_v36 : Ref sig .tc := ⟨.hbm, 76, rfl⟩
abbrev main_c_7 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_c : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_0 : Ref sig .tc := ⟨.hbm, 91, rfl⟩
abbrev main_call1_v12 : Ref sig .tc := ⟨.hbm, 92, rfl⟩
abbrev main_call1_v13 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49_0 : Ref sig .tc := ⟨.hbm, 106, rfl⟩
abbrev main_v49_1 : Ref sig .tc := ⟨.hbm, 107, rfl⟩
abbrev main_v49_2 : Ref sig .tc := ⟨.hbm, 108, rfl⟩
abbrev main_v49_3 : Ref sig .tc := ⟨.hbm, 109, rfl⟩
abbrev main_v49_4 : Ref sig .tc := ⟨.hbm, 110, rfl⟩
abbrev main_v49_5 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnFwdRefIdeal.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x5632 : Shape := ⟨3, ![1, 8192, 5632]⟩
abbrev S3x5632 : Shape := ⟨2, ![3, 5632]⟩
abbrev S5632 : Shape := ⟨1, ![5632]⟩
abbrev S1x2x5632 : Shape := ⟨3, ![1, 2, 5632]⟩
abbrev S1x8194x5632 : Shape := ⟨3, ![1, 8194, 5632]⟩
abbrev S1x1x5632 : Shape := ⟨3, ![1, 1, 5632]⟩
abbrev S1x8192x2816 : Shape := ⟨3, ![1, 8192, 2816]⟩
abbrev S2816x1024 : Shape := ⟨2, ![2816, 1024]⟩
abbrev S8192 : Shape := ⟨1, ![8192]⟩
abbrev S32x8x32x5632 : Shape := ⟨4, ![32, 8, 32, 5632]⟩
abbrev S32x32x8x5632 : Shape := ⟨4, ![32, 32, 8, 5632]⟩
abbrev S8192x5632 : Shape := ⟨2, ![8192, 5632]⟩
abbrev S32x8x32x2816 : Shape := ⟨4, ![32, 8, 32, 2816]⟩
abbrev S32x32x8x2816 : Shape := ⟨4, ![32, 32, 8, 2816]⟩
abbrev S8192x2816 : Shape := ⟨2, ![8192, 2816]⟩
abbrev S8192x1024 : Shape := ⟨2, ![8192, 1024]⟩
abbrev S32x8x32x1024 : Shape := ⟨4, ![32, 8, 32, 1024]⟩
abbrev S32x32x8x1024 : Shape := ⟨4, ![32, 32, 8, 1024]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 227
  | .vmem => 0
  | .smem => 0
  | _ => 0

abbrev hbmTy0_0 (i : Nat) : BufTy := match i % 128 with
  | 0 => ⟨S1x8192x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024x5632, .f32⟩
  | 7 => ⟨S1x3x5632, .f32⟩
  | 8 => ⟨S1x5632, .f32⟩
  | 9 => ⟨S1x2816x1024, .f32⟩
  | 10 => ⟨S1x8192x1024, .f32⟩
  | 11 => ⟨S1024, .f32⟩
  | 12 => ⟨S1x8192x1024, .f32⟩
  | 13 => ⟨S_, .f32⟩
  | 14 => ⟨S1x8192, .f32⟩
  | 15 => ⟨S1x8192x1, .f32⟩
  | 16 => ⟨S_, .f32⟩
  | 17 => ⟨S1x8192x1, .f32⟩
  | 18 => ⟨S1x8192x1, .f32⟩
  | 19 => ⟨S_, .f32⟩
  | 20 => ⟨S1x8192x1, .f32⟩
  | 21 => ⟨S1x8192x1, .f32⟩
  | 22 => ⟨S1x8192x1, .f32⟩
  | 23 => ⟨S1x8192x1024, .f32⟩
  | 24 => ⟨S1x8192x1024, .f32⟩
  | 25 => ⟨S1x1x1024, .f32⟩
  | 26 => ⟨S1x8192x1024, .f32⟩
  | 27 => ⟨S1x8192x1024, .f32⟩
  | 28 => ⟨S1x1x1024, .f32⟩
  | 29 => ⟨S_, .f32⟩
  | 30 => ⟨S1x1x1024, .f32⟩
  | 31 => ⟨S1x1x1024, .f32⟩
  | 32 => ⟨S1x8192x1024, .f32⟩
  | 33 => ⟨S1x8192x1024, .f32⟩
  | 34 => ⟨S1x1x1024, .f32⟩
  | 35 => ⟨S1x8192x1024, .f32⟩
  | 36 => ⟨S1x8192x1024, .f32⟩
  | 37 => ⟨S1024x5632, .f32⟩
  | 38 => ⟨S1x8192x5632, .f32⟩
  | 39 => ⟨S3x5632, .f32⟩
  | 40 => ⟨S5632, .f32⟩
  | 41 => ⟨S_, .f32⟩
  | 42 => ⟨S1x2x5632, .f32⟩
  | 43 => ⟨S1x8194x5632, .f32⟩
  | 44 => ⟨S1x8192x5632, .f32⟩
  | 45 => ⟨S1x5632, .f32⟩
  | 46 => ⟨S5632, .f32⟩
  | 47 => ⟨S1x1x5632, .f32⟩
  | 48 => ⟨S1x8192x5632, .f32⟩
  | 49 => ⟨S1x8192x5632, .f32⟩
  | 50 => ⟨S1x1x5632, .f32⟩
  | 51 => ⟨S1x8192x5632, .f32⟩
  | 52 => ⟨S1x8192x5632, .f32⟩
  | 53 => ⟨S1x8192x5632, .f32⟩
  | 54 => ⟨S1x5632, .f32⟩
  | 55 => ⟨S5632, .f32⟩
  | 56 => ⟨S1x1x5632, .f32⟩
  | 57 => ⟨S1x8192x5632, .f32⟩
  | 58 => ⟨S1x8192x5632, .f32⟩
  | 59 => ⟨S1x8192x5632, .f32⟩
  | 60 => ⟨S1x8192x5632, .f32⟩
  | 61 => ⟨S1x5632, .f32⟩
  | 62 => ⟨S5632, .f32⟩
  | 63 => ⟨S1x1x5632, .f32⟩
  | 64 => ⟨S1x8192x5632, .f32⟩
  | 65 => ⟨S1x8192x5632, .f32⟩
  | 66 => ⟨S1x8192x5632, .f32⟩
  | 67 => ⟨S1x8192x2816, .f32⟩
  | 68 => ⟨S1x8192x2816, .f32⟩
  | 69 => ⟨S1x8192x2816, .f32⟩
  | 70 => ⟨S1x8192x2816, .f32⟩
  | 71 => ⟨S_, .f32⟩
  | 72 => ⟨S1x8192x2816, .f32⟩
  | 73 => ⟨S1x8192x2816, .f32⟩
  | 74 => ⟨S_, .f32⟩
  | 75 => ⟨S1x8192x2816, .f32⟩
  | 76 => ⟨S1x8192x2816, .f32⟩
  | 77 => ⟨S_, .f32⟩
  | 78 => ⟨S1x8192x2816, .f32⟩
  | 79 => ⟨S1x8192x2816, .f32⟩
  | 80 => ⟨S1x8192x2816, .f32⟩
  | 81 => ⟨S1x8192x2816, .f32⟩
  | 82 => ⟨S1x8192x2816, .f32⟩
  | 83 => ⟨S_, .f32⟩
  | 84 => ⟨S1x8192x2816, .f32⟩
  | 85 => ⟨S1x8192x2816, .f32⟩
  | 86 => ⟨S1x8192x2816, .f32⟩
  | 87 => ⟨S1x8192x2816, .f32⟩
  | 88 => ⟨S1x8192x2816, .f32⟩
  | 89 => ⟨S1x8192x2816, .f32⟩
  | 90 => ⟨S1x8192x2816, .f32⟩
  | 91 => ⟨S2816x1024, .f32⟩
  | 92 => ⟨S1x8192x1024, .f32⟩
  | 93 => ⟨S1x1x1024, .f32⟩
  | 94 => ⟨S1024, .f32⟩
  | 95 => ⟨S1x8192x1024, .f32⟩
  | 96 => ⟨S_, .f32⟩
  | 97 => ⟨S1x8192, .f32⟩
  | 98 => ⟨S1x8192x1, .f32⟩
  | 99 => ⟨S_, .f32⟩
  | 100 => ⟨S1x8192x1, .f32⟩
  | 101 => ⟨S1x8192x1, .f32⟩
  | 102 => ⟨S_, .f32⟩
  | 103 => ⟨S1x8192x1, .f32⟩
  | 104 => ⟨S1x8192x1, .f32⟩
  | 105 => ⟨S1x8192x1, .f32⟩
  | 106 => ⟨S1x8192x1, .f32⟩
  | 107 => ⟨S_, .f32⟩
  | 108 => ⟨S1x8192x1, .f32⟩
  | 109 => ⟨S1x8192x1, .f32⟩
  | 110 => ⟨S1x8192x1024, .f32⟩
  | 111 => ⟨S1x8192x1024, .f32⟩
  | 112 => ⟨S1x1x1024, .f32⟩
  | 113 => ⟨S1x8192x1024, .f32⟩
  | 114 => ⟨S1x8192x1024, .f32⟩
  | 115 => ⟨S1x8192x1024, .f32⟩
  | 116 => ⟨S1x8192x1024, .f32⟩
  | 117 => ⟨S1x8192x1024, .f32⟩
  | 118 => ⟨S1x8192x1024, .f32⟩
  | 119 => ⟨S1x8192x1024, .f32⟩
  | 120 => ⟨S_, .f32⟩
  | 121 => ⟨S1x8192x1024, .f32⟩
  | 122 => ⟨S1x8192x1024, .f32⟩
  | 123 => ⟨S_, .f32⟩
  | 124 => ⟨S1x8192, .f32⟩
  | 125 => ⟨S_, .f32⟩
  | 126 => ⟨S1x8192, .f32⟩
  | 127 => ⟨S1x8192, .f32⟩
  | _ => ⟨S1x8192x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S1x8192, .f32⟩
  | 8 => ⟨S_, .f32⟩
  | 9 => ⟨S1x8192, .f32⟩
  | 10 => ⟨S1x8192, .f32⟩
  | 11 => ⟨S1x8192x1024, .f32⟩
  | 12 => ⟨S1x8192x1024, .f32⟩
  | 13 => ⟨S1x8192x1024, .f32⟩
  | 14 => ⟨S1x8192x1024, .f32⟩
  | 15 => ⟨S1x8192x1024, .f32⟩
  | 16 => ⟨S_, .f32⟩
  | 17 => ⟨S1x1024, .f32⟩
  | 18 => ⟨S1x1x1024, .f32⟩
  | 19 => ⟨S1x8192x1024, .f32⟩
  | 20 => ⟨S_, .f32⟩
  | 21 => ⟨S1x1024, .f32⟩
  | 22 => ⟨S1x1x1024, .f32⟩
  | 23 => ⟨S1x8192x1024, .f32⟩
  | 24 => ⟨S1x8192x1024, .f32⟩
  | 25 => ⟨S_, .f32⟩
  | 26 => ⟨S1024, .f32⟩
  | 27 => ⟨S1x8192x1024, .f32⟩
  | 28 => ⟨S_, .f32⟩
  | 29 => ⟨S1x8192, .f32⟩
  | 30 => ⟨S1x8192x1, .f32⟩
  | 31 => ⟨S1x8192x1024, .f32⟩
  | 32 => ⟨S1x8192x1024, .f32⟩
  | 33 => ⟨S1x8192x1, .f32⟩
  | 34 => ⟨S_, .f32⟩
  | 35 => ⟨S1x8192x1, .f32⟩
  | 36 => ⟨S1x8192x1, .f32⟩
  | 37 => ⟨S_, .f32⟩
  | 38 => ⟨S8192, .f32⟩
  | 39 => ⟨S1x8192, .f32⟩
  | 40 => ⟨S1x8192x1024, .f32⟩
  | 41 => ⟨S1x8192x1024, .f32⟩
  | 42 => ⟨S1x8192x1024, .f32⟩
  | 43 => ⟨S1x8192x1024, .f32⟩
  | 44 => ⟨S1x8192x1024, .f32⟩
  | 45 => ⟨S1x1024, .f32⟩
  | 46 => ⟨S_, .f32⟩
  | 47 => ⟨S1024, .f32⟩
  | 48 => ⟨S1x1024, .f32⟩
  | 49 => ⟨S1x1x1024, .f32⟩
  | 50 => ⟨S1024, .f32⟩
  | 51 => ⟨S1x8192x1024, .f32⟩
  | 52 => ⟨S_, .f32⟩
  | 53 => ⟨S1x8192, .f32⟩
  | 54 => ⟨S1x8192x1, .f32⟩
  | 55 => ⟨S_, .f32⟩
  | 56 => ⟨S1x8192x1, .f32⟩
  | 57 => ⟨S1x8192x1, .f32⟩
  | 58 => ⟨S_, .f32⟩
  | 59 => ⟨S1x8192x1, .f32⟩
  | 60 => ⟨S1x8192x1, .f32⟩
  | 61 => ⟨S1x8192x1, .f32⟩
  | 62 => ⟨S1x8192x1024, .f32⟩
  | 63 => ⟨S1x8192x1024, .f32⟩
  | 64 => ⟨S1x1x1024, .f32⟩
  | 65 => ⟨S1x8192x1024, .f32⟩
  | 66 => ⟨S1x8192x1024, .f32⟩
  | 67 => ⟨S1x8192x1024, .f32⟩
  | 68 => ⟨S1x8192x1024, .f32⟩
  | 69 => ⟨S1x8192x1024, .f32⟩
  | 70 => ⟨S1x8192x1024, .f32⟩
  | 71 => ⟨S1x8192x1024, .f32⟩
  | 72 => ⟨S_, .f32⟩
  | 73 => ⟨S1x1024, .f32⟩
  | 74 => ⟨S32x8x32x5632, .f32⟩
  | 75 => ⟨S32x32x8x5632, .f32⟩
  | 76 => ⟨S8192x5632, .f32⟩
  | 77 => ⟨S8192x5632, .bf16⟩
  | 78 => ⟨S32x8x32x2816, .f32⟩
  | 79 => ⟨S32x32x8x2816, .f32⟩
  | 80 => ⟨S8192x2816, .f32⟩
  | 81 => ⟨S32x8x32x2816, .f32⟩
  | 82 => ⟨S32x32x8x2816, .f32⟩
  | 83 => ⟨S8192x2816, .f32⟩
  | 84 => ⟨S8192x5632, .f32⟩
  | 85 => ⟨S8192x5632, .bf16⟩
  | 86 => ⟨S32x8x32x2816, .f32⟩
  | 87 => ⟨S32x32x8x2816, .f32⟩
  | 88 => ⟨S8192x2816, .f32⟩
  | 89 => ⟨S8192x2816, .bf16⟩
  | 90 => ⟨S8192x1024, .f32⟩
  | 91 => ⟨S32x8x32x1024, .f32⟩
  | 92 => ⟨S32x32x8x1024, .f32⟩
  | 93 => ⟨S8192x1024, .f32⟩
  | 94 => ⟨S8192x1024, .bf16⟩
  | 95 => ⟨S3x1024, .f32⟩
  | 96 => ⟨S_, .f32⟩
  | 97 => ⟨S5x1024, .f32⟩
  | 98 => ⟨S8x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_v53_2 : Ref sig .tc := ⟨.hbm, 76, rfl⟩
abbrev main_call0_cst_1 : Ref sig .tc := ⟨.hbm, 77, rfl⟩
abbrev main_call0_v6 : Ref sig .tc := ⟨.hbm, 78, rfl⟩
abbrev main_call0_v7 : Ref sig .tc := ⟨.hbm, 79, rfl⟩
abbrev main_v53_1 : Ref sig .tc := ⟨.hbm, 80, rfl⟩
abbrev main_v53_0 : Ref sig .tc := ⟨.hbm, 81, rfl⟩
abbrev main_v54 : Ref sig .tc := ⟨.hbm, 82, rfl⟩
abbrev main_cst_4 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_5 : Ref sig .tc := ⟨.hbm, 96, rfl⟩
abbrev main_v64 : Ref sig .tc := ⟨.hbm, 97, rfl⟩
abbrev main_v65 : Ref sig .tc := ⟨.hbm, 98, rfl⟩
abbrev main_cst_6 : Ref sig .tc := ⟨.hbm, 99, rfl⟩
abbrev main_v66 : Ref sig .tc := ⟨.hbm, 100, rfl⟩
abbrev main_v67 : Ref sig .tc := ⟨.hbm, 101, rfl⟩
abbrev main_cst_7 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_8 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_9 : Ref sig .tc := ⟨.hbm, 120, rfl⟩
abbrev main_v84 : Ref sig .tc := ⟨.hbm, 121, rfl⟩
abbrev main_v85 : Ref sig .tc := ⟨.hbm, 122, rfl⟩
abbrev main_cst_10 : Ref sig .tc := ⟨.hbm, 123, rfl⟩
abbrev main_v86 : Ref sig .tc := ⟨.hbm, 124, rfl⟩
abbrev main_cst_11 : Ref sig .tc := ⟨.hbm, 125, rfl⟩
abbrev main_v87 : Ref sig .tc := ⟨.hbm, 126, rfl⟩
abbrev main_v88 : Ref sig .tc := ⟨.hbm, 127, rfl⟩
abbrev main_cst_12 : Ref sig .tc := ⟨.hbm, 128, rfl⟩
abbrev main_v89 : Ref sig .tc := ⟨.hbm, 129, rfl⟩
abbrev main_cst_13 : Ref sig .tc := ⟨.hbm, 130, rfl⟩
abbrev main_v90 : Ref sig .tc := ⟨.hbm, 131, rfl⟩
abbrev main_cst_14 : Ref sig .tc := ⟨.hbm, 132, rfl⟩
abbrev main_cst_15 : Ref sig .tc := ⟨.hbm, 133, rfl⟩
abbrev main_v91 : Ref sig .tc := ⟨.hbm, 134, rfl⟩
abbrev main_v92 : Ref sig .tc := ⟨.hbm, 135, rfl⟩
abbrev main_cst_16 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_17 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_18 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_19 : Ref sig .tc := ⟨.hbm, 153, rfl⟩
abbrev main_v107 : Ref sig .tc := ⟨.hbm, 154, rfl⟩
abbrev main_v108 : Ref sig .tc := ⟨.hbm, 155, rfl⟩
abbrev main_cst_20 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_21 : Ref sig .tc := ⟨.hbm, 162, rfl⟩
abbrev main_v114 : Ref sig .tc := ⟨.hbm, 163, rfl⟩
abbrev main_v115 : Ref sig .tc := ⟨.hbm, 164, rfl⟩
abbrev main_cst_22 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_23 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_24 : Ref sig .tc := ⟨.hbm, 180, rfl⟩
abbrev main_v129 : Ref sig .tc := ⟨.hbm, 181, rfl⟩
abbrev main_v130 : Ref sig .tc := ⟨.hbm, 182, rfl⟩
abbrev main_cst_25 : Ref sig .tc := ⟨.hbm, 183, rfl⟩
abbrev main_v131 : Ref sig .tc := ⟨.hbm, 184, rfl⟩
abbrev main_v132 : Ref sig .tc := ⟨.hbm, 185, rfl⟩
abbrev main_cst_26 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_27 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_cst_28 : Ref sig .tc := ⟨.hbm, 224, rfl⟩
abbrev main_v169 : Ref sig .tc := ⟨.hbm, 225, rfl⟩
abbrev main_v170 : Ref sig .tc := ⟨.hbm, 226, rfl⟩

abbrev nD : Nat := 1
abbrev τ : Topo := Topo.v7x

variable {F : FTy → Type} [FloatOps F]
-- ==== MixFwd.lean ====
abbrev S1x8192x1024 : Shape := ⟨3, ![1, 8192, 1024]⟩
abbrev S1x1024 : Shape := ⟨2, ![1, 1024]⟩
abbrev S1x1024x1536 : Shape := ⟨3, ![1, 1024, 1536]⟩
abbrev S1x4x128 : Shape := ⟨3, ![1, 4, 128]⟩
abbrev S1x4x128x128 : Shape := ⟨4, ![1, 4, 128, 128]⟩
abbrev S1x512 : Shape := ⟨2, ![1, 512]⟩
abbrev S1x1024x1024 : Shape := ⟨3, ![1, 1024, 1024]⟩
abbrev S_ : Shape := ⟨0, ![]⟩
abbrev S6x1024 : Shape := ⟨2, ![6, 1024]⟩
abbrev S16x1024 : Shape := ⟨2, ![16, 1024]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x128x128 : Shape := ⟨3, ![4, 128, 128]⟩
abbrev S4x128 : Shape := ⟨2, ![4, 128]⟩
abbrev S4x128x1 : Shape := ⟨3, ![4, 128, 1]⟩
abbrev S8x128 : Shape := ⟨2, ![8, 128]⟩
abbrev S7x512 : Shape := ⟨2, ![7, 512]⟩
abbrev S8x512 : Shape := ⟨2, ![8, 512]⟩
abbrev S8192x1024 : Shape := ⟨2, ![8192, 1024]⟩
abbrev S1024x1536 : Shape := ⟨2, ![1024, 1536]⟩
abbrev S1024x1024 : Shape := ⟨2, ![1024, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S2x256x256 : Shape := ⟨3, ![2, 256, 256]⟩
abbrev S8192x1536 : Shape := ⟨2, ![8192, 1536]⟩
abbrev S512x1024 : Shape := ⟨2, ![512, 1024]⟩
abbrev S512x1536 : Shape := ⟨2, ![512, 1536]⟩
abbrev S16x512 : Shape := ⟨2, ![16, 512]⟩
abbrev S256x1024 : Shape := ⟨2, ![256, 1024]⟩
abbrev S256x1536 : Shape := ⟨2, ![256, 1536]⟩
abbrev S256x128 : Shape := ⟨2, ![256, 128]⟩
abbrev S16x128 : Shape := ⟨2, ![16, 128]⟩
abbrev S272x128 : Shape := ⟨2, ![272, 128]⟩

abbrev nBuf : Space → Nat
  | .hbm => 149
  | .vmem => 24
  | .smem => 0
  | _ => 0

abbrev hbmTy0_0 (i : Nat) : BufTy := match i % 128 with
  | 0 => ⟨S1x8192x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024x1536, .f32⟩
  | 10 => ⟨S1x4x128, .f32⟩
  | 11 => ⟨S1x4x128x128, .f32⟩
  | 12 => ⟨S1x4x128, .f32⟩
  | 13 => ⟨S1x4x128x128, .f32⟩
  | 14 => ⟨S1x512, .f32⟩
  | 15 => ⟨S1x1024x1024, .f32⟩
  | 16 => ⟨S_, .f32⟩
  | 17 => ⟨S1x1024, .f32⟩
  | 18 => ⟨S_, .f32⟩
  | 19 => ⟨S6x1024, .f32⟩
  | 20 => ⟨S16x1024, .f32⟩
  | 21 => ⟨S128, .i32⟩
  | 22 => ⟨S1x128, .i32⟩
  | 23 => ⟨S_, .i32⟩
  | 24 => ⟨S_, .i32⟩
  | 25 => ⟨S1x128, .i32⟩
  | 26 => ⟨S1x128, .i32⟩
  | 27 => ⟨S1x128, .i32⟩
  | 28 => ⟨S_, .i32⟩
  | 29 => ⟨S1x128, .i32⟩
  | 30 => ⟨S1x128, .i1⟩
  | 31 => ⟨S1x128, .i32⟩
  | 32 => ⟨S1x128, .i32⟩
  | 33 => ⟨S_, .i32⟩
  | 34 => ⟨S1x128, .i32⟩
  | 35 => ⟨S1x128, .i1⟩
  | 36 => ⟨S1x128, .i1⟩
  | 37 => ⟨S_, .i32⟩
  | 38 => ⟨S1x128, .i32⟩
  | 39 => ⟨S1x128, .i32⟩
  | 40 => ⟨S1x128, .i32⟩
  | 41 => ⟨S128x1, .i32⟩
  | 42 => ⟨S_, .i32⟩
  | 43 => ⟨S_, .i32⟩
  | 44 => ⟨S128x1, .i32⟩
  | 45 => ⟨S128x1, .i32⟩
  | 46 => ⟨S128x1, .i32⟩
  | 47 => ⟨S_, .i32⟩
  | 48 => ⟨S128x1, .i32⟩
  | 49 => ⟨S128x1, .i1⟩
  | 50 => ⟨S128x1, .i32⟩
  | 51 => ⟨S128x1, .i32⟩
  | 52 => ⟨S_, .i32⟩
  | 53 => ⟨S128x1, .i32⟩
  | 54 => ⟨S128x1, .i1⟩
  | 55 => ⟨S128x1, .i1⟩
  | 56 => ⟨S_, .i32⟩
  | 57 => ⟨S128x1, .i32⟩
  | 58 => ⟨S128x1, .i32⟩
  | 59 => ⟨S128x1, .i32⟩
  | 60 => ⟨S128x128, .i32⟩
  | 61 => ⟨S128x128, .i32⟩
  | 62 => ⟨S128x128, .i1⟩
  | 63 => ⟨S1x128x128, .i1⟩
  | 64 => ⟨S4x128x128, .f32⟩
  | 65 => ⟨S_, .f32⟩
  | 66 => ⟨S_, .f32⟩
  | 67 => ⟨S4x128x128, .i1⟩
  | 68 => ⟨S4x128x128, .f32⟩
  | 69 => ⟨S4x128x128, .f32⟩
  | 70 => ⟨S4x128x128, .bf16⟩
  | 71 => ⟨S4x128, .f32⟩
  | 72 => ⟨S4x128x1, .f32⟩
  | 73 => ⟨S4x128x128, .f32⟩
  | 74 => ⟨S4x128, .f32⟩
  | 75 => ⟨S_, .f32⟩
  | 76 => ⟨S4x128, .f32⟩
  | 77 => ⟨S8x128, .f32⟩
  | 78 => ⟨S_, .f32⟩
  | 79 => ⟨S7x512, .f32⟩
  | 80 => ⟨S8x512, .f32⟩
  | 81 => ⟨S8192x1024, .f32⟩
  | 82 => ⟨S1024x1536, .f32⟩
  | 83 => ⟨S1024x1536, .bf16⟩
  | 84 => ⟨S1024x1024, .f32⟩
  | 85 => ⟨S1024x1024, .bf16⟩
  | 86 => ⟨S4x128x128, .f32⟩
  | 87 => ⟨S4x128x128, .bf16⟩
  | 88 => ⟨S256, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S256, .i32⟩
  | 96 => ⟨S256, .i32⟩
  | 97 => ⟨S_, .i32⟩
  | 98 => ⟨S256, .i32⟩
  | 99 => ⟨S256, .i1⟩
  | 100 => ⟨S_, .i32⟩
  | 101 => ⟨S256, .i32⟩
  | 102 => ⟨S256, .i1⟩
  | 103 => ⟨S_, .i32⟩
  | 104 => ⟨S_, .i1⟩
  | 105 => ⟨S256, .i1⟩
  | 106 => ⟨S256, .i1⟩
  | 107 => ⟨S256, .i1⟩
  | 108 => ⟨S256, .i32⟩
  | 109 => ⟨S256, .i32⟩
  | 110 => ⟨S256, .i32⟩
  | 111 => ⟨S_, .i32⟩
  | 112 => ⟨S256, .i32⟩
  | 113 => ⟨S256, .i32⟩
  | 114 => ⟨S_, .i32⟩
  | 115 => ⟨S_, .i32⟩
  | 116 => ⟨S256, .i32⟩
  | 117 => ⟨S256, .i32⟩
  | 118 => ⟨S256, .i32⟩
  | 119 => ⟨S_, .i32⟩
  | 120 => ⟨S256, .i32⟩
  | 121 => ⟨S256, .i1⟩
  | 122 => ⟨S256, .i32⟩
  | 123 => ⟨S256, .i32⟩
  | 124 => ⟨S_, .i32⟩
  | 125 => ⟨S256, .i32⟩
  | 126 => ⟨S256, .i1⟩
  | 127 => ⟨S256, .i1⟩
  | _ => ⟨S1x8192x1024, .f32⟩

abbrev hbmTy0_1 (i : Nat) : BufTy := match i % 128 with
  | 0 => ⟨S_, .i32⟩
  | 1 => ⟨S256, .i32⟩
  | 2 => ⟨S256, .i32⟩
  | 3 => ⟨S256, .i32⟩
  | 4 => ⟨S256, .i32⟩
  | 5 => ⟨S256x1, .i32⟩
  | 6 => ⟨S1x256, .i32⟩
  | 7 => ⟨S256x256, .i32⟩
  | 8 => ⟨S256x256, .i32⟩
  | 9 => ⟨S256x256, .i1⟩
  | 10 => ⟨S256x256, .bf16⟩
  | 11 => ⟨S256x256, .bf16⟩
  | 12 => ⟨S1x256x256, .bf16⟩
  | 13 => ⟨S1x256x256, .bf16⟩
  | 14 => ⟨S2x256x256, .bf16⟩
  | 15 => ⟨S8192x1024, .bf16⟩
  | 16 => ⟨S8192x1536, .bf16⟩
  | 17 => ⟨S8192x1024, .bf16⟩
  | 18 => ⟨S8192x1024, .f32⟩
  | 19 => ⟨S8192x1024, .f32⟩
  | 20 => ⟨S8192x1024, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S1024x1536, .bf16⟩
  | .local _ .vmem, ⟨4, _⟩ => ⟨S1024x1024, .bf16⟩
  | .local _ .vmem, ⟨5, _⟩ => ⟨S8x128, .f32⟩
  | .local _ .vmem, ⟨6, _⟩ => ⟨S4x128x128, .bf16⟩
  | .local _ .vmem, ⟨7, _⟩ => ⟨S4x128x128, .f32⟩
  | .local _ .vmem, ⟨8, _⟩ => ⟨S4x128x128, .bf16⟩
  | .local _ .vmem, ⟨9, _⟩ => ⟨S8x512, .f32⟩
  | .local _ .vmem, ⟨10, _⟩ => ⟨S2x256x256, .bf16⟩
  | .local _ .vmem, ⟨11, _⟩ => ⟨S512x1024, .bf16⟩
  | .local _ .vmem, ⟨12, _⟩ => ⟨S512x1024, .bf16⟩
  | .local _ .vmem, ⟨13, _⟩ => ⟨S512x1536, .bf16⟩
  | .local _ .vmem, ⟨14, _⟩ => ⟨S512x1536, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S16x512, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v5 : Ref sig .tc := ⟨.hbm, 40, rfl⟩
abbrev main_v6 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_cst_2 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_cst_3 : Ref sig .tc := ⟨.hbm, 75, rfl⟩
abbrev main_v19 : Ref sig .tc := ⟨.hbm, 76, rfl⟩
abbrev main_v20 : Ref sig .tc := ⟨.hbm, 77, rfl⟩
abbrev main_cst_4 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_c_5 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_v5 : Ref sig .tc := ⟨.hbm, 98, rfl⟩
abbrev main_call3_v6 : Ref sig .tc := ⟨.hbm, 99, rfl⟩
abbrev main_call3_c_2 : Ref sig .tc := ⟨.hbm, 100, rfl⟩
abbrev main_call3_v7 : Ref sig .tc := ⟨.hbm, 101, rfl⟩
abbrev main_call3_v8 : Ref sig .tc := ⟨.hbm, 102, rfl⟩
abbrev main_call3_c_3 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_v31 : Ref sig .tc := ⟨.hbm, 110, rfl⟩
abbrev main_c_6 : Ref sig .tc := ⟨.hbm, 111, rfl⟩
abbrev main_v32 : Ref sig .tc := ⟨.hbm, 112, rfl⟩
abbrev main_v33 : Ref sig .tc := ⟨.hbm, 113, rfl⟩
abbrev main_c_7 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_c : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_0 : Ref sig .tc := ⟨.hbm, 128, rfl⟩
abbrev main_call4_v12 : Ref sig .tc := ⟨.hbm, 129, rfl⟩
abbrev main_call4_v13 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46_0 : Ref sig .tc := ⟨.hbm, 143, rfl⟩
abbrev main_v46_1 : Ref sig .tc := ⟨.hbm, 144, rfl⟩
abbrev main_v46_2 : Ref sig .tc := ⟨.hbm, 145, rfl⟩
abbrev main_v46_3 : Ref sig .tc := ⟨.hbm, 146, rfl⟩
abbrev main_v46_4 : Ref sig .tc := ⟨.hbm, 147, rfl⟩
abbrev main_v46_5 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixFwdIdeal.lean ====
variable {F : FTy → Type} [FloatOps F] [Named F]
def κ : String → Option EReal := fun
  | "gelu_c1" => some ((80338380498831 / 2251799813685248 : ℝ) : EReal)
  | _ => none
-- ==== MixFwdRefIdeal.lean ====
abbrev S1x8192x1024 : Shape := ⟨3, ![1, 8192, 1024]⟩
abbrev S1x1024 : Shape := ⟨2, ![1, 1024]⟩
abbrev S1x1024x1536 : Shape := ⟨3, ![1, 1024, 1536]⟩
abbrev S1x4x128 : Shape := ⟨3, ![1, 4, 128]⟩
abbrev S1x4x128x128 : Shape := ⟨4, ![1, 4, 128, 128]⟩
abbrev S1x512 : Shape := ⟨2, ![1, 512]⟩
abbrev S1x1024x1024 : Shape := ⟨3, ![1, 1024, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x1536 : Shape := ⟨2, ![1024, 1536]⟩
abbrev S1x8192x1536 : Shape := ⟨3, ![1, 8192, 1536]⟩
abbrev S4x128 : Shape := ⟨2, ![4, 128]⟩
abbrev S4x128x128 : Shape := ⟨3, ![4, 128, 128]⟩
abbrev S1x8192x512 : Shape := ⟨3, ![1, 8192, 512]⟩
abbrev S1x64x128x4x128 : Shape := ⟨5, ![1, 64, 128, 4, 128]⟩
abbrev S1x1x1x4x128 : Shape := ⟨5, ![1, 1, 1, 4, 128]⟩
abbrev S1x64x128x4 : Shape := ⟨4, ![1, 64, 128, 4]⟩
abbrev S1x64x128x4x1 : Shape := ⟨5, ![1, 64, 128, 4, 1]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x1x64x128x128 : Shape := ⟨5, ![4, 1, 64, 128, 128]⟩
abbrev S128x4 : Shape := ⟨2, ![128, 4]⟩
abbrev S1x1x128x4x1 : Shape := ⟨5, ![1, 1, 128, 4, 1]⟩
abbrev S512 : Shape := ⟨1, ![512]⟩
abbrev S1x8192x4x128 : Shape := ⟨4, ![1, 8192, 4, 128]⟩
abbrev S8192 : Shape := ⟨1, ![8192]⟩
abbrev S1x8192x1x128 : Shape := ⟨4, ![1, 8192, 1, 128]⟩
abbrev S1x8192x128 : Shape := ⟨3, ![1, 8192, 128]⟩
abbrev S1x8194x128 : Shape := ⟨3, ![1, 8194, 128]⟩
abbrev S1x8196x128 : Shape := ⟨3, ![1, 8196, 128]⟩
abbrev S1x8200x128 : Shape := ⟨3, ![1, 8200, 128]⟩
abbrev S1x8208x128 : Shape := ⟨3, ![1, 8208, 128]⟩
abbrev S4x128x1x8192 : Shape := ⟨4, ![4, 128, 1, 8192]⟩
abbrev S1x1x512 : Shape := ⟨3, ![1, 1, 512]⟩
abbrev S1024x1024 : Shape := ⟨2, ![1024, 1024]⟩
abbrev S8192x1024 : Shape := ⟨2, ![8192, 1024]⟩
abbrev S8192x1536 : Shape := ⟨2, ![8192, 1536]⟩
abbrev S32x8x32x1024 : Shape := ⟨4, ![32, 8, 32, 1024]⟩
abbrev S32x32x8x1024 : Shape := ⟨4, ![32, 32, 8, 1024]⟩

abbrev nBuf : Space → Nat
  | .hbm => 305
  | .vmem => 0
  | .smem => 0
  | _ => 0

abbrev hbmTy0_0 (i : Nat) : BufTy := match i % 128 with
  | 0 => ⟨S1x8192x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024x1536, .f32⟩
  | 10 => ⟨S1x4x128, .f32⟩
  | 11 => ⟨S1x4x128x128, .f32⟩
  | 12 => ⟨S1x4x128, .f32⟩
  | 13 => ⟨S1x4x128x128, .f32⟩
  | 14 => ⟨S1x512, .f32⟩
  | 15 => ⟨S1x1024x1024, .f32⟩
  | 16 => ⟨S1024, .f32⟩
  | 17 => ⟨S1x8192x1024, .f32⟩
  | 18 => ⟨S_, .f32⟩
  | 19 => ⟨S1x8192, .f32⟩
  | 20 => ⟨S1x8192x1, .f32⟩
  | 21 => ⟨S_, .f32⟩
  | 22 => ⟨S1x8192x1, .f32⟩
  | 23 => ⟨S1x8192x1, .f32⟩
  | 24 => ⟨S_, .f32⟩
  | 25 => ⟨S1x8192x1, .f32⟩
  | 26 => ⟨S1x8192x1, .f32⟩
  | 27 => ⟨S1x8192x1, .f32⟩
  | 28 => ⟨S1x8192x1024, .f32⟩
  | 29 => ⟨S1x8192x1024, .f32⟩
  | 30 => ⟨S1x1x1024, .f32⟩
  | 31 => ⟨S1x8192x1024, .f32⟩
  | 32 => ⟨S1x8192x1024, .f32⟩
  | 33 => ⟨S1x1x1024, .f32⟩
  | 34 => ⟨S_, .f32⟩
  | 35 => ⟨S1x1x1024, .f32⟩
  | 36 => ⟨S1x1x1024, .f32⟩
  | 37 => ⟨S1x8192x1024, .f32⟩
  | 38 => ⟨S1x8192x1024, .f32⟩
  | 39 => ⟨S1x1x1024, .f32⟩
  | 40 => ⟨S1x8192x1024, .f32⟩
  | 41 => ⟨S1x8192x1024, .f32⟩
  | 42 => ⟨S1024x1536, .f32⟩
  | 43 => ⟨S1x8192x1536, .f32⟩
  | 44 => ⟨S1x8192x1024, .f32⟩
  | 45 => ⟨S4x128, .f32⟩
  | 46 => ⟨S4x128x128, .f32⟩
  | 47 => ⟨S4x128, .f32⟩
  | 48 => ⟨S1x8192x1024, .f32⟩
  | 49 => ⟨S1x8192x1024, .f32⟩
  | 50 => ⟨S_, .f32⟩
  | 51 => ⟨S1x8192x1024, .f32⟩
  | 52 => ⟨S1x8192x1024, .f32⟩
  | 53 => ⟨S1x8192x1024, .f32⟩
  | 54 => ⟨S_, .f32⟩
  | 55 => ⟨S1x8192x1024, .f32⟩
  | 56 => ⟨S1x8192x1024, .f32⟩
  | 57 => ⟨S1x8192x1024, .f32⟩
  | 58 => ⟨S_, .f32⟩
  | 59 => ⟨S1x8192x1024, .f32⟩
  | 60 => ⟨S1x8192x1024, .f32⟩
  | 61 => ⟨S_, .f32⟩
  | 62 => ⟨S1x8192x1024, .f32⟩
  | 63 => ⟨S1x8192x1024, .f32⟩
  | 64 => ⟨S1x8192x1024, .f32⟩
  | 65 => ⟨S1x8192x512, .f32⟩
  | 66 => ⟨S1x8192x512, .f32⟩
  | 67 => ⟨S1x64x128x4x128, .f32⟩
  | 68 => ⟨S1x1x1x4x128, .f32⟩
  | 69 => ⟨S1x64x128x4x128, .f32⟩
  | 70 => ⟨S_, .f32⟩
  | 71 => ⟨S1x64x128x4, .f32⟩
  | 72 => ⟨S1x64x128x4x1, .f32⟩
  | 73 => ⟨S_, .f32⟩
  | 74 => ⟨S1x64x128x4x1, .f32⟩
  | 75 => ⟨S1x64x128x4x1, .f32⟩
  | 76 => ⟨S_, .f32⟩
  | 77 => ⟨S1x64x128x4x1, .f32⟩
  | 78 => ⟨S1x64x128x4x1, .f32⟩
  | 79 => ⟨S1x64x128x4x1, .f32⟩
  | 80 => ⟨S1x64x128x4x128, .f32⟩
  | 81 => ⟨S1x64x128x4x128, .f32⟩
  | 82 => ⟨S1x64x128x4x128, .f32⟩
  | 83 => ⟨S1x64x128x4x128, .f32⟩
  | 84 => ⟨S128, .i32⟩
  | 85 => ⟨S1x128, .i32⟩
  | 86 => ⟨S_, .i32⟩
  | 87 => ⟨S_, .i32⟩
  | 88 => ⟨S1x128, .i32⟩
  | 89 => ⟨S1x128, .i32⟩
  | 90 => ⟨S1x128, .i32⟩
  | 91 => ⟨S_, .i32⟩
  | 92 => ⟨S1x128, .i32⟩
  | 93 => ⟨S1x128, .i1⟩
  | 94 => ⟨S1x128, .i32⟩
  | 95 => ⟨S1x128, .i32⟩
  | 96 => ⟨S_, .i32⟩
  | 97 => ⟨S1x128, .i32⟩
  | 98 => ⟨S1x128, .i1⟩
  | 99 => ⟨S1x128, .i1⟩
  | 100 => ⟨S_, .i32⟩
  | 101 => ⟨S1x128, .i32⟩
  | 102 => ⟨S1x128, .i32⟩
  | 103 => ⟨S1x128, .i32⟩
  | 104 => ⟨S128x1, .i32⟩
  | 105 => ⟨S_, .i32⟩
  | 106 => ⟨S_, .i32⟩
  | 107 => ⟨S128x1, .i32⟩
  | 108 => ⟨S128x1, .i32⟩
  | 109 => ⟨S128x1, .i32⟩
  | 110 => ⟨S_, .i32⟩
  | 111 => ⟨S128x1, .i32⟩
  | 112 => ⟨S128x1, .i1⟩
  | 113 => ⟨S128x1, .i32⟩
  | 114 => ⟨S128x1, .i32⟩
  | 115 => ⟨S_, .i32⟩
  | 116 => ⟨S128x1, .i32⟩
  | 117 => ⟨S128x1, .i1⟩
  | 118 => ⟨S128x1, .i1⟩
  | 119 => ⟨S_, .i32⟩
  | 120 => ⟨S128x1, .i32⟩
  | 121 => ⟨S128x1, .i32⟩
  | 122 => ⟨S128x1, .i32⟩
  | 123 => ⟨S128x128, .i32⟩
  | 124 => ⟨S128x128, .i32⟩
  | 125 => ⟨S128x128, .i1⟩
  | 126 => ⟨S1x128x128, .i1⟩
  | 127 => ⟨S_, .f32⟩
  | _ => ⟨S1x8192x1024, .f32⟩

abbrev hbmTy0_1 (i : Nat) : BufTy := match i % 128 with
  | 0 => ⟨S4x128x128, .f32⟩
  | 1 => ⟨S4x128x128, .i1⟩
  | 2 => ⟨S4x128x128, .f32⟩
  | 3 => ⟨S4x1x64x128x128, .f32⟩
  | 4 => ⟨S1x64x128x4x128, .f32⟩
  | 5 => ⟨S128x4, .f32⟩
  | 6 => ⟨S1x1x128x4x1, .f32⟩
  | 7 => ⟨S1x64x128x4x128, .f32⟩
  | 8 => ⟨S1x64x128x4x128, .f32⟩
  | 9 => ⟨S1x8192x512, .f32⟩
  | 10 => ⟨S1x8192x512, .f32⟩
  | 11 => ⟨S1x8192x512, .f32⟩
  | 12 => ⟨S4x128x128, .f32⟩
  | 13 => ⟨S512, .f32⟩
  | 14 => ⟨S1x8192x4x128, .f32⟩
  | 15 => ⟨S8192, .i32⟩
  | 16 => ⟨S1x8192x1x128, .f32⟩
  | 17 => ⟨S1x8192x128, .f32⟩
  | 18 => ⟨S_, .f32⟩
  | 19 => ⟨S_, .f32⟩
  | 20 => ⟨S1x8192x128, .f32⟩
  | 21 => ⟨S_, .i32⟩
  | 22 => ⟨S_, .f32⟩
  | 23 => ⟨S1x8194x128, .f32⟩
  | 24 => ⟨S1x8192x128, .f32⟩
  | 25 => ⟨S1x8192x128, .f32⟩
  | 26 => ⟨S1x8192x128, .f32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S8192, .f32⟩
  | 34 => ⟨S1x8192x1, .f32⟩
  | 35 => ⟨S1x8192x128, .f32⟩
  | 36 => ⟨S1x8192x128, .f32⟩
  | 37 => ⟨S1x8192x128, .f32⟩
  | 38 => ⟨S1x8192x1x128, .f32⟩
  | 39 => ⟨S1x8192x128, .f32⟩
  | 40 => ⟨S_, .f32⟩
  | 41 => ⟨S_, .f32⟩
  | 42 => ⟨S1x8192x128, .f32⟩
  | 43 => ⟨S_, .i32⟩
  | 44 => ⟨S_, .f32⟩
  | 45 => ⟨S1x8196x128, .f32⟩
  | 46 => ⟨S1x8192x128, .f32⟩
  | 47 => ⟨S1x8192x128, .f32⟩
  | 48 => ⟨S1x8192x128, .f32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S8192, .f32⟩
  | 56 => ⟨S1x8192x1, .f32⟩
  | 57 => ⟨S1x8192x128, .f32⟩
  | 58 => ⟨S1x8192x128, .f32⟩
  | 59 => ⟨S1x8192x128, .f32⟩
  | 60 => ⟨S1x8192x1x128, .f32⟩
  | 61 => ⟨S1x8192x128, .f32⟩
  | 62 => ⟨S_, .f32⟩
  | 63 => ⟨S_, .f32⟩
  | 64 => ⟨S1x8192x128, .f32⟩
  | 65 => ⟨S_, .i32⟩
  | 66 => ⟨S_, .f32⟩
  | 67 => ⟨S1x8200x128, .f32⟩
  | 68 => ⟨S1x8192x128, .f32⟩
  | 69 => ⟨S1x8192x128, .f32⟩
  | 70 => ⟨S1x8192x128, .f32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S8192, .f32⟩
  | 78 => ⟨S1x8192x1, .f32⟩
  | 79 => ⟨S1x8192x128, .f32⟩
  | 80 => ⟨S1x8192x128, .f32⟩
  | 81 => ⟨S1x8192x128, .f32⟩
  | 82 => ⟨S1x8192x1x128, .f32⟩
  | 83 => ⟨S1x8192x128, .f32⟩
  | 84 => ⟨S_, .f32⟩
  | 85 => ⟨S_, .f32⟩
  | 86 => ⟨S1x8192x128, .f32⟩
  | 87 => ⟨S_, .i32⟩
  | 88 => ⟨S_, .f32⟩
  | 89 => ⟨S1x8208x128, .f32⟩
  | 90 => ⟨S1x8192x128, .f32⟩
  | 91 => ⟨S1x8192x128, .f32⟩
  | 92 => ⟨S1x8192x128, .f32⟩
  | 93 => ⟨S_, .i32⟩
  | 94 => ⟨S8192, .i32⟩
  | 95 => ⟨S8192, .i32⟩
  | 96 => ⟨S_, .i32⟩
  | 97 => ⟨S8192, .i32⟩
  | 98 => ⟨S8192, .i32⟩
  | 99 => ⟨S8192, .f32⟩
  | 100 => ⟨S1x8192x1, .f32⟩
  | 101 => ⟨S1x8192x128, .f32⟩
  | 102 => ⟨S1x8192x128, .f32⟩
  | 103 => ⟨S1x8192x128, .f32⟩
  | 104 => ⟨S1x8192x1x128, .f32⟩
  | 105 => ⟨S1x8192x1x128, .f32⟩
  | 106 => ⟨S1x8192x1x128, .f32⟩
  | 107 => ⟨S1x8192x1x128, .f32⟩
  | 108 => ⟨S1x8192x4x128, .f32⟩
  | 109 => ⟨S4x128x1x8192, .f32⟩
  | 110 => ⟨S1x8192x4x128, .f32⟩
  | 111 => ⟨S1x8192x512, .f32⟩
  | 112 => ⟨S1x1x512, .f32⟩
  | 113 => ⟨S1x8192x512, .f32⟩
  | 114 => ⟨S1x8192x512, .f32⟩
  | 115 => ⟨S1x8192x1024, .f32⟩
  | 116 => ⟨S1024x1024, .f32⟩
  | 117 => ⟨S1x8192x1024, .f32⟩
  | 118 => ⟨S1x1x1024, .f32⟩
  | 119 => ⟨S1024, .f32⟩
  | 120 => ⟨S1x8192x1024, .f32⟩
  | 121 => ⟨S_, .f32⟩
  | 122 => ⟨S1x8192, .f32⟩
  | 123 => ⟨S1x8192x1, .f32⟩
  | 124 => ⟨S_, .f32⟩
  | 125 => ⟨S1x8192x1, .f32⟩
  | 126 => ⟨S1x8192x1, .f32⟩
  | 127 => ⟨S_, .f32⟩
  | _ => ⟨S1x8192x1024, .f32⟩

abbrev hbmTy0_2 (i : Nat) : BufTy := match i % 128 with
  | 0 => ⟨S1x8192x1, .f32⟩
  | 1 => ⟨S1x8192x1, .f32⟩
  | 2 => ⟨S1x8192x1, .f32⟩
  | 3 => ⟨S1x8192x1024, .f32⟩
  | 4 => ⟨S1x8192x1024, .f32⟩
  | 5 => ⟨S1x1x1024, .f32⟩
  | 6 => ⟨S1x8192x1024, .f32⟩
  | 7 => ⟨S1x8192x1024, .f32⟩
  | 8 => ⟨S1x8192x1024, .f32⟩
  | 9 => ⟨S1x8192x1024, .f32⟩
  | 10 => ⟨S1x8192x1024, .f32⟩
  | 11 => ⟨S1024, .f32⟩
  | 12 => ⟨S1x8192x1024, .f32⟩
  | 13 => ⟨S_, .f32⟩
  | 14 => ⟨S1x8192, .f32⟩
  | 15 => ⟨S1x8192x1, .f32⟩
  | 16 => ⟨S_, .f32⟩
  | 17 => ⟨S1x8192x1, .f32⟩
  | 18 => ⟨S1x8192x1, .f32⟩
  | 19 => ⟨S_, .f32⟩
  | 20 => ⟨S1x8192x1, .f32⟩
  | 21 => ⟨S1x8192x1, .f32⟩
  | 22 => ⟨S1x8192x1, .f32⟩
  | 23 => ⟨S1x8192x1024, .f32⟩
  | 24 => ⟨S1x8192x1024, .f32⟩
  | 25 => ⟨S1x1x1024, .f32⟩
  | 26 => ⟨S1x8192x1024, .f32⟩
  | 27 => ⟨S1x8192x1024, .f32⟩
  | 28 => ⟨S1x1x1024, .f32⟩
  | 29 => ⟨S_, .f32⟩
  | 30 => ⟨S1x1x1024, .f32⟩
  | 31 => ⟨S1x1x1024, .f32⟩
  | 32 => ⟨S1x8192x1024, .f32⟩
  | 33 => ⟨S1x8192x1024, .f32⟩
  | 34 => ⟨S1x1x1024, .f32⟩
  | 35 => ⟨S1x8192x1024, .f32⟩
  | 36 => ⟨S1x8192x1024, .f32⟩
  | 37 => ⟨S8192x1024, .f32⟩
  | 38 => ⟨S8192x1024, .bf16⟩
  | 39 => ⟨S8192x1536, .f32⟩
  | 40 => ⟨S8192x1536, .bf16⟩
  | 41 => ⟨S8192x1024, .f32⟩
  | 42 => ⟨S8192x1024, .bf16⟩
  | 43 => ⟨S8192x1024, .f32⟩
  | 44 => ⟨S8192x1024, .f32⟩
  | 45 => ⟨S32x8x32x1024, .f32⟩
  | 46 => ⟨S32x32x8x1024, .f32⟩
  | 47 => ⟨S8192x1024, .f32⟩
  | 48 => ⟨S8192x1024, .bf16⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_v6 : Ref sig .tc := ⟨.hbm, 93, rfl⟩
abbrev main_call0_v7 : Ref sig .tc := ⟨.hbm, 94, rfl⟩
abbrev main_call0_v8 : Ref sig .tc := ⟨.hbm, 95, rfl⟩
abbrev main_call0_c : Ref sig .tc := ⟨.hbm, 96, rfl⟩
abbrev main_call0_v9 : Ref sig .tc := ⟨.hbm, 97, rfl⟩
abbrev main_call0_v10 : Ref sig .tc := ⟨.hbm, 98, rfl⟩
abbrev main_call0_v11 : Ref sig .tc := ⟨.hbm, 99, rfl⟩
abbrev main_call0_c_0 : Ref sig .tc := ⟨.hbm, 100, rfl⟩
abbrev main_call0_v12 : Ref sig .tc := ⟨.hbm, 101, rfl⟩
abbrev main_call0_v13 : Ref sig .tc := ⟨.hbm, 102, rfl⟩
abbrev main_v59 : Ref sig .tc := ⟨.hbm, 103, rfl⟩
abbrev main_v60 : Ref sig .tc := ⟨.hbm, 104, rfl⟩
abbrev main_c_10 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_v5 : Ref sig .tc := ⟨.hbm, 111, rfl⟩
abbrev main_call1_v6 : Ref sig .tc := ⟨.hbm, 112, rfl⟩
abbrev main_call1_v7 : Ref sig .tc := ⟨.hbm, 113, rfl⟩
abbrev main_call1_v8 : Ref sig .tc := ⟨.hbm, 114, rfl⟩
abbrev main_call1_c : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_c_0 : Ref sig .tc := ⟨.hbm, 119, rfl⟩
abbrev main_call1_v12 : Ref sig .tc := ⟨.hbm, 120, rfl⟩
abbrev main_call1_v13 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_cst_11 : Ref sig .tc := ⟨.hbm, 127, rfl⟩
abbrev main_v66 : Ref sig .tc := ⟨.hbm, 128, rfl⟩
abbrev main_call2_v0 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_call3_call0_cst : Ref sig .tc := ⟨.hbm, 146, rfl⟩
abbrev main_call3_call0_v0 : Ref sig .tc := ⟨.hbm, 147, rfl⟩
abbrev main_v83 : Ref sig .tc := ⟨.hbm, 148, rfl⟩
abbrev main_c_12 : Ref sig .tc := ⟨.hbm, 149, rfl⟩
abbrev main_call4_v0 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_c_13 : Ref sig .tc := ⟨.hbm, 155, rfl⟩
abbrev main_v88 : Ref sig .tc := ⟨.hbm, 156, rfl⟩
abbrev main_v89 : Ref sig .tc := ⟨.hbm, 157, rfl⟩
abbrev main_c_14 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_call5_call0_cst : Ref sig .tc := ⟨.hbm, 168, rfl⟩
abbrev main_call5_call0_v0 : Ref sig .tc := ⟨.hbm, 169, rfl⟩
abbrev main_v99 : Ref sig .tc := ⟨.hbm, 170, rfl⟩
abbrev main_c_15 : Ref sig .tc := ⟨.hbm, 171, rfl⟩
abbrev main_call6_v0 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_c_16 : Ref sig .tc := ⟨.hbm, 177, rfl⟩
abbrev main_v104 : Ref sig .tc := ⟨.hbm, 178, rfl⟩
abbrev main_v105 : Ref sig .tc := ⟨.hbm, 179, rfl⟩
abbrev main_c_17 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_call7_call0_cst : Ref sig .tc := ⟨.hbm, 190, rfl⟩
abbrev main_call7_call0_v0 : Ref sig .tc := ⟨.hbm, 191, rfl⟩
abbrev main_v115 : Ref sig .tc := ⟨.hbm, 192, rfl⟩
abbrev main_c_18 : Ref sig .tc := ⟨.hbm, 193, rfl⟩
abbrev main_call8_v0 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_c_19 : Ref sig .tc := ⟨.hbm, 199, rfl⟩
abbrev main_v120 : Ref sig .tc := ⟨.hbm, 200, rfl⟩
abbrev main_v121 : Ref sig .tc := ⟨.hbm, 201, rfl⟩
abbrev main_c_20 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_call9_call0_cst : Ref sig .tc := ⟨.hbm, 212, rfl⟩
abbrev main_call9_call0_v0 : Ref sig .tc := ⟨.hbm, 213, rfl⟩
abbrev main_v131 : Ref sig .tc := ⟨.hbm, 214, rfl⟩
abbrev main_c_21 : Ref sig .tc := ⟨.hbm, 215, rfl⟩
abbrev main_call10_v0 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_c_22 : Ref sig .tc := ⟨.hbm, 221, rfl⟩
abbrev main_v136 : Ref sig .tc := ⟨.hbm, 222, rfl⟩
abbrev main_v137 : Ref sig .tc := ⟨.hbm, 223, rfl⟩
abbrev main_c_23 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_cst_24 : Ref sig .tc := ⟨.hbm, 249, rfl⟩
abbrev main_v162 : Ref sig .tc := ⟨.hbm, 250, rfl⟩
abbrev main_v163 : Ref sig .tc := ⟨.hbm, 251, rfl⟩
abbrev main_cst_25 : Ref sig .tc := ⟨.hbm, 252, rfl⟩
abbrev main_v164 : Ref sig .tc := ⟨.hbm, 253, rfl⟩
abbrev main_v165 : Ref sig .tc := ⟨.hbm, 254, rfl⟩
abbrev main_cst_26 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_cst_27 : Ref sig .tc := ⟨.hbm, 269, rfl⟩
abbrev main_v179 : Ref sig .tc := ⟨.hbm, 270, rfl⟩
abbrev main_v180 : Ref sig .tc := ⟨.hbm, 271, rfl⟩
abbrev main_cst_28 : Ref sig .tc := ⟨.hbm, 272, rfl⟩
abbrev main_v181 : Ref sig .tc := ⟨.hbm, 273, rfl⟩
abbrev main_v182 : Ref sig .tc := ⟨.hbm, 274, rfl⟩
abbrev main_cst_29 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_cst_30 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩

abbrev nD : Nat := 1
abbrev τ : Topo := Topo.v7x

variable {F : FTy → Type} [FloatOps F]
-- ==== Mod.lean ====
abbrev S8x1024 : Shape := ⟨2, ![8, 1024]⟩
abbrev S1x1024x1536 : Shape := ⟨3, ![1, 1024, 1536]⟩
abbrev S1x1536 : Shape := ⟨2, ![1, 1536]⟩
abbrev S1024x1536 : Shape := ⟨2, ![1024, 1536]⟩
abbrev S8x1536 : Shape := ⟨2, ![8, 1536]⟩

abbrev nBuf : Space → Nat
  | .hbm => 6
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1x1024x1536, .f32⟩
  | .hbm, ⟨2, _⟩ => ⟨S1x1536, .f32⟩
  | .hbm, ⟨3, _⟩ => ⟨S1024x1536, .f32⟩
  | .hbm, ⟨4, _⟩ => ⟨S8x1536, .f32⟩
  | .hbm, ⟨5, _⟩ => ⟨S8x1024, .f32⟩
  | .local _ .vmem, ⟨0, _⟩ => ⟨S8x1024, .f32⟩
  | .local _ .vmem, ⟨1, _⟩ => ⟨S1024x1536, .f32⟩
  | .local _ .vmem, ⟨2, _⟩ => ⟨S1x1536, .f32⟩
  | .local _ .vmem, ⟨3, _⟩ => ⟨S8x1536, .f32⟩
  | .local _ .vmem, ⟨4, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ModRefIdeal.lean ====
abbrev S8x1024 : Shape := ⟨2, ![8, 1024]⟩
abbrev S1x1024x1536 : Shape := ⟨3, ![1, 1024, 1536]⟩
abbrev S1x1536 : Shape := ⟨2, ![1, 1536]⟩
abbrev S_ : Shape := ⟨0, ![]⟩
abbrev S1024x1536 : Shape := ⟨2, ![1024, 1536]⟩
abbrev S8x1536 : Shape := ⟨2, ![8, 1536]⟩
abbrev S1536 : Shape := ⟨1, ![1536]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x1536, .f32⟩
  | .hbm, ⟨2, _⟩ => ⟨S1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x1536, .f32⟩
  | .hbm, ⟨13, _⟩ => ⟨S8x1536, .f32⟩
  | .hbm, ⟨14, _⟩ => ⟨S1536, .f32⟩
  | .hbm, ⟨15, _⟩ => ⟨S1x1536, .f32⟩
  | .hbm, ⟨16, _⟩ => ⟨S8x1536, .f32⟩
  | .hbm, ⟨17, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Wgrad.lean ====
abbrev S1x8192x1024 : Shape := ⟨3, ![1, 8192, 1024]⟩
abbrev S1x8192x5632 : Shape := ⟨3, ![1, 8192, 5632]⟩
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x2816 : Shape := ⟨2, ![2048, 2816]⟩
abbrev S1024x2816 : Shape := ⟨2, ![1024, 2816]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1x8192x5632, .f32⟩
  | .hbm, ⟨2, _⟩ => ⟨S8192x1024, .f32⟩
  | .hbm, ⟨3, _⟩ => ⟨S8192x1024, .bf16⟩
  | .hbm, ⟨4, _⟩ => ⟨S8192x5632, .f32⟩
  | .hbm, ⟨5, _⟩ => ⟨S8192x5632, .bf16⟩
  | .hbm, ⟨6, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x2816, .bf16⟩
  | .local _ .vmem, ⟨3, _⟩ => ⟨S2048x2816, .bf16⟩
  | .local _ .vmem, ⟨4, _⟩ => ⟨S1024x2816, .f32⟩
  | .local _ .vmem, ⟨5, _⟩ => ⟨S1024x2816, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradRefIdeal.lean ====
abbrev S1x8192x1024 : Shape := ⟨3, ![1, 8192, 1024]⟩
abbrev S1x8192x5632 : Shape := ⟨3, ![1, 8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x5632, .f32⟩
  | .hbm, ⟨2, _⟩ => ⟨S_, .f32⟩
  | .hbm, ⟨3, _⟩ => ⟨S1024x5632, .f32⟩
  | .hbm, ⟨4, _⟩ => ⟨S1x8192x5632, .f32⟩
  | .hbm, ⟨5, _⟩ => ⟨S5632x1024, .f32⟩
  | .hbm, ⟨6, _⟩ => ⟨S1024x5632, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Pair.lean ====
abbrev S1x8192x1024 : Shape := ⟨3, ![1, 8192, 1024]⟩
abbrev S1x8192x1536 : Shape := ⟨3, ![1, 8192, 1536]⟩
abbrev S8192x1024 : Shape := ⟨2, ![8192, 1024]⟩
abbrev S8192x1536 : Shape := ⟨2, ![8192, 1536]⟩
abbrev S_ : Shape := ⟨0, ![]⟩
abbrev S8x128 : Shape := ⟨2, ![8, 128]⟩
abbrev S1024x1024 : Shape := ⟨2, ![1024, 1024]⟩
abbrev S1024x1536 : Shape := ⟨2, ![1024, 1536]⟩

abbrev nBuf : Space → Nat
  | .hbm => 16
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x8192x1536, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S8192x1536, .f32⟩
  | .hbm, ⟨11, _⟩ => ⟨S8192x1536, .bf16⟩
  | .hbm, ⟨12, _⟩ => ⟨S_, .f32⟩
  | .hbm, ⟨13, _⟩ => ⟨S8x128, .f32⟩
  | .hbm, ⟨14, _⟩ => ⟨S1024x1024, .f32⟩
  | .hbm, ⟨15, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1536, .bf16⟩
  | .local _ .vmem, ⟨7, _⟩ => ⟨S1024x1536, .bf16⟩
  | .local _ .vmem, ⟨8, _⟩ => ⟨S8x128, .f32⟩
  | .local _ .vmem, ⟨9, _⟩ => ⟨S1024x1024, .f32⟩
  | .local _ .vmem, ⟨10, _⟩ => ⟨S1024x1536, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PairRefIdeal.lean ====
abbrev S1x8192x1024 : Shape := ⟨3, ![1, 8192, 1024]⟩
abbrev S1x8192x1536 : Shape := ⟨3, ![1, 8192, 1536]⟩
abbrev S_ : Shape := ⟨0, ![]⟩
abbrev S1024x1024 : Shape := ⟨2, ![1024, 1024]⟩
abbrev S1024x1536 : Shape := ⟨2, ![1024, 1536]⟩
abbrev S1536x1024 : Shape := ⟨2, ![1536, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x8192x1536, .f32⟩
  | .hbm, ⟨4, _⟩ => ⟨S_, .f32⟩
  | .hbm, ⟨5, _⟩ => ⟨S1024x1024, .f32⟩
  | .hbm, ⟨6, _⟩ => ⟨S_, .f32⟩
  | .hbm, ⟨7, _⟩ => ⟨S1024x1536, .f32⟩
  | .hbm, ⟨8, _⟩ => ⟨S1x8192x1024, .f32⟩
  | .hbm, ⟨9, _⟩ => ⟨S1024x1024, .f32⟩
  | .hbm, ⟨10, _⟩ => ⟨S1024x1024, .f32⟩
  | .hbm, ⟨11, _⟩ => ⟨S1x8192x1536, .f32⟩
  | .hbm, ⟨12, _⟩ => ⟨S1536x1024, .f32⟩
  | .hbm, ⟨13, _⟩ => ⟨S1024x1536, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Adam.lean ====
abbrev S1024x1408 : Shape := ⟨2, ![1024, 1408]⟩
abbrev S1x1024x1408 : Shape := ⟨3, ![1, 1024, 1408]⟩
abbrev S256x1408 : Shape := ⟨2, ![256, 1408]⟩
abbrev S1x256x1408 : Shape := ⟨3, ![1, 256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .local _ .vmem, ⟨0, _⟩ => ⟨S256x1408, .f32⟩
  | .local _ .vmem, ⟨1, _⟩ => ⟨S256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S_, .f32⟩
  | .hbm, ⟨7, _⟩ => ⟨S1x1024x1408, .f32⟩
  | .hbm, ⟨8, _⟩ => ⟨S1x1024x1408, .f32⟩
  | .hbm, ⟨9, _⟩ => ⟨S_, .f32⟩
  | .hbm, ⟨10, _⟩ => ⟨S1x1024x1408, .f32⟩
  | .hbm, ⟨11, _⟩ => ⟨S1x1024x1408, .f32⟩
  | .hbm, ⟨12, _⟩ => ⟨S1x1024x1408, .f32⟩
  | .hbm, ⟨13, _⟩ => ⟨S_, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S_, .f32⟩
  | .hbm, ⟨18, _⟩ => ⟨S1x1024x1408, .f32⟩
  | .hbm, ⟨19, _⟩ => ⟨S1x1024x1408, .f32⟩
  | .hbm, ⟨20, _⟩ => ⟨S1x1024x1408, .f32⟩
  | .hbm, ⟨21, _⟩ => ⟨S_, .f32⟩
  | .hbm, ⟨22, _⟩ => ⟨S1x1024x1408, .f32⟩
  | .hbm, ⟨23, _⟩ => ⟨S1x1024x1408, .f32⟩
  | .hbm, ⟨24, _⟩ => ⟨S_, .f32⟩
  | .hbm, ⟨25, _⟩ => ⟨S1x1024x1408, .f32⟩
  | .hbm, ⟨26, _⟩ => ⟨S1x1024x1408, .f32⟩
  | .hbm, ⟨27, _⟩ => ⟨S1x1024x1408, .f32⟩
  | .hbm, ⟨28, _⟩ => ⟨S_, .f32⟩
  | .hbm, ⟨29, _⟩ => ⟨S1x1024x1408, .f32⟩
  | .hbm, ⟨30, _⟩ => ⟨S1x1024x1408, .f32⟩
  | .hbm, ⟨31, _⟩ => ⟨S1x1024x1408, .f32⟩
  | .hbm, ⟨32, _⟩ => ⟨S_, .f32⟩
  | .hbm, ⟨33, _⟩ => ⟨S1x1024x1408, .f32⟩
  | .hbm, ⟨34, _⟩ => ⟨S1x1024x1408, .f32⟩
  | .hbm, ⟨35, _⟩ => ⟨S1x1024x1408, .f32⟩
  | .hbm, ⟨36, _⟩ => ⟨S_, .f32⟩
  | .hbm, ⟨37, _⟩ => ⟨S1x1024x1408, .f32⟩
  | .hbm, ⟨38, _⟩ => ⟨S1x1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Wada.lean ====
abbrev S8x1024 : Shape := ⟨2, ![8, 1024]⟩
abbrev S8x1536 : Shape := ⟨2, ![8, 1536]⟩
abbrev S1x1024x1536 : Shape := ⟨3, ![1, 1024, 1536]⟩
abbrev S_ : Shape := ⟨0, ![]⟩
abbrev S1024x8 : Shape := ⟨2, ![1024, 8]⟩
abbrev S1024x120 : Shape := ⟨2, ![1024, 120]⟩
abbrev S1024x128 : Shape := ⟨2, ![1024, 128]⟩
abbrev S120x1536 : Shape := ⟨2, ![120, 1536]⟩
abbrev S128x1536 : Shape := ⟨2, ![128, 1536]⟩
abbrev S256x128 : Shape := ⟨2, ![256, 128]⟩
abbrev S1x256x1536 : Shape := ⟨3, ![1, 256, 1536]⟩
abbrev S256x1536 : Shape := ⟨2, ![256, 1536]⟩

abbrev nBuf : Space → Nat
  | .hbm => 25
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x8, .f32⟩
  | .hbm, ⟨15, _⟩ => ⟨S_, .f32⟩
  | .hbm, ⟨16, _⟩ => ⟨S1024x120, .f32⟩
  | .hbm, ⟨17, _⟩ => ⟨S1024x128, .f32⟩
  | .hbm, ⟨18, _⟩ => ⟨S_, .f32⟩
  | .hbm, ⟨19, _⟩ => ⟨S120x1536, .f32⟩
  | .hbm, ⟨20, _⟩ => ⟨S128x1536, .f32⟩
  | .hbm, ⟨21, _⟩ => ⟨S1x1024x1536, .f32⟩
  | .hbm, ⟨22, _⟩ => ⟨S1x1024x1536, .f32⟩
  | .hbm, ⟨23, _⟩ => ⟨S1x1024x1536, .f32⟩
  | .hbm, ⟨24, _⟩ => ⟨S1x1024x1536, .f32⟩
  | .local _ .vmem, ⟨0, _⟩ => ⟨S256x128, .f32⟩
  | .local _ .vmem, ⟨1, _⟩ => ⟨S256x128, .f32⟩
  | .local _ .vmem, ⟨2, _⟩ => ⟨S128x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v6_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== WadaRefIdeal.lean ====
abbrev S8x1024 : Shape := ⟨2, ![8, 1024]⟩
abbrev S8x1536 : Shape := ⟨2, ![8, 1536]⟩
abbrev S1x1024x1536 : Shape := ⟨3, ![1, 1024, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x1536, .f32⟩
  | .hbm, ⟨15, _⟩ => ⟨S8x1536, .f32⟩
  | .hbm, ⟨16, _⟩ => ⟨S1536x1024, .f32⟩
  | .hbm, ⟨17, _⟩ => ⟨S1024x1536, .f32⟩
  | .hbm, ⟨18, _⟩ => ⟨S1x1024x1536, .f32⟩
  | .hbm, ⟨19, _⟩ => ⟨S_, .f32⟩
  | .hbm, ⟨20, _⟩ => ⟨S1x1024x1536, .f32⟩
  | .hbm, ⟨21, _⟩ => ⟨S1x1024x1536, .f32⟩
  | .hbm, ⟨22, _⟩ => ⟨S_, .f32⟩
  | .hbm, ⟨23, _⟩ => ⟨S1x1024x1536, .f32⟩
  | .hbm, ⟨24, _⟩ => ⟨S1x1024x1536, .f32⟩
  | .hbm, ⟨25, _⟩ => ⟨S1x1024x1536, .f32⟩
  | .hbm, ⟨26, _⟩ => ⟨S_, .f32⟩
  | .hbm, ⟨27, _⟩ => ⟨S1x1024x1536, .f32⟩
  | .hbm, ⟨28, _⟩ => ⟨S1x1024x1536, .f32⟩
  | .hbm, ⟨29, _⟩ => ⟨S1x1024x1536, .f32⟩
  | .hbm, ⟨30, _⟩ => ⟨S_, .f32⟩
  | .hbm, ⟨31, _⟩ => ⟨S1x1024x1536, .f32⟩
  | .hbm, ⟨32, _⟩ => ⟨S1x1024x1536, .f32⟩
  | .hbm, ⟨33, _⟩ => ⟨S1x1024x1536, .f32⟩
  | .hbm, ⟨34, _⟩ => ⟨S_, .f32⟩
  | .hbm, ⟨35, _⟩ => ⟨S1x1024x1536, .f32⟩
  | .hbm, ⟨36, _⟩ => ⟨S1x1024x1536, .f32⟩
  | .hbm, ⟨37, _⟩ => ⟨S_, .f32⟩
  | .hbm, ⟨38, _⟩ => ⟨S1x1024x1536, .f32⟩
  | .hbm, ⟨39, _⟩ => ⟨S1x1024x1536, .f32⟩
  | .hbm, ⟨40, _⟩ => ⟨S1x1024x1536, .f32⟩
  | .hbm, ⟨41, _⟩ => ⟨S_, .f32⟩
  | .hbm, ⟨42, _⟩ => ⟨S1x1024x1536, .f32⟩
  | .hbm, ⟨43, _⟩ => ⟨S1x1024x1536, .f32⟩
  | .hbm, ⟨44, _⟩ => ⟨S1x1024x1536, .f32⟩
  | .hbm, ⟨45, _⟩ => ⟨S_, .f32⟩
  | .hbm, ⟨46, _⟩ => ⟨S1x1024x1536, .f32⟩
  | .hbm, ⟨47, _⟩ => ⟨S1x1024x1536, .f32⟩
  | .hbm, ⟨48, _⟩ => ⟨S1x1024x1536, .f32⟩
  | .hbm, ⟨49, _⟩ => ⟨S_, .f32⟩
  | .hbm, ⟨50, _⟩ => ⟨S1x1024x1536, .f32⟩
  | .hbm, ⟨51, _⟩ => ⟨S1x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== MixBwd.lean ====
abbrev S1x8192x1024 : Shape := ⟨3, ![1, 8192, 1024]⟩
abbrev S1x1024 : Shape := ⟨2, ![1, 1024]⟩
abbrev S1x1024x1536 : Shape := ⟨3, ![1, 1024, 1536]⟩
abbrev S1x4x128 : Shape := ⟨3, ![1, 4, 128]⟩
abbrev S1x4x128x128 : Shape := ⟨4, ![1, 4, 128, 128]⟩
abbrev S1x512 : Shape := ⟨2, ![1, 512]⟩
abbrev S1x1024x1024 : Shape := ⟨3, ![1, 1024, 1024]⟩
abbrev S8192x1024 : Shape := ⟨2, ![8192, 1024]⟩
abbrev S_ : Shape := ⟨0, ![]⟩
abbrev S6x1024 : Shape := ⟨2, ![6, 1024]⟩
abbrev S16x1024 : Shape := ⟨2, ![16, 1024]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x128x128 : Shape := ⟨3, ![4, 128, 128]⟩
abbrev S4x128 : Shape := ⟨2, ![4, 128]⟩
abbrev S4x128x1 : Shape := ⟨3, ![4, 128, 1]⟩
abbrev S8x128 : Shape := ⟨2, ![8, 128]⟩
abbrev S7x512 : Shape := ⟨2, ![7, 512]⟩
abbrev S8x512 : Shape := ⟨2, ![8, 512]⟩
abbrev S1024x1536 : Shape := ⟨2, ![1024, 1536]⟩
abbrev S1024x1024 : Shape := ⟨2, ![1024, 1024]⟩
abbrev S8192 : Shape := ⟨1, ![8192]⟩
abbrev S8192x1 : Shape := ⟨2, ![8192, 1]⟩
abbrev S8192x1536 : Shape := ⟨2, ![8192, 1536]⟩
abbrev S8x1024 : Shape := ⟨2, ![8, 1024]⟩
abbrev S512x1024 : Shape := ⟨2, ![512, 1024]⟩
abbrev S512x1536 : Shape := ⟨2, ![512, 1536]⟩
abbrev S16x1536 : Shape := ⟨2, ![16, 1536]⟩
abbrev S16x512 : Shape := ⟨2, ![16, 512]⟩
abbrev S256x1024 : Shape := ⟨2, ![256, 1024]⟩
abbrev S256x128 : Shape := ⟨2, ![256, 128]⟩
abbrev S16x128 : Shape := ⟨2, ![16, 128]⟩
abbrev S272x128 : Shape := ⟨2, ![272, 128]⟩
abbrev S256x1536 : Shape := ⟨2, ![256, 1536]⟩
abbrev S256 : Shape := ⟨1, ![256]⟩
abbrev S256x1 : Shape := ⟨2, ![256, 1]⟩
abbrev S1024 : Shape := ⟨1, ![1024]⟩

abbrev nBuf : Space → Nat
  | .hbm => 119
  | .vmem => 33
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x1536, .f32⟩
  | .hbm, ⟨5, _⟩ => ⟨S1x4x128, .f32⟩
  | .hbm, ⟨6, _⟩ => ⟨S1x4x128x128, .f32⟩
  | .hbm, ⟨7, _⟩ => ⟨S1x4x128, .f32⟩
  | .hbm, ⟨8, _⟩ => ⟨S1x4x128x128, .f32⟩
  | .hbm, ⟨9, _⟩ => ⟨S1x512, .f32⟩
  | .hbm, ⟨10, _⟩ => ⟨S1x1024x1024, .f32⟩
  | .hbm, ⟨11, _⟩ => ⟨S8192x1024, .bf16⟩
  | .hbm, ⟨12, _⟩ => ⟨S8192x1024, .f32⟩
  | .hbm, ⟨13, _⟩ => ⟨S_, .f32⟩
  | .hbm, ⟨14, _⟩ => ⟨S1x1024, .f32⟩
  | .hbm, ⟨15, _⟩ => ⟨S_, .f32⟩
  | .hbm, ⟨16, _⟩ => ⟨S6x1024, .f32⟩
  | .hbm, ⟨17, _⟩ => ⟨S16x1024, .f32⟩
  | .hbm, ⟨18, _⟩ => ⟨S128, .i32⟩
  | .hbm, ⟨19, _⟩ => ⟨S1x128, .i32⟩
  | .hbm, ⟨20, _⟩ => ⟨S_, .i32⟩
  | .hbm, ⟨21, _⟩ => ⟨S_, .i32⟩
  | .hbm, ⟨22, _⟩ => ⟨S1x128, .i32⟩
  | .hbm, ⟨23, _⟩ => ⟨S1x128, .i32⟩
  | .hbm, ⟨24, _⟩ => ⟨S1x128, .i32⟩
  | .hbm, ⟨25, _⟩ => ⟨S_, .i32⟩
  | .hbm, ⟨26, _⟩ => ⟨S1x128, .i32⟩
  | .hbm, ⟨27, _⟩ => ⟨S1x128, .i1⟩
  | .hbm, ⟨28, _⟩ => ⟨S1x128, .i32⟩
  | .hbm, ⟨29, _⟩ => ⟨S1x128, .i32⟩
  | .hbm, ⟨30, _⟩ => ⟨S_, .i32⟩
  | .hbm, ⟨31, _⟩ => ⟨S1x128, .i32⟩
  | .hbm, ⟨32, _⟩ => ⟨S1x128, .i1⟩
  | .hbm, ⟨33, _⟩ => ⟨S1x128, .i1⟩
  | .hbm, ⟨34, _⟩ => ⟨S_, .i32⟩
  | .hbm, ⟨35, _⟩ => ⟨S1x128, .i32⟩
  | .hbm, ⟨36, _⟩ => ⟨S1x128, .i32⟩
  | .hbm, ⟨37, _⟩ => ⟨S1x128, .i32⟩
  | .hbm, ⟨38, _⟩ => ⟨S128x1, .i32⟩
  | .hbm, ⟨39, _⟩ => ⟨S_, .i32⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x1, .i32⟩
  | .hbm, ⟨44, _⟩ => ⟨S_, .i32⟩
  | .hbm, ⟨45, _⟩ => ⟨S128x1, .i32⟩
  | .hbm, ⟨46, _⟩ => ⟨S128x1, .i1⟩
  | .hbm, ⟨47, _⟩ => ⟨S128x1, .i32⟩
  | .hbm, ⟨48, _⟩ => ⟨S128x1, .i32⟩
  | .hbm, ⟨49, _⟩ => ⟨S_, .i32⟩
  | .hbm, ⟨50, _⟩ => ⟨S128x1, .i32⟩
  | .hbm, ⟨51, _⟩ => ⟨S128x1, .i1⟩
  | .hbm, ⟨52, _⟩ => ⟨S128x1, .i1⟩
  | .hbm, ⟨53, _⟩ => ⟨S_, .i32⟩
  | .hbm, ⟨54, _⟩ => ⟨S128x1, .i32⟩
  | .hbm, ⟨55, _⟩ => ⟨S128x1, .i32⟩
  | .hbm, ⟨56, _⟩ => ⟨S128x1, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S1x128x128, .i1⟩
  | .hbm, ⟨61, _⟩ => ⟨S4x128x128, .f32⟩
  | .hbm, ⟨62, _⟩ => ⟨S_, .f32⟩
  | .hbm, ⟨63, _⟩ => ⟨S_, .f32⟩
  | .hbm, ⟨64, _⟩ => ⟨S4x128x128, .i1⟩
  | .hbm, ⟨65, _⟩ => ⟨S4x128x128, .f32⟩
  | .hbm, ⟨66, _⟩ => ⟨S4x128x128, .f32⟩
  | .hbm, ⟨67, _⟩ => ⟨S4x128x128, .bf16⟩
  | .hbm, ⟨68, _⟩ => ⟨S4x128x128, .f32⟩
  | .hbm, ⟨69, _⟩ => ⟨S4x128x128, .bf16⟩
  | .hbm, ⟨70, _⟩ => ⟨S4x128, .f32⟩
  | .hbm, ⟨71, _⟩ => ⟨S4x128x1, .f32⟩
  | .hbm, ⟨72, _⟩ => ⟨S4x128x128, .f32⟩
  | .hbm, ⟨73, _⟩ => ⟨S4x128x128, .f32⟩
  | .hbm, ⟨74, _⟩ => ⟨S4x128x128, .bf16⟩
  | .hbm, ⟨75, _⟩ => ⟨S4x128, .f32⟩
  | .hbm, ⟨76, _⟩ => ⟨S_, .f32⟩
  | .hbm, ⟨77, _⟩ => ⟨S4x128, .f32⟩
  | .hbm, ⟨78, _⟩ => ⟨S8x128, .f32⟩
  | .hbm, ⟨79, _⟩ => ⟨S_, .f32⟩
  | .hbm, ⟨80, _⟩ => ⟨S7x512, .f32⟩
  | .hbm, ⟨81, _⟩ => ⟨S8x512, .f32⟩
  | .hbm, ⟨82, _⟩ => ⟨S1024x1536, .f32⟩
  | .hbm, ⟨83, _⟩ => ⟨S1024x1536, .bf16⟩
  | .hbm, ⟨84, _⟩ => ⟨S1024x1024, .f32⟩
  | .hbm, ⟨85, _⟩ => ⟨S1024x1024, .bf16⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S8192x1, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .bf16⟩
  | .hbm, ⟨109, _⟩ => ⟨S8192x1536, .f32⟩
  | .hbm, ⟨110, _⟩ => ⟨S8192x1536, .bf16⟩
  | .hbm, ⟨111, _⟩ => ⟨S8192x1024, .f32⟩
  | .hbm, ⟨112, _⟩ => ⟨S8192x1536, .bf16⟩
  | .hbm, ⟨113, _⟩ => ⟨S8x1024, .f32⟩
  | .hbm, ⟨114, _⟩ => ⟨S4x128x128, .bf16⟩
  | .hbm, ⟨115, _⟩ => ⟨S4x128x128, .bf16⟩
  | .hbm, ⟨116, _⟩ => ⟨S8x128, .f32⟩
  | .hbm, ⟨117, _⟩ => ⟨S8x128, .f32⟩
  | .hbm, ⟨118, _⟩ => ⟨S8x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1536, .bf16⟩
  | .local _ .vmem, ⟨7, _⟩ => ⟨S512x1536, .bf16⟩
  | .local _ .vmem, ⟨8, _⟩ => ⟨S16x1536, .bf16⟩
  | .local _ .vmem, ⟨9, _⟩ => ⟨S16x1536, .bf16⟩
  | .local _ .vmem, ⟨10, _⟩ => ⟨S16x1024, .f32⟩
  | .local _ .vmem, ⟨11, _⟩ => ⟨S1024x1536, .bf16⟩
  | .local _ .vmem, ⟨12, _⟩ => ⟨S1024x1024, .bf16⟩
  | .local _ .vmem, ⟨13, _⟩ => ⟨S8x128, .f32⟩
  | .local _ .vmem, ⟨14, _⟩ => ⟨S4x128x128, .bf16⟩
  | .local _ .vmem, ⟨15, _⟩ => ⟨S4x128x128, .bf16⟩
  | .local _ .vmem, ⟨16, _⟩ => ⟨S4x128x128, .f32⟩
  | .local _ .vmem, ⟨17, _⟩ => ⟨S4x128x128, .bf16⟩
  | .local _ .vmem, ⟨18, _⟩ => ⟨S8x512, .f32⟩
  | .local _ .vmem, ⟨19, _⟩ => ⟨S512x1024, .f32⟩
  | .local _ .vmem, ⟨20, _⟩ => ⟨S512x1024, .f32⟩
  | .local _ .vmem, ⟨21, _⟩ => ⟨S512x1536, .bf16⟩
  | .local _ .vmem, ⟨22, _⟩ => ⟨S512x1536, .bf16⟩
  | .local _ .vmem, ⟨23, _⟩ => ⟨S8x1024, .f32⟩
  | .local _ .vmem, ⟨24, _⟩ => ⟨S4x128x128, .bf16⟩
  | .local _ .vmem, ⟨25, _⟩ => ⟨S4x128x128, .bf16⟩
  | .local _ .vmem, ⟨26, _⟩ => ⟨S8x128, .f32⟩
  | .local _ .vmem, ⟨27, _⟩ => ⟨S8x128, .f32⟩
  | .local _ .vmem, ⟨28, _⟩ => ⟨S8x512, .f32⟩
  | .local _ .vmem, ⟨29, _⟩ => ⟨S16x512, .f32⟩
  | .local _ .vmem, ⟨30, _⟩ => ⟨S4x128x128, .f32⟩
  | .local _ .vmem, ⟨31, _⟩ => ⟨S4x128x128, .f32⟩
  | .local _ .vmem, ⟨32, _⟩ => ⟨S4x128x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v5 : Ref sig .tc := ⟨.hbm, 37, rfl⟩
abbrev main_v6 : Ref sig .tc := ⟨.hbm, 38, rfl⟩
abbrev main_c_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst_2 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_cst_3 : Ref sig .tc := ⟨.hbm, 76, rfl⟩
abbrev main_v23 : Ref sig .tc := ⟨.hbm, 77, rfl⟩
abbrev main_v24 : Ref sig .tc := ⟨.hbm, 78, rfl⟩
abbrev main_cst_4 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_cst_5 : Ref sig .tc := ⟨.hbm, 88, rfl⟩
abbrev main_v33 : Ref sig .tc := ⟨.hbm, 89, rfl⟩
abbrev main_v34 : Ref sig .tc := ⟨.hbm, 90, rfl⟩
abbrev main_cst_6 : Ref sig .tc := ⟨.hbm, 91, rfl⟩
abbrev main_v35 : Ref sig .tc := ⟨.hbm, 92, rfl⟩
abbrev main_v36 : Ref sig .tc := ⟨.hbm, 93, rfl⟩
abbrev main_cst_7 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_cst_8 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52_0 : Ref sig .tc := ⟨.hbm, 111, rfl⟩
abbrev main_v52_1 : Ref sig .tc := ⟨.hbm, 112, rfl⟩
abbrev main_v52_2 : Ref sig .tc := ⟨.hbm, 113, rfl⟩
abbrev main_v52_3 : Ref sig .tc := ⟨.hbm, 114, rfl⟩
abbrev main_v52_4 : Ref sig .tc := ⟨.hbm, 115, rfl⟩
abbrev main_v52_5 : Ref sig .tc := ⟨.hbm, 116, rfl⟩
abbrev main_v52_6 : Ref sig .tc := ⟨.hbm, 117, rfl⟩
abbrev main_v52_7 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem21_0 : DmaSem sig := 28

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_1250 : BitVec 32 := 15#32
  let v2485 : BitVec 1 := Scalar.cmpi .eq arg0 c15_i32_1250
  let v2486 : BitVec 32 := Scalar.extui v2485
  let c0_i32_1251 : BitVec 32 := 0#32
  let v2487 : BitVec 1 := Scalar.cmpi .ne v2486 c0_i32_1251
  v2487

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== MixBwdIdeal.lean ====
variable {F : FTy → Type} [FloatOps F] [Named F]
def κ : String → Option EReal := fun
  | "gelu_3c1" => some ((241015141496493 / 2251799813685248 : ℝ) : EReal)
  | "gelu_c1" => some ((80338380498831 / 2251799813685248 : ℝ) : EReal)
  | _ => none
-- ==== MixBwdRefIdeal.lean ====
abbrev S1x8192x1024 : Shape := ⟨3, ![1, 8192, 1024]⟩
abbrev S1x1024 : Shape := ⟨2, ![1, 1024]⟩
abbrev S1x1024x1536 : Shape := ⟨3, ![1, 1024, 1536]⟩
abbrev S1x4x128 : Shape := ⟨3, ![1, 4, 128]⟩
abbrev S1x4x128x128 : Shape := ⟨4, ![1, 4, 128, 128]⟩
abbrev S1x512 : Shape := ⟨2, ![1, 512]⟩
abbrev S1x1024x1024 : Shape := ⟨3, ![1, 1024, 1024]⟩
abbrev S8192x1024 : Shape := ⟨2, ![8192, 1024]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S4x128x128 : Shape := ⟨3, ![4, 128, 128]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x1536 : Shape := ⟨2, ![1024, 1536]⟩
abbrev S1x8192x1536 : Shape := ⟨3, ![1, 8192, 1536]⟩
abbrev S4x128 : Shape := ⟨2, ![4, 128]⟩
abbrev S1x8192x512 : Shape := ⟨3, ![1, 8192, 512]⟩
abbrev S1x64x128x4x128 : Shape := ⟨5, ![1, 64, 128, 4, 128]⟩
abbrev S1x1x1x4x128 : Shape := ⟨5, ![1, 1, 1, 4, 128]⟩
abbrev S1x64x128x4 : Shape := ⟨4, ![1, 64, 128, 4]⟩
abbrev S1x64x128x4x1 : Shape := ⟨5, ![1, 64, 128, 4, 1]⟩
abbrev S4x1x64x128x128 : Shape := ⟨5, ![4, 1, 64, 128, 128]⟩
abbrev S128x4 : Shape := ⟨2, ![128, 4]⟩
abbrev S1x1x128x4x1 : Shape := ⟨5, ![1, 1, 128, 4, 1]⟩
abbrev S512 : Shape := ⟨1, ![512]⟩
abbrev S1x8192x4x128 : Shape := ⟨4, ![1, 8192, 4, 128]⟩
abbrev S8192 : Shape := ⟨1, ![8192]⟩
abbrev S1x8192x1x128 : Shape := ⟨4, ![1, 8192, 1, 128]⟩
abbrev S1x8192x128 : Shape := ⟨3, ![1, 8192, 128]⟩
abbrev S1x8194x128 : Shape := ⟨3, ![1, 8194, 128]⟩
abbrev S1x8196x128 : Shape := ⟨3, ![1, 8196, 128]⟩
abbrev S1x8200x128 : Shape := ⟨3, ![1, 8200, 128]⟩
abbrev S1x8208x128 : Shape := ⟨3, ![1, 8208, 128]⟩
abbrev S4x128x1x8192 : Shape := ⟨4, ![4, 128, 1, 8192]⟩
abbrev S1x1x512 : Shape := ⟨3, ![1, 1, 512]⟩
abbrev S1024x1024 : Shape := ⟨2, ![1024, 1024]⟩
abbrev S1x128x4 : Shape := ⟨3, ![1, 128, 4]⟩
abbrev S8x128 : Shape := ⟨2, ![8, 128]⟩

abbrev nBuf : Space → Nat
  | .hbm => 280
  | .vmem => 0
  | .smem => 0
  | _ => 0

abbrev hbmTy0_0 (i : Nat) : BufTy := match i % 128 with
  | 0 => ⟨S1x8192x1024, .f32⟩
  | 1 => ⟨S1x1024, .f32⟩
  | 2 => ⟨S1x1024, .f32⟩
  | 3 => ⟨S1x1024, .f32⟩
  | 4 => ⟨S1x1024x1536, .f32⟩
  | 5 => ⟨S1x4x128, .f32⟩
  | 6 => ⟨S1x4x128x128, .f32⟩
  | 7 => ⟨S1x4x128, .f32⟩
  | 8 => ⟨S1x4x128x128, .f32⟩
  | 9 => ⟨S1x512, .f32⟩
  | 10 => ⟨S1x1024x1024, .f32⟩
  | 11 => ⟨S8192x1024, .bf16⟩
  | 12 => ⟨S8192x1024, .f32⟩
  | 13 => ⟨S128, .i32⟩
  | 14 => ⟨S1x128, .i32⟩
  | 15 => ⟨S_, .i32⟩
  | 16 => ⟨S_, .i32⟩
  | 17 => ⟨S1x128, .i32⟩
  | 18 => ⟨S1x128, .i32⟩
  | 19 => ⟨S1x128, .i32⟩
  | 20 => ⟨S_, .i32⟩
  | 21 => ⟨S1x128, .i32⟩
  | 22 => ⟨S1x128, .i1⟩
  | 23 => ⟨S1x128, .i32⟩
  | 24 => ⟨S1x128, .i32⟩
  | 25 => ⟨S_, .i32⟩
  | 26 => ⟨S1x128, .i32⟩
  | 27 => ⟨S1x128, .i1⟩
  | 28 => ⟨S1x128, .i1⟩
  | 29 => ⟨S_, .i32⟩
  | 30 => ⟨S1x128, .i32⟩
  | 31 => ⟨S1x128, .i32⟩
  | 32 => ⟨S1x128, .i32⟩
  | 33 => ⟨S128x1, .i32⟩
  | 34 => ⟨S_, .i32⟩
  | 35 => ⟨S_, .i32⟩
  | 36 => ⟨S128x1, .i32⟩
  | 37 => ⟨S128x1, .i32⟩
  | 38 => ⟨S128x1, .i32⟩
  | 39 => ⟨S_, .i32⟩
  | 40 => ⟨S128x1, .i32⟩
  | 41 => ⟨S128x1, .i1⟩
  | 42 => ⟨S128x1, .i32⟩
  | 43 => ⟨S128x1, .i32⟩
  | 44 => ⟨S_, .i32⟩
  | 45 => ⟨S128x1, .i32⟩
  | 46 => ⟨S128x1, .i1⟩
  | 47 => ⟨S128x1, .i1⟩
  | 48 => ⟨S_, .i32⟩
  | 49 => ⟨S128x1, .i32⟩
  | 50 => ⟨S128x1, .i32⟩
  | 51 => ⟨S128x1, .i32⟩
  | 52 => ⟨S128x128, .i32⟩
  | 53 => ⟨S128x128, .i32⟩
  | 54 => ⟨S128x128, .i1⟩
  | 55 => ⟨S1x128x128, .i1⟩
  | 56 => ⟨S4x128x128, .f32⟩
  | 57 => ⟨S4x128x128, .f32⟩
  | 58 => ⟨S_, .f32⟩
  | 59 => ⟨S4x128x128, .f32⟩
  | 60 => ⟨S4x128x128, .i1⟩
  | 61 => ⟨S4x128x128, .f32⟩
  | 62 => ⟨S1024, .f32⟩
  | 63 => ⟨S1x8192x1024, .f32⟩
  | 64 => ⟨S_, .f32⟩
  | 65 => ⟨S1x8192, .f32⟩
  | 66 => ⟨S1x8192x1, .f32⟩
  | 67 => ⟨S_, .f32⟩
  | 68 => ⟨S1x8192x1, .f32⟩
  | 69 => ⟨S1x8192x1, .f32⟩
  | 70 => ⟨S_, .f32⟩
  | 71 => ⟨S1x8192x1, .f32⟩
  | 72 => ⟨S1x8192x1, .f32⟩
  | 73 => ⟨S1x8192x1, .f32⟩
  | 74 => ⟨S1x8192x1024, .f32⟩
  | 75 => ⟨S1x8192x1024, .f32⟩
  | 76 => ⟨S1x1x1024, .f32⟩
  | 77 => ⟨S1x8192x1024, .f32⟩
  | 78 => ⟨S1x8192x1024, .f32⟩
  | 79 => ⟨S1x1x1024, .f32⟩
  | 80 => ⟨S_, .f32⟩
  | 81 => ⟨S1x1x1024, .f32⟩
  | 82 => ⟨S1x1x1024, .f32⟩
  | 83 => ⟨S1x8192x1024, .f32⟩
  | 84 => ⟨S1x8192x1024, .f32⟩
  | 85 => ⟨S1x1x1024, .f32⟩
  | 86 => ⟨S1x8192x1024, .f32⟩
  | 87 => ⟨S1x8192x1024, .f32⟩
  | 88 => ⟨S1024x1536, .f32⟩
  | 89 => ⟨S1x8192x1536, .f32⟩
  | 90 => ⟨S1x8192x1024, .f32⟩
  | 91 => ⟨S4x128, .f32⟩
  | 92 => ⟨S4x128, .f32⟩
  | 93 => ⟨S1x8192x1024, .f32⟩
  | 94 => ⟨S1x8192x1024, .f32⟩
  | 95 => ⟨S_, .f32⟩
  | 96 => ⟨S1x8192x1024, .f32⟩
  | 97 => ⟨S1x8192x1024, .f32⟩
  | 98 => ⟨S1x8192x1024, .f32⟩
  | 99 => ⟨S_, .f32⟩
  | 100 => ⟨S1x8192x1024, .f32⟩
  | 101 => ⟨S1x8192x1024, .f32⟩
  | 102 => ⟨S1x8192x1024, .f32⟩
  | 103 => ⟨S_, .f32⟩
  | 104 => ⟨S1x8192x1024, .f32⟩
  | 105 => ⟨S1x8192x1024, .f32⟩
  | 106 => ⟨S_, .f32⟩
  | 107 => ⟨S1x8192x1024, .f32⟩
  | 108 => ⟨S1x8192x1024, .f32⟩
  | 109 => ⟨S1x8192x1024, .f32⟩
  | 110 => ⟨S1x8192x512, .f32⟩
  | 111 => ⟨S1x8192x512, .f32⟩
  | 112 => ⟨S1x64x128x4x128, .f32⟩
  | 113 => ⟨S1x1x1x4x128, .f32⟩
  | 114 => ⟨S1x64x128x4x128, .f32⟩
  | 115 => ⟨S_, .f32⟩
  | 116 => ⟨S1x64x128x4, .f32⟩
  | 117 => ⟨S1x64x128x4x1, .f32⟩
  | 118 => ⟨S_, .f32⟩
  | 119 => ⟨S1x64x128x4x1, .f32⟩
  | 120 => ⟨S1x64x128x4x1, .f32⟩
  | 121 => ⟨S_, .f32⟩
  | 122 => ⟨S1x64x128x4x1, .f32⟩
  | 123 => ⟨S1x64x128x4x1, .f32⟩
  | 124 => ⟨S1x64x128x4x1, .f32⟩
  | 125 => ⟨S1x64x128x4x128, .f32⟩
  | 126 => ⟨S1x64x128x4x128, .f32⟩
  | 127 => ⟨S1x64x128x4x128, .f32⟩
  | _ => ⟨S1x8192x1024, .f32⟩

abbrev hbmTy0_1 (i : Nat) : BufTy := match i % 128 with
  | 0 => ⟨S1x64x128x4x128, .f32⟩
  | 1 => ⟨S4x1x64x128x128, .f32⟩
  | 2 => ⟨S1x64x128x4x128, .f32⟩
  | 3 => ⟨S128x4, .f32⟩
  | 4 => ⟨S1x1x128x4x1, .f32⟩
  | 5 => ⟨S1x64x128x4x128, .f32⟩
  | 6 => ⟨S1x64x128x4x128, .f32⟩
  | 7 => ⟨S1x8192x512, .f32⟩
  | 8 => ⟨S1x8192x512, .f32⟩
  | 9 => ⟨S1x8192x512, .f32⟩
  | 10 => ⟨S4x128x128, .f32⟩
  | 11 => ⟨S512, .f32⟩
  | 12 => ⟨S1x8192x4x128, .f32⟩
  | 13 => ⟨S8192, .i32⟩
  | 14 => ⟨S1x8192x1x128, .f32⟩
  | 15 => ⟨S1x8192x128, .f32⟩
  | 16 => ⟨S_, .f32⟩
  | 17 => ⟨S_, .f32⟩
  | 18 => ⟨S1x8192x128, .f32⟩
  | 19 => ⟨S_, .i32⟩
  | 20 => ⟨S_, .f32⟩
  | 21 => ⟨S1x8194x128, .f32⟩
  | 22 => ⟨S1x8192x128, .f32⟩
  | 23 => ⟨S1x8192x128, .f32⟩
  | 24 => ⟨S1x8192x128, .f32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S8192, .f32⟩
  | 32 => ⟨S1x8192x1, .f32⟩
  | 33 => ⟨S1x8192x128, .f32⟩
  | 34 => ⟨S1x8192x128, .f32⟩
  | 35 => ⟨S1x8192x128, .f32⟩
  | 36 => ⟨S1x8192x1x128, .f32⟩
  | 37 => ⟨S1x8192x128, .f32⟩
  | 38 => ⟨S_, .f32⟩
  | 39 => ⟨S_, .f32⟩
  | 40 => ⟨S1x8192x128, .f32⟩
  | 41 => ⟨S_, .i32⟩
  | 42 => ⟨S_, .f32⟩
  | 43 => ⟨S1x8196x128, .f32⟩
  | 44 => ⟨S1x8192x128, .f32⟩
  | 45 => ⟨S1x8192x128, .f32⟩
  | 46 => ⟨S1x8192x128, .f32⟩
  | 47 => ⟨S_, .i32⟩
  | 48 => ⟨S8192, .i32⟩
  | 49 => ⟨S8192, .i32⟩
  | 50 => ⟨S_, .i32⟩
  | 51 => ⟨S8192, .i32⟩
  | 52 => ⟨S8192, .i32⟩
  | 53 => ⟨S8192, .f32⟩
  | 54 => ⟨S1x8192x1, .f32⟩
  | 55 => ⟨S1x8192x128, .f32⟩
  | 56 => ⟨S1x8192x128, .f32⟩
  | 57 => ⟨S1x8192x128, .f32⟩
  | 58 => ⟨S1x8192x1x128, .f32⟩
  | 59 => ⟨S1x8192x128, .f32⟩
  | 60 => ⟨S_, .f32⟩
  | 61 => ⟨S_, .f32⟩
  | 62 => ⟨S1x8192x128, .f32⟩
  | 63 => ⟨S_, .i32⟩
  | 64 => ⟨S_, .f32⟩
  | 65 => ⟨S1x8200x128, .f32⟩
  | 66 => ⟨S1x8192x128, .f32⟩
  | 67 => ⟨S1x8192x128, .f32⟩
  | 68 => ⟨S1x8192x128, .f32⟩
  | 69 => ⟨S_, .i32⟩
  | 70 => ⟨S8192, .i32⟩
  | 71 => ⟨S8192, .i32⟩
  | 72 => ⟨S_, .i32⟩
  | 73 => ⟨S8192, .i32⟩
  | 74 => ⟨S8192, .i32⟩
  | 75 => ⟨S8192, .f32⟩
  | 76 => ⟨S1x8192x1, .f32⟩
  | 77 => ⟨S1x8192x128, .f32⟩
  | 78 => ⟨S1x8192x128, .f32⟩
  | 79 => ⟨S1x8192x128, .f32⟩
  | 80 => ⟨S1x8192x1x128, .f32⟩
  | 81 => ⟨S1x8192x128, .f32⟩
  | 82 => ⟨S_, .f32⟩
  | 83 => ⟨S_, .f32⟩
  | 84 => ⟨S1x8192x128, .f32⟩
  | 85 => ⟨S_, .i32⟩
  | 86 => ⟨S_, .f32⟩
  | 87 => ⟨S1x8208x128, .f32⟩
  | 88 => ⟨S1x8192x128, .f32⟩
  | 89 => ⟨S1x8192x128, .f32⟩
  | 90 => ⟨S1x8192x128, .f32⟩
  | 91 => ⟨S_, .i32⟩
  | 92 => ⟨S8192, .i32⟩
  | 93 => ⟨S8192, .i32⟩
  | 94 => ⟨S_, .i32⟩
  | 95 => ⟨S8192, .i32⟩
  | 96 => ⟨S8192, .i32⟩
  | 97 => ⟨S8192, .f32⟩
  | 98 => ⟨S1x8192x1, .f32⟩
  | 99 => ⟨S1x8192x128, .f32⟩
  | 100 => ⟨S1x8192x128, .f32⟩
  | 101 => ⟨S1x8192x128, .f32⟩
  | 102 => ⟨S1x8192x1x128, .f32⟩
  | 103 => ⟨S1x8192x1x128, .f32⟩
  | 104 => ⟨S1x8192x1x128, .f32⟩
  | 105 => ⟨S1x8192x1x128, .f32⟩
  | 106 => ⟨S1x8192x4x128, .f32⟩
  | 107 => ⟨S4x128x1x8192, .f32⟩
  | 108 => ⟨S1x8192x4x128, .f32⟩
  | 109 => ⟨S1x8192x512, .f32⟩
  | 110 => ⟨S1x1x512, .f32⟩
  | 111 => ⟨S1x8192x512, .f32⟩
  | 112 => ⟨S1x8192x512, .f32⟩
  | 113 => ⟨S1x8192x1024, .f32⟩
  | 114 => ⟨S_, .f32⟩
  | 115 => ⟨S1x8192x512, .f32⟩
  | 116 => ⟨S1024x1024, .f32⟩
  | 117 => ⟨S1x8192x1024, .f32⟩
  | 118 => ⟨S8192x1024, .f32⟩
  | 119 => ⟨S1x8192x1024, .f32⟩
  | 120 => ⟨S1x8192x1024, .f32⟩
  | 121 => ⟨S1x8192x512, .f32⟩
  | 122 => ⟨S1x8192x512, .f32⟩
  | 123 => ⟨S1x8192x512, .f32⟩
  | 124 => ⟨S1x64x128x4x128, .f32⟩
  | 125 => ⟨S_, .f32⟩
  | 126 => ⟨S1x128x4, .f32⟩
  | 127 => ⟨S1x1x128x4x1, .f32⟩
  | _ => ⟨S1x8192x1024, .f32⟩

abbrev hbmTy0_2 (i : Nat) : BufTy := match i % 128 with
  | 0 => ⟨S_, .f32⟩
  | 1 => ⟨S128x4, .f32⟩
  | 2 => ⟨S4x128, .f32⟩
  | 3 => ⟨S4x1x64x128x128, .f32⟩
  | 4 => ⟨S4x128x128, .f32⟩
  | 5 => ⟨S4x1x64x128x128, .f32⟩
  | 6 => ⟨S1x64x128x4x128, .f32⟩
  | 7 => ⟨S1x64x128x4x128, .f32⟩
  | 8 => ⟨S_, .f32⟩
  | 9 => ⟨S1x4x128, .f32⟩
  | 10 => ⟨S1x1x1x4x128, .f32⟩
  | 11 => ⟨S_, .f32⟩
  | 12 => ⟨S4x128, .f32⟩
  | 13 => ⟨S1x4x128, .f32⟩
  | 14 => ⟨S1x4x128, .f32⟩
  | 15 => ⟨S4x128x128, .bf16⟩
  | 16 => ⟨S4x128, .f32⟩
  | 17 => ⟨S_, .f32⟩
  | 18 => ⟨S4x128, .f32⟩
  | 19 => ⟨S8x128, .f32⟩
  | 20 => ⟨S4x128, .f32⟩
  | 21 => ⟨S_, .f32⟩
  | 22 => ⟨S4x128, .f32⟩
  | 23 => ⟨S8x128, .f32⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v2 : Ref sig .tc := ⟨.hbm, 32, rfl⟩
abbrev main_v3 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst : Ref sig .tc := ⟨.hbm, 58, rfl⟩
abbrev main_v11 : Ref sig .tc := ⟨.hbm, 59, rfl⟩
abbrev main_call2_v0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_cst_1 : Ref sig .tc := ⟨.hbm, 64, rfl⟩
abbrev main_v15 : Ref sig .tc := ⟨.hbm, 65, rfl⟩
abbrev main_v16 : Ref sig .tc := ⟨.hbm, 66, rfl⟩
abbrev main_cst_2 : Ref sig .tc := ⟨.hbm, 67, rfl⟩
abbrev main_v17 : Ref sig .tc := ⟨.hbm, 68, rfl⟩
abbrev main_v18 : Ref sig .tc := ⟨.hbm, 69, rfl⟩
abbrev main_cst_3 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_cst_4 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst_5 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_cst_6 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_cst_7 : Ref sig .tc := ⟨.hbm, 103, rfl⟩
abbrev main_v48 : Ref sig .tc := ⟨.hbm, 104, rfl⟩
abbrev main_v49 : Ref sig .tc := ⟨.hbm, 105, rfl⟩
abbrev main_cst_8 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_cst_9 : Ref sig .tc := ⟨.hbm, 115, rfl⟩
abbrev main_v58 : Ref sig .tc := ⟨.hbm, 116, rfl⟩
abbrev main_v59 : Ref sig .tc := ⟨.hbm, 117, rfl⟩
abbrev main_cst_10 : Ref sig .tc := ⟨.hbm, 118, rfl⟩
abbrev main_v60 : Ref sig .tc := ⟨.hbm, 119, rfl⟩
abbrev main_v61 : Ref sig .tc := ⟨.hbm, 120, rfl⟩
abbrev main_cst_11 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_call3_call0_cst : Ref sig .tc := ⟨.hbm, 144, rfl⟩
abbrev main_call3_call0_v0 : Ref sig .tc := ⟨.hbm, 145, rfl⟩
abbrev main_v84 : Ref sig .tc := ⟨.hbm, 146, rfl⟩
abbrev main_c_12 : Ref sig .tc := ⟨.hbm, 147, rfl⟩
abbrev main_call4_v0 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_c_13 : Ref sig .tc := ⟨.hbm, 153, rfl⟩
abbrev main_v89 : Ref sig .tc := ⟨.hbm, 154, rfl⟩
abbrev main_v90 : Ref sig .tc := ⟨.hbm, 155, rfl⟩
abbrev main_c_14 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_call5_call0_cst : Ref sig .tc := ⟨.hbm, 166, rfl⟩
abbrev main_call5_call0_v0 : Ref sig .tc := ⟨.hbm, 167, rfl⟩
abbrev main_v100 : Ref sig .tc := ⟨.hbm, 168, rfl⟩
abbrev main_c_15 : Ref sig .tc := ⟨.hbm, 169, rfl⟩
abbrev main_call6_v0 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_c_16 : Ref sig .tc := ⟨.hbm, 175, rfl⟩
abbrev main_v105 : Ref sig .tc := ⟨.hbm, 176, rfl⟩
abbrev main_v106 : Ref sig .tc := ⟨.hbm, 177, rfl⟩
abbrev main_c_17 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_call7_call0_cst : Ref sig .tc := ⟨.hbm, 188, rfl⟩
abbrev main_call7_call0_v0 : Ref sig .tc := ⟨.hbm, 189, rfl⟩
abbrev main_v116 : Ref sig .tc := ⟨.hbm, 190, rfl⟩
abbrev main_c_18 : Ref sig .tc := ⟨.hbm, 191, rfl⟩
abbrev main_call8_v0 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_c_19 : Ref sig .tc := ⟨.hbm, 197, rfl⟩
abbrev main_v121 : Ref sig .tc := ⟨.hbm, 198, rfl⟩
abbrev main_v122 : Ref sig .tc := ⟨.hbm, 199, rfl⟩
abbrev main_c_20 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_call9_call0_cst : Ref sig .tc := ⟨.hbm, 210, rfl⟩
abbrev main_call9_call0_v0 : Ref sig .tc := ⟨.hbm, 211, rfl⟩
abbrev main_v132 : Ref sig .tc := ⟨.hbm, 212, rfl⟩
abbrev main_c_21 : Ref sig .tc := ⟨.hbm, 213, rfl⟩
abbrev main_call10_v0 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_c_22 : Ref sig .tc := ⟨.hbm, 219, rfl⟩
abbrev main_v137 : Ref sig .tc := ⟨.hbm, 220, rfl⟩
abbrev main_v138 : Ref sig .tc := ⟨.hbm, 221, rfl⟩
abbrev main_c_23 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_cst_24 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_cst_25 : Ref sig .tc := ⟨.hbm, 253, rfl⟩
abbrev main_v168 : Ref sig .tc := ⟨.hbm, 254, rfl⟩
abbrev main_v169 : Ref sig .tc := ⟨.hbm, 255, rfl⟩
abbrev main_cst_26 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_cst_27 : Ref sig .tc := ⟨.hbm, 264, rfl⟩
abbrev main_v177 : Ref sig .tc := ⟨.hbm, 265, rfl⟩
abbrev main_v178 : Ref sig .tc := ⟨.hbm, 266, rfl⟩
abbrev main_cst_28 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_cst_29 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_cst_30 : Ref sig .tc := ⟨.hbm, 277, rfl⟩
abbrev main_v187 : Ref sig .tc := ⟨.hbm, 278, rfl⟩
abbrev main_v188 : Ref sig .tc := ⟨.hbm, 279, rfl⟩

abbrev nD : Nat := 1
abbrev τ : Topo := Topo.v7x

variable {F : FTy → Type} [FloatOps F]
-- ==== Proof.MixFrame.lean ====
/- The frame of the ideal kernel: what every grid point leaves in the outputs and in the carried scratch, as one
   record over the pieces that the three runs of the body found, and the launch over it. -/
module

public import proofs.«01_k».proof.Proof.Gen.MixBwdIdeal.Frame.RunC
public import Idealize.ShloMosaic.Lib.Claim

@[expose] public section

set_option maxRecDepth 16384

noncomputable section

namespace MixFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBwdIdeal Cert.MixBwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What one grid point leaves: the eight outputs' blocks and the four carried scratch buffers. -/
structure St (F : FTy → Type) where
  o14 : Vec F S512x1024 .f32
  o15 : Vec F S512x1536 .bf16
  o16 : Vec F S8x1024 .f32
  o17 : Vec F S4x128x128 .bf16
  o18 : Vec F S4x128x128 .bf16
  o19 : Vec F S8x128 .f32
  o20 : Vec F S8x128 .f32
  o21 : Vec F S8x512 .f32
  s0 : Vec F S16x512 .f32
  s1 : Vec F S4x128x128 .f32
  s2 : Vec F S4x128x128 .f32
  s3 : Vec F S4x128x128 .f32

/-- The run of the body at the first grid point: the pieces it writes and the triple. -/
def runA (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The run of the body at a grid point in between: the pieces it writes and the triple. -/
def runB (c : Dev nD) (t : Fin cfg0.N) (h0 : ¬t.val % 16 = 0) (h1 : ¬t.val % 16 = 15) (s : St F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) s.o16 s.o20 s.o21 s.s0 s.s1 s.s2 s.s3

/-- The run of the body at the last grid point: the pieces it writes and the triple. -/
def runC (c : Dev nD) (t : Fin cfg0.N) (h0 : ¬t.val % 16 = 0) (h1 : t.val % 16 = 15) (s : St F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) s.o16 s.o20 s.o21 s.s0 s.s1 s.s2 s.s3

/-- The pieces that a run of the body leaves in the buffers that it stores into. -/
structure Ls (F : FTy → Type) where
  o14 : List (View.Piece (Elt F) S512x1024 .f32)
  o15 : List (View.Piece (Elt F) S512x1536 .bf16)
  o16 : List (View.Piece (Elt F) S8x1024 .f32)
  o17 : List (View.Piece (Elt F) S4x128x128 .bf16)
  o18 : List (View.Piece (Elt F) S4x128x128 .bf16)
  o19 : List (View.Piece (Elt F) S8x128 .f32)
  o20 : List (View.Piece (Elt F) S8x128 .f32)
  o21 : List (View.Piece (Elt F) S8x512 .f32)
  s0 : List (View.Piece (Elt F) S16x512 .f32)
  s1 : List (View.Piece (Elt F) S4x128x128 .f32)
  s2 : List (View.Piece (Elt F) S4x128x128 .f32)
  s3 : List (View.Piece (Elt F) S4x128x128 .f32)

/-- The pieces of case A. -/
def lsA (c : Dev nD) (t : Fin cfg0.N) (h0 : t.val % 16 = 0) (h1 : ¬t.val % 16 = 15) : Ls F where
  o14 := (runA m c t h0 h1).1
  o15 := (runA m c t h0 h1).2.1
  o16 := (runA m c t h0 h1).2.2.1
  o17 := (runA m c t h0 h1).2.2.2.1
  o18 := (runA m c t h0 h1).2.2.2.2.1
  o19 := (runA m c t h0 h1).2.2.2.2.2.1
  o20 := (runA m c t h0 h1).2.2.2.2.2.2.1
  o21 := (runA m c t h0 h1).2.2.2.2.2.2.2.1
  s0 := (runA m c t h0 h1).2.2.2.2.2.2.2.2.1
  s1 := (runA m c t h0 h1).2.2.2.2.2.2.2.2.2.1
  s2 := (runA m c t h0 h1).2.2.2.2.2.2.2.2.2.2.1
  s3 := (runA m c t h0 h1).2.2.2.2.2.2.2.2.2.2.2.1

/-- The pieces of case B. -/
def lsB (c : Dev nD) (t : Fin cfg0.N) (h0 : ¬t.val % 16 = 0) (h1 : ¬t.val % 16 = 15) (s : St F) : Ls F where
  o14 := (runB m c t h0 h1 s).1
  o15 := (runB m c t h0 h1 s).2.1
  o16 := (runB m c t h0 h1 s).2.2.1
  o17 := (runB m c t h0 h1 s).2.2.2.1
  o18 := (runB m c t h0 h1 s).2.2.2.2.1
  o19 := (runB m c t h0 h1 s).2.2.2.2.2.1
  o20 := (runB m c t h0 h1 s).2.2.2.2.2.2.1
  o21 := (runB m c t h0 h1 s).2.2.2.2.2.2.2.1
  s0 := (runB m c t h0 h1 s).2.2.2.2.2.2.2.2.1
  s1 := (runB m c t h0 h1 s).2.2.2.2.2.2.2.2.2.1
  s2 := (runB m c t h0 h1 s).2.2.2.2.2.2.2.2.2.2.1
  s3 := (runB m c t h0 h1 s).2.2.2.2.2.2.2.2.2.2.2.1

/-- The pieces of case C. -/
def lsC (c : Dev nD) (t : Fin cfg0.N) (h0 : ¬t.val % 16 = 0) (h1 : t.val % 16 = 15) (s : St F) : Ls F where
  o14 := (runC m c t h0 h1 s).1
  o15 := (runC m c t h0 h1 s).2.1
  o16 := (runC m c t h0 h1 s).2.2.1
  o17 := (runC m c t h0 h1 s).2.2.2.1
  o18 := (runC m c t h0 h1 s).2.2.2.2.1
  o19 := (runC m c t h0 h1 s).2.2.2.2.2.1
  o20 := (runC m c t h0 h1 s).2.2.2.2.2.2.1
  o21 := (runC m c t h0 h1 s).2.2.2.2.2.2.2.1
  s0 := (runC m c t h0 h1 s).2.2.2.2.2.2.2.2.1
  s1 := (runC m c t h0 h1 s).2.2.2.2.2.2.2.2.2.1
  s2 := (runC m c t h0 h1 s).2.2.2.2.2.2.2.2.2.2.1
  s3 := (runC m c t h0 h1 s).2.2.2.2.2.2.2.2.2.2.2.1

/-- The record that the run of case A leaves. -/
def stA (c : Dev nD) (t : Fin cfg0.N) (h0 : t.val % 16 = 0) (h1 : ¬t.val % 16 = 15) : St F where
  o14 := View.canon (lsA m c t h0 h1).o14
  o15 := View.canon (lsA m c t h0 h1).o15
  o16 := View.canon (lsA m c t h0 h1).o16
  o17 := View.canon (lsA m c t h0 h1).o17
  o18 := View.canon (lsA m c t h0 h1).o18
  o19 := View.canon (lsA m c t h0 h1).o19
  o20 := View.canon (lsA m c t h0 h1).o20
  o21 := View.canon (lsA m c t h0 h1).o21
  s0 := View.canon (lsA m c t h0 h1).s0
  s1 := View.canon (lsA m c t h0 h1).s1
  s2 := View.canon (lsA m c t h0 h1).s2
  s3 := View.canon (lsA m c t h0 h1).s3

/-- The record that the run of case B leaves. -/
def stB (c : Dev nD) (t : Fin cfg0.N) (h0 : ¬t.val % 16 = 0) (h1 : ¬t.val % 16 = 15) (s : St F) : St F where
  o14 := View.canon (lsB m c t h0 h1 s).o14
  o15 := View.canon (lsB m c t h0 h1 s).o15
  o16 := (ms0_16 t).view.read (Elt F) ((ms0_16 t).view.writes (Elt F) ((hs0_16 t).unread s.o16) (lsB m c t h0 h1 s).o16)
  o17 := View.canon (lsB m c t h0 h1 s).o17
  o18 := View.canon (lsB m c t h0 h1 s).o18
  o19 := View.canon (lsB m c t h0 h1 s).o19
  o20 := (ms0_20 t).view.read (Elt F) ((ms0_20 t).view.writes (Elt F) ((hs0_20 t).unread s.o20) (lsB m c t h0 h1 s).o20)
  o21 := (ms0_21 t).view.read (Elt F) ((ms0_21 t).view.writes (Elt F) ((hs0_21 t).unread s.o21) (lsB m c t h0 h1 s).o21)
  s0 := View.canon (lsB m c t h0 h1 s).s0
  s1 := View.canon (lsB m c t h0 h1 s).s1
  s2 := View.canon (lsB m c t h0 h1 s).s2
  s3 := View.canon (lsB m c t h0 h1 s).s3

/-- The record that the run of case C leaves. -/
def stC (c : Dev nD) (t : Fin cfg0.N) (h0 : ¬t.val % 16 = 0) (h1 : t.val % 16 = 15) (s : St F) : St F where
  o14 := View.canon (lsC m c t h0 h1 s).o14
  o15 := View.canon (lsC m c t h0 h1 s).o15
  o16 := (ms0_16 t).view.read (Elt F) ((ms0_16 t).view.writes (Elt F) ((hs0_16 t).unread s.o16) (lsC m c t h0 h1 s).o16)
  o17 := View.canon (lsC m c t h0 h1 s).o17
  o18 := View.canon (lsC m c t h0 h1 s).o18
  o19 := View.canon (lsC m c t h0 h1 s).o19
  o20 := (ms0_20 t).view.read (Elt F) ((ms0_20 t).view.writes (Elt F) ((hs0_20 t).unread s.o20) (lsC m c t h0 h1 s).o20)
  o21 := (ms0_21 t).view.read (Elt F) ((ms0_21 t).view.writes (Elt F) ((hs0_21 t).unread s.o21) (lsC m c t h0 h1 s).o21)
  s0 := View.canon (lsC m c t h0 h1 s).s0
  s1 := View.canon (lsC m c t h0 h1 s).s1
  s2 := View.canon (lsC m c t h0 h1 s).s2
  s3 := View.canon (lsC m c t h0 h1 s).s3

/-- What the points up to `n` leave, one point after the other. -/
def stAt (c : Dev nD) : (n : ℕ) → n < cfg0.N → St F
  | 0, hn => stA m c ⟨0, hn⟩ (Nat.zero_mod _) (by simp)
  | n + 1, hn =>
    if h0 : (n + 1) % 16 = 0 then stA m c ⟨n + 1, hn⟩ h0 (by simp only; omega)
    else if h1 : (n + 1) % 16 = 15 then stC m c ⟨n + 1, hn⟩ h0 h1 (stAt c n (Nat.lt_of_succ_lt hn))
    else stB m c ⟨n + 1, hn⟩ h0 h1 (stAt c n (Nat.lt_of_succ_lt hn))

/-- What the point before `t` left. -/
abbrev stPrev (c : Dev nD) (t : Fin cfg0.N) : St F :=
  stAt m c (t.val - 1) (Nat.lt_of_le_of_lt (Nat.sub_le _ _) t.isLt)

theorem stAt_A (c : Dev nD) (t : Fin cfg0.N) (h0 : t.val % 16 = 0) (h1 : ¬t.val % 16 = 15) :
    stAt m c t.val t.isLt = stA m c t h0 h1 := by
  obtain ⟨n, hn⟩ := t
  cases n with
  | zero => rfl
  | succ n => rw [stAt, dif_pos h0]

theorem stAt_B (c : Dev nD) (t : Fin cfg0.N) (h0 : ¬t.val % 16 = 0) (h1 : ¬t.val % 16 = 15) :
    stAt m c t.val t.isLt = stB m c t h0 h1 (stPrev m c t) := by
  obtain ⟨n, hn⟩ := t
  cases n with
  | zero => exact absurd (Nat.zero_mod _) h0
  | succ n => rw [stAt, dif_neg h0, dif_neg h1]; rfl

theorem stAt_C (c : Dev nD) (t : Fin cfg0.N) (h0 : ¬t.val % 16 = 0) (h1 : t.val % 16 = 15) :
    stAt m c t.val t.isLt = stC m c t h0 h1 (stPrev m c t) := by
  obtain ⟨n, hn⟩ := t
  cases n with
  | zero => exact absurd (Nat.zero_mod _) h0
  | succ n => rw [stAt, dif_neg h0, dif_pos h1]; rfl

attribute [irreducible] stA stB stC

/-- The carried scratch at the contents `s`, and the generator register. -/
def carried (c : Dev nD) (s : St F) : sProp 𝕄 :=
  iprop(iprop(owns (c : Thread nD τ) scM0_0 fullShare s.s0 ∗ owns (c : Thread nD τ) scM0_1 fullShare s.s1 ∗ owns (c : Thread nD τ) scM0_2 fullShare s.s2 ∗ owns (c : Thread nD τ) scM0_3 fullShare s.s3) ∗ (∃ r, prngReg c r))

/-- The invariant between the points: the scratch at anything before the first, then at what the point before left. -/
def PhiS (c : Dev nD) : (n : ℕ) → n ≤ cfg0.N → sProp 𝕄
  | 0, _ => Pipeline.ΦA spec0 c
  | n + 1, hn => carried c (stAt m c n hn)

theorem PhiS_pos (c : Dev nD) (n : ℕ) (h : n ≤ cfg0.N) (hz : n ≠ 0) :
    PhiS m c n h = carried c (stAt m c (n - 1) (by omega)) := by
  cases n with
  | zero => exact absurd rfl hz
  | succ n => rfl

/-- The proof data of the pipeline: the arrays as the region finds them, each input's buffer at its block, each
    output's at the record of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (stAt m c t.val t.isLt).o14
    | ⟨15, _⟩ => (stAt m c t.val t.isLt).o15
    | ⟨16, _⟩ => (stAt m c t.val t.isLt).o16
    | ⟨17, _⟩ => (stAt m c t.val t.isLt).o17
    | ⟨18, _⟩ => (stAt m c t.val t.isLt).o18
    | ⟨19, _⟩ => (stAt m c t.val t.isLt).o19
    | ⟨20, _⟩ => (stAt m c t.val t.isLt).o20
    | ⟨21, _⟩ => (stAt m c t.val t.isLt).o21
    | ⟨_ + 22, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves and finds, window by window -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (stAt m c t.val t.isLt).o14 := by dsimp only [dats]
theorem after0_15 (c : Dev nD) (t : Fin cfg0.N) : (dats m 0 c).after 15 t = (stAt m c t.val t.isLt).o15 := by dsimp only [dats]
theorem after0_16 (c : Dev nD) (t : Fin cfg0.N) : (dats m 0 c).after 16 t = (stAt m c t.val t.isLt).o16 := by dsimp only [dats]
theorem after0_17 (c : Dev nD) (t : Fin cfg0.N) : (dats m 0 c).after 17 t = (stAt m c t.val t.isLt).o17 := by dsimp only [dats]
theorem after0_18 (c : Dev nD) (t : Fin cfg0.N) : (dats m 0 c).after 18 t = (stAt m c t.val t.isLt).o18 := by dsimp only [dats]
theorem after0_19 (c : Dev nD) (t : Fin cfg0.N) : (dats m 0 c).after 19 t = (stAt m c t.val t.isLt).o19 := by dsimp only [dats]
theorem after0_20 (c : Dev nD) (t : Fin cfg0.N) : (dats m 0 c).after 20 t = (stAt m c t.val t.isLt).o20 := by dsimp only [dats]
theorem after0_21 (c : Dev nD) (t : Fin cfg0.N) : (dats m 0 c).after 21 t = (stAt m c t.val t.isLt).o21 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_16 (c : Dev nD) (t : Fin cfg0.N) (h0 : ¬t.val % 16 = 0) (d) :
    (dats m 0 c).before 16 t d = (stPrev m c t).o16 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_20 (c : Dev nD) (t : Fin cfg0.N) (h0 : ¬t.val % 16 = 0) (d) :
    (dats m 0 c).before 20 t d = (stPrev m c t).o20 := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]
theorem before0_21 (c : Dev nD) (t : Fin cfg0.N) (h0 : ¬t.val % 16 = 0) (d) :
    (dats m 0 c).before 21 t d = (stPrev m c t).o21 := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t)

/-- A window live at a point leaves its buffer at the proof data's contents. -/
theorem leaves_live (c : Dev nD) (w : Fin cfg0.W) (t : Fin cfg0.N) (h : cfg0.idle w (cfg0.grid.coords t) = false) :
    (dats m 0 c).leavesExact w t
      = owns (c : Thread nD τ) ((cfg0.win w).stage (cfg0.slots t w)) fullShare ((dats m 0 c).after w t) := by
  unfold Dat.leavesExact; rw [h]

/-- Pieces that cover a buffer leave it at their canonical contents. -/
theorem owns_canon {sp : Space} {s : Shape} {e : EltTy} (c : Dev nD) (a : Memref sig .tc sp s e)
    (L : List (View.Piece (Elt F) s e)) (h : ∀ y, ∃ p ∈ L, y ∈ p.1.set) :
    (iprop(∃ f, a.view.loc (c : Thread nD τ) ↦[a.view.set]{fullShare} a.view.writes (Elt F) f L) : sProp 𝕄)
      ⊢ owns (c : Thread nD τ) a fullShare (View.canon L) := by
  iintro ⟨%f, H⟩
  unfold owns; iexists _; isplitr
  swap; · iexact H
  ipureintro; exact View.read_writes_eq_canon _ _ _ h

/-- Pieces over known contents leave those contents overwritten. -/
theorem owns_over {sp : Space} {s : Shape} {e : EltTy} (c : Dev nD) (a : Memref sig .tc sp s e)
    (f : a.view.ty.Contents (Elt F)) (L : List (View.Piece (Elt F) s e)) :
    (iprop(a.view.loc (c : Thread nD τ) ↦[a.view.set]{fullShare} a.view.writes (Elt F) f L) : sProp 𝕄)
      ⊢ owns (c : Thread nD τ) a fullShare (a.view.read (Elt F) (a.view.writes (Elt F) f L)) := by
  iintro H
  unfold owns; iexists _; isplitr
  swap; · iexact H
  ipureintro; rfl

/-! The pieces cover the buffers that are not kept -/

theorem cover_A_o14 (c : Dev nD) (t : Fin cfg0.N) (h0 : t.val % 16 = 0) (h1 : ¬t.val % 16 = 15) :
    ∀ y, ∃ p ∈ (lsA m c t h0 h1).o14, y ∈ p.1.set :=
  fun y => View.cover_of_tiledL (lsA m c t h0 h1).o14 S256x1024.size (by sl_kernel_rfl) y
theorem cover_A_o15 (c : Dev nD) (t : Fin cfg0.N) (h0 : t.val % 16 = 0) (h1 : ¬t.val % 16 = 15) :
    ∀ y, ∃ p ∈ (lsA m c t h0 h1).o15, y ∈ p.1.set :=
  fun y => View.cover_of_tiledBy (lsA m c t h0 h1).o15 ![128, 128] (by sl_kernel_rfl) y
theorem cover_A_o16 (c : Dev nD) (t : Fin cfg0.N) (h0 : t.val % 16 = 0) (h1 : ¬t.val % 16 = 15) :
    ∀ y, ∃ p ∈ (lsA m c t h0 h1).o16, y ∈ p.1.set :=
  fun y => View.cover_of_tiledBy (lsA m c t h0 h1).o16 ![1, 1024] (by sl_kernel_rfl) y
theorem cover_A_o20 (c : Dev nD) (t : Fin cfg0.N) (h0 : t.val % 16 = 0) (h1 : ¬t.val % 16 = 15) :
    ∀ y, ∃ p ∈ (lsA m c t h0 h1).o20, y ∈ p.1.set :=
  fun y => View.cover_of_tiledBy (lsA m c t h0 h1).o20 ![1, 128] (by sl_kernel_rfl) y
theorem cover_A_o21 (c : Dev nD) (t : Fin cfg0.N) (h0 : t.val % 16 = 0) (h1 : ¬t.val % 16 = 15) :
    ∀ y, ∃ p ∈ (lsA m c t h0 h1).o21, y ∈ p.1.set :=
  fun y => View.cover_of_tiledBy (lsA m c t h0 h1).o21 ![1, 128] (by sl_kernel_rfl) y
theorem cover_A_s0 (c : Dev nD) (t : Fin cfg0.N) (h0 : t.val % 16 = 0) (h1 : ¬t.val % 16 = 15) :
    ∀ y, ∃ p ∈ (lsA m c t h0 h1).s0, y ∈ p.1.set :=
  fun y => View.cover_of_tiledL (lsA m c t h0 h1).s0 S16x512.size (by sl_kernel_rfl) y
theorem cover_A_s1 (c : Dev nD) (t : Fin cfg0.N) (h0 : t.val % 16 = 0) (h1 : ¬t.val % 16 = 15) :
    ∀ y, ∃ p ∈ (lsA m c t h0 h1).s1, y ∈ p.1.set :=
  fun y => View.cover_of_tiledBy _ ![1, 128, 128] (by sl_kernel_rfl) y
theorem cover_A_s2 (c : Dev nD) (t : Fin cfg0.N) (h0 : t.val % 16 = 0) (h1 : ¬t.val % 16 = 15) :
    ∀ y, ∃ p ∈ (lsA m c t h0 h1).s2, y ∈ p.1.set :=
  fun y => View.cover_of_tiledBy _ ![1, 128, 128] (by sl_kernel_rfl) y
theorem cover_A_s3 (c : Dev nD) (t : Fin cfg0.N) (h0 : t.val % 16 = 0) (h1 : ¬t.val % 16 = 15) :
    ∀ y, ∃ p ∈ (lsA m c t h0 h1).s3, y ∈ p.1.set :=
  fun y => View.cover_of_tiledBy _ ![1, 128, 128] (by sl_kernel_rfl) y
theorem cover_B_o14 (c : Dev nD) (t : Fin cfg0.N) (h0 : ¬t.val % 16 = 0) (h1 : ¬t.val % 16 = 15) (s : St F) :
    ∀ y, ∃ p ∈ (lsB m c t h0 h1 s).o14, y ∈ p.1.set :=
  fun y => View.cover_of_tiledL (lsB m c t h0 h1 s).o14 S256x1024.size (by sl_kernel_rfl) y
theorem cover_B_o15 (c : Dev nD) (t : Fin cfg0.N) (h0 : ¬t.val % 16 = 0) (h1 : ¬t.val % 16 = 15) (s : St F) :
    ∀ y, ∃ p ∈ (lsB m c t h0 h1 s).o15, y ∈ p.1.set :=
  fun y => View.cover_of_tiledBy (lsB m c t h0 h1 s).o15 ![128, 128] (by sl_kernel_rfl) y
theorem cover_B_s0 (c : Dev nD) (t : Fin cfg0.N) (h0 : ¬t.val % 16 = 0) (h1 : ¬t.val % 16 = 15) (s : St F) :
    ∀ y, ∃ p ∈ (lsB m c t h0 h1 s).s0, y ∈ p.1.set :=
  fun y => View.cover_of_tiledL (lsB m c t h0 h1 s).s0 S16x512.size (by sl_kernel_rfl) y
theorem cover_B_s1 (c : Dev nD) (t : Fin cfg0.N) (h0 : ¬t.val % 16 = 0) (h1 : ¬t.val % 16 = 15) (s : St F) :
    ∀ y, ∃ p ∈ (lsB m c t h0 h1 s).s1, y ∈ p.1.set :=
  fun y => View.cover_of_tiledBy (lsB m c t h0 h1 s).s1 ![1, 128, 128] (by sl_kernel_rfl) y
theorem cover_B_s2 (c : Dev nD) (t : Fin cfg0.N) (h0 : ¬t.val % 16 = 0) (h1 : ¬t.val % 16 = 15) (s : St F) :
    ∀ y, ∃ p ∈ (lsB m c t h0 h1 s).s2, y ∈ p.1.set :=
  fun y => View.cover_of_tiledBy (lsB m c t h0 h1 s).s2 ![1, 128, 128] (by sl_kernel_rfl) y
theorem cover_B_s3 (c : Dev nD) (t : Fin cfg0.N) (h0 : ¬t.val % 16 = 0) (h1 : ¬t.val % 16 = 15) (s : St F) :
    ∀ y, ∃ p ∈ (lsB m c t h0 h1 s).s3, y ∈ p.1.set :=
  fun y => View.cover_of_tiledBy (lsB m c t h0 h1 s).s3 ![1, 128, 128] (by sl_kernel_rfl) y
theorem cover_C_o14 (c : Dev nD) (t : Fin cfg0.N) (h0 : ¬t.val % 16 = 0) (h1 : t.val % 16 = 15) (s : St F) :
    ∀ y, ∃ p ∈ (lsC m c t h0 h1 s).o14, y ∈ p.1.set :=
  fun y => View.cover_of_tiledL (lsC m c t h0 h1 s).o14 S256x1024.size (by sl_kernel_rfl) y
theorem cover_C_o15 (c : Dev nD) (t : Fin cfg0.N) (h0 : ¬t.val % 16 = 0) (h1 : t.val % 16 = 15) (s : St F) :
    ∀ y, ∃ p ∈ (lsC m c t h0 h1 s).o15, y ∈ p.1.set :=
  fun y => View.cover_of_tiledBy (lsC m c t h0 h1 s).o15 ![128, 128] (by sl_kernel_rfl) y
theorem cover_C_o17 (c : Dev nD) (t : Fin cfg0.N) (h0 : ¬t.val % 16 = 0) (h1 : t.val % 16 = 15) (s : St F) :
    ∀ y, ∃ p ∈ (lsC m c t h0 h1 s).o17, y ∈ p.1.set :=
  fun y => View.cover_of_tiledL (lsC m c t h0 h1 s).o17 S4x128x128.size (by sl_kernel_rfl) y
theorem cover_C_o18 (c : Dev nD) (t : Fin cfg0.N) (h0 : ¬t.val % 16 = 0) (h1 : t.val % 16 = 15) (s : St F) :
    ∀ y, ∃ p ∈ (lsC m c t h0 h1 s).o18, y ∈ p.1.set :=
  fun y => View.cover_of_tiledL (lsC m c t h0 h1 s).o18 S4x128x128.size (by sl_kernel_rfl) y
theorem cover_C_o19 (c : Dev nD) (t : Fin cfg0.N) (h0 : ¬t.val % 16 = 0) (h1 : t.val % 16 = 15) (s : St F) :
    ∀ y, ∃ p ∈ (lsC m c t h0 h1 s).o19, y ∈ p.1.set :=
  fun y => View.cover_of_tiledBy (lsC m c t h0 h1 s).o19 ![1, 128] (by sl_kernel_rfl) y
theorem cover_C_s0 (c : Dev nD) (t : Fin cfg0.N) (h0 : ¬t.val % 16 = 0) (h1 : t.val % 16 = 15) (s : St F) :
    ∀ y, ∃ p ∈ (lsC m c t h0 h1 s).s0, y ∈ p.1.set :=
  fun y => View.cover_of_tiledL (lsC m c t h0 h1 s).s0 S16x512.size (by sl_kernel_rfl) y
theorem cover_C_s1 (c : Dev nD) (t : Fin cfg0.N) (h0 : ¬t.val % 16 = 0) (h1 : t.val % 16 = 15) (s : St F) :
    ∀ y, ∃ p ∈ (lsC m c t h0 h1 s).s1, y ∈ p.1.set :=
  fun y => View.cover_of_tiledBy (lsC m c t h0 h1 s).s1 ![1, 128, 128] (by sl_kernel_rfl) y
theorem cover_C_s2 (c : Dev nD) (t : Fin cfg0.N) (h0 : ¬t.val % 16 = 0) (h1 : t.val % 16 = 15) (s : St F) :
    ∀ y, ∃ p ∈ (lsC m c t h0 h1 s).s2, y ∈ p.1.set :=
  fun y => View.cover_of_tiledBy (lsC m c t h0 h1 s).s2 ![1, 128, 128] (by sl_kernel_rfl) y
theorem cover_C_s3 (c : Dev nD) (t : Fin cfg0.N) (h0 : ¬t.val % 16 = 0) (h1 : t.val % 16 = 15) (s : St F) :
    ∀ y, ∃ p ∈ (lsC m c t h0 h1 s).s3, y ∈ p.1.set :=
  fun y => View.cover_of_tiledBy (lsC m c t h0 h1 s).s3 ![1, 128, 128] (by sl_kernel_rfl) y

set_option maxHeartbeats 2000000 in
/-- The body at a point of case A. -/
theorem sound_A (c : Dev nD) (t : Fin cfg0.N) (h0 : t.val % 16 = 0) (h1 : ¬t.val % 16 = 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = carried c (stAt m c t.val t.isLt) from rfl, PhiS_castSucc]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 6 t (liveAt0_6 t), after0_6]
  rw [leaves_live m c 7 t (liveAt0_7 t), after0_7]
  rw [leaves_live m c 8 t (liveAt0_8 t), after0_8]
  rw [leaves_live m c 9 t (liveAt0_9 t), after0_9]
  rw [leaves_live m c 10 t (liveAt0_10 t), after0_10]
  rw [leaves_live m c 11 t (liveAt0_11 t), after0_11]
  rw [leaves_live m c 12 t (liveAt0_12 t), after0_12]
  rw [leaves_live m c 13 t (liveAt0_13 t), after0_13]
  rw [leaves_live m c 14 t (liveAt0_14 t), after0_14]
  rw [leaves_live m c 15 t (liveAt0_15 t), after0_15]
  rw [leaves_live m c 16 t (liveAt0_16 t), after0_16]
  rw [leaves_live m c 20 t (liveAt0_20 t), after0_20]
  rw [leaves_live m c 21 t (liveAt0_21 t), after0_21]
  rw [Dat.leavesExact_idle (dats m 0 c) 17 t (idleAt0_17_A t ((hcond0_0 t).mpr h0) (fun h => h1 ((hcond0_1 t).mp h))) (noFlush0_17_A t ((hcond0_0 t).mpr h0) (fun h => h1 ((hcond0_1 t).mp h)))]
  rw [Dat.leavesExact_idle (dats m 0 c) 18 t (idleAt0_18_A t ((hcond0_0 t).mpr h0) (fun h => h1 ((hcond0_1 t).mp h))) (noFlush0_18_A t ((hcond0_0 t).mpr h0) (fun h => h1 ((hcond0_1 t).mp h)))]
  rw [Dat.leavesExact_idle (dats m 0 c) 19 t (idleAt0_19_A t ((hcond0_0 t).mpr h0) (fun h => h1 ((hcond0_1 t).mp h))) (noFlush0_19_A t ((hcond0_0 t).mpr h0) (fun h => h1 ((hcond0_1 t).mp h)))]
  rw [show PhiS m c t.val (Nat.le_of_lt t.isLt) = Pipeline.ΦA spec0 c from by
    obtain ⟨n, hn⟩ := t; cases n with
    | zero => rfl
    | succ n => exact absurd h0 (by simp only at hN ⊢; omega), PhiA0_eq]
  rw [stAt_A m c t h0 h1]
  unfold carried stA; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((runA m c t h0 h1).2.2.2.2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexact H17
  isplitl [H18]; · iexact H18
  isplitl [H19]; · iexact H19
  isplitl [H20]; · iexists _; iexact H20
  isplitl [H21]; · iexists _; iexact H21
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, HS0, HS1, HS2, HS3⟩
  isplitl [HS0 HS1 HS2 HS3 Hg]
  · isplitl [HS0 HS1 HS2 HS3]
    · isplitl [HS0]; · iapply (owns_canon c _ _ (cover_A_s0 m c t h0 h1)); iexact HS0
      isplitl [HS1]; · iapply (owns_canon c _ _ (cover_A_s1 m c t h0 h1)); iexact HS1
      isplitl [HS2]; · iapply (owns_canon c _ _ (cover_A_s2 m c t h0 h1)); iexact HS2
      iapply (owns_canon c _ _ (cover_A_s3 m c t h0 h1)); iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (owns_canon c _ _ (cover_A_o14 m c t h0 h1)); iexact H14
  isplitl [H15]; · iapply (owns_canon c _ _ (cover_A_o15 m c t h0 h1)); iexact H15
  isplitl [H16]; · iapply (owns_canon c _ _ (cover_A_o16 m c t h0 h1)); iexact H16
  isplitl [H17]; · iexists _; iexact H17
  isplitl [H18]; · iexists _; iexact H18
  isplitl [H19]; · iexists _; iexact H19
  isplitl [H20]; · iapply (owns_canon c _ _ (cover_A_o20 m c t h0 h1)); iexact H20
  iapply (owns_canon c _ _ (cover_A_o21 m c t h0 h1)); iexact H21

set_option maxHeartbeats 2000000 in
/-- The body at a point of case B. -/
theorem sound_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4, before0_5, before0_6, before0_7, before0_8, before0_9, before0_10, before0_11, before0_12, before0_13, before0_16 m c t h0, before0_20 m c t h0, before0_21 m c t h0]
  rw [show (dats m 0 c).owesAt () t.succ = (dats m 0 c).owesAt () t.castSucc from rfl]
  rw [show (dats m 0 c).Φ t.succ = carried c (stAt m c t.val t.isLt) from rfl, PhiS_castSucc]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 6 t (liveAt0_6 t), after0_6]
  rw [leaves_live m c 7 t (liveAt0_7 t), after0_7]
  rw [leaves_live m c 8 t (liveAt0_8 t), after0_8]
  rw [leaves_live m c 9 t (liveAt0_9 t), after0_9]
  rw [leaves_live m c 10 t (liveAt0_10 t), after0_10]
  rw [leaves_live m c 11 t (liveAt0_11 t), after0_11]
  rw [leaves_live m c 12 t (liveAt0_12 t), after0_12]
  rw [leaves_live m c 13 t (liveAt0_13 t), after0_13]
  rw [leaves_live m c 14 t (liveAt0_14 t), after0_14]
  rw [leaves_live m c 15 t (liveAt0_15 t), after0_15]
  rw [leaves_live m c 16 t (liveAt0_16 t), after0_16]
  rw [leaves_live m c 20 t (liveAt0_20 t), after0_20]
  rw [leaves_live m c 21 t (liveAt0_21 t), after0_21]
  rw [Dat.leavesExact_idle (dats m 0 c) 17 t (idleAt0_17_B t (fun h => h0 ((hcond0_0 t).mp h)) (fun h => h1 ((hcond0_1 t).mp h))) (noFlush0_17_B t (fun h => h0 ((hcond0_0 t).mp h)) (fun h => h1 ((hcond0_1 t).mp h)))]
  rw [Dat.leavesExact_idle (dats m 0 c) 18 t (idleAt0_18_B t (fun h => h0 ((hcond0_0 t).mp h)) (fun h => h1 ((hcond0_1 t).mp h))) (noFlush0_18_B t (fun h => h0 ((hcond0_0 t).mp h)) (fun h => h1 ((hcond0_1 t).mp h)))]
  rw [Dat.leavesExact_idle (dats m 0 c) 19 t (idleAt0_19_B t (fun h => h0 ((hcond0_0 t).mp h)) (fun h => h1 ((hcond0_1 t).mp h))) (noFlush0_19_B t (fun h => h0 ((hcond0_0 t).mp h)) (fun h => h1 ((hcond0_1 t).mp h)))]
  rw [PhiS_pos m c _ _ (by omega)]
  rw [stAt_B m c t h0 h1]
  unfold carried stB; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((runB m c t h0 h1 (stPrev m c t)).2.2.2.2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexact H16
  isplitl [H17]; · iexact H17
  isplitl [H18]; · iexact H18
  isplitl [H19]; · iexact H19
  isplitl [H20]; · iexact H20
  isplitl [H21]; · iexact H21
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, HS0, HS1, HS2, HS3⟩
  isplitl [HS0 HS1 HS2 HS3 Hg]
  · isplitl [HS0 HS1 HS2 HS3]
    · isplitl [HS0]; · iapply (owns_canon c _ _ (cover_B_s0 m c t h0 h1 _)); iexact HS0
      isplitl [HS1]; · iapply (owns_canon c _ _ (cover_B_s1 m c t h0 h1 _)); iexact HS1
      isplitl [HS2]; · iapply (owns_canon c _ _ (cover_B_s2 m c t h0 h1 _)); iexact HS2
      iapply (owns_canon c _ _ (cover_B_s3 m c t h0 h1 _)); iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (owns_canon c _ _ (cover_B_o14 m c t h0 h1 _)); iexact H14
  isplitl [H15]; · iapply (owns_canon c _ _ (cover_B_o15 m c t h0 h1 _)); iexact H15
  isplitl [H16]; · iapply (owns_over c _ _ _); iexact H16
  isplitl [H17]; · iexists _; iexact H17
  isplitl [H18]; · iexists _; iexact H18
  isplitl [H19]; · iexists _; iexact H19
  isplitl [H20]; · iapply (owns_over c _ _ _); iexact H20
  iapply (owns_over c _ _ _); iexact H21

set_option maxHeartbeats 2000000 in
/-- The body at a point of case C. -/
theorem sound_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4, before0_5, before0_6, before0_7, before0_8, before0_9, before0_10, before0_11, before0_12, before0_13, before0_16 m c t h0, before0_20 m c t h0, before0_21 m c t h0]
  rw [show (dats m 0 c).owesAt () t.succ = (dats m 0 c).owesAt () t.castSucc from rfl]
  rw [show (dats m 0 c).Φ t.succ = carried c (stAt m c t.val t.isLt) from rfl, PhiS_castSucc]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 6 t (liveAt0_6 t), after0_6]
  rw [leaves_live m c 7 t (liveAt0_7 t), after0_7]
  rw [leaves_live m c 8 t (liveAt0_8 t), after0_8]
  rw [leaves_live m c 9 t (liveAt0_9 t), after0_9]
  rw [leaves_live m c 10 t (liveAt0_10 t), after0_10]
  rw [leaves_live m c 11 t (liveAt0_11 t), after0_11]
  rw [leaves_live m c 12 t (liveAt0_12 t), after0_12]
  rw [leaves_live m c 13 t (liveAt0_13 t), after0_13]
  rw [leaves_live m c 14 t (liveAt0_14 t), after0_14]
  rw [leaves_live m c 15 t (liveAt0_15 t), after0_15]
  rw [leaves_live m c 16 t (liveAt0_16 t), after0_16]
  rw [leaves_live m c 17 t (liveAt0_17_C t (fun h => h0 ((hcond0_0 t).mp h)) ((hcond0_1 t).mpr h1)), after0_17]
  rw [leaves_live m c 18 t (liveAt0_18_C t (fun h => h0 ((hcond0_0 t).mp h)) ((hcond0_1 t).mpr h1)), after0_18]
  rw [leaves_live m c 19 t (liveAt0_19_C t (fun h => h0 ((hcond0_0 t).mp h)) ((hcond0_1 t).mpr h1)), after0_19]
  rw [leaves_live m c 20 t (liveAt0_20 t), after0_20]
  rw [leaves_live m c 21 t (liveAt0_21 t), after0_21]
  rw [PhiS_pos m c _ _ (by omega)]
  rw [stAt_C m c t h0 h1]
  unfold carried stC; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((runC m c t h0 h1 (stPrev m c t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexact H16
  isplitl [H17]; · iexists _; iexact H17
  isplitl [H18]; · iexists _; iexact H18
  isplitl [H19]; · iexists _; iexact H19
  isplitl [H20]; · iexact H20
  isplitl [H21]; · iexact H21
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, HS0, HS1, HS2, HS3⟩
  isplitl [HS0 HS1 HS2 HS3 Hg]
  · isplitl [HS0 HS1 HS2 HS3]
    · isplitl [HS0]; · iapply (owns_canon c _ _ (cover_C_s0 m c t h0 h1 _)); iexact HS0
      isplitl [HS1]; · iapply (owns_canon c _ _ (cover_C_s1 m c t h0 h1 _)); iexact HS1
      isplitl [HS2]; · iapply (owns_canon c _ _ (cover_C_s2 m c t h0 h1 _)); iexact HS2
      iapply (owns_canon c _ _ (cover_C_s3 m c t h0 h1 _)); iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (owns_canon c _ _ (cover_C_o14 m c t h0 h1 _)); iexact H14
  isplitl [H15]; · iapply (owns_canon c _ _ (cover_C_o15 m c t h0 h1 _)); iexact H15
  isplitl [H16]; · iapply (owns_over c _ _ _); iexact H16
  isplitl [H17]; · iapply (owns_canon c _ _ (cover_C_o17 m c t h0 h1 _)); iexact H17
  isplitl [H18]; · iapply (owns_canon c _ _ (cover_C_o18 m c t h0 h1 _)); iexact H18
  isplitl [H19]; · iapply (owns_canon c _ _ (cover_C_o19 m c t h0 h1 _)); iexact H19
  isplitl [H20]; · iapply (owns_over c _ _ _); iexact H20
  iapply (owns_over c _ _ _); iexact H21

set_option maxHeartbeats 2000000 in
/-- The body at any point, by the case of its conditionals. -/
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  by_cases h0 : t.val % 16 = 0
  · exact sound_A m c t h0 (by omega)
  by_cases h1 : t.val % 16 = 15
  · exact sound_C m c t h0 h1
  · exact sound_B m c t h0 h1

theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

/-- After the last point the contents of the carried scratch are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA0_eq]
  unfold carried
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- The launch: every array at what the proof data computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end MixFrame

end
-- ==== Proof.MixWord.lean ====
/- The frame of the mixer's backward call, read on words.  The ideal program differs from the program that is compiled in
   two constants that it calls by name.  Read on words, each name standing for its literal, the two are one program, and
   the frame proved for every reading of the ideal program is the frame of the other. -/
module

public import proofs.«01_k».proof.Proof.MixFrame
public import proofs.«01_k».proof.Proof.Gen.MixBwd
public import proofs.«01_k».proof.Defs

@[expose] public section

noncomputable section

namespace MixWord

open Idealize.ShloMosaic Idealize.SL.Sem

/-- A named constant read on words: the literal it replaced. -/
local instance literal : Named Bits where
  named _ _ {φ} bits := Scalar.ofBits φ bits

/-- The frame of the word program. -/
theorem frame : Cert.quiescent_MixBwd := by
  have h := fun m ρ (_ : True) => MixFrame.frame (F := Bits) m ρ
  refine cast ?_ h
  sl_kernel_rfl

end MixWord
-- ==== Proof.Lift.lean ====
module

public import Idealize.ShloMosaic.Lib.Pointwise
public import Idealize.ShloMosaic.Lib.IdealHost

@[expose] public section

noncomputable section

/-! Real numbers inside the extended reals: each operation of an idealized program, read at real operands, is the real operation. -/

namespace Lift

open Idealize.ShloMosaic

theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe (a b : ℝ) (h : b ≠ 0) : Ideal.div (a : EReal) (b : EReal) = ((a / b : ℝ) : EReal) := by
  have h' : (b : EReal) ≠ 0 := by exact_mod_cast h
  rw [Ideal.div, if_neg h', ← EReal.coe_inv, ← EReal.coe_mul, div_eq_mul_inv]

theorem rsqrt_coe (a : ℝ) (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg h.le.not_gt, if_neg h.ne']

theorem exp_coe (a : ℝ) : Ideal.exp (a : EReal) = ((Real.exp a : ℝ) : EReal) := rfl

theorem div_1024 (a : ℝ) : Ideal.div (a : EReal) ((1024 : ℝ) : EReal) = ((a / 1024 : ℝ) : EReal) := div_coe a 1024 (by norm_num)

/-- The number that is added under the root of each norm. -/
def eps : ℝ := 8796093 / 8796093022208

theorem eps_pos : 0 < eps := by unfold eps; norm_num

theorem ofBits_eps : Ideal.ofBits .f32 0x358637BD#32 = (eps : EReal) := by
  unfold eps; simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul, -EReal.coe_neg]; norm_num
theorem ofBits_half : Ideal.ofBits .f32 0x3F000000#32 = ((1 / 2 : ℝ) : EReal) := by
  simp [Ideal.ofBits, Ideal.ieee, -EReal.coe_mul, -EReal.coe_neg]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_two : Ideal.ofBits .f32 0x40000000#32 = ((2 : ℝ) : EReal) := by
  simp [Ideal.ofBits, Ideal.ieee, -EReal.coe_mul, -EReal.coe_neg]; norm_num
theorem ofBits_recip : Ideal.ofBits .f32 0x3A800000#32 = ((1 / 1024 : ℝ) : EReal) := by
  simp [Ideal.ofBits, Ideal.ieee, -EReal.coe_mul, -EReal.coe_neg]; norm_num

variable {n : ℕ}

/-- A host sum whose two summed axes have one element each reads that element: the outer axes … -/
theorem reduce_units_02 (h : (⟨3, ![1, n, 1]⟩ : Shape).ReducesTo [0, 2] ⟨1, ![n]⟩) (v : (⟨3, ![1, n, 1]⟩ : Shape).Idx → EReal)
    (init : EReal) (j : Fin n) : Ideal.hostReduceAdd h v init (ix1 j) = init + v (ix3 0 j 0) := by
  refine congrArg (init + ·) (Finset.sum_eq_single_of_mem _ (Finset.mem_filter.2 ⟨Finset.mem_univ _, ?_⟩) fun i hi hne => absurd ?_ hne)
  · funext b; fin_cases b; rfl
  · have e : (i 1).val = j.val := congrArg Fin.val (congrFun (Finset.mem_filter.1 hi).2 0)
    funext a
    fin_cases a
    · exact Subsingleton.elim (α := Fin 1) _ _
    · exact Fin.ext e
    · exact Subsingleton.elim (α := Fin 1) _ _

/-- … and the first two. -/
theorem reduce_units_01 (h : (⟨3, ![1, 1, n]⟩ : Shape).ReducesTo [0, 1] ⟨1, ![n]⟩) (v : (⟨3, ![1, 1, n]⟩ : Shape).Idx → EReal)
    (init : EReal) (j : Fin n) : Ideal.hostReduceAdd h v init (ix1 j) = init + v (ix3 0 0 j) := by
  refine congrArg (init + ·) (Finset.sum_eq_single_of_mem _ (Finset.mem_filter.2 ⟨Finset.mem_univ _, ?_⟩) fun i hi hne => absurd ?_ hne)
  · funext b; fin_cases b; rfl
  · have e : (i 2).val = j.val := congrArg Fin.val (congrFun (Finset.mem_filter.1 hi).2 0)
    funext a
    fin_cases a
    · exact Subsingleton.elim (α := Fin 1) _ _
    · exact Subsingleton.elim (α := Fin 1) _ _
    · exact Fin.ext e

end Lift

end
-- ==== Proof.Finite.lean ====
module

public import proofs.«01_k».proof.Pre_finite
public import proofs.«01_k».proof.Proof.Lift
public import Idealize.ShloMosaic.Lib.ReduceAll
public import Idealize.ShloMosaic.Lib.Pointwise

@[expose] public section

noncomputable section

/-! The precondition read: every element of every argument is a real number. -/

namespace Finite

open Idealize.ShloMosaic Idealize.ShloMosaic.TcCoe Idealize.SL.Sem

theorem ofBits_inf : Ideal.ofBits .f32 0x7F800000#32 = ⊤ := by
  simp [Ideal.ofBits, Ideal.ieee]

/-- A value of magnitude below infinity is a real number. -/
theorem real_of (x : EReal) (h : FloatOps.cmpf (F := Ideal) (φ := .f32) .olt (FloatOps.absf (F := Ideal) (φ := .f32) x) (Ideal.ofBits .f32 0x7F800000#32) = 1#1) :
    x = ((x.toReal : ℝ) : EReal) := by
  rw [ofBits_inf] at h
  induction x using EReal.rec with
  | bot => exact absurd h (by simp [FloatOps.cmpf, FloatOps.absf, Ideal.cmp])
  | coe r => rfl
  | top => exact absurd h (by simp [FloatOps.cmpf, FloatOps.absf, Ideal.cmp])

theorem facts : Cert.Pre_finite.Facts := by
  constructor <;> decide

instance : Subsingleton Cert.Pre_finite.S_.Idx := ⟨fun a b => funext fun i => i.elim0⟩

/-- One argument's line of the precondition. -/
theorem all_real {s : Shape} {axes : List (Fin s.rank)} (a : FVec Ideal s .f32) (hb : Cert.Pre_finite.S_.BroadcastsInDim s (![] : Fin 0 → Fin s.rank))
    (h : s.ReducesTo axes Cert.Pre_finite.S_) (hu : 0 < Cert.Pre_finite.S_.numel) (init : Cert.Pre_finite.S_.Idx → BitVec 1) (j)
    (e : Host.reduce IntOp.andi (cmpf .olt (Host.absf a) (broadcastInDim s ![] hb (constant Cert.Pre_finite.S_ .f32 0x7F800000#32))) init h hu j = 1#1)
    (i : s.Idx) : a i = ((EReal.toReal (a i) : ℝ) : EReal) :=
  real_of (a i) (Host.reduce_andi_all _ init h hu j e i)

theorem and_one (a b : BitVec 1) (h : IntOp.andi a b = 1#1) : a = 1#1 ∧ b = 1#1 := by
  revert a b; decide

end Finite

end
-- ==== Proof.FwdSpec.lean ====
module

public import proofs.«01_k».proof.Proof.Lift

@[expose] public section

noncomputable section

/-! What the channel mixer's forward call and its loss head compute, over the real numbers: one definition per quantity, in time order. -/

namespace Fwd

open Lift

/-- The arguments, as real arrays. -/
structure Args where
  x : Fin 8192 → Fin 1024 → ℝ
  sh : Fin 1024 → ℝ
  sc : Fin 1024 → ℝ
  g : Fin 1024 → ℝ
  pre : Fin 1024 → ℝ
  post : Fin 1024 → ℝ
  wu : Fin 1024 → Fin 5632 → ℝ
  cw : Fin 3 → Fin 5632 → ℝ
  cb : Fin 5632 → ℝ
  wd : Fin 2816 → Fin 1024 → ℝ
  tgt : Fin 8192 → Fin 1024 → ℝ

/-- The reciprocal root of a row's mean square. -/
def rms (v : Fin 1024 → ℝ) : ℝ := (Real.sqrt ((∑ k, v k * v k) / 1024 + eps))⁻¹

theorem ms_pos (v : Fin 1024 → ℝ) : 0 < (∑ k, v k * v k) / 1024 + eps :=
  add_pos_of_nonneg_of_pos (div_nonneg (Finset.sum_nonneg fun k _ => mul_self_nonneg (v k)) (by norm_num)) eps_pos

theorem rsqrt_ms (v : Fin 1024 → ℝ) :
    Idealize.ShloMosaic.Ideal.rsqrt ((((∑ k, v k * v k) / 1024 + eps : ℝ)) : EReal) = ((rms v : ℝ) : EReal) := rsqrt_coe _ (ms_pos v)

/-- The logistic function. -/
def sg (z : ℝ) : ℝ := 1 / (1 + Real.exp (-z))

theorem div_sg (z : ℝ) : Idealize.ShloMosaic.Ideal.div ((1 : ℝ) : EReal) ((1 + Real.exp (-z) : ℝ) : EReal) = ((sg z : ℝ) : EReal) :=
  Lift.div_coe _ _ (by positivity)

variable (A : Args)

def hh (s : Fin 8192) (k : Fin 1024) : ℝ := A.x s k * rms (A.x s) * (A.pre k * (1 + A.sc k)) + A.sh k

def up (s : Fin 8192) (n : Fin 5632) : ℝ := ∑ k, hh A s k * A.wu k n

/-- `up`, `d` steps back in time; zero before the first step. -/
def back (d : ℕ) (s : Fin 8192) (n : Fin 5632) : ℝ := if d ≤ s.val then up A ⟨s.val - d, by omega⟩ n else 0

def y (s : Fin 8192) (n : Fin 5632) : ℝ := A.cb n + back A 2 s n * A.cw 0 n + back A 1 s n * A.cw 1 n + up A s n * A.cw 2 n

def gate (s : Fin 8192) (j : Fin 2816) : ℝ := y A s ⟨j.val, by omega⟩
def val (s : Fin 8192) (j : Fin 2816) : ℝ := y A s ⟨2816 + j.val, by omega⟩

def act (s : Fin 8192) (j : Fin 2816) : ℝ := gate A s j * sg (gate A s j) * val A s j
/-- What multiplies the gradient of `act` in the gradient of the gate … -/
def dgate (s : Fin 8192) (j : Fin 2816) : ℝ :=
  val A s j * (sg (gate A s j) + gate A s j * sg (gate A s j) * (1 - sg (gate A s j)))
/-- … and in the gradient of the value. -/
def dval (s : Fin 8192) (j : Fin 2816) : ℝ := gate A s j * sg (gate A s j)

def f (s : Fin 8192) (c : Fin 1024) : ℝ := ∑ j, act A s j * A.wd j c
def fhat (s : Fin 8192) (c : Fin 1024) : ℝ := f A s c * rms (f A s)
def e (s : Fin 8192) (c : Fin 1024) : ℝ := A.x s c + fhat A s c * (A.g c * A.post c) - A.tgt s c
def dy (s : Fin 8192) (c : Fin 1024) : ℝ := e A s c * (1 / 1024)
def dfhat (s : Fin 8192) (c : Fin 1024) : ℝ := dy A s c * (A.g c * A.post c)
def df (s : Fin 8192) (c : Fin 1024) : ℝ :=
  rms (f A s) * (dfhat A s c - fhat A s c * ((∑ k, dfhat A s k * fhat A s k) / 1024))

/-- The sums over all steps: squared errors, and the last norm's gain as seen by the gate and by the gain itself. -/
def sums (r : Fin 8) (c : Fin 1024) : ℝ :=
  if r.val = 0 then ∑ s, e A s c * e A s c
  else if r.val = 1 then (∑ s, dy A s c * fhat A s c) * A.post c
  else if r.val = 2 then (∑ s, dy A s c * fhat A s c) * A.g c else 0

/-- The time of row `p` of a tile: rows are laid out eight apart. -/
def time (p : Fin 8192) : Fin 8192 := ⟨p.val / 256 * 256 + (p.val % 8) * 32 + p.val % 256 / 8, by omega⟩

end Fwd

end
-- ==== Proof.FwdTile.lean ====
module

public import proofs.«01_k».proof.Proof.FwdSpec
public import proofs.«01_k».proof.Proof.Gen.FfnFwdIdeal.Skeleton
public import Idealize.ShloMosaic.Lib.Pipeline.ValueKit
public import Idealize.ShloMosaic.Lib.Pointwise

@[expose] public section

set_option maxRecDepth 16384

noncomputable section

/-! One tile of the kernel: what the vector expressions of its body compute, on blocks that hold the real quantities of `FwdSpec`. The body treats its columns in
chunks (three of 768, one of 512, each for the gate and for the value) with the same text every time; that text is named once per width here. -/

namespace Fwd.Ker

open Idealize.ShloMosaic Idealize.ShloMosaic.TcCoe Idealize.SL.Sem
open Cert.FfnFwdIdeal Cert.FfnFwdIdeal.Gen Lift

variable {A : Args}

/-- The step held by row `p` of tile `t`. -/
def tm (t : Fin 32) (p : Fin 256) : Fin 8192 := ⟨256 * t.val + (p.val % 8) * 32 + p.val / 8, by omega⟩

theorem tm_val (t : Fin 32) (p : Fin 256) : (tm t p).val = 256 * t.val + (p.val % 8) * 32 + p.val / 8 := rfl

theorem back_of_lt {d : ℕ} {s : Fin 8192} (h : s.val < d) (n : Fin 5632) : back A d s n = 0 := if_neg (by omega)

theorem back_eq {d : ℕ} {s s' : Fin 8192} (h : s.val = s'.val + d) (n : Fin 5632) : back A d s n = up A s' n := by
  unfold back; rw [if_pos (by omega)]; congr 1; exact Fin.ext (by simp; omega)

/-- A row mask of eight: the first row, or another. -/
theorem first_row {α : Type} (q : ℕ) (h : q < 8) (a b : α) :
    Scalar.select (IntOp.cmpi CmpIPredicate.eq (BitVec.ofNat 32 q) 0#32) a b = if q = 0 then a else b := by
  interval_cases q <;> rfl

/-- A column of the tile moved one step back: eight rows up, the first eight rows from the last eight and the kept row. -/
theorem lag1 (t : Fin 32) (p : Fin 256) (n : Fin 5632) (K8 : Fin 8 → EReal) (U : Fin 256 → EReal)
    (hU : ∀ p, U p = ((up A (tm t p) n : ℝ) : EReal)) (h8 : K8 7 = ((back A 1 (tm t 0) n : ℝ) : EReal)) :
    (if h : p.val < 8 then
        Scalar.select (IntOp.cmpi CmpIPredicate.eq (BitVec.ofNat 32 p.val) 0#32) (K8 ⟨(p.val + 8 - 1) % 8, by omega⟩) (U ⟨248 + (p.val + 8 - 1) % 8, by omega⟩)
      else U ⟨p.val - 8, by omega⟩) = ((back A 1 (tm t p) n : ℝ) : EReal) := by
  by_cases h : p.val < 8
  · rw [dif_pos h, first_row _ h]
    by_cases hp : p.val = 0
    · obtain rfl : p = 0 := Fin.ext hp
      rw [if_pos hp]; exact h8
    · rw [if_neg hp, hU, back_eq]
      simp only [tm_val]; omega
  · rw [dif_neg h, hU, back_eq]
    simp only [tm_val]; omega

/-- … and two steps back. -/
theorem lag2 (t : Fin 32) (p : Fin 256) (n : Fin 5632) (K8 K0 : Fin 8 → EReal) (U : Fin 256 → EReal)
    (hU : ∀ p, U p = ((up A (tm t p) n : ℝ) : EReal)) (h8 : K8 7 = ((back A 1 (tm t 0) n : ℝ) : EReal)) (h0 : K0 7 = ((back A 2 (tm t 0) n : ℝ) : EReal)) :
    (if h : p.val < 8 then
        Scalar.select (IntOp.cmpi CmpIPredicate.eq (BitVec.ofNat 32 p.val) 0#32) (K0 ⟨(p.val + 8 - 1) % 8, by omega⟩) (U ⟨240 + (p.val + 8 - 1) % 8, by omega⟩)
      else if h : p.val - 8 < 8 then
        Scalar.select (IntOp.cmpi CmpIPredicate.eq (BitVec.ofNat 32 (p.val - 8)) 0#32) (K8 ⟨(p.val - 8 + 8 - 1) % 8, by omega⟩)
          (U ⟨248 + (p.val - 8 + 8 - 1) % 8, by omega⟩)
      else U ⟨p.val - 8 - 8, by omega⟩) = ((back A 2 (tm t p) n : ℝ) : EReal) := by
  by_cases h : p.val < 8
  · rw [dif_pos h, first_row _ h]
    by_cases hp : p.val = 0
    · obtain rfl : p = 0 := Fin.ext hp
      rw [if_pos hp]; exact h0
    · rw [if_neg hp, hU, back_eq]
      simp only [tm_val]; omega
  · rw [dif_neg h]
    by_cases h' : p.val - 8 < 8
    · rw [dif_pos h', first_row _ h']
      by_cases hp : p.val - 8 = 0
      · rw [if_pos hp]
        refine (congrArg K8 (Fin.ext (by simp [hp]))).trans (h8.trans (congrArg _ ?_))
        unfold back
        have e : (tm t p).val = (tm t 0).val + 1 := by simp only [tm_val]; omega
        by_cases h1 : 1 ≤ (tm t 0).val
        · rw [if_pos h1, if_pos (by omega)]; congr 1; exact Fin.ext (by simp; omega)
        · rw [if_neg h1, if_neg (by omega)]
      · rw [if_neg hp, hU, back_eq]
        simp only [tm_val]; omega
    · rw [dif_neg h', hU, back_eq]
      simp only [tm_val]; omega

/-! ## Width 768 -/

/-- The convolution of a chunk: `K8`, `K0` are the rows kept from the tile before. -/
def Y7 (U : FVec Ideal S256x768 .f32) (K8 K0 : Vec Ideal S8x768 .f32) (c3 c0 c1 c2 : Vec Ideal S1x768 .f32) : FVec Ideal S256x768 .f32 :=
  k0_pay22 U k0_pay11 (k0_pay19 U) (k0_pay20 U k0_pay11 K8) (k0_pay21 K0) 1#32 c3 c0 c1 c2

theorem u7_at (t : Fin 32) (o : ℕ) (ho : o + 768 ≤ 5632) {H : FVec Ideal S256x1024 .bf16} {W : Vec Ideal S1024x768 .bf16}
    (hH : ∀ (p : Fin 256) (k : Fin 1024), H (ix2 p k) = ((hh A (tm t p) k : ℝ) : EReal))
    (hW : ∀ (k : Fin 1024) (j : Fin 768), W (ix2 k j) = ((A.wu k ⟨o + j.val, by omega⟩ : ℝ) : EReal)) (p : Fin 256) (j : Fin 768) :
    k0_pay7 H W (ix2 p j) = ((up A (tm t p) ⟨o + j.val, by omega⟩ : ℝ) : EReal) := by
  pointwise [k0_pay7, k0_pay6]
  simp only [hH, hW, ← EReal.coe_mul, sum_coe]
  rfl

theorem y7_at (t : Fin 32) (o : ℕ) (ho : o + 768 ≤ 5632) {U : FVec Ideal S256x768 .f32} {K8 K0 : Vec Ideal S8x768 .f32} {c3 c0 c1 c2 : Vec Ideal S1x768 .f32}
    (hU : ∀ (p : Fin 256) (j : Fin 768), U (ix2 p j) = ((up A (tm t p) ⟨o + j.val, by omega⟩ : ℝ) : EReal))
    (h8 : ∀ j : Fin 768, K8 (ix2 7 j) = ((back A 1 (tm t 0) ⟨o + j.val, by omega⟩ : ℝ) : EReal))
    (h0 : ∀ j : Fin 768, K0 (ix2 7 j) = ((back A 2 (tm t 0) ⟨o + j.val, by omega⟩ : ℝ) : EReal))
    (hc3 : ∀ j : Fin 768, c3 (ix2 0 j) = ((A.cb ⟨o + j.val, by omega⟩ : ℝ) : EReal))
    (hc0 : ∀ j : Fin 768, c0 (ix2 0 j) = ((A.cw 0 ⟨o + j.val, by omega⟩ : ℝ) : EReal))
    (hc1 : ∀ j : Fin 768, c1 (ix2 0 j) = ((A.cw 1 ⟨o + j.val, by omega⟩ : ℝ) : EReal))
    (hc2 : ∀ j : Fin 768, c2 (ix2 0 j) = ((A.cw 2 ⟨o + j.val, by omega⟩ : ℝ) : EReal)) (p : Fin 256) (j : Fin 768) :
    Y7 U K8 K0 c3 c0 c1 c2 (ix2 p j) = ((y A (tm t p) ⟨o + j.val, by omega⟩ : ℝ) : EReal) := by
  pointwise [Y7, k0_pay22, k0_pay11, k0_pay19, k0_pay20, k0_pay21]
  refine (congrArg₂ (· + ·) (congrArg₂ (· + ·) (congrArg₂ (· + ·) (hc3 j)
    (congrArg₂ (· * ·) (lag2 t p _ (fun r => K8 (ix2 r j)) (fun r => K0 (ix2 r j)) (fun r => U (ix2 r j)) (fun r => hU r j) (h8 j) (h0 j)) (hc0 j)))
    (congrArg₂ (· * ·) (lag1 t p _ (fun r => K8 (ix2 r j)) (fun r => U (ix2 r j)) (fun r => hU r j) (h8 j)) (hc1 j)))
    (congrArg₂ (· * ·) (hU p j) (hc2 j))).trans ?_
  simp only [← EReal.coe_mul, ← EReal.coe_add]
  rfl

/-- The gate times its logistic, and the logistic itself. -/
theorem s7_at (t : Fin 32) (o : ℕ) (ho : o + 768 ≤ 2816) {G : FVec Ideal S256x768 .f32}
    (hG : ∀ (p : Fin 256) (j : Fin 768), G (ix2 p j) = ((gate A (tm t p) ⟨o + j.val, by omega⟩ : ℝ) : EReal)) (p : Fin 256) (j : Fin 768) :
    k0_pay24 G (ix2 p j) = ((sg (gate A (tm t p) ⟨o + j.val, by omega⟩) : ℝ) : EReal) := by
  pointwise [k0_pay24]
  rw [hG, zero_sub, ← EReal.coe_neg, exp_coe, ← EReal.coe_one, ← EReal.coe_add, div_sg]

theorem gs7_at (t : Fin 32) (o : ℕ) (ho : o + 768 ≤ 2816) {G : FVec Ideal S256x768 .f32}
    (hG : ∀ (p : Fin 256) (j : Fin 768), G (ix2 p j) = ((gate A (tm t p) ⟨o + j.val, by omega⟩ : ℝ) : EReal)) (p : Fin 256) (j : Fin 768) :
    k0_pay25 G (ix2 p j) = ((dval A (tm t p) ⟨o + j.val, by omega⟩ : ℝ) : EReal) := by
  pointwise [k0_pay25]
  rw [hG, s7_at t o ho hG, ← EReal.coe_mul]
  rfl

def Act7 (G V : FVec Ideal S256x768 .f32) : FVec Ideal S256x768 .bf16 := truncf .bf16 (mulf (k0_pay25 G) V) bitsLt_bf16_f32

theorem act7_at (t : Fin 32) (o : ℕ) (ho : o + 768 ≤ 2816) {G V : FVec Ideal S256x768 .f32}
    (hG : ∀ (p : Fin 256) (j : Fin 768), G (ix2 p j) = ((gate A (tm t p) ⟨o + j.val, by omega⟩ : ℝ) : EReal))
    (hV : ∀ (p : Fin 256) (j : Fin 768), V (ix2 p j) = ((val A (tm t p) ⟨o + j.val, by omega⟩ : ℝ) : EReal)) (p : Fin 256) (j : Fin 768) :
    Act7 G V (ix2 p j) = ((act A (tm t p) ⟨o + j.val, by omega⟩ : ℝ) : EReal) := by
  pointwise [Act7]
  rw [hV, gs7_at t o ho hG, ← EReal.coe_mul]
  rfl

/-- The gradient's factor on the gate's side. -/
def DGate7 (G V : FVec Ideal S256x768 .f32) : FVec Ideal S256x768 .bf16 :=
  truncf .bf16 (mulf V (addf (k0_pay24 G) (mulf (k0_pay25 G) (subf (broadcast S256x768 (Scalar.ofBits .f32 0x3F800000#32)) (k0_pay24 G))))) bitsLt_bf16_f32

theorem dgate7_at (t : Fin 32) (o : ℕ) (ho : o + 768 ≤ 2816) {G V : FVec Ideal S256x768 .f32}
    (hG : ∀ (p : Fin 256) (j : Fin 768), G (ix2 p j) = ((gate A (tm t p) ⟨o + j.val, by omega⟩ : ℝ) : EReal))
    (hV : ∀ (p : Fin 256) (j : Fin 768), V (ix2 p j) = ((val A (tm t p) ⟨o + j.val, by omega⟩ : ℝ) : EReal)) (p : Fin 256) (j : Fin 768) :
    DGate7 G V (ix2 p j) = ((dgate A (tm t p) ⟨o + j.val, by omega⟩ : ℝ) : EReal) := by
  pointwise [DGate7]
  rw [hV, gs7_at t o ho hG, s7_at t o ho hG, ← EReal.coe_one, ← EReal.coe_sub, ← EReal.coe_mul, ← EReal.coe_add, ← EReal.coe_mul]
  rfl

/-! ## Width 512 -/

/-- The convolution of a chunk: `K8`, `K0` are the rows kept from the tile before. -/
def Y5 (U : FVec Ideal S256x512 .f32) (K8 K0 : Vec Ideal S8x512 .f32) (c3 c0 c1 c2 : Vec Ideal S1x512 .f32) : FVec Ideal S256x512 .f32 :=
  k0_pay78 U (k0_pay77 U K8 K0 c3 c0 c1) c2

theorem u5_at (t : Fin 32) (o : ℕ) (ho : o + 512 ≤ 5632) {H : FVec Ideal S256x1024 .bf16} {W : Vec Ideal S1024x512 .bf16}
    (hH : ∀ (p : Fin 256) (k : Fin 1024), H (ix2 p k) = ((hh A (tm t p) k : ℝ) : EReal))
    (hW : ∀ (k : Fin 1024) (j : Fin 512), W (ix2 k j) = ((A.wu k ⟨o + j.val, by omega⟩ : ℝ) : EReal)) (p : Fin 256) (j : Fin 512) :
    k0_pay53 H W (ix2 p j) = ((up A (tm t p) ⟨o + j.val, by omega⟩ : ℝ) : EReal) := by
  pointwise [k0_pay53]
  simp only [hH, hW, ← EReal.coe_mul, sum_coe]
  rfl

theorem y5_at (t : Fin 32) (o : ℕ) (ho : o + 512 ≤ 5632) {U : FVec Ideal S256x512 .f32} {K8 K0 : Vec Ideal S8x512 .f32} {c3 c0 c1 c2 : Vec Ideal S1x512 .f32}
    (hU : ∀ (p : Fin 256) (j : Fin 512), U (ix2 p j) = ((up A (tm t p) ⟨o + j.val, by omega⟩ : ℝ) : EReal))
    (h8 : ∀ j : Fin 512, K8 (ix2 7 j) = ((back A 1 (tm t 0) ⟨o + j.val, by omega⟩ : ℝ) : EReal))
    (h0 : ∀ j : Fin 512, K0 (ix2 7 j) = ((back A 2 (tm t 0) ⟨o + j.val, by omega⟩ : ℝ) : EReal))
    (hc3 : ∀ j : Fin 512, c3 (ix2 0 j) = ((A.cb ⟨o + j.val, by omega⟩ : ℝ) : EReal))
    (hc0 : ∀ j : Fin 512, c0 (ix2 0 j) = ((A.cw 0 ⟨o + j.val, by omega⟩ : ℝ) : EReal))
    (hc1 : ∀ j : Fin 512, c1 (ix2 0 j) = ((A.cw 1 ⟨o + j.val, by omega⟩ : ℝ) : EReal))
    (hc2 : ∀ j : Fin 512, c2 (ix2 0 j) = ((A.cw 2 ⟨o + j.val, by omega⟩ : ℝ) : EReal)) (p : Fin 256) (j : Fin 512) :
    Y5 U K8 K0 c3 c0 c1 c2 (ix2 p j) = ((y A (tm t p) ⟨o + j.val, by omega⟩ : ℝ) : EReal) := by
  pointwise [Y5, k0_pay78, k0_pay77, k0_pay75]
  refine (congrArg₂ (· + ·) (congrArg₂ (· + ·) (congrArg₂ (· + ·) (hc3 j)
    (congrArg₂ (· * ·) (lag2 t p _ (fun r => K8 (ix2 r j)) (fun r => K0 (ix2 r j)) (fun r => U (ix2 r j)) (fun r => hU r j) (h8 j) (h0 j)) (hc0 j)))
    (congrArg₂ (· * ·) (lag1 t p _ (fun r => K8 (ix2 r j)) (fun r => U (ix2 r j)) (fun r => hU r j) (h8 j)) (hc1 j)))
    (congrArg₂ (· * ·) (hU p j) (hc2 j))).trans ?_
  simp only [← EReal.coe_mul, ← EReal.coe_add]
  rfl

/-- The gate times its logistic, and the logistic itself. -/
theorem s5_at (t : Fin 32) (o : ℕ) (ho : o + 512 ≤ 2816) {G : FVec Ideal S256x512 .f32}
    (hG : ∀ (p : Fin 256) (j : Fin 512), G (ix2 p j) = ((gate A (tm t p) ⟨o + j.val, by omega⟩ : ℝ) : EReal)) (p : Fin 256) (j : Fin 512) :
    k0_pay84 G (ix2 p j) = ((sg (gate A (tm t p) ⟨o + j.val, by omega⟩) : ℝ) : EReal) := by
  pointwise [k0_pay84]
  rw [hG, zero_sub, ← EReal.coe_neg, exp_coe, ← EReal.coe_one, ← EReal.coe_add, div_sg]

theorem gs5_at (t : Fin 32) (o : ℕ) (ho : o + 512 ≤ 2816) {G : FVec Ideal S256x512 .f32}
    (hG : ∀ (p : Fin 256) (j : Fin 512), G (ix2 p j) = ((gate A (tm t p) ⟨o + j.val, by omega⟩ : ℝ) : EReal)) (p : Fin 256) (j : Fin 512) :
    k0_pay85 G (ix2 p j) = ((dval A (tm t p) ⟨o + j.val, by omega⟩ : ℝ) : EReal) := by
  pointwise [k0_pay85]
  rw [hG, s5_at t o ho hG, ← EReal.coe_mul]
  rfl

def Act5 (G V : FVec Ideal S256x512 .f32) : FVec Ideal S256x512 .bf16 := truncf .bf16 (mulf (k0_pay85 G) V) bitsLt_bf16_f32

theorem act5_at (t : Fin 32) (o : ℕ) (ho : o + 512 ≤ 2816) {G V : FVec Ideal S256x512 .f32}
    (hG : ∀ (p : Fin 256) (j : Fin 512), G (ix2 p j) = ((gate A (tm t p) ⟨o + j.val, by omega⟩ : ℝ) : EReal))
    (hV : ∀ (p : Fin 256) (j : Fin 512), V (ix2 p j) = ((val A (tm t p) ⟨o + j.val, by omega⟩ : ℝ) : EReal)) (p : Fin 256) (j : Fin 512) :
    Act5 G V (ix2 p j) = ((act A (tm t p) ⟨o + j.val, by omega⟩ : ℝ) : EReal) := by
  pointwise [Act5]
  rw [hV, gs5_at t o ho hG, ← EReal.coe_mul]
  rfl

/-- The gradient's factor on the gate's side. -/
def DGate5 (G V : FVec Ideal S256x512 .f32) : FVec Ideal S256x512 .bf16 :=
  truncf .bf16 (mulf V (addf (k0_pay84 G) (mulf (k0_pay85 G) (subf (broadcast S256x512 (Scalar.ofBits .f32 0x3F800000#32)) (k0_pay84 G))))) bitsLt_bf16_f32

theorem dgate5_at (t : Fin 32) (o : ℕ) (ho : o + 512 ≤ 2816) {G V : FVec Ideal S256x512 .f32}
    (hG : ∀ (p : Fin 256) (j : Fin 512), G (ix2 p j) = ((gate A (tm t p) ⟨o + j.val, by omega⟩ : ℝ) : EReal))
    (hV : ∀ (p : Fin 256) (j : Fin 512), V (ix2 p j) = ((val A (tm t p) ⟨o + j.val, by omega⟩ : ℝ) : EReal)) (p : Fin 256) (j : Fin 512) :
    DGate5 G V (ix2 p j) = ((dgate A (tm t p) ⟨o + j.val, by omega⟩ : ℝ) : EReal) := by
  pointwise [DGate5]
  rw [hV, gs5_at t o ho hG, s5_at t o ho hG, ← EReal.coe_one, ← EReal.coe_sub, ← EReal.coe_mul, ← EReal.coe_add, ← EReal.coe_mul]
  rfl

end Fwd.Ker

end
-- ==== Proof.Hot.lean ====
module

public import proofs.«01_k».proof.Proof.FwdSpec

@[expose] public section

noncomputable section

/-! The one-hot square that takes 256 rows from time order into a tile's order, and the step that a row of a whole array in that order holds. -/

namespace Fwd

theorem time_mk (p : Fin 8192) (h : p.val / 256 * 256 + p.val % 8 * 32 + p.val / 8 % 32 < 8192) :
    (⟨p.val / 256 * 256 + p.val % 8 * 32 + p.val / 8 % 32, h⟩ : Fin 8192) = time p := Fin.ext (by simp only [time]; omega)

end Fwd

namespace Fwd.Ker

open Idealize.ShloMosaic Idealize.ShloMosaic.TcCoe Idealize.SL.Sem

/-- The one-hot entry that moves row `p` to step `s`. -/
def hot (p s : Fin 256) : EReal := if p.val % 8 * 32 + p.val / 8 = s.val then 1 else 0

/-- The product with it picks the step that a row holds. -/
theorem sum_hot_step (p : Fin 256) (g : Fin 256 → EReal) : ∑ s, hot p s * g s = g ⟨p.val % 8 * 32 + p.val / 8, by omega⟩ := by
  rw [Finset.sum_eq_single ⟨p.val % 8 * 32 + p.val / 8, by omega⟩ (fun s _ h => by
      rw [hot, if_neg (fun e => h (Fin.ext e.symm)), zero_mul]) (fun h => absurd (Finset.mem_univ _) h), hot, if_pos rfl, one_mul]

theorem hot_word (p s : Fin 256) : FloatOps.uitofp (F := Ideal) .bf16 (IntOp.cmpi .eq (BitVec.ofNat 32 (p.val % 8 * 32 + p.val / 8)) (BitVec.ofNat 32 s.val)) = hot p s := by
  have e : (BitVec.ofNat 32 (p.val % 8 * 32 + p.val / 8) = BitVec.ofNat 32 s.val) ↔ p.val % 8 * 32 + p.val / 8 = s.val := by
    rw [← BitVec.toNat_inj, BitVec.toNat_ofNat, BitVec.toNat_ofNat]; omega
  unfold hot
  by_cases h : p.val % 8 * 32 + p.val / 8 = s.val
  · rw [if_pos h, h]; simp [IntOp.cmpi, FloatOps.uitofp]
  · rw [if_neg h]; simp [IntOp.cmpi, FloatOps.uitofp, mt e.mp h]

end Fwd.Ker

end
-- ==== Proof.FwdTail.lean ====
module

public import proofs.«01_k».proof.Proof.FwdTile
public import proofs.«01_k».proof.Proof.Hot

@[expose] public section

set_option maxRecDepth 16384

noncomputable section

/-! The end of a tile's work: the second product, the rows brought into time order and back, the last norm, the loss and its gradient. -/

namespace Fwd.Ker

open Idealize.ShloMosaic Idealize.ShloMosaic.TcCoe Idealize.SL.Sem
open Cert.FfnFwdIdeal Cert.FfnFwdIdeal.Gen Lift

variable {A : Args}

/-- Step `s` of tile `t`, in time order, and the row that holds it. -/
def st (t : Fin 32) (s : Fin 256) : Fin 8192 := ⟨256 * t.val + s.val, by omega⟩
def row (s : Fin 256) : Fin 256 := ⟨s.val % 32 * 8 + s.val / 32, by omega⟩

theorem tm_row (t : Fin 32) (s : Fin 256) : tm t (row s) = st t s := by
  refine Fin.ext ?_
  simp only [tm, row, st]; omega

theorem hot_row (p s : Fin 256) : hot p s = if p = row s then 1 else 0 := by
  unfold hot
  refine if_congr ?_ rfl rfl
  rw [Fin.ext_iff]
  simp only [row]; omega

theorem sum_hot_row (s : Fin 256) (g : Fin 256 → EReal) : ∑ p, hot p s * g p = g (row s) := by
  rw [Finset.sum_eq_single (row s) (fun p _ h => by rw [hot_row, if_neg h, zero_mul]) (fun h => absurd (Finset.mem_univ _) h), hot_row, if_pos rfl, one_mul]

theorem st_step (t : Fin 32) (p : Fin 256) : st t ⟨p.val % 8 * 32 + p.val / 8, by omega⟩ = tm t p := by
  refine Fin.ext ?_
  simp only [tm, st]; omega

/-- A sum over the hidden columns, chunk by chunk. -/
theorem sum_chunks (g : Fin 2816 → ℝ) :
    (∑ j : Fin 768, g ⟨0 + j.val, by omega⟩) + (∑ j : Fin 768, g ⟨768 + j.val, by omega⟩) + (∑ j : Fin 768, g ⟨1536 + j.val, by omega⟩)
      + (∑ j : Fin 512, g ⟨2304 + j.val, by omega⟩) = ∑ j, g j := by
  rw [← Fin.sum_congr' g (show 768 + 768 + 768 + 512 = 2816 from rfl), Fin.sum_univ_add, Fin.sum_univ_add, Fin.sum_univ_add]
  refine congrArg₂ (· + ·) (congrArg₂ (· + ·) (congrArg₂ (· + ·) ?_ ?_) ?_) ?_ <;>
    exact Finset.sum_congr rfl fun j _ => congrArg g (Fin.ext (by simp; try omega))

/-- The second product, over all four chunks. -/
def F4 (a0 a1 a2 : FVec Ideal S256x768 .bf16) (a3 : FVec Ideal S256x512 .bf16) (W0 W1 W2 : Vec Ideal S768x1024 .bf16) (W3 : Vec Ideal S512x1024 .bf16) :
    FVec Ideal S256x1024 .f32 :=
  addf (k0_pay74 (k0_pay55 (k0_pay32 a0 W0) a1 W1) a2 W2)
    (matmul dot_S256x512_S512x1024_S256x1024_1_0_0_1_n_n none a3 (shapeCast S512x1024 W3 shapeCasts_S512x1024_S512x1024 : FVec Ideal S512x1024 .bf16) (constant S256x1024 .f32 0x00000000#32))

theorem f4_at (t : Fin 32) {a0 a1 a2 : FVec Ideal S256x768 .bf16} {a3 : FVec Ideal S256x512 .bf16} {W0 W1 W2 : Vec Ideal S768x1024 .bf16}
    {W3 : Vec Ideal S512x1024 .bf16}
    (h0 : ∀ (p : Fin 256) (j : Fin 768), a0 (ix2 p j) = ((act A (tm t p) ⟨0 + j.val, by omega⟩ : ℝ) : EReal))
    (h1 : ∀ (p : Fin 256) (j : Fin 768), a1 (ix2 p j) = ((act A (tm t p) ⟨768 + j.val, by omega⟩ : ℝ) : EReal))
    (h2 : ∀ (p : Fin 256) (j : Fin 768), a2 (ix2 p j) = ((act A (tm t p) ⟨1536 + j.val, by omega⟩ : ℝ) : EReal))
    (h3 : ∀ (p : Fin 256) (j : Fin 512), a3 (ix2 p j) = ((act A (tm t p) ⟨2304 + j.val, by omega⟩ : ℝ) : EReal))
    (k0 : ∀ (j : Fin 768) (c : Fin 1024), W0 (ix2 j c) = ((A.wd ⟨0 + j.val, by omega⟩ c : ℝ) : EReal))
    (k1 : ∀ (j : Fin 768) (c : Fin 1024), W1 (ix2 j c) = ((A.wd ⟨768 + j.val, by omega⟩ c : ℝ) : EReal))
    (k2 : ∀ (j : Fin 768) (c : Fin 1024), W2 (ix2 j c) = ((A.wd ⟨1536 + j.val, by omega⟩ c : ℝ) : EReal))
    (k3 : ∀ (j : Fin 512) (c : Fin 1024), W3 (ix2 j c) = ((A.wd ⟨2304 + j.val, by omega⟩ c : ℝ) : EReal)) (p : Fin 256) (c : Fin 1024) :
    F4 a0 a1 a2 a3 W0 W1 W2 W3 (ix2 p c) = ((f A (tm t p) c : ℝ) : EReal) := by
  pointwise [F4, k0_pay74, k0_pay55, k0_pay32]
  simp only [h0, h1, h2, h3, k0, k1, k2, k3, ← EReal.coe_mul, sum_coe, ← EReal.coe_add]
  exact congrArg _ (sum_chunks fun j => act A (tm t p) j * A.wd j c)

variable {v439 : FVec Ideal S256x1024 .f32} {v441 : FVec Ideal S256x256 .bf16} {v442 : FVec Ideal S256x1024 .bf16}
  {v459 v461 : Vec Ideal S1x1024 .f32} {v463 v469 : Vec Ideal S256x1024 .f32}

/-- What the end of the tile's work is given. -/
structure Last (A : Args) (t : Fin 32) (v439 : FVec Ideal S256x1024 .f32) (v441 : FVec Ideal S256x256 .bf16) (v442 : FVec Ideal S256x1024 .bf16)
    (v459 v461 : Vec Ideal S1x1024 .f32) (v463 v469 : Vec Ideal S256x1024 .f32) : Prop where
  f : ∀ (p : Fin 256) (c : Fin 1024), v439 (ix2 p c) = ((f A (tm t p) c : ℝ) : EReal)
  f' : ∀ (p : Fin 256) (c : Fin 1024), v442 (ix2 p c) = ((Fwd.f A (tm t p) c : ℝ) : EReal)
  pm : ∀ s p : Fin 256, v441 (ix2 s p) = hot p s
  post : ∀ c : Fin 1024, v459 (ix2 0 c) = ((A.post c : ℝ) : EReal)
  g : ∀ c : Fin 1024, v461 (ix2 0 c) = ((A.g c : ℝ) : EReal)
  x : ∀ (s : Fin 256) (c : Fin 1024), v463 (ix2 s c) = ((A.x (st t s) c : ℝ) : EReal)
  tgt : ∀ (s : Fin 256) (c : Fin 1024), v469 (ix2 s c) = ((A.tgt (st t s) c : ℝ) : EReal)

variable {t : Fin 32} (L : Last A t v439 v441 v442 v459 v461 v463 v469)
include L

theorem f_at (s : Fin 256) (c : Fin 1024) : k0_pay92 v439 v441 v442 (ix2 s c) = ((f A (st t s) c : ℝ) : EReal) := by
  pointwise [k0_pay92]
  simp only [L.f, L.f', L.pm, sum_hot_row, ← EReal.coe_sub, sub_self, EReal.coe_zero, mul_zero, Finset.sum_const_zero, add_zero, tm_row]

theorem r_at (s : Fin 256) (c : Fin 1) : k0_pay93 v439 v441 v442 (ix2 s c) = ((rms (f A (st t s)) : ℝ) : EReal) := by
  pointwise [k0_pay93]
  simp only [f_at L, ofBits_1024, ofBits_eps, ← EReal.coe_mul, ← EReal.coe_add, sum_coe, div_1024, rsqrt_ms]

theorem fhat_at (s : Fin 256) (c : Fin 1024) : k0_pay94 v439 v441 v442 (ix2 s c) = ((fhat A (st t s) c : ℝ) : EReal) := by
  pointwise [k0_pay94]
  simp only [f_at L, r_at L, ← EReal.coe_mul]
  rfl

theorem e_at (s : Fin 256) (c : Fin 1024) : k0_pay97 v439 v441 v442 v459 v461 v463 v469 (ix2 s c) = ((e A (st t s) c : ℝ) : EReal) := by
  pointwise [k0_pay97, k0_pay96, k0_pay95]
  simp only [fhat_at L, L.x, L.g, L.post, L.tgt, ← EReal.coe_mul, ← EReal.coe_add, ← EReal.coe_sub]
  rfl

theorem dy_at (s : Fin 256) (c : Fin 1024) : k0_pay98 v439 v441 v442 v459 v461 v463 v469 (ix2 s c) = ((dy A (st t s) c : ℝ) : EReal) := by
  pointwise [k0_pay98]
  simp only [e_at L, ofBits_recip, ← EReal.coe_mul]
  rfl

theorem acc0_at (v475 : Vec Ideal S1x1024 .f32) (r : ℝ) (c : Fin 1024) (h : v475 (ix2 0 c) = (r : EReal)) :
    k0_pay99 v439 v441 v442 v459 v461 v463 v469 v475 (ix2 0 c) = ((r + ∑ s, e A (st t s) c * e A (st t s) c : ℝ) : EReal) := by
  pointwise [k0_pay99]
  simp only [e_at L, h, ← EReal.coe_mul, ← EReal.coe_add, sum_coe]

theorem acc1_at (v482 : Vec Ideal S1x1024 .f32) (r : ℝ) (c : Fin 1024) (h : v482 (ix2 0 c) = (r : EReal)) :
    k0_pay100 (k0_pay94 v439 v441 v442) (k0_pay98 v439 v441 v442 v459 v461 v463 v469) v482 (ix2 0 c)
      = ((r + ∑ s, dy A (st t s) c * fhat A (st t s) c : ℝ) : EReal) := by
  pointwise [k0_pay100]
  simp only [dy_at L, fhat_at L, h, ← EReal.coe_mul, ← EReal.coe_add, sum_coe]

theorem df_at (v503 : Vec Ideal S1x256x256 .bf16) (hp : ∀ p s : Fin 256, v503 (ix3 0 p s) = hot p s) (p : Fin 256) (c : Fin 1024) :
    k0_pay101 (k0_pay93 v439 v441 v442) (k0_pay94 v439 v441 v442) (k0_pay95 v459) (k0_pay96 v461) (k0_pay98 v439 v441 v442 v459 v461 v463 v469) v503 (ix2 p c)
      = ((df A (tm t p) c : ℝ) : EReal) := by
  pointwise [k0_pay101, k0_pay96, k0_pay95]
  simp only [hp, sum_hot_step, dy_at L, fhat_at L, r_at L, L.g, L.post, ofBits_1024, ← EReal.coe_mul, sum_coe, div_1024, ← EReal.coe_sub, st_step]
  rfl

end Fwd.Ker

end
-- ==== Proof.FwdNames.lean ====
module

public import proofs.«01_k».proof.Proof.FwdTail

@[expose] public section

set_option maxRecDepth 16384

noncomputable section

/-! The body's vector expressions under their common names: each chunk's text is the text of `FwdTile`. -/

namespace Fwd.Ker

open Idealize.ShloMosaic Idealize.ShloMosaic.TcCoe Idealize.SL.Sem
open Cert.FfnFwdIdeal Cert.FfnFwdIdeal.Gen

def Up7 (U : FVec Ideal S256x768 .f32) : FVec Ideal S256x768 .bf16 := truncf .bf16 U bitsLt_bf16_f32
def Up5 (U : FVec Ideal S256x512 .f32) : FVec Ideal S256x512 .bf16 := truncf .bf16 U bitsLt_bf16_f32
def DVal7 (G : FVec Ideal S256x768 .f32) : FVec Ideal S256x768 .bf16 := truncf .bf16 (k0_pay25 G) bitsLt_bf16_f32
def DVal5 (G : FVec Ideal S256x512 .f32) : FVec Ideal S256x512 .bf16 := truncf .bf16 (k0_pay85 G) bitsLt_bf16_f32

variable (H : FVec Ideal S256x1024 .bf16) (W : Vec Ideal S1024x768 .bf16) (W' : Vec Ideal S1024x512 .bf16)
  (U G V : FVec Ideal S256x768 .f32) (K8 K0 : Vec Ideal S8x768 .f32) (c3 c0 c1 c2 : Vec Ideal S1x768 .f32)
  (U' G' V' : FVec Ideal S256x512 .f32) (K8' K0' : Vec Ideal S8x512 .f32) (c3' c0' c1' c2' : Vec Ideal S1x512 .f32)

theorem up_c : k0_pay8 H W = k0_pay7 H W := rfl
theorem up_d : k0_pay9 H W = k0_pay7 H W := rfl
theorem up_e : k0_pay10 H W = k0_pay7 H W := rfl
theorem up_f : k0_pay30 (k0_pay6 H) W = k0_pay7 H W := rfl
theorem up_g : k0_pay31 (k0_pay6 H) W = k0_pay7 H W := rfl
theorem up_h : k0_pay54 (k0_pay6 H) W' = k0_pay53 (k0_pay6 H) W' := rfl

theorem up0 : k0_pay12 H W = Up7 (k0_pay7 H W) := rfl
theorem up0' : k0_pay18 U = Up7 U := rfl
theorem up1 : k0_pay34 U = Up7 U := rfl
theorem up1' : k0_pay41 U = Up7 U := rfl
theorem up2 : k0_pay57 U = Up7 U := rfl
theorem up2' : k0_pay63 U = Up7 U := rfl
theorem up3 : k0_pay76 U' = Up5 U' := rfl
theorem up3' : k0_pay80 U' = Up5 U' := rfl

theorem keep0' : k0_pay23 U = k0_pay17 U := rfl
theorem keep1 : k0_pay40 U = k0_pay17 U := rfl
theorem keep1' : k0_pay47 U = k0_pay17 U := rfl
theorem keep2 : k0_pay62 U = k0_pay17 U := rfl
theorem keep2' : k0_pay68 U = k0_pay17 U := rfl
theorem keep3' : k0_pay83 U' = k0_pay79 U' := rfl

theorem y0 : k0_pay16 (k0_pay7 H W) k0_pay11 (k0_pay13 H W) (k0_pay14 H W K8) (k0_pay15 K0) 1#32 c3 c0 c1 c2 = Y7 (k0_pay7 H W) K8 K0 c3 c0 c1 c2 := rfl
theorem y0' : k0_pay22 U k0_pay11 (k0_pay19 U) (k0_pay20 U k0_pay11 K8) (k0_pay21 K0) 1#32 c3 c0 c1 c2 = Y7 U K8 K0 c3 c0 c1 c2 := rfl
theorem y1 : k0_pay39 U (k0_pay35 U K8) (k0_pay36 U K0) (k0_pay37 U K8) (k0_pay38 U) c3 c0 c1 c2 = Y7 U K8 K0 c3 c0 c1 c2 := rfl
theorem y2 : k0_pay61 U (k0_pay59 U K8) (k0_pay60 U K8 K0) c3 c0 c1 c2 = Y7 U K8 K0 c3 c0 c1 c2 := rfl
theorem y3 : k0_pay78 U' (k0_pay77 U' K8' K0' c3' c0' c1') c2' = Y5 U' K8' K0' c3' c0' c1' c2' := rfl

theorem act0 : k0_pay26 U k0_pay11 G (k0_pay19 U) (k0_pay20 U k0_pay11 K8) (k0_pay21 K0) 1#32 c3 c0 c1 c2 = Act7 G (Y7 U K8 K0 c3 c0 c1 c2) := rfl
theorem act1 : k0_pay50 U G (k0_pay42 U k0_pay33 K8) (k0_pay43 U k0_pay33 K0) (k0_pay44 U k0_pay33 K8) (k0_pay45 U) c3 c0 c1 c2
    = Act7 G (Y7 U K8 K0 c3 c0 c1 c2) := rfl
theorem act2 : k0_pay71 U G (k0_pay65 U k0_pay56 K8) (k0_pay66 U k0_pay56 K8 K0) c3 c0 c1 c2 = Act7 G (Y7 U K8 K0 c3 c0 c1 c2) := rfl
theorem act3 : k0_pay86 U' G' (k0_pay81 U' k0_pay75 K8' K0' c3' c0' c1') c2' = Act5 G' (Y5 U' K8' K0' c3' c0' c1' c2') := rfl

theorem dgate0 : k0_pay28 V (k0_pay24 G) (k0_pay27 G) = DGate7 G V := rfl
theorem dgate1 : k0_pay51 U G (k0_pay42 U k0_pay33 K8) (k0_pay43 U k0_pay33 K0) (k0_pay44 U k0_pay33 K8) (k0_pay45 U) c3 c0 c1 c2
    = DGate7 G (Y7 U K8 K0 c3 c0 c1 c2) := rfl
theorem dgate2 : k0_pay72 U G (k0_pay65 U k0_pay56 K8) (k0_pay66 U k0_pay56 K8 K0) c3 c0 c1 c2 = DGate7 G (Y7 U K8 K0 c3 c0 c1 c2) := rfl
theorem dgate3 : k0_pay87 U' G' (k0_pay81 U' k0_pay75 K8' K0' c3' c0' c1') c2' = DGate5 G' (Y5 U' K8' K0' c3' c0' c1' c2') := rfl

theorem dval0 : k0_pay29 (k0_pay25 G) = DVal7 G := rfl
theorem dval1 : k0_pay52 (k0_pay49 G) = DVal7 G := rfl
theorem dval2 : k0_pay73 G = DVal7 G := rfl
theorem dval3 : k0_pay88 G' = DVal5 G' := rfl

variable (a0 a1 a2 : FVec Ideal S256x768 .bf16) (W0 W1 W2 : Vec Ideal S768x1024 .bf16) (W3 : Vec Ideal S512x1024 .bf16)

theorem f4 : k0_pay89 U' (k0_pay74 (k0_pay55 (k0_pay32 a0 W0) a1 W1) a2 W2) G' (k0_pay81 U' k0_pay75 K8' K0' c3' c0' c1') c2' W3
    = F4 a0 a1 a2 (Act5 G' (Y5 U' K8' K0' c3' c0' c1' c2')) W0 W1 W2 W3 := rfl
theorem f4' : k0_pay91 U' (k0_pay74 (k0_pay55 (k0_pay32 a0 W0) a1 W1) a2 W2) G' (k0_pay81 U' k0_pay75 K8' K0' c3' c0' c1') c2' W3
    = truncf .bf16 (F4 a0 a1 a2 (Act5 G' (Y5 U' K8' K0' c3' c0' c1' c2')) W0 W1 W2 W3) bitsLt_bf16_f32 := rfl

end Fwd.Ker

end
-- ==== Proof.FwdBlock.lean ====
module

public import proofs.«01_k».proof.Proof.FwdNames
public import Idealize.ShloMosaic.Lib.Pipeline.ReadBack

@[expose] public section

set_option maxRecDepth 16384

noncomputable section

/-! One tile on its blocks: the body's chunks, read off blocks that hold the real quantities and a scratch that holds the rows kept from the tile before. -/

namespace Fwd.Ker

open Idealize.ShloMosaic Idealize.ShloMosaic.TcCoe Idealize.SL.Sem
open Cert.FfnFwdIdeal Cert.FfnFwdIdeal.Gen Lift

/-- A block of columns of an array given entry by entry. -/
theorem at_cols {M N w o : ℕ} {v : (⟨2, ![M, w]⟩ : Shape).Idx → EReal} {g : Fin M → Fin N → EReal} (ho : o + w ≤ N)
    (hv : ∀ (p : Fin M) (j : Fin w), v (ix2 p j) = g p ⟨o + j.val, by omega⟩) (h)
    (x : (Rect.unit (s := ⟨2, ![M, N]⟩) ![0, o] ![M, w] h).shape.Idx) :
    v x = (fun y : (⟨2, ![M, N]⟩ : Shape).Idx => g (y 0) (y 1)) ((Rect.unit (s := ⟨2, ![M, N]⟩) ![0, o] ![M, w] h).emb x) := by
  have hx : x = ix2 (x 0 : Fin M) (x 1 : Fin w) := by funext a; refine Fin.cases rfl (fun a => Fin.cases rfl (fun a => a.elim0) a) a
  refine (congrArg v hx).trans ((hv _ _).trans (congrArg₂ g (Fin.ext ?_) (Fin.ext ?_)))
  · exact (by simp [ValueKit.rect_emb_unit_val])
  · exact (by simp [ValueKit.rect_emb_unit_val])

/-- The eight input blocks of tile `t`. -/
structure Blocks (A : Args) (t : Fin 32) (B0 : Vec Ideal S256x1024 .bf16) (B1 B2 : Vec Ideal S256x1024 .f32) (B3 : Vec Ideal S1024x5632 .bf16)
    (B4 : Vec Ideal S2816x1024 .bf16) (B5 : Vec Ideal S8x5632 .f32) (B6 : Vec Ideal S16x1024 .f32) (B7 : Vec Ideal S2x256x256 .bf16) : Prop where
  h : ∀ (p : Fin 256) (k : Fin 1024), B0 (ix2 p k) = ((hh A (tm t p) k : ℝ) : EReal)
  x : ∀ (s : Fin 256) (k : Fin 1024), B1 (ix2 s k) = ((A.x (st t s) k : ℝ) : EReal)
  tgt : ∀ (s : Fin 256) (k : Fin 1024), B2 (ix2 s k) = ((A.tgt (st t s) k : ℝ) : EReal)
  wu : ∀ (k : Fin 1024) (n : Fin 5632), B3 (ix2 k n) = ((A.wu k n : ℝ) : EReal)
  wd : ∀ (j : Fin 2816) (k : Fin 1024), B4 (ix2 j k) = ((A.wd j k : ℝ) : EReal)
  cw0 : ∀ n : Fin 5632, B5 (ix2 0 n) = ((A.cw 0 n : ℝ) : EReal)
  cw1 : ∀ n : Fin 5632, B5 (ix2 1 n) = ((A.cw 1 n : ℝ) : EReal)
  cw2 : ∀ n : Fin 5632, B5 (ix2 2 n) = ((A.cw 2 n : ℝ) : EReal)
  cb : ∀ n : Fin 5632, B5 (ix2 3 n) = ((A.cb n : ℝ) : EReal)
  g : ∀ k : Fin 1024, B6 (ix2 5 k) = ((A.g k : ℝ) : EReal)
  post : ∀ k : Fin 1024, B6 (ix2 9 k) = ((A.post k : ℝ) : EReal)
  hot0 : ∀ p s : Fin 256, B7 (ix3 0 p s) = hot p s
  hot1 : ∀ s p : Fin 256, B7 (ix3 1 s p) = hot p s

/-- The rows kept from the tile before. -/
structure Carry (A : Args) (t : Fin 32) (K : Vec Ideal S16x5632 .f32) : Prop where
  one : ∀ n : Fin 5632, K (ix2 15 n) = ((back A 1 (tm t 0) n : ℝ) : EReal)
  two : ∀ n : Fin 5632, K (ix2 7 n) = ((back A 2 (tm t 0) n : ℝ) : EReal)

variable {A : Args} {t : Fin 32} {B0 : Vec Ideal S256x1024 .bf16} {B1 B2 : Vec Ideal S256x1024 .f32} {B3 : Vec Ideal S1024x5632 .bf16}
  {B4 : Vec Ideal S2816x1024 .bf16} {B5 : Vec Ideal S8x5632 .f32} {B6 : Vec Ideal S16x1024 .f32} {B7 : Vec Ideal S2x256x256 .bf16} {K : Vec Ideal S16x5632 .f32}

/-- The gradient's two factors side by side, the gate's columns first. -/
def _root_.Fwd.grad (A : Args) (s : Fin 8192) (n : Fin 5632) : ℝ :=
  if h : n.val < 2816 then dgate A s ⟨n.val, h⟩ else dval A s ⟨n.val - 2816, by omega⟩

/-! What a tile's outputs hold. -/
def GUp (A : Args) (t : Fin 32) (y : S256x5632.Idx) : EReal := ((up A (tm t (y 0)) (y 1) : ℝ) : EReal)
def GGrad (A : Args) (t : Fin 32) (y : S256x5632.Idx) : EReal := ((grad A (tm t (y 0)) (y 1) : ℝ) : EReal)
def GAct (A : Args) (t : Fin 32) (y : S256x2816.Idx) : EReal := ((act A (tm t (y 0)) (y 1) : ℝ) : EReal)
/-- … and what it leaves in the scratch: its last sixteen rows. -/
def GKeep (A : Args) (t : Fin 32) (y : S16x5632.Idx) : EReal :=
  ((up A (tm t ⟨240 + (y 0).val, Nat.add_lt_add_left (y 0).isLt 240⟩) (y 1) : ℝ) : EReal)

section
variable (T : Blocks A t B0 B1 B2 B3 B4 B5 B6 B7) (C : Carry A t K)

include T in
theorem u7 (o : ℕ) (ho : o + 768 ≤ 5632) (h3) (p : Fin 256) (j : Fin 768) :
    k0_pay7 B0 (View.ld B3 (Rect.unit ![0, o] ![1024, 768] h3)) (ix2 p j) = ((up A (tm t p) ⟨o + j.val, by omega⟩ : ℝ) : EReal) :=
  u7_at t o ho T.h (fun k j => by pointwise; exact T.wu k _) p j

include T C in
theorem y7 (o : ℕ) (ho : o + 768 ≤ 5632) (h3 k8 k0 h3' h0 h1 h2) (p : Fin 256) (j : Fin 768) :
    Y7 (k0_pay7 B0 (View.ld B3 (Rect.unit ![0, o] ![1024, 768] h3))) (View.ld K (Rect.unit ![8, o] ![8, 768] k8)) (View.ld K (Rect.unit ![0, o] ![8, 768] k0))
        (View.ld B5 (Rect.unit ![3, o] ![1, 768] h3')) (View.ld B5 (Rect.unit ![0, o] ![1, 768] h0)) (View.ld B5 (Rect.unit ![1, o] ![1, 768] h1))
        (View.ld B5 (Rect.unit ![2, o] ![1, 768] h2)) (ix2 p j) = ((y A (tm t p) ⟨o + j.val, by omega⟩ : ℝ) : EReal) :=
  y7_at t o ho (u7 T o ho h3) (fun j => by pointwise; exact C.one _) (fun j => by pointwise; exact C.two _) (fun j => by pointwise; exact T.cb _)
    (fun j => by pointwise; exact T.cw0 _) (fun j => by pointwise; exact T.cw1 _) (fun j => by pointwise; exact T.cw2 _) p j

include T C in
/-- … and the same read in the value's half. -/
theorem v7 (o : ℕ) (ho : o + 768 ≤ 2816) (o' : ℕ) (ho' : o' = 2816 + o) (h3 k8 k0 h3' h0 h1 h2) (p : Fin 256) (j : Fin 768) :
    Y7 (k0_pay7 B0 (View.ld B3 (Rect.unit ![0, o'] ![1024, 768] h3))) (View.ld K (Rect.unit ![8, o'] ![8, 768] k8)) (View.ld K (Rect.unit ![0, o'] ![8, 768] k0))
        (View.ld B5 (Rect.unit ![3, o'] ![1, 768] h3')) (View.ld B5 (Rect.unit ![0, o'] ![1, 768] h0)) (View.ld B5 (Rect.unit ![1, o'] ![1, 768] h1))
        (View.ld B5 (Rect.unit ![2, o'] ![1, 768] h2)) (ix2 p j) = ((val A (tm t p) ⟨o + j.val, by omega⟩ : ℝ) : EReal) :=
  (y7 T C o' (by omega) h3 k8 k0 h3' h0 h1 h2 p j).trans (congrArg (fun n => ((y A (tm t p) n : ℝ) : EReal)) (Fin.ext (by simp; omega)))

include T in
theorem u5 (o : ℕ) (ho : o + 512 ≤ 5632) (h3) (p : Fin 256) (j : Fin 512) :
    k0_pay53 (k0_pay6 B0) (View.ld B3 (Rect.unit ![0, o] ![1024, 512] h3)) (ix2 p j) = ((up A (tm t p) ⟨o + j.val, by omega⟩ : ℝ) : EReal) :=
  u5_at t o ho (fun p k => by pointwise [k0_pay6]; exact T.h p k) (fun k j => by pointwise; exact T.wu k _) p j

include T C in
theorem y5 (o : ℕ) (ho : o + 512 ≤ 5632) (h3 k8 k0 h3' h0 h1 h2) (p : Fin 256) (j : Fin 512) :
    Y5 (k0_pay53 (k0_pay6 B0) (View.ld B3 (Rect.unit ![0, o] ![1024, 512] h3))) (View.ld K (Rect.unit ![8, o] ![8, 512] k8)) (View.ld K (Rect.unit ![0, o] ![8, 512] k0))
        (View.ld B5 (Rect.unit ![3, o] ![1, 512] h3')) (View.ld B5 (Rect.unit ![0, o] ![1, 512] h0)) (View.ld B5 (Rect.unit ![1, o] ![1, 512] h1))
        (View.ld B5 (Rect.unit ![2, o] ![1, 512] h2)) (ix2 p j) = ((y A (tm t p) ⟨o + j.val, by omega⟩ : ℝ) : EReal) :=
  y5_at t o ho (u5 T o ho h3) (fun j => by pointwise; exact C.one _) (fun j => by pointwise; exact C.two _) (fun j => by pointwise; exact T.cb _)
    (fun j => by pointwise; exact T.cw0 _) (fun j => by pointwise; exact T.cw1 _) (fun j => by pointwise; exact T.cw2 _) p j

include T C in
/-- … and the same read in the value's half. -/
theorem v5 (o : ℕ) (ho : o + 512 ≤ 2816) (o' : ℕ) (ho' : o' = 2816 + o) (h3 k8 k0 h3' h0 h1 h2) (p : Fin 256) (j : Fin 512) :
    Y5 (k0_pay53 (k0_pay6 B0) (View.ld B3 (Rect.unit ![0, o'] ![1024, 512] h3))) (View.ld K (Rect.unit ![8, o'] ![8, 512] k8)) (View.ld K (Rect.unit ![0, o'] ![8, 512] k0))
        (View.ld B5 (Rect.unit ![3, o'] ![1, 512] h3')) (View.ld B5 (Rect.unit ![0, o'] ![1, 512] h0)) (View.ld B5 (Rect.unit ![1, o'] ![1, 512] h1))
        (View.ld B5 (Rect.unit ![2, o'] ![1, 512] h2)) (ix2 p j) = ((val A (tm t p) ⟨o + j.val, by omega⟩ : ℝ) : EReal) :=
  (y5 T C o' (by omega) h3 k8 k0 h3' h0 h1 h2 p j).trans (congrArg (fun n => ((y A (tm t p) n : ℝ) : EReal)) (Fin.ext (by simp; omega)))

include T in
theorem up_piece7 (o : ℕ) (ho : o + 768 ≤ 5632) {h3} (h) (x : (Rect.unit (s := S256x5632) ![0, o] ![256, 768] h).shape.Idx) : Up7 (k0_pay7 B0 (View.ld B3 (Rect.unit ![0, o] ![1024, 768] h3))) x = GUp A t ((Rect.unit (s := S256x5632) ![0, o] ![256, 768] h).emb x) :=
  at_cols (N := 5632) (g := fun p n => ((up A (tm t p) n : ℝ) : EReal)) ho (fun p j => by pointwise [Up7]; exact u7 T o ho h3 p j) h x

include T in
theorem keep_piece7 (o : ℕ) (ho : o + 768 ≤ 5632) {h3} (h) (x : (Rect.unit (s := S16x5632) ![0, o] ![16, 768] h).shape.Idx) : k0_pay17 (k0_pay7 B0 (View.ld B3 (Rect.unit ![0, o] ![1024, 768] h3))) x = GKeep A t ((Rect.unit (s := S16x5632) ![0, o] ![16, 768] h).emb x) :=
  at_cols (M := 16) (N := 5632) (g := fun r n => ((up A (tm t ⟨240 + r.val, by omega⟩) n : ℝ) : EReal)) ho
    (fun p j => by pointwise [k0_pay17]; exact u7 T o ho h3 _ j) h x

include T C in
theorem act_at7 (o : ℕ) (ho : o + 768 ≤ 2816) (o' : ℕ) (ho' : o' = 2816 + o) {g3 gk8 gk0 gh gh0 gh1 gh2 v3 vk8 vk0 vh vh0 vh1 vh2} (p : Fin 256) (j : Fin 768) :
    Act7 (Y7 (k0_pay7 B0 (View.ld B3 (Rect.unit ![0, o] ![1024, 768] g3))) (View.ld K (Rect.unit ![8, o] ![8, 768] gk8)) (View.ld K (Rect.unit ![0, o] ![8, 768] gk0))
        (View.ld B5 (Rect.unit ![3, o] ![1, 768] gh)) (View.ld B5 (Rect.unit ![0, o] ![1, 768] gh0)) (View.ld B5 (Rect.unit ![1, o] ![1, 768] gh1))
        (View.ld B5 (Rect.unit ![2, o] ![1, 768] gh2)))
      (Y7 (k0_pay7 B0 (View.ld B3 (Rect.unit ![0, o'] ![1024, 768] v3))) (View.ld K (Rect.unit ![8, o'] ![8, 768] vk8)) (View.ld K (Rect.unit ![0, o'] ![8, 768] vk0))
        (View.ld B5 (Rect.unit ![3, o'] ![1, 768] vh)) (View.ld B5 (Rect.unit ![0, o'] ![1, 768] vh0)) (View.ld B5 (Rect.unit ![1, o'] ![1, 768] vh1))
        (View.ld B5 (Rect.unit ![2, o'] ![1, 768] vh2))) (ix2 p j) = ((act A (tm t p) ⟨o + j.val, by omega⟩ : ℝ) : EReal) :=
  act7_at t o ho (y7 T C o (by omega) g3 gk8 gk0 gh gh0 gh1 gh2) (v7 T C o ho o' ho' v3 vk8 vk0 vh vh0 vh1 vh2) p j

include T C in
theorem act_piece7 (o : ℕ) (ho : o + 768 ≤ 2816) (o' : ℕ) (ho' : o' = 2816 + o) {g3 gk8 gk0 gh gh0 gh1 gh2 v3 vk8 vk0 vh vh0 vh1 vh2} (h) (x : (Rect.unit (s := S256x2816) ![0, o] ![256, 768] h).shape.Idx) :
    Act7 (Y7 (k0_pay7 B0 (View.ld B3 (Rect.unit ![0, o] ![1024, 768] g3))) (View.ld K (Rect.unit ![8, o] ![8, 768] gk8)) (View.ld K (Rect.unit ![0, o] ![8, 768] gk0))
        (View.ld B5 (Rect.unit ![3, o] ![1, 768] gh)) (View.ld B5 (Rect.unit ![0, o] ![1, 768] gh0)) (View.ld B5 (Rect.unit ![1, o] ![1, 768] gh1))
        (View.ld B5 (Rect.unit ![2, o] ![1, 768] gh2)))
      (Y7 (k0_pay7 B0 (View.ld B3 (Rect.unit ![0, o'] ![1024, 768] v3))) (View.ld K (Rect.unit ![8, o'] ![8, 768] vk8)) (View.ld K (Rect.unit ![0, o'] ![8, 768] vk0))
        (View.ld B5 (Rect.unit ![3, o'] ![1, 768] vh)) (View.ld B5 (Rect.unit ![0, o'] ![1, 768] vh0)) (View.ld B5 (Rect.unit ![1, o'] ![1, 768] vh1))
        (View.ld B5 (Rect.unit ![2, o'] ![1, 768] vh2))) x = GAct A t ((Rect.unit (s := S256x2816) ![0, o] ![256, 768] h).emb x) :=
  at_cols (N := 2816) (g := fun p n => ((act A (tm t p) n : ℝ) : EReal)) ho (act_at7 T C o ho o' ho') h x

include T C in
theorem dgate_piece7 (o : ℕ) (ho : o + 768 ≤ 2816) (o' : ℕ) (ho' : o' = 2816 + o) {g3 gk8 gk0 gh gh0 gh1 gh2 v3 vk8 vk0 vh vh0 vh1 vh2} (h) (x : (Rect.unit (s := S256x5632) ![0, o] ![256, 768] h).shape.Idx) :
    DGate7 (Y7 (k0_pay7 B0 (View.ld B3 (Rect.unit ![0, o] ![1024, 768] g3))) (View.ld K (Rect.unit ![8, o] ![8, 768] gk8)) (View.ld K (Rect.unit ![0, o] ![8, 768] gk0))
        (View.ld B5 (Rect.unit ![3, o] ![1, 768] gh)) (View.ld B5 (Rect.unit ![0, o] ![1, 768] gh0)) (View.ld B5 (Rect.unit ![1, o] ![1, 768] gh1))
        (View.ld B5 (Rect.unit ![2, o] ![1, 768] gh2)))
      (Y7 (k0_pay7 B0 (View.ld B3 (Rect.unit ![0, o'] ![1024, 768] v3))) (View.ld K (Rect.unit ![8, o'] ![8, 768] vk8)) (View.ld K (Rect.unit ![0, o'] ![8, 768] vk0))
        (View.ld B5 (Rect.unit ![3, o'] ![1, 768] vh)) (View.ld B5 (Rect.unit ![0, o'] ![1, 768] vh0)) (View.ld B5 (Rect.unit ![1, o'] ![1, 768] vh1))
        (View.ld B5 (Rect.unit ![2, o'] ![1, 768] vh2))) x = GGrad A t ((Rect.unit (s := S256x5632) ![0, o] ![256, 768] h).emb x) :=
  at_cols (N := 5632) (g := fun p n => ((grad A (tm t p) n : ℝ) : EReal)) (by omega)
    (fun p j => (dgate7_at t o ho (y7 T C o (by omega) g3 gk8 gk0 gh gh0 gh1 gh2) (v7 T C o ho o' ho' v3 vk8 vk0 vh vh0 vh1 vh2) p j).trans
      (by rw [grad, dif_pos (show o + j.val < 2816 by omega)])) h x

include T C in
theorem dval_piece7 (o : ℕ) (ho : o + 768 ≤ 2816) (o' : ℕ) (ho' : o' = 2816 + o) {g3 gk8 gk0 gh gh0 gh1 gh2} (h) (x : (Rect.unit (s := S256x5632) ![0, o'] ![256, 768] h).shape.Idx) :
    DVal7 (Y7 (k0_pay7 B0 (View.ld B3 (Rect.unit ![0, o] ![1024, 768] g3))) (View.ld K (Rect.unit ![8, o] ![8, 768] gk8)) (View.ld K (Rect.unit ![0, o] ![8, 768] gk0))
        (View.ld B5 (Rect.unit ![3, o] ![1, 768] gh)) (View.ld B5 (Rect.unit ![0, o] ![1, 768] gh0)) (View.ld B5 (Rect.unit ![1, o] ![1, 768] gh1))
        (View.ld B5 (Rect.unit ![2, o] ![1, 768] gh2))) x = GGrad A t ((Rect.unit (s := S256x5632) ![0, o'] ![256, 768] h).emb x) :=
  at_cols (N := 5632) (g := fun p n => ((grad A (tm t p) n : ℝ) : EReal)) (by omega)
    (fun p j => (show _ = _ by
      pointwise [DVal7]
      rw [gs7_at t o ho (y7 T C o (by omega) g3 gk8 gk0 gh gh0 gh1 gh2), grad, dif_neg (show ¬ o' + j.val < 2816 by omega)]
      exact congrArg (fun n => ((dval A (tm t p) n : ℝ) : EReal)) (Fin.ext (by simp; omega)))) h x

include T in
theorem up_piece5 (o : ℕ) (ho : o + 512 ≤ 5632) {h3} (h) (x : (Rect.unit (s := S256x5632) ![0, o] ![256, 512] h).shape.Idx) : Up5 (k0_pay53 (k0_pay6 B0) (View.ld B3 (Rect.unit ![0, o] ![1024, 512] h3))) x = GUp A t ((Rect.unit (s := S256x5632) ![0, o] ![256, 512] h).emb x) :=
  at_cols (N := 5632) (g := fun p n => ((up A (tm t p) n : ℝ) : EReal)) ho (fun p j => by pointwise [Up5]; exact u5 T o ho h3 p j) h x

include T in
theorem keep_piece5 (o : ℕ) (ho : o + 512 ≤ 5632) {h3} (h) (x : (Rect.unit (s := S16x5632) ![0, o] ![16, 512] h).shape.Idx) : k0_pay79 (k0_pay53 (k0_pay6 B0) (View.ld B3 (Rect.unit ![0, o] ![1024, 512] h3))) x = GKeep A t ((Rect.unit (s := S16x5632) ![0, o] ![16, 512] h).emb x) :=
  at_cols (M := 16) (N := 5632) (g := fun r n => ((up A (tm t ⟨240 + r.val, by omega⟩) n : ℝ) : EReal)) ho
    (fun p j => by pointwise [k0_pay79]; exact u5 T o ho h3 _ j) h x

include T C in
theorem act_at5 (o : ℕ) (ho : o + 512 ≤ 2816) (o' : ℕ) (ho' : o' = 2816 + o) {g3 gk8 gk0 gh gh0 gh1 gh2 v3 vk8 vk0 vh vh0 vh1 vh2} (p : Fin 256) (j : Fin 512) :
    Act5 (Y5 (k0_pay53 (k0_pay6 B0) (View.ld B3 (Rect.unit ![0, o] ![1024, 512] g3))) (View.ld K (Rect.unit ![8, o] ![8, 512] gk8)) (View.ld K (Rect.unit ![0, o] ![8, 512] gk0))
        (View.ld B5 (Rect.unit ![3, o] ![1, 512] gh)) (View.ld B5 (Rect.unit ![0, o] ![1, 512] gh0)) (View.ld B5 (Rect.unit ![1, o] ![1, 512] gh1))
        (View.ld B5 (Rect.unit ![2, o] ![1, 512] gh2)))
      (Y5 (k0_pay53 (k0_pay6 B0) (View.ld B3 (Rect.unit ![0, o'] ![1024, 512] v3))) (View.ld K (Rect.unit ![8, o'] ![8, 512] vk8)) (View.ld K (Rect.unit ![0, o'] ![8, 512] vk0))
        (View.ld B5 (Rect.unit ![3, o'] ![1, 512] vh)) (View.ld B5 (Rect.unit ![0, o'] ![1, 512] vh0)) (View.ld B5 (Rect.unit ![1, o'] ![1, 512] vh1))
        (View.ld B5 (Rect.unit ![2, o'] ![1, 512] vh2))) (ix2 p j) = ((act A (tm t p) ⟨o + j.val, by omega⟩ : ℝ) : EReal) :=
  act5_at t o ho (y5 T C o (by omega) g3 gk8 gk0 gh gh0 gh1 gh2) (v5 T C o ho o' ho' v3 vk8 vk0 vh vh0 vh1 vh2) p j

include T C in
theorem act_piece5 (o : ℕ) (ho : o + 512 ≤ 2816) (o' : ℕ) (ho' : o' = 2816 + o) {g3 gk8 gk0 gh gh0 gh1 gh2 v3 vk8 vk0 vh vh0 vh1 vh2} (h) (x : (Rect.unit (s := S256x2816) ![0, o] ![256, 512] h).shape.Idx) :
    Act5 (Y5 (k0_pay53 (k0_pay6 B0) (View.ld B3 (Rect.unit ![0, o] ![1024, 512] g3))) (View.ld K (Rect.unit ![8, o] ![8, 512] gk8)) (View.ld K (Rect.unit ![0, o] ![8, 512] gk0))
        (View.ld B5 (Rect.unit ![3, o] ![1, 512] gh)) (View.ld B5 (Rect.unit ![0, o] ![1, 512] gh0)) (View.ld B5 (Rect.unit ![1, o] ![1, 512] gh1))
        (View.ld B5 (Rect.unit ![2, o] ![1, 512] gh2)))
      (Y5 (k0_pay53 (k0_pay6 B0) (View.ld B3 (Rect.unit ![0, o'] ![1024, 512] v3))) (View.ld K (Rect.unit ![8, o'] ![8, 512] vk8)) (View.ld K (Rect.unit ![0, o'] ![8, 512] vk0))
        (View.ld B5 (Rect.unit ![3, o'] ![1, 512] vh)) (View.ld B5 (Rect.unit ![0, o'] ![1, 512] vh0)) (View.ld B5 (Rect.unit ![1, o'] ![1, 512] vh1))
        (View.ld B5 (Rect.unit ![2, o'] ![1, 512] vh2))) x = GAct A t ((Rect.unit (s := S256x2816) ![0, o] ![256, 512] h).emb x) :=
  at_cols (N := 2816) (g := fun p n => ((act A (tm t p) n : ℝ) : EReal)) ho (act_at5 T C o ho o' ho') h x

include T C in
theorem dgate_piece5 (o : ℕ) (ho : o + 512 ≤ 2816) (o' : ℕ) (ho' : o' = 2816 + o) {g3 gk8 gk0 gh gh0 gh1 gh2 v3 vk8 vk0 vh vh0 vh1 vh2} (h) (x : (Rect.unit (s := S256x5632) ![0, o] ![256, 512] h).shape.Idx) :
    DGate5 (Y5 (k0_pay53 (k0_pay6 B0) (View.ld B3 (Rect.unit ![0, o] ![1024, 512] g3))) (View.ld K (Rect.unit ![8, o] ![8, 512] gk8)) (View.ld K (Rect.unit ![0, o] ![8, 512] gk0))
        (View.ld B5 (Rect.unit ![3, o] ![1, 512] gh)) (View.ld B5 (Rect.unit ![0, o] ![1, 512] gh0)) (View.ld B5 (Rect.unit ![1, o] ![1, 512] gh1))
        (View.ld B5 (Rect.unit ![2, o] ![1, 512] gh2)))
      (Y5 (k0_pay53 (k0_pay6 B0) (View.ld B3 (Rect.unit ![0, o'] ![1024, 512] v3))) (View.ld K (Rect.unit ![8, o'] ![8, 512] vk8)) (View.ld K (Rect.unit ![0, o'] ![8, 512] vk0))
        (View.ld B5 (Rect.unit ![3, o'] ![1, 512] vh)) (View.ld B5 (Rect.unit ![0, o'] ![1, 512] vh0)) (View.ld B5 (Rect.unit ![1, o'] ![1, 512] vh1))
        (View.ld B5 (Rect.unit ![2, o'] ![1, 512] vh2))) x = GGrad A t ((Rect.unit (s := S256x5632) ![0, o] ![256, 512] h).emb x) :=
  at_cols (N := 5632) (g := fun p n => ((grad A (tm t p) n : ℝ) : EReal)) (by omega)
    (fun p j => (dgate5_at t o ho (y5 T C o (by omega) g3 gk8 gk0 gh gh0 gh1 gh2) (v5 T C o ho o' ho' v3 vk8 vk0 vh vh0 vh1 vh2) p j).trans
      (by rw [grad, dif_pos (show o + j.val < 2816 by omega)])) h x

include T C in
theorem dval_piece5 (o : ℕ) (ho : o + 512 ≤ 2816) (o' : ℕ) (ho' : o' = 2816 + o) {g3 gk8 gk0 gh gh0 gh1 gh2} (h) (x : (Rect.unit (s := S256x5632) ![0, o'] ![256, 512] h).shape.Idx) :
    DVal5 (Y5 (k0_pay53 (k0_pay6 B0) (View.ld B3 (Rect.unit ![0, o] ![1024, 512] g3))) (View.ld K (Rect.unit ![8, o] ![8, 512] gk8)) (View.ld K (Rect.unit ![0, o] ![8, 512] gk0))
        (View.ld B5 (Rect.unit ![3, o] ![1, 512] gh)) (View.ld B5 (Rect.unit ![0, o] ![1, 512] gh0)) (View.ld B5 (Rect.unit ![1, o] ![1, 512] gh1))
        (View.ld B5 (Rect.unit ![2, o] ![1, 512] gh2))) x = GGrad A t ((Rect.unit (s := S256x5632) ![0, o'] ![256, 512] h).emb x) :=
  at_cols (N := 5632) (g := fun p n => ((grad A (tm t p) n : ℝ) : EReal)) (by omega)
    (fun p j => (show _ = _ by
      pointwise [DVal5]
      rw [gs5_at t o ho (y5 T C o (by omega) g3 gk8 gk0 gh gh0 gh1 gh2), grad, dif_neg (show ¬ o' + j.val < 2816 by omega)]
      exact congrArg (fun n => ((dval A (tm t p) n : ℝ) : EReal)) (Fin.ext (by simp; omega)))) h x

include T C in
/-- The second product over the whole tile. -/
theorem f_tile {g03 g08 g00 c03 c00 c01 c02 g7683 g7688 g7680 c7683 c7680 c7681 c7682 g15363 g15368 g15360 c15363 c15360 c15361 c15362 g23043 g23048 g23040 c23043 c23040 c23041 c23042 g28163 g28168 g28160 c28163 c28160 c28161 c28162 g35843 g35848 g35840 c35843 c35840 c35841 c35842 g43523 g43528 g43520 c43523 c43520 c43521 c43522 g51203 g51208 g51200 c51203 c51200 c51201 c51202} {w0 w1 w2 w3} {v}
    (hv : F4 (Act7 (Y7 (k0_pay7 B0 (View.ld B3 (Rect.unit ![0, 0] ![1024, 768] g03))) (View.ld K (Rect.unit ![8, 0] ![8, 768] g08)) (View.ld K (Rect.unit ![0, 0] ![8, 768] g00))
            (View.ld B5 (Rect.unit ![3, 0] ![1, 768] c03)) (View.ld B5 (Rect.unit ![0, 0] ![1, 768] c00)) (View.ld B5 (Rect.unit ![1, 0] ![1, 768] c01)) (View.ld B5 (Rect.unit ![2, 0] ![1, 768] c02)))
          (Y7 (k0_pay7 B0 (View.ld B3 (Rect.unit ![0, 2816] ![1024, 768] g28163))) (View.ld K (Rect.unit ![8, 2816] ![8, 768] g28168)) (View.ld K (Rect.unit ![0, 2816] ![8, 768] g28160))
            (View.ld B5 (Rect.unit ![3, 2816] ![1, 768] c28163)) (View.ld B5 (Rect.unit ![0, 2816] ![1, 768] c28160)) (View.ld B5 (Rect.unit ![1, 2816] ![1, 768] c28161)) (View.ld B5 (Rect.unit ![2, 2816] ![1, 768] c28162))))
        (Act7 (Y7 (k0_pay7 B0 (View.ld B3 (Rect.unit ![0, 768] ![1024, 768] g7683))) (View.ld K (Rect.unit ![8, 768] ![8, 768] g7688)) (View.ld K (Rect.unit ![0, 768] ![8, 768] g7680))
            (View.ld B5 (Rect.unit ![3, 768] ![1, 768] c7683)) (View.ld B5 (Rect.unit ![0, 768] ![1, 768] c7680)) (View.ld B5 (Rect.unit ![1, 768] ![1, 768] c7681)) (View.ld B5 (Rect.unit ![2, 768] ![1, 768] c7682)))
          (Y7 (k0_pay7 B0 (View.ld B3 (Rect.unit ![0, 3584] ![1024, 768] g35843))) (View.ld K (Rect.unit ![8, 3584] ![8, 768] g35848)) (View.ld K (Rect.unit ![0, 3584] ![8, 768] g35840))
            (View.ld B5 (Rect.unit ![3, 3584] ![1, 768] c35843)) (View.ld B5 (Rect.unit ![0, 3584] ![1, 768] c35840)) (View.ld B5 (Rect.unit ![1, 3584] ![1, 768] c35841)) (View.ld B5 (Rect.unit ![2, 3584] ![1, 768] c35842))))
        (Act7 (Y7 (k0_pay7 B0 (View.ld B3 (Rect.unit ![0, 1536] ![1024, 768] g15363))) (View.ld K (Rect.unit ![8, 1536] ![8, 768] g15368)) (View.ld K (Rect.unit ![0, 1536] ![8, 768] g15360))
            (View.ld B5 (Rect.unit ![3, 1536] ![1, 768] c15363)) (View.ld B5 (Rect.unit ![0, 1536] ![1, 768] c15360)) (View.ld B5 (Rect.unit ![1, 1536] ![1, 768] c15361)) (View.ld B5 (Rect.unit ![2, 1536] ![1, 768] c15362)))
          (Y7 (k0_pay7 B0 (View.ld B3 (Rect.unit ![0, 4352] ![1024, 768] g43523))) (View.ld K (Rect.unit ![8, 4352] ![8, 768] g43528)) (View.ld K (Rect.unit ![0, 4352] ![8, 768] g43520))
            (View.ld B5 (Rect.unit ![3, 4352] ![1, 768] c43523)) (View.ld B5 (Rect.unit ![0, 4352] ![1, 768] c43520)) (View.ld B5 (Rect.unit ![1, 4352] ![1, 768] c43521)) (View.ld B5 (Rect.unit ![2, 4352] ![1, 768] c43522))))
        (Act5 (Y5 (k0_pay53 (k0_pay6 B0) (View.ld B3 (Rect.unit ![0, 2304] ![1024, 512] g23043))) (View.ld K (Rect.unit ![8, 2304] ![8, 512] g23048)) (View.ld K (Rect.unit ![0, 2304] ![8, 512] g23040))
            (View.ld B5 (Rect.unit ![3, 2304] ![1, 512] c23043)) (View.ld B5 (Rect.unit ![0, 2304] ![1, 512] c23040)) (View.ld B5 (Rect.unit ![1, 2304] ![1, 512] c23041)) (View.ld B5 (Rect.unit ![2, 2304] ![1, 512] c23042)))
          (Y5 (k0_pay53 (k0_pay6 B0) (View.ld B3 (Rect.unit ![0, 5120] ![1024, 512] g51203))) (View.ld K (Rect.unit ![8, 5120] ![8, 512] g51208)) (View.ld K (Rect.unit ![0, 5120] ![8, 512] g51200))
            (View.ld B5 (Rect.unit ![3, 5120] ![1, 512] c51203)) (View.ld B5 (Rect.unit ![0, 5120] ![1, 512] c51200)) (View.ld B5 (Rect.unit ![1, 5120] ![1, 512] c51201)) (View.ld B5 (Rect.unit ![2, 5120] ![1, 512] c51202))))
        (View.ld B4 (Rect.unit ![0, 0] ![768, 1024] w0)) (View.ld B4 (Rect.unit ![768, 0] ![768, 1024] w1)) (View.ld B4 (Rect.unit ![1536, 0] ![768, 1024] w2))
        (View.ld B4 (Rect.unit ![2304, 0] ![512, 1024] w3)) = v) (p : Fin 256) (c : Fin 1024) : v (ix2 p c) = ((f A (tm t p) c : ℝ) : EReal) :=
  hv ▸ f4_at t (act_at7 T C 0 (by decide) 2816 rfl) (act_at7 T C 768 (by decide) 3584 rfl) (act_at7 T C 1536 (by decide) 4352 rfl)
    (act_at5 T C 2304 (by decide) 5120 rfl) (fun j c => by pointwise; exact T.wd _ c) (fun j c => by pointwise; exact T.wd _ c)
    (fun j c => by pointwise; exact T.wd _ c) (fun j c => by pointwise; exact T.wd _ c) p c

include T in
/-- What the end of the tile's work is given. -/
theorem last_tile {v : FVec Ideal S256x1024 .f32} (hv : ∀ p c, v (ix2 p c) = ((f A (tm t p) c : ℝ) : EReal)) {i1 i9 i5} :
    Last A t v (k0_pay90 (View.ld B7 (Rect.unit ![1, 0, 0] ![1, 256, 256] i1))) (truncf .bf16 v bitsLt_bf16_f32 : FVec Ideal S256x1024 .bf16)
      (View.ld B6 (Rect.unit ![9, 0] ![1, 1024] i9)) (View.ld B6 (Rect.unit ![5, 0] ![1, 1024] i5)) B1 B2 where
  f := hv
  f' := fun p c => by pointwise; exact hv p c
  pm := fun s p => by pointwise [k0_pay90]; exact T.hot1 s p
  post := fun c => by pointwise; exact T.post c
  g := fun c => by pointwise; exact T.g c
  x := T.x
  tgt := T.tgt

end

end Fwd.Ker

end
-- ==== Proof.FwdPoint.lean ====
module

public import proofs.«01_k».proof.Proof.FwdBlock
public import proofs.«01_k».proof.Proof.Gen.FfnFwdIdeal.Value
public import Idealize.ShloMosaic.Lib.WritesUnit

@[expose] public section

set_option maxRecDepth 16384
set_option maxHeartbeats 2000000

noncomputable section

/-! What each of the launch's outputs, and its scratch, holds after one point of its grid. -/

namespace Fwd.Ker

open Idealize.ShloMosaic Idealize.ShloMosaic.TcCoe Idealize.SL.Sem
open Cert.FfnFwdIdeal Cert.FfnFwdIdeal.Gen Lift

/-- The sums over the first `n` tiles. -/
def part (n : ℕ) (g : Fin 32 → ℝ) : ℝ := ∑ τ ∈ Finset.univ.filter (fun τ : Fin 32 => τ.val < n), g τ

theorem part_zero (g : Fin 32 → ℝ) : part 0 g = 0 := by simp [part]

theorem part_succ (t : Fin 32) (g : Fin 32 → ℝ) : part (t.val + 1) g = part t.val g + g t := by
  have h : Finset.univ.filter (fun τ : Fin 32 => τ.val < t.val + 1) = insert t (Finset.univ.filter (fun τ : Fin 32 => τ.val < t.val)) := by
    ext τ; simp only [Finset.mem_filter, Finset.mem_univ, true_and, Finset.mem_insert, Fin.ext_iff]; omega
  rw [part, h, Finset.sum_insert (by simp), add_comm]; rfl

theorem part_all (g : Fin 8192 → ℝ) : part 32 (fun τ => ∑ s, g (st τ s)) = ∑ s, g s := by
  rw [part, Finset.filter_true_of_mem (fun τ _ => τ.isLt), ← Fintype.sum_prod_type' (f := fun τ s => g (st τ s))]
  exact Fintype.sum_equiv (finProdFinEquiv (m := 32) (n := 256)) _ _ fun x => congrArg g (Fin.ext (by simp [st, finProdFinEquiv]; omega))

def sq (A : Args) (c : Fin 1024) (t : Fin 32) : ℝ := ∑ s, e A (st t s) c * e A (st t s) c
def gn (A : Args) (c : Fin 1024) (t : Fin 32) : ℝ := ∑ s, dy A (st t s) c * fhat A (st t s) c

def GDy (A : Args) (t : Fin 32) (y : S256x1024.Idx) : EReal := ((dy A (st t (y 0)) (y 1) : ℝ) : EReal)
def GDf (A : Args) (t : Fin 32) (y : S256x1024.Idx) : EReal := ((df A (tm t (y 0)) (y 1) : ℝ) : EReal)

theorem eta (M N : ℕ) (y : (⟨2, ![M, N]⟩ : Shape).Idx) : y = ix2 (y 0 : Fin M) (y 1 : Fin N) := by
  funext a; refine Fin.cases rfl (fun a => Fin.cases rfl (fun a => a.elim0) a) a

/-- Before the first tile the scratch holds zeros. -/
theorem carry_first {A : Args} (T : Fin 32) (hT : T.val = 0) : Carry A T (k0_pay4 (F := Ideal)) where
  one n := by
    pointwise [k0_pay4]
    rw [back_of_lt (by simp only [tm_val, hT]; decide)]; rfl
  two n := by
    pointwise [k0_pay4]
    rw [back_of_lt (by simp only [tm_val, hT]; decide)]; rfl

theorem ends (t : Fin cfg0.N) : (t.val % 32 = 0 ∧ ¬ t.val % 32 = 31) ∨ (¬ t.val % 32 = 0 ∧ ¬ t.val % 32 = 31) ∨ (¬ t.val % 32 = 0 ∧ t.val % 32 = 31) := by
  omega

variable (m : (ℓ : Loc nD τ sig) → Buf (Elt Ideal) ℓ) {A : Args} {T : Fin 32} (c : Dev nD) (t : Fin cfg0.N) (hT : T.val = t.val % 32)
  (B : Blocks A T (iblk m c 0 t) (iblk m c 1 t) (iblk m c 2 t) (iblk m c 3 t) (iblk m c 4 t) (iblk m c 5 t) (iblk m c 6 t) (iblk m c 7 t))
  (hK : ¬ t.val % 32 = 0 → Carry A T (outsAt0 m c (t.val - 1) (Nat.lt_of_le_of_lt (Nat.sub_le _ _) t.isLt)).2.2.2.2.2.2)

include B hT hK in
theorem out8 (y) : (outsAt0 m c t.val t.isLt).1 y = GUp A T y := by
  rcases ends t with ⟨h0, h1⟩ | ⟨h0, h1⟩ | ⟨h0, h1⟩
  · have C := carry_first (A := A) T (by omega)
    rw [outsAt0_A m c t h0 h1]
    frame_open
    simp (disch := decide) only [↓ View.readCov_skip, ↓ View.readCov_cons_toLoadRect, ↓ View.readCov_fill]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    refine View.canon_apply_of_pieces (Val := Elt Ideal) (e := .bf16) (GUp A T) _ (View.PiecesOf.mem ?_) y ?_
    · exact ⟨up_piece5 B 5120 (by decide) (by decide), up_piece5 B 2304 (by decide) (by decide), up_piece7 B 4352 (by decide) (by decide), up_piece7 B 1536 (by decide) (by decide), up_piece7 B 3584 (by decide) (by decide), up_piece7 B 768 (by decide) (by decide), up_piece7 B 2816 (by decide) (by decide), up_piece7 B 0 (by decide) (by decide), trivial⟩
    · exact View.cover_of_tiledBy _ ![256, 256] (by sl_kernel_rfl) y
  · have C := hK h0
    rw [outsAt0_B m c t h0 h1]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    refine View.canon_apply_of_pieces (Val := Elt Ideal) (e := .bf16) (GUp A T) _ (View.PiecesOf.mem ?_) y ?_
    · exact ⟨up_piece5 B 5120 (by decide) (by decide), up_piece5 B 2304 (by decide) (by decide), up_piece7 B 4352 (by decide) (by decide), up_piece7 B 1536 (by decide) (by decide), up_piece7 B 3584 (by decide) (by decide), up_piece7 B 768 (by decide) (by decide), up_piece7 B 2816 (by decide) (by decide), up_piece7 B 0 (by decide) (by decide), trivial⟩
    · exact View.cover_of_tiledBy _ ![256, 256] (by sl_kernel_rfl) y
  · have C := hK h0
    rw [outsAt0_C m c t h0 h1]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    refine View.canon_apply_of_pieces (Val := Elt Ideal) (e := .bf16) (GUp A T) _ (View.PiecesOf.mem ?_) y ?_
    · exact ⟨up_piece5 B 5120 (by decide) (by decide), up_piece5 B 2304 (by decide) (by decide), up_piece7 B 4352 (by decide) (by decide), up_piece7 B 1536 (by decide) (by decide), up_piece7 B 3584 (by decide) (by decide), up_piece7 B 768 (by decide) (by decide), up_piece7 B 2816 (by decide) (by decide), up_piece7 B 0 (by decide) (by decide), trivial⟩
    · exact View.cover_of_tiledBy _ ![256, 256] (by sl_kernel_rfl) y

include B hT hK in
theorem out9 (y) : (outsAt0 m c t.val t.isLt).2.1 y = GGrad A T y := by
  rcases ends t with ⟨h0, h1⟩ | ⟨h0, h1⟩ | ⟨h0, h1⟩
  · have C := carry_first (A := A) T (by omega)
    rw [outsAt0_A m c t h0 h1]
    frame_open
    simp (disch := decide) only [↓ View.readCov_skip, ↓ View.readCov_cons_toLoadRect, ↓ View.readCov_fill]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    refine View.canon_apply_of_pieces (Val := Elt Ideal) (e := .bf16) (GGrad A T) _ (View.PiecesOf.mem ?_) y ?_
    · exact ⟨dval_piece5 B C 2304 (by decide) 5120 rfl (by decide), dgate_piece5 B C 2304 (by decide) 5120 rfl (by decide), dval_piece7 B C 1536 (by decide) 4352 rfl (by decide), dgate_piece7 B C 1536 (by decide) 4352 rfl (by decide), dval_piece7 B C 768 (by decide) 3584 rfl (by decide), dgate_piece7 B C 768 (by decide) 3584 rfl (by decide), dval_piece7 B C 0 (by decide) 2816 rfl (by decide), dgate_piece7 B C 0 (by decide) 2816 rfl (by decide), trivial⟩
    · exact View.cover_of_tiledBy _ ![256, 256] (by sl_kernel_rfl) y
  · have C := hK h0
    rw [outsAt0_B m c t h0 h1]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    refine View.canon_apply_of_pieces (Val := Elt Ideal) (e := .bf16) (GGrad A T) _ (View.PiecesOf.mem ?_) y ?_
    · exact ⟨dval_piece5 B C 2304 (by decide) 5120 rfl (by decide), dgate_piece5 B C 2304 (by decide) 5120 rfl (by decide), dval_piece7 B C 1536 (by decide) 4352 rfl (by decide), dgate_piece7 B C 1536 (by decide) 4352 rfl (by decide), dval_piece7 B C 768 (by decide) 3584 rfl (by decide), dgate_piece7 B C 768 (by decide) 3584 rfl (by decide), dval_piece7 B C 0 (by decide) 2816 rfl (by decide), dgate_piece7 B C 0 (by decide) 2816 rfl (by decide), trivial⟩
    · exact View.cover_of_tiledBy _ ![256, 256] (by sl_kernel_rfl) y
  · have C := hK h0
    rw [outsAt0_C m c t h0 h1]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    refine View.canon_apply_of_pieces (Val := Elt Ideal) (e := .bf16) (GGrad A T) _ (View.PiecesOf.mem ?_) y ?_
    · exact ⟨dval_piece5 B C 2304 (by decide) 5120 rfl (by decide), dgate_piece5 B C 2304 (by decide) 5120 rfl (by decide), dval_piece7 B C 1536 (by decide) 4352 rfl (by decide), dgate_piece7 B C 1536 (by decide) 4352 rfl (by decide), dval_piece7 B C 768 (by decide) 3584 rfl (by decide), dgate_piece7 B C 768 (by decide) 3584 rfl (by decide), dval_piece7 B C 0 (by decide) 2816 rfl (by decide), dgate_piece7 B C 0 (by decide) 2816 rfl (by decide), trivial⟩
    · exact View.cover_of_tiledBy _ ![256, 256] (by sl_kernel_rfl) y

include B hT hK in
theorem out10 (y) : (outsAt0 m c t.val t.isLt).2.2.1 y = GAct A T y := by
  rcases ends t with ⟨h0, h1⟩ | ⟨h0, h1⟩ | ⟨h0, h1⟩
  · have C := carry_first (A := A) T (by omega)
    rw [outsAt0_A m c t h0 h1]
    frame_open
    simp (disch := decide) only [↓ View.readCov_skip, ↓ View.readCov_cons_toLoadRect, ↓ View.readCov_fill]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    refine View.canon_apply_of_pieces (Val := Elt Ideal) (e := .bf16) (GAct A T) _ (View.PiecesOf.mem ?_) y ?_
    · exact ⟨act_piece5 B C 2304 (by decide) 5120 rfl (by decide), act_piece7 B C 1536 (by decide) 4352 rfl (by decide), act_piece7 B C 768 (by decide) 3584 rfl (by decide), act_piece7 B C 0 (by decide) 2816 rfl (by decide), trivial⟩
    · exact View.cover_of_tiledBy _ ![256, 256] (by sl_kernel_rfl) y
  · have C := hK h0
    rw [outsAt0_B m c t h0 h1]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    refine View.canon_apply_of_pieces (Val := Elt Ideal) (e := .bf16) (GAct A T) _ (View.PiecesOf.mem ?_) y ?_
    · exact ⟨act_piece5 B C 2304 (by decide) 5120 rfl (by decide), act_piece7 B C 1536 (by decide) 4352 rfl (by decide), act_piece7 B C 768 (by decide) 3584 rfl (by decide), act_piece7 B C 0 (by decide) 2816 rfl (by decide), trivial⟩
    · exact View.cover_of_tiledBy _ ![256, 256] (by sl_kernel_rfl) y
  · have C := hK h0
    rw [outsAt0_C m c t h0 h1]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    refine View.canon_apply_of_pieces (Val := Elt Ideal) (e := .bf16) (GAct A T) _ (View.PiecesOf.mem ?_) y ?_
    · exact ⟨act_piece5 B C 2304 (by decide) 5120 rfl (by decide), act_piece7 B C 1536 (by decide) 4352 rfl (by decide), act_piece7 B C 768 (by decide) 3584 rfl (by decide), act_piece7 B C 0 (by decide) 2816 rfl (by decide), trivial⟩
    · exact View.cover_of_tiledBy _ ![256, 256] (by sl_kernel_rfl) y

include B hT hK in
theorem kept (y) : (outsAt0 m c t.val t.isLt).2.2.2.2.2.2 y = GKeep A T y := by
  rcases ends t with ⟨h0, h1⟩ | ⟨h0, h1⟩ | ⟨h0, h1⟩
  · have C := carry_first (A := A) T (by omega)
    rw [outsAt0_A m c t h0 h1]
    frame_open
    simp (disch := decide) only [↓ View.readCov_skip, ↓ View.readCov_cons_toLoadRect, ↓ View.readCov_fill]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    refine View.canon_append_of_piecesOf (Val := Elt Ideal) (e := .f32) (GKeep A T) [_] [_, _, _, _, _, _, _, _] ?_ y ?_
    · exact ⟨keep_piece5 B 5120 (by decide) (by decide), keep_piece5 B 2304 (by decide) (by decide), keep_piece7 B 4352 (by decide) (by decide), keep_piece7 B 1536 (by decide) (by decide), keep_piece7 B 3584 (by decide) (by decide), keep_piece7 B 768 (by decide) (by decide), keep_piece7 B 2816 (by decide) (by decide), keep_piece7 B 0 (by decide) (by decide), trivial⟩
    · exact View.cover_of_tiledBy _ ![16, 256] (by sl_kernel_rfl) y
  · have C := hK h0
    rw [outsAt0_B m c t h0 h1]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    refine View.canon_apply_of_pieces (Val := Elt Ideal) (e := .f32) (GKeep A T) _ (View.PiecesOf.mem ?_) y ?_
    · exact ⟨keep_piece5 B 5120 (by decide) (by decide), keep_piece5 B 2304 (by decide) (by decide), keep_piece7 B 4352 (by decide) (by decide), keep_piece7 B 1536 (by decide) (by decide), keep_piece7 B 3584 (by decide) (by decide), keep_piece7 B 768 (by decide) (by decide), keep_piece7 B 2816 (by decide) (by decide), keep_piece7 B 0 (by decide) (by decide), trivial⟩
    · exact View.cover_of_tiledBy _ ![16, 256] (by sl_kernel_rfl) y
  · have C := hK h0
    rw [outsAt0_C m c t h0 h1]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    refine View.canon_apply_of_pieces (Val := Elt Ideal) (e := .f32) (GKeep A T) _ (View.PiecesOf.mem ?_) y ?_
    · exact ⟨keep_piece5 B 5120 (by decide) (by decide), keep_piece5 B 2304 (by decide) (by decide), keep_piece7 B 4352 (by decide) (by decide), keep_piece7 B 1536 (by decide) (by decide), keep_piece7 B 3584 (by decide) (by decide), keep_piece7 B 768 (by decide) (by decide), keep_piece7 B 2816 (by decide) (by decide), keep_piece7 B 0 (by decide) (by decide), trivial⟩
    · exact View.cover_of_tiledBy _ ![16, 256] (by sl_kernel_rfl) y

include B hT hK in
theorem out11 (y) : (outsAt0 m c t.val t.isLt).2.2.2.1 y = GDy A T y := by
  rcases ends t with ⟨h0, h1⟩ | ⟨h0, h1⟩ | ⟨h0, h1⟩
  · have C := carry_first (A := A) T (by omega)
    rw [outsAt0_A m c t h0 h1]
    frame_open
    simp (disch := decide) only [↓ View.readCov_skip, ↓ View.readCov_cons_toLoadRect, ↓ View.readCov_fill]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    generalize hf : F4 _ _ _ _ _ _ _ _ = f
    rw [eta 256 1024 y]
    exact dy_at (last_tile B (f_tile B C hf)) _ _
  · have C := hK h0
    rw [outsAt0_B m c t h0 h1]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    generalize hf : F4 _ _ _ _ _ _ _ _ = f
    rw [eta 256 1024 y]
    exact dy_at (last_tile B (f_tile B C hf)) _ _
  · have C := hK h0
    rw [outsAt0_C m c t h0 h1]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    generalize hf : F4 _ _ _ _ _ _ _ _ = f
    rw [eta 256 1024 y]
    exact dy_at (last_tile B (f_tile B C hf)) _ _

include B hT hK in
theorem out12 (y) : (outsAt0 m c t.val t.isLt).2.2.2.2.1 y = GDf A T y := by
  rcases ends t with ⟨h0, h1⟩ | ⟨h0, h1⟩ | ⟨h0, h1⟩
  · have C := carry_first (A := A) T (by omega)
    rw [outsAt0_A m c t h0 h1]
    frame_open
    simp (disch := decide) only [↓ View.readCov_skip, ↓ View.readCov_cons_toLoadRect, ↓ View.readCov_fill]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    generalize hf : F4 _ _ _ _ _ _ _ _ = f
    rw [eta 256 1024 y]
    exact df_at (last_tile B (f_tile B C hf)) _ (fun p s => by pointwise; exact B.hot0 p s) _ _
  · have C := hK h0
    rw [outsAt0_B m c t h0 h1]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    generalize hf : F4 _ _ _ _ _ _ _ _ = f
    rw [eta 256 1024 y]
    exact df_at (last_tile B (f_tile B C hf)) _ (fun p s => by pointwise; exact B.hot0 p s) _ _
  · have C := hK h0
    rw [outsAt0_C m c t h0 h1]
    frame_out
    simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
    generalize hf : F4 _ _ _ _ _ _ _ _ = f
    rw [eta 256 1024 y]
    exact df_at (last_tile B (f_tile B C hf)) _ (fun p s => by pointwise; exact B.hot0 p s) _ _

end Fwd.Ker

end
-- ==== Proof.FwdAcc.lean ====
module

public import proofs.«01_k».proof.Proof.FwdPoint

@[expose] public section

set_option maxRecDepth 16384
set_option maxHeartbeats 2000000

noncomputable section

/-! The accumulator along the grid, and the rows kept from tile to tile. -/

namespace Fwd.Ker

open Idealize.ShloMosaic Idealize.ShloMosaic.TcCoe Idealize.SL.Sem
open Cert.FfnFwdIdeal Cert.FfnFwdIdeal.Gen Lift

/-- The accumulator after `n` tiles. -/
def total (A : Args) (n : ℕ) (r : Fin 8) (k : Fin 1024) : ℝ := if r.val = 0 then part n (sq A k) else if r.val = 1 then part n (gn A k) else 0

/-- A row stored last over earlier contents, and an earlier one. -/
theorem read_row {κ : Kind} {sp : Space} (v : View sig κ sp S8x1024 .f32) (f : v.ty.Contents (Elt Ideal)) {o : ℕ} {h} (w : Vec Ideal S1x1024 .f32)
    (L : List (View.Piece (Elt Ideal) S8x1024 .f32)) (r : Fin 8) (k : Fin 1024) :
    v.read (Elt Ideal) (v.writes (Elt Ideal) f (⟨Rect.unit ![o, 0] ![1, 1024] h, w⟩ :: L)) (ix2 r k)
      = if r.val = o then w (ix2 0 k) else v.read (Elt Ideal) (v.writes (Elt Ideal) f L) (ix2 r k) := by
  by_cases hr : r.val = o
  · rw [if_pos hr]
    exact View.read_writes_cons_rows_of_mem v f h w L (ix2 r k) (ix2 0 k) rfl (by simpa using hr) rfl
  · rw [if_neg hr]
    exact View.read_writes_cons_rows_of_not_mem v f h w L (ix2 r k) rfl (W := 1) rfl (show r.val < o ∨ o + 1 ≤ r.val by omega)

/-- … and over nothing. -/
theorem canon_row {o : ℕ} {h} (w : Vec Ideal S1x1024 .f32) (L : List (View.Piece (Elt Ideal) S8x1024 .f32)) (r : Fin 8) (k : Fin 1024) :
    View.canon (Val := Elt Ideal) (s := S8x1024) (e := .f32) (⟨Rect.unit ![o, 0] ![1, 1024] h, w⟩ :: L) (ix2 r k)
      = if r.val = o then w (ix2 0 k) else View.canon L (ix2 r k) := by
  by_cases hr : r.val = o
  · rw [if_pos hr]
    refine Eq.trans (congrArg _ ?_) (View.canon_cons_emb (Val := Elt Ideal) (s := S8x1024) (e := .f32) (Rect.unit ![o, 0] ![1, 1024] h) w L (ix2 0 k))
    funext a
    refine Fin.cases (Fin.ext ?_) (fun a => Fin.cases (Fin.ext ?_) (fun a => a.elim0) a) a
    · simp [ValueKit.rect_emb_unit_val]; exact hr
    · simp [ValueKit.rect_emb_unit_val]
  · rw [if_neg hr]
    refine View.canon_cons_of_not_mem _ _ fun hm => hr ?_
    have := (Rect.mem_set_unit (inb := h)).mp hm 0
    simp at this; omega

theorem total_succ {A : Args} (T : Fin 32) (r : Fin 8) (k : Fin 1024) :
    total A (T.val + 1) r k = if r.val = 0 then part T.val (sq A k) + sq A k T else if r.val = 1 then part T.val (gn A k) + gn A k T else 0 := by
  rw [total, part_succ, part_succ]

variable (m : (ℓ : Loc nD τ sig) → Buf (Elt Ideal) ℓ) {A : Args} {T : Fin 32} (c : Dev nD) (t : Fin cfg0.N) (hT : T.val = t.val % 32)
  (B : Blocks A T (iblk m c 0 t) (iblk m c 1 t) (iblk m c 2 t) (iblk m c 3 t) (iblk m c 4 t) (iblk m c 5 t) (iblk m c 6 t) (iblk m c 7 t))

include B hT in
theorem acc_first (h0 : t.val % 32 = 0) (h1 : ¬ t.val % 32 = 31) (r : Fin 8) (k : Fin 1024) :
    (outsAt0 m c t.val t.isLt).2.2.2.2.2.1 (ix2 r k) = ((total A (T.val + 1) r k : ℝ) : EReal) := by
  have C := carry_first (A := A) T (by omega)
  rw [outsAt0_A m c t h0 h1]
  frame_open
  simp (disch := decide) only [↓ View.readCov_skip, ↓ View.readCov_cons_toLoadRect, ↓ View.readCov_fill]
  frame_out
  simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
  generalize hf : F4 _ _ _ _ _ _ _ _ = f
  rw [canon_row, canon_row, View.canon_cons_unit_lit _ _ _ (by decide), total_succ, show T.val = 0 by omega, part_zero, part_zero]
  by_cases ha : r.val = 0
  · rw [if_neg (by omega), if_pos ha, if_pos ha]
    exact acc0_at (last_tile B (f_tile B C hf)) _ 0 k (by pointwise [k0_pay5]; rfl)
  · by_cases hb : r.val = 1
    · rw [if_pos hb, if_neg ha, if_pos hb]
      exact acc1_at (last_tile B (f_tile B C hf)) _ 0 k (by pointwise [k0_pay5]; rfl)
    · rw [if_neg hb, if_neg ha, if_neg ha, if_neg hb]
      pointwise [k0_pay5]; rfl

variable (C : Carry A T (outsAt0 m c (t.val - 1) (Nat.lt_of_le_of_lt (Nat.sub_le _ _) t.isLt)).2.2.2.2.2.2)
  (hA : ∀ (r : Fin 8) (k : Fin 1024), (outsAt0 m c (t.val - 1) (Nat.lt_of_le_of_lt (Nat.sub_le _ _) t.isLt)).2.2.2.2.2.1 (ix2 r k) = ((total A T.val r k : ℝ) : EReal))

include hA in
theorem row0 (k : Fin 1024) : (outsAt0 m c (t.val - 1) (Nat.lt_of_le_of_lt (Nat.sub_le _ _) t.isLt)).2.2.2.2.2.1 (ix2 0 k) = ((part T.val (sq A k) : ℝ) : EReal) := hA 0 k
include hA in
theorem row1 (k : Fin 1024) : (outsAt0 m c (t.val - 1) (Nat.lt_of_le_of_lt (Nat.sub_le _ _) t.isLt)).2.2.2.2.2.1 (ix2 1 k) = ((part T.val (gn A k) : ℝ) : EReal) := hA 1 k

include B hT C hA in
theorem acc_next (h0 : ¬ t.val % 32 = 0) (h1 : ¬ t.val % 32 = 31) (r : Fin 8) (k : Fin 1024) :
    (outsAt0 m c t.val t.isLt).2.2.2.2.2.1 (ix2 r k) = ((total A (T.val + 1) r k : ℝ) : EReal) := by
  rw [outsAt0_B m c t h0 h1]
  frame_out
  simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4']
  generalize hf : F4 _ _ _ _ _ _ _ _ = f
  rw [read_row, read_row, total_succ]
  by_cases ha : r.val = 0
  · rw [if_neg (by omega), if_pos ha, if_pos ha]
    exact acc0_at (last_tile B (f_tile B C hf)) _ _ k (by pointwise; exact row0 m c t hA k)
  · by_cases hb : r.val = 1
    · rw [if_pos hb, if_neg ha, if_pos hb]
      exact acc1_at (last_tile B (f_tile B C hf)) _ _ k (by pointwise; exact row1 m c t hA k)
    · rw [if_neg hb, if_neg ha, if_neg ha, if_neg hb]
      refine Eq.trans ?_ ((hA r k).trans (by rw [total, if_neg ha, if_neg hb]))
      exact congrFun (Memref.IsWhole.read_unread _ _) _

include B hT C hA in
theorem acc_last (h0 : ¬ t.val % 32 = 0) (h1 : t.val % 32 = 31) (r : Fin 8) (k : Fin 1024) :
    (outsAt0 m c t.val t.isLt).2.2.2.2.2.1 (ix2 r k) = ((sums A r k : ℝ) : EReal) := by
  have hn : T.val + 1 = 32 := by omega
  have e0 : part T.val (sq A k) + sq A k T = ∑ s, e A s k * e A s k := by rw [← part_succ, hn]; exact part_all fun s => e A s k * e A s k
  have e1 : part T.val (gn A k) + gn A k T = ∑ s, dy A s k * fhat A s k := by rw [← part_succ, hn]; exact part_all fun s => dy A s k * fhat A s k
  rw [outsAt0_C m c t h0 h1]
  frame_out
  simp only [read_unread_whole, up_c, up_d, up_e, up_f, up_g, up_h, up0, up0', up1, up1', up2, up2', up3, up3', keep0', keep1, keep1', keep2, keep2', keep3',
    y0, y0', y1, y2, y3, act0, act1, act2, act3, dgate0, dgate1, dgate2, dgate3, dval0, dval1, dval2, dval3, f4, f4', View.readCov_cons_toLoadRect]
  generalize hf : F4 _ _ _ _ _ _ _ _ = f
  rw [read_row, read_row, read_row, read_row, sums]
  by_cases ha : r.val = 0
  · rw [if_neg (by omega), if_neg (by omega), if_neg (by omega), if_pos ha, if_pos ha, ← e0]
    exact acc0_at (last_tile B (f_tile B C hf)) _ _ k (by pointwise; exact row0 m c t hA k)
  · by_cases hb : r.val = 1
    · rw [if_neg (by omega), if_pos hb, if_neg ha, if_pos hb, ← e1]
      pointwise [k0_pay2, k0_pay1, k0_pay95]
      exact (congrArg₂ (· * ·) (acc1_at (last_tile B (f_tile B C hf)) _ _ k (by pointwise; exact row1 m c t hA k)) (B.post k)).trans (by rw [← EReal.coe_mul]; rfl)
    · by_cases hc : r.val = 2
      · rw [if_pos hc, if_neg ha, if_neg hb, if_pos hc, ← e1]
        pointwise [k0_pay3, k0_pay1, k0_pay96]
        exact (congrArg₂ (· * ·) (acc1_at (last_tile B (f_tile B C hf)) _ _ k (by pointwise; exact row1 m c t hA k)) (B.g k)).trans (by rw [← EReal.coe_mul]; rfl)
      · rw [if_neg hc, if_neg hb, if_neg hb, if_neg ha, if_neg ha, if_neg hb, if_neg hc]
        refine Eq.trans ?_ ((hA r k).trans (by rw [total, if_neg ha, if_neg hb]))
        exact congrFun (Memref.IsWhole.read_unread _ _) _

end Fwd.Ker

end
-- ==== Proof.FwdArr.lean ====
module

public import proofs.«01_k».proof.Proof.FwdAcc
public import proofs.«01_k».proof.Proof.Gen.FfnFwdIdeal.Value
public import Idealize.ShloMosaic.Lib.Pipeline.ValueKit

@[expose] public section

set_option maxRecDepth 16384
set_option maxHeartbeats 2000000

noncomputable section

/-! The arrays that the launch leaves, given what its input blocks hold at every point. -/

namespace Fwd.Ker

open Idealize.ShloMosaic Idealize.ShloMosaic.TcCoe Idealize.SL.Sem
open Cert.FfnFwdIdeal Cert.FfnFwdIdeal.Gen Lift
open Idealize.ShloMosaic.Pipeline (Dat)

/-- The tile of a point. -/
def tile (n : ℕ) (h : n < cfg0.N) : Fin 32 := ⟨n, h⟩

/-- What every point's input blocks hold. -/
def Holds (m : (ℓ : Loc nD τ sig) → Buf (Elt Ideal) ℓ) (A : Args) (c : Dev nD) : Prop :=
  ∀ t : Fin cfg0.N, Blocks A (tile t.val t.isLt) (iblk m c 0 t) (iblk m c 1 t) (iblk m c 2 t) (iblk m c 3 t) (iblk m c 4 t) (iblk m c 5 t) (iblk m c 6 t) (iblk m c 7 t)

theorem carry_next {A : Args} {T T' : Fin 32} {K : Vec Ideal S16x5632 .f32} (h : T'.val = T.val + 1) (hK : ∀ y, K y = GKeep A T y) : Carry A T' K where
  one n := (hK _).trans (congrArg _ (back_eq (s' := tm T 255) (by simp only [tm_val]; rw [h]; simp; omega) n).symm)
  two n := (hK _).trans (congrArg _ (back_eq (s' := tm T 247) (by simp only [tm_val]; rw [h]; simp; omega) n).symm)

variable {m : (ℓ : Loc nD τ sig) → Buf (Elt Ideal) ℓ} {A : Args} {c : Dev nD} (H : Holds m A c)
include H

theorem tile_mod (t : Fin cfg0.N) : (tile t.val t.isLt).val = t.val % 32 := (Nat.mod_eq_of_lt (tile t.val t.isLt).isLt).symm

theorem kept_all : ∀ (n : ℕ) (hn : n < cfg0.N) (y), (outsAt0 m c n hn).2.2.2.2.2.2 y = GKeep A (tile n hn) y
  | 0, hn => kept m c ⟨0, hn⟩ rfl (H ⟨0, hn⟩) (fun h => absurd rfl h)
  | n + 1, hn => kept m c ⟨n + 1, hn⟩ (tile_mod H ⟨n + 1, hn⟩) (H ⟨n + 1, hn⟩) fun _ => carry_next rfl (kept_all n (by omega))

theorem carry_all (t : Fin cfg0.N) (h : ¬ t.val % 32 = 0) :
    Carry A (tile t.val t.isLt) (outsAt0 m c (t.val - 1) (Nat.lt_of_le_of_lt (Nat.sub_le _ _) t.isLt)).2.2.2.2.2.2 :=
  carry_next (T := tile (t.val - 1) (Nat.lt_of_le_of_lt (Nat.sub_le _ _) t.isLt)) (by simp only [tile]; omega) (kept_all H _ _)

theorem total_all : ∀ (n : ℕ) (hn : n < cfg0.N), n < 31 → ∀ (r : Fin 8) (k : Fin 1024),
    (outsAt0 m c n hn).2.2.2.2.2.1 (ix2 r k) = ((total A (n + 1) r k : ℝ) : EReal)
  | 0, hn, _ => acc_first m c ⟨0, hn⟩ rfl (H ⟨0, hn⟩) rfl (by simp)
  | n + 1, hn, h => acc_next m c ⟨n + 1, hn⟩ (tile_mod H ⟨n + 1, hn⟩) (H ⟨n + 1, hn⟩) (carry_all H ⟨n + 1, hn⟩ (by simp; omega))
      (total_all n (by omega) (by omega)) (by simp; omega) (by simp; omega)

theorem sums_all (t : Fin cfg0.N) (ht : t.val % 32 = 31) (r : Fin 8) (k : Fin 1024) :
    (outsAt0 m c t.val t.isLt).2.2.2.2.2.1 (ix2 r k) = ((sums A r k : ℝ) : EReal) := by
  have hl : t.val < 32 := t.isLt
  refine acc_last m c t (tile_mod H t) (H t) (carry_all H t (by omega)) (fun r k => ?_) (by omega) ht r k
  rw [total_all H _ _ (by omega)]
  congr 2
  show t.val - 1 + 1 = t.val
  omega

omit H
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![0, 0] := (by decide +kernel : ∀ t : Fin grid0.N, _)

theorem time_at (t : Fin 32) (p : Fin 256) (q : Fin 8192) (h : q.val = t.val * 256 + p.val) : time q = tm t p :=
  Fin.ext (by simp only [time, tm]; omega)

include H
theorem arr8 : (dats m 0 c).arrAt 8 cfg0.N = fun i => ((up A (time (i 0)) (i 1) : ℝ) : EReal) := by
  refine (dats m 0 c).arrAt_eq_of_covers 8 _ (by decide +kernel) fun t _ y => ?_
  blk_simp
  rw [after0_8]
  refine (out8 m c t (tile_mod H t) (H t) (carry_all H t) y).trans ?_
  have e0 : ((win0_8.blk t).view.emb y 0).val = t.val * 256 + (y 0).val := by blk_point [idx8 t]
  have e1 : (win0_8.blk t).view.emb y 1 = y 1 := Fin.ext (by blk_point [idx8 t])
  unfold GUp
  rw [time_at (tile t.val t.isLt) (y 0) _ e0, e1]

theorem arr9 : (dats m 0 c).arrAt 9 cfg0.N = fun i => ((grad A (time (i 0)) (i 1) : ℝ) : EReal) := by
  refine (dats m 0 c).arrAt_eq_of_covers 9 _ (by decide +kernel) fun t _ y => ?_
  blk_simp
  rw [after0_9]
  refine (out9 m c t (tile_mod H t) (H t) (carry_all H t) y).trans ?_
  have e0 : ((win0_9.blk t).view.emb y 0).val = t.val * 256 + (y 0).val := by blk_point [idx9 t]
  have e1 : (win0_9.blk t).view.emb y 1 = y 1 := Fin.ext (by blk_point [idx9 t])
  unfold GGrad
  rw [time_at (tile t.val t.isLt) (y 0) _ e0, e1]

theorem arr10 : (dats m 0 c).arrAt 10 cfg0.N = fun i => ((act A (time (i 0)) (i 1) : ℝ) : EReal) := by
  refine (dats m 0 c).arrAt_eq_of_covers 10 _ (by decide +kernel) fun t _ y => ?_
  blk_simp
  rw [after0_10]
  refine (out10 m c t (tile_mod H t) (H t) (carry_all H t) y).trans ?_
  have e0 : ((win0_10.blk t).view.emb y 0).val = t.val * 256 + (y 0).val := by blk_point [idx10 t]
  have e1 : (win0_10.blk t).view.emb y 1 = y 1 := Fin.ext (by blk_point [idx10 t])
  unfold GAct
  rw [time_at (tile t.val t.isLt) (y 0) _ e0, e1]

theorem arr11 : (dats m 0 c).arrAt 11 cfg0.N = fun i => ((dy A (i 0) (i 1) : ℝ) : EReal) := by
  refine (dats m 0 c).arrAt_eq_of_covers 11 _ (by decide +kernel) fun t _ y => ?_
  blk_simp
  rw [after0_11]
  refine (out11 m c t (tile_mod H t) (H t) (carry_all H t) y).trans ?_
  have e0 : ((win0_11.blk t).view.emb y 0).val = t.val * 256 + (y 0).val := by blk_point [idx11 t]
  have e1 : (win0_11.blk t).view.emb y 1 = y 1 := Fin.ext (by blk_point [idx11 t])
  unfold GDy
  rw [e1, show (win0_11.blk t).view.emb y 0 = st (tile t.val t.isLt) (y 0) from Fin.ext (e0.trans (by simp only [st, tile]; omega))]

theorem arr12 : (dats m 0 c).arrAt 12 cfg0.N = fun i => ((df A (time (i 0)) (i 1) : ℝ) : EReal) := by
  refine (dats m 0 c).arrAt_eq_of_covers 12 _ (by decide +kernel) fun t _ y => ?_
  blk_simp
  rw [after0_12]
  refine (out12 m c t (tile_mod H t) (H t) (carry_all H t) y).trans ?_
  have e0 : ((win0_12.blk t).view.emb y 0).val = t.val * 256 + (y 0).val := by blk_point [idx12 t]
  have e1 : (win0_12.blk t).view.emb y 1 = y 1 := Fin.ext (by blk_point [idx12 t])
  unfold GDf
  rw [time_at (tile t.val t.isLt) (y 0) _ e0, e1]

theorem arr13 : (dats m 0 c).arrAt 13 cfg0.N = fun i => ((sums A (i 0) (i 1) : ℝ) : EReal) := by
  refine (dats m 0 c).arrAt_eq_of_covers 13 _ (by decide +kernel) fun t hf y => ?_
  blk_simp
  rw [after0_13]
  refine ((congrArg _ (eta 8 1024 y)).trans (sums_all H t ((flush0_13 t).mp hf) (y 0) (y 1))).trans ?_
  rw [show (win0_13.blk t).view.emb y 0 = y 0 from Fin.ext (by blk_point [idx13 t]), show (win0_13.blk t).view.emb y 1 = y 1 from Fin.ext (by blk_point [idx13 t])]

end Fwd.Ker

end
-- ==== Proof.FwdHost.lean ====
module

public import proofs.«01_k».proof.Proof.FwdArr
public import Idealize.ShloMosaic.Lib.Claim
public import Idealize.ShloMosaic.Lib.StableHlo.ReadAt
public import Idealize.ShloMosaic.Lib.Pointwise

@[expose] public section

set_option maxRecDepth 16384
set_option maxHeartbeats 2000000

noncomputable section

/-! What the host lines before the launch leave in its input arrays. -/

namespace Fwd.Ker

open Idealize.ShloMosaic Idealize.ShloMosaic.TcCoe Idealize.SL.Sem
open Cert.FfnFwdIdeal Cert.FfnFwdIdeal.Gen Lift
open Idealize.ShloMosaic.Pipeline (Dat)

/-- The kernel's arguments hold the real arrays `A`. -/
structure Given (m : (ℓ : Loc nD τ sig) → Buf (Elt Ideal) ℓ) (c : Dev nD) (A : Args) : Prop where
  x : ∀ a s k, (m ((c : Thread nD τ).loc main_arg0) : FVec Ideal S1x8192x1024 .f32) (ix3 a s k) = (A.x s k : EReal)
  sh : ∀ a k, (m ((c : Thread nD τ).loc main_arg1) : FVec Ideal S1x1024 .f32) (ix2 a k) = (A.sh k : EReal)
  sc : ∀ a k, (m ((c : Thread nD τ).loc main_arg2) : FVec Ideal S1x1024 .f32) (ix2 a k) = (A.sc k : EReal)
  g : ∀ a k, (m ((c : Thread nD τ).loc main_arg3) : FVec Ideal S1x1024 .f32) (ix2 a k) = (A.g k : EReal)
  pre : ∀ a k, (m ((c : Thread nD τ).loc main_arg4) : FVec Ideal S1x1024 .f32) (ix2 a k) = (A.pre k : EReal)
  post : ∀ a k, (m ((c : Thread nD τ).loc main_arg5) : FVec Ideal S1x1024 .f32) (ix2 a k) = (A.post k : EReal)
  wu : ∀ a k n, (m ((c : Thread nD τ).loc main_arg6) : FVec Ideal S1x1024x5632 .f32) (ix3 a k n) = (A.wu k n : EReal)
  cw : ∀ a k n, (m ((c : Thread nD τ).loc main_arg7) : FVec Ideal S1x3x5632 .f32) (ix3 a k n) = (A.cw k n : EReal)
  cb : ∀ a n, (m ((c : Thread nD τ).loc main_arg8) : FVec Ideal S1x5632 .f32) (ix2 a n) = (A.cb n : EReal)
  wd : ∀ a k n, (m ((c : Thread nD τ).loc main_arg9) : FVec Ideal S1x2816x1024 .f32) (ix3 a k n) = (A.wd k n : EReal)
  tgt : ∀ a s k, (m ((c : Thread nD τ).loc main_arg10) : FVec Ideal S1x8192x1024 .f32) (ix3 a s k) = (A.tgt s k : EReal)

variable {m : (ℓ : Loc nD τ sig) → Buf (Elt Ideal) ℓ} {c : Dev nD} {A : Args} (H : Given m c A)
include H

theorem at_x (s : Fin 8192) (k : Fin 1024) : (V m c main_v6 : FVec Ideal S8192x1024 .f32) (ix2 s k) = ((A.x s k : ℝ) : EReal) := by
  unfold V
  after_reads_at
  exact H.x _ _ _

theorem at_tgt (s : Fin 8192) (k : Fin 1024) : (V m c main_v28 : FVec Ideal S8192x1024 .f32) (ix2 s k) = ((A.tgt s k : ℝ) : EReal) := by
  unfold V
  after_reads_at
  exact H.tgt _ _ _

theorem at_wu (k : Fin 1024) (n : Fin 5632) : (V m c main_v30 : FVec Ideal S1024x5632 .bf16) (ix2 k n) = ((A.wu k n : ℝ) : EReal) := by
  unfold V
  after_reads_at
  exact H.wu _ _ _

theorem at_wd (k : Fin 2816) (n : Fin 1024) : (V m c main_v32 : FVec Ideal S2816x1024 .bf16) (ix2 k n) = ((A.wd k n : ℝ) : EReal) := by
  unfold V
  after_reads_at
  exact H.wd _ _ _

theorem at_g (k : Fin 1024) : (V m c main_v2 : FVec Ideal S16x1024 .f32) (ix2 5 k) = ((A.g k : ℝ) : EReal) := by
  unfold V
  after_reads_at
  exact H.g _ _

theorem at_h (s : Fin 8192) (k : Fin 1024) : (V m c main_v27 : FVec Ideal S8192x1024 .bf16) (ix2 s k) = ((hh A (time s) k : ℝ) : EReal) := by
  unfold V
  after_reads_at
  have e : (⟨s.val / 256 * 256 + s.val % 8 * 32 + s.val / 8 % 32, by omega⟩ : Fin 8192) = time s := Fin.ext (by simp only [time]; omega)
  rw [e]
  have hx : ∀ q : Fin 1024, (m (c, Proc.devRef .tc main_arg0) : FVec Ideal S1x8192x1024 .f32) (ix3 0 (time s) q) = (A.x (time s) q : EReal) := fun q => H.x 0 (time s) q
  have hp : (m (c, Proc.devRef .tc main_arg4) : FVec Ideal S1x1024 .f32) (ix2 0 k) = (A.pre k : EReal) := H.pre 0 k
  have hs : (m (c, Proc.devRef .tc main_arg2) : FVec Ideal S1x1024 .f32) (ix2 0 k) = (A.sc k : EReal) := H.sc 0 k
  have hh' : (m (c, Proc.devRef .tc main_arg1) : FVec Ideal S1x1024 .f32) (ix2 0 k) = (A.sh k : EReal) := H.sh 0 k
  simp only [hx, hp, hs, hh', ofBits_1024, ofBits_eps, ← EReal.coe_one, ← EReal.coe_mul, ← EReal.coe_add, sum_coe, div_1024, rsqrt_ms]
  refine congrArg _ ?_
  unfold hh; ring

theorem at_cv (r : Fin 3) (n : Fin 5632) : (V m c main_v5 : FVec Ideal S8x5632 .f32) (ix2 ⟨r.val, by omega⟩ n) = ((A.cw r n : ℝ) : EReal) := by
  unfold V
  after_reads_at
  rw [StableHlo.reshape_result']
  after_reads_at
  exact H.cw _ _ _

theorem at_cb (n : Fin 5632) : (V m c main_v5 : FVec Ideal S8x5632 .f32) (ix2 3 n) = ((A.cb n : ℝ) : EReal) := by
  unfold V
  after_reads_at
  exact H.cb _ _

theorem at_post (k : Fin 1024) : (V m c main_v2 : FVec Ideal S16x1024 .f32) (ix2 9 k) = ((A.post k : ℝ) : EReal) := by
  unfold V
  after_reads_at
  exact H.post _ _

omit H in
theorem at_hot (p s : Fin 256) : (V m c main_v48 : FVec Ideal S2x256x256 .bf16) (ix3 0 p s) = hot p s := by
  unfold V
  after_reads_at
  refine (congrArg (fun w => FloatOps.uitofp (F := Ideal) .bf16 (IntOp.cmpi .eq w (BitVec.ofNat 32 s.val))) (?_ : _ = BitVec.ofNat 32 (p.val % 8 * 32 + p.val / 8))).trans ?_
  · revert p; decide +kernel
  · exact hot_word p s

omit H in
theorem at_hot1 (p s : Fin 256) : (V m c main_v48 : FVec Ideal S2x256x256 .bf16) (ix3 1 s p) = hot p s := by
  unfold V
  after_reads_at
  refine (congrArg (fun w => FloatOps.uitofp (F := Ideal) .bf16 (IntOp.cmpi .eq w (BitVec.ofNat 32 s.val))) (?_ : _ = BitVec.ofNat 32 (p.val % 8 * 32 + p.val / 8))).trans ?_
  · revert p; decide +kernel
  · exact hot_word p s

end Fwd.Ker

end
-- ==== Proof.FwdIn.lean ====
module

public import proofs.«01_k».proof.Proof.FwdHost
public import Idealize.ShloMosaic.Lib.Pipeline.ValueKit

@[expose] public section

set_option maxRecDepth 16384
set_option maxHeartbeats 2000000

noncomputable section

/-! Every point's input blocks, from the arguments. -/

namespace Fwd.Ker

open Idealize.ShloMosaic Idealize.ShloMosaic.TcCoe Idealize.SL.Sem
open Cert.FfnFwdIdeal Cert.FfnFwdIdeal.Gen Lift
open Idealize.ShloMosaic.Pipeline (Dat)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)

variable {m : (ℓ : Loc nD τ sig) → Buf (Elt Ideal) ℓ} {c : Dev nD} {A : Args}

theorem blk0 (t : Fin cfg0.N) (p : Fin 256) (k : Fin 1024) :
    (iblk m c 0 t : FVec Ideal S256x1024 .bf16) (ix2 p k) = (V m c main_v27 : FVec Ideal S8192x1024 .bf16) (ix2 (st (tile t.val t.isLt) p) k) := by
  blk_simp [iblk]
  refine congrArg (V m c main_v27 : FVec Ideal S8192x1024 .bf16) ?_
  blk_ext [idx0 t, st, tile]

theorem blk1 (t : Fin cfg0.N) (p : Fin 256) (k : Fin 1024) :
    (iblk m c 1 t : FVec Ideal S256x1024 .f32) (ix2 p k) = (V m c main_v6 : FVec Ideal S8192x1024 .f32) (ix2 (st (tile t.val t.isLt) p) k) := by
  blk_simp [iblk]
  refine congrArg (V m c main_v6 : FVec Ideal S8192x1024 .f32) ?_
  blk_ext [idx1 t, st, tile]

theorem blk2 (t : Fin cfg0.N) (p : Fin 256) (k : Fin 1024) :
    (iblk m c 2 t : FVec Ideal S256x1024 .f32) (ix2 p k) = (V m c main_v28 : FVec Ideal S8192x1024 .f32) (ix2 (st (tile t.val t.isLt) p) k) := by
  blk_simp [iblk]
  refine congrArg (V m c main_v28 : FVec Ideal S8192x1024 .f32) ?_
  blk_ext [idx2 t, st, tile]

theorem blk3 (t : Fin cfg0.N) (p : Fin 1024) (k : Fin 5632) :
    (iblk m c 3 t : FVec Ideal S1024x5632 .bf16) (ix2 p k) = (V m c main_v30 : FVec Ideal S1024x5632 .bf16) (ix2 p k) := by
  blk_simp [iblk]
  refine congrArg (V m c main_v30 : FVec Ideal S1024x5632 .bf16) ?_
  blk_ext [idx3 t]

theorem blk4 (t : Fin cfg0.N) (p : Fin 2816) (k : Fin 1024) :
    (iblk m c 4 t : FVec Ideal S2816x1024 .bf16) (ix2 p k) = (V m c main_v32 : FVec Ideal S2816x1024 .bf16) (ix2 p k) := by
  blk_simp [iblk]
  refine congrArg (V m c main_v32 : FVec Ideal S2816x1024 .bf16) ?_
  blk_ext [idx4 t]

theorem blk5 (t : Fin cfg0.N) (p : Fin 8) (k : Fin 5632) :
    (iblk m c 5 t : FVec Ideal S8x5632 .f32) (ix2 p k) = (V m c main_v5 : FVec Ideal S8x5632 .f32) (ix2 p k) := by
  blk_simp [iblk]
  refine congrArg (V m c main_v5 : FVec Ideal S8x5632 .f32) ?_
  blk_ext [idx5 t]

theorem blk6 (t : Fin cfg0.N) (p : Fin 16) (k : Fin 1024) :
    (iblk m c 6 t : FVec Ideal S16x1024 .f32) (ix2 p k) = (V m c main_v2 : FVec Ideal S16x1024 .f32) (ix2 p k) := by
  blk_simp [iblk]
  refine congrArg (V m c main_v2 : FVec Ideal S16x1024 .f32) ?_
  blk_ext [idx6 t]

theorem blk7 (t : Fin cfg0.N) (a : Fin 2) (p : Fin 256) (k : Fin 256) :
    (iblk m c 7 t : FVec Ideal S2x256x256 .bf16) (ix3 a p k) = (V m c main_v48 : FVec Ideal S2x256x256 .bf16) (ix3 a p k) := by
  blk_simp [iblk]
  refine congrArg (V m c main_v48 : FVec Ideal S2x256x256 .bf16) ?_
  blk_ext [idx7 t]

theorem holds (H : Given m c A) : Holds m A c := fun t =>
  { h := fun p k => (blk0 t p k).trans ((at_h H _ _).trans (by rw [time_at (tile t.val t.isLt) p (st (tile t.val t.isLt) p) (by simp only [st]; omega)]))
    x := fun s k => (blk1 t s k).trans (at_x H _ _)
    tgt := fun s k => (blk2 t s k).trans (at_tgt H _ _)
    wu := fun k n => (blk3 t k n).trans (at_wu H _ _)
    wd := fun j k => (blk4 t j k).trans (at_wd H _ _)
    cw0 := fun n => (blk5 t 0 n).trans (at_cv H 0 n)
    cw1 := fun n => (blk5 t 1 n).trans (at_cv H 1 n)
    cw2 := fun n => (blk5 t 2 n).trans (at_cv H 2 n)
    cb := fun n => (blk5 t 3 n).trans (at_cb H n)
    g := fun k => (blk6 t 5 k).trans (at_g H k)
    post := fun k => (blk6 t 9 k).trans (at_post H k)
    hot0 := fun p s => (blk7 t 0 p s).trans (at_hot p s)
    hot1 := fun s p => (blk7 t 1 s p).trans (at_hot1 p s) }

end Fwd.Ker

end
-- ==== Proof.FwdRef.lean ====
module

public import proofs.«01_k».proof.Proof.FwdSpec
public import proofs.«01_k».proof.Proof.Gen.FfnFwdRefIdeal.Run

@[expose] public section

set_option maxRecDepth 16384

noncomputable section

/-! The reference, read entry by entry: each of its named values is the real quantity of `FwdSpec`. -/

namespace Fwd.Ref

open Idealize.ShloMosaic Idealize.ShloMosaic.TcCoe Idealize.SL.Sem
open Cert.FfnFwdRefIdeal Cert.FfnFwdRefIdeal.Gen Cert.FfnFwdRefIdeal.Value Lift

/-- The reference's arguments hold the real arrays `A`. -/
structure Holds (V0 : Valuation τ sig (Elt Ideal)) (A : Args) : Prop where
  x : ∀ a s k, (V0 (Proc.devRef .tc main_arg0) : FVec Ideal S1x8192x1024 .f32) (ix3 a s k) = (A.x s k : EReal)
  sh : ∀ a k, (V0 (Proc.devRef .tc main_arg1) : FVec Ideal S1x1024 .f32) (ix2 a k) = (A.sh k : EReal)
  sc : ∀ a k, (V0 (Proc.devRef .tc main_arg2) : FVec Ideal S1x1024 .f32) (ix2 a k) = (A.sc k : EReal)
  g : ∀ a k, (V0 (Proc.devRef .tc main_arg3) : FVec Ideal S1x1024 .f32) (ix2 a k) = (A.g k : EReal)
  pre : ∀ a k, (V0 (Proc.devRef .tc main_arg4) : FVec Ideal S1x1024 .f32) (ix2 a k) = (A.pre k : EReal)
  post : ∀ a k, (V0 (Proc.devRef .tc main_arg5) : FVec Ideal S1x1024 .f32) (ix2 a k) = (A.post k : EReal)
  wu : ∀ a k n, (V0 (Proc.devRef .tc main_arg6) : FVec Ideal S1x1024x5632 .f32) (ix3 a k n) = (A.wu k n : EReal)
  cw : ∀ a k n, (V0 (Proc.devRef .tc main_arg7) : FVec Ideal S1x3x5632 .f32) (ix3 a k n) = (A.cw k n : EReal)
  cb : ∀ a n, (V0 (Proc.devRef .tc main_arg8) : FVec Ideal S1x5632 .f32) (ix2 a n) = (A.cb n : EReal)
  wd : ∀ a k n, (V0 (Proc.devRef .tc main_arg9) : FVec Ideal S1x2816x1024 .f32) (ix3 a k n) = (A.wd k n : EReal)
  tgt : ∀ a s k, (V0 (Proc.devRef .tc main_arg10) : FVec Ideal S1x8192x1024 .f32) (ix3 a s k) = (A.tgt s k : EReal)

variable {V0 : Valuation τ sig (Elt Ideal)} {A : Args} (H : Holds V0 A)
include H

theorem v23 (a : Fin 1) (s : Fin 8192) (n : Fin 5632) :
    (res_main_v23 V0 : FVec Ideal S1x8192x5632 .f32) (ix3 a s n) = ((up A s n : ℝ) : EReal) := by
  pointwise [res_main_v23]
  simp only [H.x, H.pre, H.sc, H.sh, H.wu, ofBits_1024, ofBits_eps, ← EReal.coe_one, ← EReal.coe_mul, ← EReal.coe_add, sum_coe, div_1024, rsqrt_ms]
  refine congrArg _ (Finset.sum_congr rfl fun k _ => ?_)
  unfold hh; ring

theorem v27 (a : Fin 1) (s : Fin 8194) (n : Fin 5632) :
    (res_main_v27 V0 : FVec Ideal S1x8194x5632 .f32) (ix3 a s n)
      = (((if h : 2 ≤ s.val then up A ⟨s.val - 2, by omega⟩ n else 0 : ℝ)) : EReal) := by
  pointwise [res_main_v27]
  by_cases h : s.val < 2
  · rw [dif_pos h, dif_neg (by omega), EReal.coe_zero]
  · rw [dif_neg h, dif_pos (by omega)]
    exact v23 H _ _ _

theorem v50 (a : Fin 1) (s : Fin 8192) (n : Fin 5632) :
    (res_main_v50 V0 : FVec Ideal S1x8192x5632 .f32) (ix3 a s n) = ((y A s n : ℝ) : EReal) := by
  pointwise [res_main_v50, res_main_v24]
  simp only [H.cb, H.cw, v27 H, ← EReal.coe_mul, ← EReal.coe_add]
  have e1 : (if h : 2 ≤ 1 + s.val then up A ⟨1 + s.val - 2, by omega⟩ n else 0) = back A 1 s n := by
    unfold back
    by_cases h : 1 ≤ s.val
    · rw [dif_pos (by omega), if_pos h]; congr 2; omega
    · rw [dif_neg (by omega), if_neg h]
  have e2 : (if h : 2 ≤ 2 + s.val then up A ⟨2 + s.val - 2, by omega⟩ n else 0) = up A s n := by
    rw [dif_pos (by omega)]; congr 1; exact Fin.ext (by simp)
  rw [e1, e2]
  rfl

theorem v51 (a : Fin 1) (s : Fin 8192) (j : Fin 2816) :
    (res_main_v51 V0 : FVec Ideal S1x8192x2816 .f32) (ix3 a s j) = ((gate A s j : ℝ) : EReal) := by
  pointwise [res_main_v51]
  exact v50 H _ _ _

theorem v52 (a : Fin 1) (s : Fin 8192) (j : Fin 2816) :
    (res_main_v52 V0 : FVec Ideal S1x8192x2816 .f32) (ix3 a s j) = ((val A s j : ℝ) : EReal) := by
  pointwise [res_main_v52]
  exact v50 H _ _ _

theorem v53_2 (a : Fin 1) (s : Fin 8192) (j : Fin 2816) :
    (res_main_v53_2 V0 : FVec Ideal S1x8192x2816 .f32) (ix3 a s j) = ((sg (gate A s j) : ℝ) : EReal) := by
  pointwise [res_main_v53_2]
  rw [v51 H, ← EReal.coe_neg, exp_coe, ← EReal.coe_one, ← EReal.coe_add, div_sg]

theorem v54 (a : Fin 1) (s : Fin 8192) (j : Fin 2816) :
    (res_main_v54 V0 : FVec Ideal S1x8192x2816 .f32) (ix3 a s j) = ((act A s j : ℝ) : EReal) := by
  pointwise [res_main_v54, res_main_v53_0]
  simp only [v51 H, v52 H, v53_2 H, ← EReal.coe_mul]
  rfl

theorem v60 (a : Fin 1) (s : Fin 8192) (c : Fin 1024) :
    (res_main_v60 V0 : FVec Ideal S1x8192x1024 .f32) (ix3 a s c) = ((f A s c : ℝ) : EReal) := by
  pointwise [res_main_v60]
  simp only [v54 H, H.wd, ← EReal.coe_mul, sum_coe]
  rfl

/-- The last norm's reciprocal root, and what stands under the root. -/
theorem v69 (a : Fin 1) (s : Fin 8192) (c : Fin 1) :
    (res_main_v69 V0 : FVec Ideal S1x8192x1 .f32) (ix3 a s c) = (((∑ k, f A s k * f A s k) / 1024 + eps : ℝ) : EReal) := by
  pointwise [res_main_v69]
  simp only [v60 H, ofBits_1024, ofBits_eps, ← EReal.coe_mul, ← EReal.coe_add, sum_coe, div_1024]

theorem v70 (a : Fin 1) (s : Fin 8192) (c : Fin 1) :
    (res_main_v70 V0 : FVec Ideal S1x8192x1 .f32) (ix3 a s c) = ((rms (f A s) : ℝ) : EReal) := by
  pointwise [res_main_v70]
  rw [v69 H, rsqrt_ms]

theorem v75 (a : Fin 1) (s : Fin 8192) (c : Fin 1024) :
    (res_main_v75 V0 : FVec Ideal S1x8192x1024 .f32) (ix3 a s c) = ((fhat A s c : ℝ) : EReal) := by
  pointwise [res_main_v75]
  simp only [v60 H, v70 H, ← EReal.coe_mul]
  rfl

theorem v78 (a : Fin 1) (s : Fin 8192) (c : Fin 1024) :
    (res_main_v78 V0 : FVec Ideal S1x8192x1024 .f32) (ix3 a s c) = ((fhat A s c * A.post c : ℝ) : EReal) := by
  pointwise [res_main_v78, res_main_v76]
  simp only [v75 H, H.post, ← EReal.coe_mul]

theorem v82 (a : Fin 1) (s : Fin 8192) (c : Fin 1024) :
    (res_main_v82 V0 : FVec Ideal S1x8192x1024 .f32) (ix3 a s c) = ((e A s c : ℝ) : EReal) := by
  pointwise [res_main_v82, res_main_v61]
  simp only [v78 H, H.x, H.g, H.tgt, ← EReal.coe_mul, ← EReal.coe_add, ← EReal.coe_sub]
  refine congrArg _ ?_
  unfold e; ring

theorem v144 (a : Fin 1) (s : Fin 8192) (c : Fin 1024) :
    (res_main_v144 V0 : FVec Ideal S1x8192x1024 .f32) (ix3 a s c) = ((e A s c : ℝ) : EReal) := by
  rw [← v82 H a s c]
  pointwise [res_main_v144, res_main_v82, res_main_v61, res_main_v78, res_main_v76, res_main_v75, res_main_v70, res_main_v69]

theorem v96 (a : Fin 1) (s : Fin 8192) (c : Fin 1024) :
    (res_main_v96 V0 : FVec Ideal S1x8192x1024 .f32) (ix3 a s c) = ((dy A s c : ℝ) : EReal) := by
  pointwise [res_main_v96]
  simp only [v82 H, ofBits_half, ofBits_1024, ofBits_two, ← EReal.coe_one, ← EReal.coe_mul, div_1024]
  refine congrArg _ ?_
  unfold dy; ring

theorem v98 (a : Fin 1) (s : Fin 8192) (c : Fin 1024) :
    (res_main_v98 V0 : FVec Ideal S1x8192x1024 .f32) (ix3 a s c) = ((A.g c * dy A s c : ℝ) : EReal) := by
  pointwise [res_main_v98, res_main_v61]
  simp only [v96 H, H.g, ← EReal.coe_mul]

theorem v106 (a : Fin 1) (s : Fin 8192) (c : Fin 1024) :
    (res_main_v106 V0 : FVec Ideal S1x8192x1024 .f32) (ix3 a s c) = ((dfhat A s c : ℝ) : EReal) := by
  pointwise [res_main_v106, res_main_v76]
  simp only [v98 H, H.post, ← EReal.coe_mul]
  refine congrArg _ ?_
  unfold dfhat; ring

theorem v118 (a : Fin 1) (s : Fin 8192) (c : Fin 1024) :
    (res_main_v118 V0 : FVec Ideal S1x8192x1024 .f32) (ix3 a s c)
      = (((∑ k, f A s k * dfhat A s k) * (-(1 / 2) * (rms (f A s) / ((∑ k, f A s k * f A s k) / 1024 + eps))) / 1024 : ℝ) : EReal) := by
  pointwise [res_main_v118, reduce_units_02]
  simp only [v60 H, v106 H, v69 H, v70 H, ofBits_neg_half, ofBits_1024, ← EReal.coe_mul, sum_coe]
  rw [div_coe _ _ (ms_pos (f A s)).ne', ← EReal.coe_mul, ← EReal.coe_mul, div_1024]

/-- The derivative of the last norm: the reference's two halves come together. -/
theorem norm_bwd (s : Fin 8192) (c : Fin 1024) :
    dfhat A s c * rms (f A s)
        + f A s c * ((∑ k, f A s k * dfhat A s k) * (-(1 / 2) * (rms (f A s) / ((∑ k, f A s k * f A s k) / 1024 + eps))) / 1024)
        + (∑ k, f A s k * dfhat A s k) * (-(1 / 2) * (rms (f A s) / ((∑ k, f A s k * f A s k) / 1024 + eps))) / 1024 * f A s c
      = df A s c := by
  have hq : rms (f A s) / ((∑ k, f A s k * f A s k) / 1024 + eps) = rms (f A s) * rms (f A s) * rms (f A s) := by
    have hp := ms_pos (f A s)
    have h2 : rms (f A s) * rms (f A s) = ((∑ k, f A s k * f A s k) / 1024 + eps)⁻¹ := by
      unfold rms
      rw [← mul_inv, Real.mul_self_sqrt hp.le]
    rw [h2, div_eq_mul_inv, mul_comm]
  have hs : (∑ k, dfhat A s k * fhat A s k) = (∑ k, f A s k * dfhat A s k) * rms (f A s) := by
    rw [Finset.sum_mul]
    refine Finset.sum_congr rfl fun k _ => ?_
    unfold fhat; ring
  rw [hq, df, hs, fhat]
  ring

end Fwd.Ref

end
-- ==== Proof.FwdOut.lean ====
module

public import proofs.«01_k».proof.Proof.FwdRef
public import proofs.«01_k».proof.Proof.FwdBlock

@[expose] public section

set_option maxRecDepth 16384
set_option maxHeartbeats 2000000

noncomputable section

/-! The reference's six results. -/

namespace Fwd.Ref

open Idealize.ShloMosaic Idealize.ShloMosaic.TcCoe Idealize.SL.Sem
open Cert.FfnFwdRefIdeal Cert.FfnFwdRefIdeal.Gen Cert.FfnFwdRefIdeal.Value Lift

variable {V0 : Valuation τ sig (Elt Ideal)} {A : Args} (H : Holds V0 A)
include H

theorem out150 (s : Fin 8192) (n : Fin 5632) : (val4 V0 (Proc.devRef .tc main_v150) : FVec Ideal S8192x5632 .bf16) (ix2 s n) = ((up A (time s) n : ℝ) : EReal) := by
  rw [val4_main_v150]
  pointwise []
  rw [time_mk, v23 H]

theorem out158 (s : Fin 8192) (n : Fin 5632) : (val4 V0 (Proc.devRef .tc main_v158) : FVec Ideal S8192x5632 .bf16) (ix2 s n) = ((grad A (time s) n : ℝ) : EReal) := by
  rw [val4_main_v158]
  pointwise [res_main_v57, res_main_v53_0, res_main_v55]
  simp only [time_mk, v51 H, v52 H, v53_2 H, ← EReal.coe_one, ← EReal.coe_mul, ← EReal.coe_add, ← EReal.coe_sub]
  unfold Fwd.grad
  by_cases h : n.val < 2816
  · rw [dif_pos h, dif_pos h]
    refine congrArg _ ?_
    unfold dgate; ring
  · rw [dif_neg h, dif_neg h]
    rfl

theorem out162 (s : Fin 8192) (n : Fin 2816) : (val4 V0 (Proc.devRef .tc main_v162) : FVec Ideal S8192x2816 .bf16) (ix2 s n) = ((act A (time s) n : ℝ) : EReal) := by
  rw [val4_main_v162]
  pointwise []
  rw [time_mk, v54 H]

theorem out163 (s : Fin 8192) (n : Fin 1024) : (val4 V0 (Proc.devRef .tc main_v163) : FVec Ideal S8192x1024 .f32) (ix2 s n) = ((dy A s n : ℝ) : EReal) := by
  rw [val4_main_v163]
  pointwise []
  rw [v96 H]

theorem out167 (s : Fin 8192) (n : Fin 1024) : (val4 V0 (Proc.devRef .tc main_v167) : FVec Ideal S8192x1024 .bf16) (ix2 s n) = ((df A (time s) n : ℝ) : EReal) := by
  rw [val4_main_v167]
  pointwise []
  rw [time_mk, v106 H, v70 H, v60 H, v118 H]
  simp only [← EReal.coe_mul, ← EReal.coe_add]
  rw [norm_bwd H]

theorem out170 (s : Fin 8) (n : Fin 1024) : (val4 V0 (Proc.devRef .tc main_v170) : FVec Ideal S8x1024 .f32) (ix2 s n) = ((sums A s n : ℝ) : EReal) := by
  rw [val4_main_v170]
  pointwise [reduce_units_01]
  simp only [v144 H, v96 H, v78 H, v75 H, v98 H, ← EReal.coe_mul, sum_coe]
  unfold sums
  by_cases h : s.val < 3
  · rw [dif_pos h]
    by_cases h0 : s.val < 1
    · rw [dif_pos h0, if_pos (by omega)]
    · rw [dif_neg h0, if_neg (by omega)]
      by_cases h1 : s.val - 1 < 1
      · rw [dif_pos h1, if_pos (by omega), Finset.sum_mul]
        refine congrArg _ (Finset.sum_congr rfl fun k _ => ?_)
        ring
      · rw [dif_neg h1, if_neg (by omega), if_pos (by omega), Finset.sum_mul]
        refine congrArg _ (Finset.sum_congr rfl fun k _ => ?_)
        ring
  · rw [dif_neg h, if_neg (by omega), if_neg (by omega), if_neg (by omega), EReal.coe_zero]

end Fwd.Ref

end
-- ==== Proof.FwdValue.lean ====
module

public import proofs.«01_k».proof.Defs
public import proofs.«01_k».proof.Proof.Finite
public import proofs.«01_k».proof.Proof.FwdIn
public import proofs.«01_k».proof.Proof.FwdOut

@[expose] public section

set_option maxRecDepth 16384
set_option maxHeartbeats 2000000

noncomputable section

/-! The channel mixer's forward call with its loss head: the kernel's six results are the reference's. -/

namespace Fwd

open Idealize.ShloMosaic Idealize.ShloMosaic.TcCoe Idealize.SL.Sem Finite

/-- The real arrays that the arguments hold. -/
def args (m : (ℓ : Loc Cert.FfnFwdIdeal.nD Cert.FfnFwdIdeal.τ Cert.FfnFwdIdeal.sig) → Buf (Elt Ideal) ℓ) (c : Dev Cert.FfnFwdIdeal.nD) : Args where
  x s k := EReal.toReal ((m ((c.tc : Thread Cert.FfnFwdIdeal.nD Cert.FfnFwdIdeal.τ).loc Cert.FfnFwdIdeal.main_arg0) : FVec Ideal Cert.FfnFwdIdeal.S1x8192x1024 .f32) (ix3 0 s k))
  sh k := EReal.toReal ((m ((c.tc : Thread Cert.FfnFwdIdeal.nD Cert.FfnFwdIdeal.τ).loc Cert.FfnFwdIdeal.main_arg1) : FVec Ideal Cert.FfnFwdIdeal.S1x1024 .f32) (ix2 0 k))
  sc k := EReal.toReal ((m ((c.tc : Thread Cert.FfnFwdIdeal.nD Cert.FfnFwdIdeal.τ).loc Cert.FfnFwdIdeal.main_arg2) : FVec Ideal Cert.FfnFwdIdeal.S1x1024 .f32) (ix2 0 k))
  g k := EReal.toReal ((m ((c.tc : Thread Cert.FfnFwdIdeal.nD Cert.FfnFwdIdeal.τ).loc Cert.FfnFwdIdeal.main_arg3) : FVec Ideal Cert.FfnFwdIdeal.S1x1024 .f32) (ix2 0 k))
  pre k := EReal.toReal ((m ((c.tc : Thread Cert.FfnFwdIdeal.nD Cert.FfnFwdIdeal.τ).loc Cert.FfnFwdIdeal.main_arg4) : FVec Ideal Cert.FfnFwdIdeal.S1x1024 .f32) (ix2 0 k))
  post k := EReal.toReal ((m ((c.tc : Thread Cert.FfnFwdIdeal.nD Cert.FfnFwdIdeal.τ).loc Cert.FfnFwdIdeal.main_arg5) : FVec Ideal Cert.FfnFwdIdeal.S1x1024 .f32) (ix2 0 k))
  wu s k := EReal.toReal ((m ((c.tc : Thread Cert.FfnFwdIdeal.nD Cert.FfnFwdIdeal.τ).loc Cert.FfnFwdIdeal.main_arg6) : FVec Ideal Cert.FfnFwdIdeal.S1x1024x5632 .f32) (ix3 0 s k))
  cw s k := EReal.toReal ((m ((c.tc : Thread Cert.FfnFwdIdeal.nD Cert.FfnFwdIdeal.τ).loc Cert.FfnFwdIdeal.main_arg7) : FVec Ideal Cert.FfnFwdIdeal.S1x3x5632 .f32) (ix3 0 s k))
  cb k := EReal.toReal ((m ((c.tc : Thread Cert.FfnFwdIdeal.nD Cert.FfnFwdIdeal.τ).loc Cert.FfnFwdIdeal.main_arg8) : FVec Ideal Cert.FfnFwdIdeal.S1x5632 .f32) (ix2 0 k))
  wd s k := EReal.toReal ((m ((c.tc : Thread Cert.FfnFwdIdeal.nD Cert.FfnFwdIdeal.τ).loc Cert.FfnFwdIdeal.main_arg9) : FVec Ideal Cert.FfnFwdIdeal.S1x2816x1024 .f32) (ix3 0 s k))
  tgt s k := EReal.toReal ((m ((c.tc : Thread Cert.FfnFwdIdeal.nD Cert.FfnFwdIdeal.τ).loc Cert.FfnFwdIdeal.main_arg10) : FVec Ideal Cert.FfnFwdIdeal.S1x8192x1024 .f32) (ix3 0 s k))

variable [Cert.Pre_finite.Facts] {m : (ℓ : Loc Cert.FfnFwdIdeal.nD Cert.FfnFwdIdeal.τ Cert.FfnFwdIdeal.sig) → Buf (Elt Ideal) ℓ}

theorem given (h : Cert.Pre_FfnFwdIdeal_finite m) (c : Dev Cert.FfnFwdIdeal.nD) : Ker.Given m c (args m c) := by
  have e := congrFun (h c) ix0
  dsimp only [Cert.Pre_finite.fn, Cert.Pre_finite.fn_part1, Cert.Pre_finite.fn_part2, Cert.Pre_finite.fn_part3] at e
  simp only [andi] at e
  obtain ⟨e, e10⟩ := and_one _ _ e
  obtain ⟨e, e9⟩ := and_one _ _ e
  obtain ⟨e, e8⟩ := and_one _ _ e
  obtain ⟨e, e7⟩ := and_one _ _ e
  obtain ⟨e, e6⟩ := and_one _ _ e
  obtain ⟨e, e5⟩ := and_one _ _ e
  obtain ⟨e, e4⟩ := and_one _ _ e
  obtain ⟨e, e3⟩ := and_one _ _ e
  obtain ⟨e, e2⟩ := and_one _ _ e
  obtain ⟨e, e1⟩ := and_one _ _ e
  have one (a : Fin 1) : a = 0 := Subsingleton.elim _ _
  exact {
    x := fun a s k => by rw [one a]; exact all_real _ _ _ _ _ _ e _
    sh := fun a k => by rw [one a]; exact all_real _ _ _ _ _ _ e1 _
    sc := fun a k => by rw [one a]; exact all_real _ _ _ _ _ _ e2 _
    g := fun a k => by rw [one a]; exact all_real _ _ _ _ _ _ e3 _
    pre := fun a k => by rw [one a]; exact all_real _ _ _ _ _ _ e4 _
    post := fun a k => by rw [one a]; exact all_real _ _ _ _ _ _ e5 _
    wu := fun a s k => by rw [one a]; exact all_real _ _ _ _ _ _ e6 _
    cw := fun a s k => by rw [one a]; exact all_real _ _ _ _ _ _ e7 _
    cb := fun a k => by rw [one a]; exact all_real _ _ _ _ _ _ e8 _
    wd := fun a s k => by rw [one a]; exact all_real _ _ _ _ _ _ e9 _
    tgt := fun a s k => by rw [one a]; exact all_real _ _ _ _ _ _ e10 _
  }

theorem agree {m' : (ℓ : Loc Cert.FfnFwdRefIdeal.nD Cert.FfnFwdRefIdeal.τ Cert.FfnFwdRefIdeal.sig) → Buf (Elt Ideal) ℓ} (c : Dev Cert.FfnFwdIdeal.nD)
    (A : Args) (G : Ker.Given m c A)
    (h0 : m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0))
    (h1 : m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1))
    (h2 : m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2))
    (h3 : m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3))
    (h4 : m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4))
    (h5 : m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5))
    (h6 : m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6))
    (h7 : m' ((c.tc : Thread Cert.FfnFwdRefIdeal.nD Cert.FfnFwdRefIdeal.τ).loc Cert.FfnFwdRefIdeal.main_arg7) = m ((c.tc : Thread Cert.FfnFwdIdeal.nD Cert.FfnFwdIdeal.τ).loc Cert.FfnFwdIdeal.main_arg7))
    (h8 : m' ((c.tc : Thread Cert.FfnFwdRefIdeal.nD Cert.FfnFwdRefIdeal.τ).loc Cert.FfnFwdRefIdeal.main_arg8) = m ((c.tc : Thread Cert.FfnFwdIdeal.nD Cert.FfnFwdIdeal.τ).loc Cert.FfnFwdIdeal.main_arg8))
    (h9 : m' ((c.tc : Thread Cert.FfnFwdRefIdeal.nD Cert.FfnFwdRefIdeal.τ).loc Cert.FfnFwdRefIdeal.main_arg9) = m ((c.tc : Thread Cert.FfnFwdIdeal.nD Cert.FfnFwdIdeal.τ).loc Cert.FfnFwdIdeal.main_arg9))
    (h10 : m' ((c.tc : Thread Cert.FfnFwdRefIdeal.nD Cert.FfnFwdRefIdeal.τ).loc Cert.FfnFwdRefIdeal.main_arg10) = m ((c.tc : Thread Cert.FfnFwdIdeal.nD Cert.FfnFwdIdeal.τ).loc Cert.FfnFwdIdeal.main_arg10)) :
    Ref.Holds (StableHlo.launchContents m' c) A where
  x a s k := (congrFun h0 _).trans (G.x a s k)
  sh a k := (congrFun h1 _).trans (G.sh a k)
  sc a k := (congrFun h2 _).trans (G.sc a k)
  g a k := (congrFun h3 _).trans (G.g a k)
  pre a k := (congrFun h4 _).trans (G.pre a k)
  post a k := (congrFun h5 _).trans (G.post a k)
  wu a s k := (congrFun h6 _).trans (G.wu a s k)
  cw a s k := (congrFun h7 _).trans (G.cw a s k)
  cb a k := (congrFun h8 _).trans (G.cb a k)
  wd a s k := (congrFun h9 _).trans (G.wd a s k)
  tgt a s k := (congrFun h10 _).trans (G.tgt a s k)

theorem eta {M N : ℕ} (y : (⟨2, ![M, N]⟩ : Shape).Idx) : y = ix2 (y 0 : Fin M) (y 1 : Fin N) := by
  funext a; fin_cases a <;> rfl

/-- The claim. -/
theorem value [Cert.FfnFwdIdeal.Facts] [Cert.FfnFwdRefIdeal.Facts] : Cert.algebraic_FfnFwdIdeal_FfnFwdRefIdeal_pre_finite := by
  intro m ρ m' ρ' hpre hagree
  refine ⟨_, _, _, _, _, _, Cert.FfnFwdIdeal.Value.run_blocks m ρ, ?_⟩
  refine (θ_run Cert.FfnFwdRefIdeal.defs _ _).mono (fun r h c => ?_) (Cert.FfnFwdRefIdeal.Value.run (F := Ideal) m' ρ')
  have G := given hpre c
  have H := Ker.holds G
  obtain ⟨a0, a1, a2, a3, a4, a5, a6, a7, a8, a9, a10⟩ := hagree c
  have R := agree c _ G a0 a1 a2 a3 a4 a5 a6 a7 a8 a9 a10
  obtain ⟨r0, r1, r2, r3, r4, r5, rest⟩ := h c
  refine ⟨r0.trans ?_, r1.trans ?_, r2.trans ?_, r3.trans ?_, r4.trans ?_, r5.trans ?_, rest⟩
  · refine Eq.trans ((Cert.FfnFwdRefIdeal.Value.val4_main_v150 _).symm.trans (funext fun i => ?_)) (Ker.arr8 H).symm
    exact (congrArg _ (eta i)).trans (Ref.out150 R _ _)
  · refine Eq.trans ((Cert.FfnFwdRefIdeal.Value.val4_main_v158 _).symm.trans (funext fun i => ?_)) (Ker.arr9 H).symm
    exact (congrArg _ (eta i)).trans (Ref.out158 R _ _)
  · refine Eq.trans ((Cert.FfnFwdRefIdeal.Value.val4_main_v162 _).symm.trans (funext fun i => ?_)) (Ker.arr10 H).symm
    exact (congrArg _ (eta i)).trans (Ref.out162 R _ _)
  · refine Eq.trans ((Cert.FfnFwdRefIdeal.Value.val4_main_v163 _).symm.trans (funext fun i => ?_)) (Ker.arr11 H).symm
    exact (congrArg _ (eta i)).trans (Ref.out163 R _ _)
  · refine Eq.trans ((Cert.FfnFwdRefIdeal.Value.val4_main_v167 _).symm.trans (funext fun i => ?_)) (Ker.arr12 H).symm
    exact (congrArg _ (eta i)).trans (Ref.out167 R _ _)
  · refine Eq.trans ((Cert.FfnFwdRefIdeal.Value.val4_main_v170 _).symm.trans (funext fun i => ?_)) (Ker.arr13 H).symm
    exact (congrArg _ (eta i)).trans (Ref.out170 R _ _)

end Fwd

end
-- ==== Proof.MixSpec.lean ====
module

public import proofs.«01_k».proof.Proof.FwdSpec

@[expose] public section

noncomputable section

/-! What the mixer's forward call computes, over the real numbers: one definition per quantity, in time order. -/

namespace Mix

open Lift
open Fwd (rms rsqrt_ms)

/-- The arguments, as real arrays. -/
structure Args where
  x : Fin 8192 → Fin 1024 → ℝ
  shm : Fin 1024 → ℝ
  scm : Fin 1024 → ℝ
  gm : Fin 1024 → ℝ
  shf : Fin 1024 → ℝ
  scf : Fin 1024 → ℝ
  pre : Fin 1024 → ℝ
  post : Fin 1024 → ℝ
  pref : Fin 1024 → ℝ
  wi : Fin 1024 → Fin 1536 → ℝ
  sg : Fin 4 → Fin 128 → ℝ
  ws : Fin 4 → Fin 128 → Fin 128 → ℝ
  bs : Fin 4 → Fin 128 → ℝ
  wp : Fin 4 → Fin 128 → Fin 128 → ℝ
  ps : Fin 512 → ℝ
  wo : Fin 1024 → Fin 1024 → ℝ

/-- The two constants of the approximate Gaussian unit, as the words round them. -/
def c0 : ℝ := 6693141 / 8388608
def c1 : ℝ := 12003091 / 268435456

/-- The approximate Gaussian unit, with the inner constants multiplied out. -/
def gelu (z : ℝ) : ℝ := z * (1 / 2 + 1 / 2 * Real.tanh (z * (c0 + 80338380498831 / 2251799813685248 * (z * z))))

theorem gelu_eq (z : ℝ) : z * (1 / 2 * (1 + Real.tanh (c0 * (z + c1 * (z * z * z))))) = gelu z := by
  have e : c0 * (z + c1 * (z * z * z)) = z * (c0 + 80338380498831 / 2251799813685248 * (z * z)) := by unfold c0 c1; ring
  rw [e, gelu]; ring

theorem ofBits_c0 : Idealize.ShloMosaic.Ideal.ofBits .f32 0x3F4C422A#32 = (c0 : EReal) := by
  unfold c0; simp [Idealize.ShloMosaic.Ideal.ofBits, Idealize.ShloMosaic.Ideal.ieee, -EReal.coe_mul]; norm_num
theorem ofBits_c1 : Idealize.ShloMosaic.Ideal.ofBits .f32 0x3D372713#32 = (c1 : EReal) := by
  unfold c1; simp [Idealize.ShloMosaic.Ideal.ofBits, Idealize.ShloMosaic.Ideal.ieee, -EReal.coe_mul]; norm_num
theorem ofBits_128 : Idealize.ShloMosaic.Ideal.ofBits .f32 0x43000000#32 = ((128 : ℝ) : EReal) := by
  simp [Idealize.ShloMosaic.Ideal.ofBits, Idealize.ShloMosaic.Ideal.ieee, -EReal.coe_mul, -EReal.coe_neg]; norm_num
theorem tanh_coe (a : ℝ) : Idealize.ShloMosaic.Ideal.tanh (a : EReal) = ((Real.tanh a : ℝ) : EReal) := rfl
theorem div_128 (a : ℝ) : Idealize.ShloMosaic.Ideal.div (a : EReal) ((128 : ℝ) : EReal) = ((a / 128 : ℝ) : EReal) := div_coe a 128 (by norm_num)

/-- The reciprocal root of a head's mean square. -/
def rmsh (v : Fin 128 → ℝ) : ℝ := (Real.sqrt ((∑ k, v k * v k) / 128 + eps))⁻¹

theorem rsqrt_msh (v : Fin 128 → ℝ) :
    Idealize.ShloMosaic.Ideal.rsqrt ((((∑ k, v k * v k) / 128 + eps : ℝ)) : EReal) = ((rmsh v : ℝ) : EReal) :=
  rsqrt_coe _ (add_pos_of_nonneg_of_pos (div_nonneg (Finset.sum_nonneg fun k _ => mul_self_nonneg (v k)) (by norm_num)) eps_pos)

variable (A : Args)

def hh (s : Fin 8192) (k : Fin 1024) : ℝ := A.x s k * rms (A.x s) * (A.pre k * (1 + A.scm k)) + A.shm k

def pj (s : Fin 8192) (n : Fin 1536) : ℝ := ∑ k, hh A s k * A.wi k n

/-- Head `h` of the gating branch: both halves through the Gaussian unit, the second normalised. -/
def uu (s : Fin 8192) (h : Fin 4) (c : Fin 128) : ℝ := gelu (pj A s ⟨128 * h.val + c.val, by omega⟩)
def vv (s : Fin 8192) (h : Fin 4) (c : Fin 128) : ℝ := gelu (pj A s ⟨512 + (128 * h.val + c.val), by omega⟩)
def vn (s : Fin 8192) (h : Fin 4) (c : Fin 128) : ℝ := vv A s h c * rmsh (vv A s h) * A.sg h c

/-- The spatial weights, causal between the two halves of a block. -/
def wm (h : Fin 4) (i j : Fin 128) : ℝ := if j.val / 64 ≤ i.val / 64 then A.ws h i j else 0

/-- Step `j` of the block of step `s`, and the place of `s` in it. -/
def blkAt (s : Fin 8192) (j : Fin 128) : Fin 8192 := ⟨s.val / 128 * 128 + j.val, by omega⟩
def inBlk (s : Fin 8192) : Fin 128 := ⟨s.val % 128, by omega⟩

def zz (s : Fin 8192) (h : Fin 4) (c : Fin 128) : ℝ := (∑ j, wm A h (inBlk s) j * vn A (blkAt s j) h c) + A.bs h (inBlk s)

def outA (s : Fin 8192) (h : Fin 4) (c : Fin 128) : ℝ := uu A s h c * zz A s h c

/-- Group `g` of the pooling branch, at a step and some steps back. -/
def pp (s : Fin 8192) (g : Fin 4) (c : Fin 128) : ℝ := pj A s ⟨1024 + (128 * g.val + c.val), by omega⟩
def back (k : ℕ) (s : Fin 8192) (g : Fin 4) (c : Fin 128) : ℝ := if k ≤ s.val then pp A ⟨s.val - k, by omega⟩ g c else 0

def pool (w : ℕ) (s : Fin 8192) (g : Fin 4) (c : Fin 128) : ℝ :=
  (∑ k ∈ Finset.range w, back A k s g c) / (min (s.val + 1) w : ℕ) - pp A s g c

def outB (s : Fin 8192) (g : Fin 4) (d : Fin 128) : ℝ :=
  (∑ c, pool A (2 ^ (g.val + 1)) s g c * A.wp g c d) * A.ps ⟨128 * g.val + d.val, by omega⟩

def cat (s : Fin 8192) (n : Fin 1024) : ℝ :=
  if h : n.val < 512 then outA A s ⟨n.val / 128, by omega⟩ ⟨n.val % 128, by omega⟩
  else outB A s ⟨(n.val - 512) / 128, by omega⟩ ⟨(n.val - 512) % 128, by omega⟩

def mixed (s : Fin 8192) (n : Fin 1024) : ℝ := ∑ e, cat A s e * A.wo e n

def x2 (s : Fin 8192) (n : Fin 1024) : ℝ := A.x s n + mixed A s n * rms (mixed A s) * (A.gm n * A.post n)

def h2 (s : Fin 8192) (n : Fin 1024) : ℝ := x2 A s n * rms (x2 A s) * (A.pref n * (1 + A.scf n)) + A.shf n

theorem cat_lo (s : Fin 8192) (h : Fin 4) (c : Fin 128) (n : Fin 1024) (hn : n.val = 128 * h.val + c.val) : cat A s n = outA A s h c := by
  unfold cat
  rw [dif_pos (by omega)]
  congr 1 <;> exact Fin.ext (by simp; omega)

theorem cat_hi (s : Fin 8192) (g : Fin 4) (d : Fin 128) (n : Fin 1024) (hn : n.val = 512 + (128 * g.val + d.val)) : cat A s n = outB A s g d := by
  unfold cat
  rw [dif_neg (by omega)]
  congr 1 <;> exact Fin.ext (by simp; omega)

/-- The sum of the steps up to `s`, less the sum of those up to `w` steps before, is the window of the last `w`. -/
theorem window (Y : ℕ → ℝ) (s w : ℕ) :
    (∑ j ∈ Finset.range (s + 1), Y j) - (∑ j ∈ Finset.range (s + 1 - w), Y j) = ∑ k ∈ Finset.range w, if k ≤ s then Y (s - k) else 0 := by
  induction w with
  | zero => simp
  | succ w ih =>
    rw [Finset.sum_range_succ (fun k => if k ≤ s then Y (s - k) else 0) w, ← ih]
    by_cases h : w ≤ s
    · rw [if_pos h, show s + 1 - w = (s - w) + 1 by omega, Finset.sum_range_succ _ (s - w), show s + 1 - (w + 1) = s - w by omega]; ring
    · rw [if_neg h, show s + 1 - w = 0 by omega, show s + 1 - (w + 1) = 0 by omega]; ring

/-- A group's column at any natural time. -/
def ppn (g : Fin 4) (c : Fin 128) (j : ℕ) : ℝ := if h : j < 8192 then pp A ⟨j, h⟩ g c else 0

/-- The number of steps in the window of step `n`, counted in words. -/
theorem cnt_word (n w : ℕ) (hn : n < 8192) (hw : w ≤ 16) :
    ((Idealize.ShloMosaic.IntOp.minsi (BitVec.ofNat 32 n + 1#32) (BitVec.ofNat 32 w)).toInt : ℝ) = ((min (n + 1) w : ℕ) : ℝ) := by
  have e : BitVec.ofNat 32 n + 1#32 = BitVec.ofNat 32 (n + 1) := by
    apply BitVec.eq_of_toNat_eq; simp
  have h1 : (BitVec.ofNat 32 (n + 1)).toInt = (n + 1 : ℕ) := by rw [BitVec.toInt_eq_toNat_cond, BitVec.toNat_ofNat]; split <;> omega
  have h2 : (BitVec.ofNat 32 w).toInt = (w : ℕ) := by rw [BitVec.toInt_eq_toNat_cond, BitVec.toNat_ofNat]; split <;> omega
  have h3 : (Idealize.ShloMosaic.IntOp.minsi (BitVec.ofNat 32 (n + 1)) (BitVec.ofNat 32 w)).toInt = (min (n + 1) w : ℕ) := by
    unfold Idealize.ShloMosaic.IntOp.minsi BitVec.slt
    rw [h1, h2]
    by_cases h : n + 1 < w
    · rw [if_pos (by simpa using (by exact_mod_cast h)), h1]; omega
    · rw [if_neg (by simpa using (by omega)), h2]; omega
  rw [e, h3]; norm_cast

end Mix

end
-- ==== Proof.MixNames.lean ====
module

public import proofs.«01_k».proof.Proof.MixSpec
public import proofs.«01_k».proof.Proof.Gen.MixFwdIdeal.Skeleton

@[expose] public section

set_option maxRecDepth 16384

noncomputable section

/-! The kernel's body has one text for its four heads, one for its four pooling groups and one for its two halves of a tile. That text is named once here, and each
of the body's expressions is an instance of it. -/

namespace Mix.Ker

open Idealize.ShloMosaic Idealize.ShloMosaic.TcCoe Idealize.SL.Sem
open Cert.MixFwdIdeal Cert.MixFwdIdeal.Gen

theorem sl_ok (o : ℕ) (h : o + 128 ≤ 1536) : S256x1536.Slices ![0, o] S256x128 :=
  ⟨rfl, fun a => by fin_cases a; exacts [Nat.le_refl _, h]⟩

theorem kl_ok (o : ℕ) (h : o + 128 ≤ 512) : S16x512.Slices ![0, o] S16x128 :=
  ⟨rfl, fun a => by fin_cases a; exacts [Nat.le_refl _, h]⟩

/-- A block of 128 columns. -/
def Sl (o : ℕ) (h : o + 128 ≤ 1536) (P : FVec Ideal S256x1536 .f32) : FVec Ideal S256x128 .f32 := extractStridedSlice S256x128 ![0, o] P (sl_ok o h)

/-- The Gaussian unit of a block. -/
def Gel (w : FVec Ideal S256x128 .f32) : FVec Ideal S256x128 .f32 :=
  mulf w (addf (broadcast S256x128 (Scalar.ofBits .f32 0x3F000000#32)) (mulf (broadcast S256x128 (Scalar.ofBits .f32 0x3F000000#32))
    (tanh (mulf w (addf (broadcast S256x128 (Scalar.ofBits .f32 0x3F4C422A#32)) (mulf k0_pay17 (mulf w w)))))))

/-- The unit of a block, normalised along the head and scaled. -/
def Vn (w : FVec Ideal S256x128 .f32) (g : Vec Ideal S1x128 .f32) : FVec Ideal S256x128 .bf16 := k0_pay18 w (mulf w w) k0_pay17 g

/-- A head's gate times its spatial product, on the first block of a half tile and on the second. -/
def Lo (o : ℕ) (h : o + 128 ≤ 512) (P : FVec Ideal S256x1536 .f32) (g : Vec Ideal S1x128 .f32) (w : Vec Ideal S1x128x128 .bf16) (b : Vec Ideal S1x128x128 .f32) :
    FVec Ideal S128x128 .bf16 := k0_pay12 (Gel (Sl o (by omega) P)) (Vn (Sl (512 + o) (by omega) P) g) w b
def Hi (o : ℕ) (h : o + 128 ≤ 512) (P : FVec Ideal S256x1536 .f32) (g : Vec Ideal S1x128 .f32) (w : Vec Ideal S1x128x128 .bf16) (b : Vec Ideal S1x128x128 .f32) :
    FVec Ideal S128x128 .bf16 := k0_pay13 (Gel (Sl o (by omega) P)) (Vn (Sl (512 + o) (by omega) P) g) w b

/-- A pooling group's columns below the sixteen rows kept from the half tile before, and such columns plus themselves some rows back. -/
def Ext (o : ℕ) (h : o + 128 ≤ 512) (P : FVec Ideal S256x1536 .f32) (K : FVec Ideal S16x512 .f32) : FVec Ideal S272x128 .f32 :=
  concatenate S272x128 0 [⟨S16x128, extractStridedSlice S16x128 ![0, o] K (kl_ok o h)⟩, ⟨S256x128, Sl (1024 + o) (by omega) P⟩] concatenates_S16x128_S256x128_S272x128_d0
def Roll (d : BitVec 32) (e : FVec Ideal S272x128 .f32) : FVec Ideal S272x128 .f32 := addf e (dynamicRotate 0 d none e rotates_S272x128_d0)

/-- How many steps a window of width `w` holds. -/
def Cnt (w : BitVec 32) (T : IVec S256x128 32) : FVec Ideal S256x128 .f32 := sitofp .f32 (minsi (addi T (broadcast S256x128 1#32)) (broadcast S256x128 w))

/-- A pooling group: the window's mean less the step itself, through the group's product and scale. -/
def Pl (o : ℕ) (h : o + 128 ≤ 512) (w : BitVec 32) (q : FVec Ideal S272x128 .f32) (P : FVec Ideal S256x1536 .f32) (T : IVec S256x128 32)
    (wp : Vec Ideal S1x128x128 .bf16) (ps : Vec Ideal S1x128 .f32) : FVec Ideal S256x128 .bf16 :=
  k0_pay42 (Sl (1024 + o) (by omega) P) (Cnt w T) (extractStridedSlice S256x128 ![16, 0] q slices_S272x128_o16_0_S256x128) wp ps

variable (P : FVec Ideal S256x1536 .f32) (K : FVec Ideal S16x512 .f32) (T : IVec S256x128 32) (g : Vec Ideal S1x128 .f32) (w wp : Vec Ideal S1x128x128 .bf16)
  (b : Vec Ideal S1x128x128 .f32) (ps : Vec Ideal S1x128 .f32)

theorem lo0 : k0_pay12 (k0_pay10 P) (k0_pay11 P g) w b = Lo 0 (by decide) P g w b := rfl
theorem hi0 : k0_pay13 (k0_pay10 P) (k0_pay11 P g) w b = Hi 0 (by decide) P g w b := rfl
theorem lo1 : k0_pay19 (k0_pay14 P) (k0_pay15 P) (k0_pay16 P) k0_pay17 g w b = Lo 128 (by decide) P g w b := rfl
theorem hi1 : k0_pay22 (k0_pay14 P) (k0_pay20 w) (k0_pay21 (k0_pay15 P) (k0_pay16 P) k0_pay17 g) b = Hi 128 (by decide) P g w b := rfl
theorem lo2 : k0_pay27 (k0_pay23 P) (k0_pay24 P) (k0_pay25 P) g w b = Lo 256 (by decide) P g w b := rfl
theorem hi2 : k0_pay28 (k0_pay23 P) (k0_pay24 P) (k0_pay25 P) g w b = Hi 256 (by decide) P g w b := rfl
theorem lo3 : k0_pay35 (k0_pay33 P g w b) (k0_pay34 (k0_pay29 P) (k0_pay30 P)) = Lo 384 (by decide) P g w b := rfl
theorem hi3 : k0_pay36 (k0_pay31 (k0_pay29 P) (k0_pay30 P)) (k0_pay32 P g) w b = Hi 384 (by decide) P g w b := rfl
theorem pl0 : k0_pay37 P K T wp ps = Pl 0 (by decide) 2 (Roll 1 (Ext 0 (by decide) P K)) P T wp ps := rfl
theorem pl1 : k0_pay38 P K T wp ps = Pl 128 (by decide) 4 (Roll 2 (Roll 1 (Ext 128 (by decide) P K))) P T wp ps := rfl
theorem pl2 : k0_pay42 (k0_pay39 P) (k0_pay40 T) (k0_pay41 P K) wp ps = Pl 256 (by decide) 8 (Roll 4 (Roll 2 (Roll 1 (Ext 256 (by decide) P K)))) P T wp ps := rfl
theorem pl3 : k0_pay44 (k0_pay43 P K T wp ps) = Pl 384 (by decide) 16 (Roll 8 (Roll 4 (Roll 2 (Roll 1 (Ext 384 (by decide) P K))))) P T wp ps := rfl

/-! The second half of the tile. -/

theorem lo0' : k0_pay52 (k0_pay48 P) (k0_pay49 P) (k0_pay50 P) g w b = Lo 0 (by decide) P g w b := rfl
theorem hi0' : k0_pay53 (k0_pay48 P) (k0_pay49 P) (k0_pay50 P) g w b = Hi 0 (by decide) P g w b := rfl
theorem lo1' : k0_pay59 (k0_pay55 (k0_pay54 P)) (k0_pay57 w) (k0_pay58 P g) (constant S128x128 .f32 0#32) b = Lo 128 (by decide) P g w b := rfl
theorem hi1' : k0_pay60 (k0_pay55 (k0_pay54 P)) (k0_pay56 P g) w b = Hi 128 (by decide) P g w b := rfl
theorem lo2' : k0_pay65 (k0_pay61 P) (k0_pay62 P) (k0_pay63 P) g w b = Lo 256 (by decide) P g w b := rfl
theorem hi2' : k0_pay67 (k0_pay61 P) (k0_pay66 (k0_pay62 P) (k0_pay63 P) g w) b = Hi 256 (by decide) P g w b := rfl
theorem lo3' : k0_pay71 (k0_pay68 P) (k0_pay69 P) g w b = Lo 384 (by decide) P g w b := rfl
theorem hi3' : k0_pay72 (k0_pay68 P) (k0_pay69 P) g w b = Hi 384 (by decide) P g w b := rfl
theorem pl0' : k0_pay76 (k0_pay73 P) (k0_pay74 P K) (k0_pay75 T) wp ps = Pl 0 (by decide) 2 (Roll 1 (Ext 0 (by decide) P K)) P T wp ps := rfl
theorem pl1' : k0_pay77 P K T wp ps = Pl 128 (by decide) 4 (Roll 2 (Roll 1 (Ext 128 (by decide) P K))) P T wp ps := rfl
theorem pl2' : k0_pay78 P K T wp ps = Pl 256 (by decide) 8 (Roll 4 (Roll 2 (Roll 1 (Ext 256 (by decide) P K)))) P T wp ps := rfl
theorem pl3' : k0_pay82 (k0_pay79 P) (k0_pay80 P K) (k0_pay81 T) 16#32 wp ps
    = Pl 384 (by decide) 16 (Roll 8 (Roll 4 (Roll 2 (Roll 1 (Ext 384 (by decide) P K))))) P T wp ps := rfl

theorem h' : @k0_pay6 = @k0_pay3 := rfl
theorem p' : @k0_pay7 = @k0_pay4 := rfl
theorem q' : @k0_pay8 = @k0_pay5 := rfl
theorem k' : @k0_pay83 = @k0_pay45 := rfl
theorem m' : @k0_pay84 = @k0_pay46 := rfl

variable (M x : FVec Ideal S256x1024 .f32) (p1 p2 p3 p4 p5 : Vec Ideal S1x1024 .f32) (pm : Vec Ideal S1x256x256 .bf16)
theorem x' : k0_pay87 (k0_pay85 x) (k0_pay86 M) p1 p2 = k0_pay90 M x p1 p2 := rfl
theorem f' : k0_pay88 (k0_pay85 x) (k0_pay86 M) p1 p2 p3 p4 p5 pm = k0_pay1 (k0_pay91 M x p1 p2) (k0_pay92 p3) p4 p5 pm := rfl

end Mix.Ker

end
-- ==== Proof.MixTile.lean ====
module

public import proofs.«01_k».proof.Proof.MixNames
public import Idealize.ShloMosaic.Lib.Pipeline.ValueKit
public import Idealize.ShloMosaic.Lib.Pointwise

@[expose] public section

set_option maxRecDepth 16384

noncomputable section

/-! One half of a tile, 256 steps: what the named expressions compute on blocks that hold the real quantities of `MixSpec`. -/

namespace Mix.Ker

open Idealize.ShloMosaic Idealize.ShloMosaic.TcCoe Idealize.SL.Sem
open Cert.MixFwdIdeal Cert.MixFwdIdeal.Gen Lift
open Fwd (rms rsqrt_ms)

variable {A : Args}

/-- The step held by row `p` of half tile `q`. -/
def tm (q : Fin 32) (p : Fin 256) : Fin 8192 := ⟨256 * q.val + p.val, by omega⟩

theorem c1_at : (Named.named (F := Ideal) Cert.MixFwdIdeal.κ "gelu_c1" (φ := .f32) 0x3D122279#32 : EReal) = ((80338380498831 / 2251799813685248 : ℝ) : EReal) := rfl

theorem gel_at {w : FVec Ideal S256x128 .f32} {z : Fin 256 → Fin 128 → ℝ} (hw : ∀ p c, w (ix2 p c) = (z p c : EReal)) (p : Fin 256) (c : Fin 128) :
    Gel w (ix2 p c) = ((gelu (z p c) : ℝ) : EReal) := by
  pointwise [Gel, k0_pay17]
  simp only [hw, ofBits_half, ofBits_c0, c1_at, ← EReal.coe_mul, ← EReal.coe_add, tanh_coe]
  rfl

theorem vn_at {w : FVec Ideal S256x128 .f32} {z : Fin 256 → Fin 128 → ℝ} {g : Vec Ideal S1x128 .f32} {γ : Fin 128 → ℝ} (hw : ∀ p c, w (ix2 p c) = (z p c : EReal))
    (hg : ∀ c, g (ix2 0 c) = (γ c : EReal)) (p : Fin 256) (c : Fin 128) :
    Vn w g (ix2 p c) = ((gelu (z p c) * rmsh (fun c => gelu (z p c)) * γ c : ℝ) : EReal) := by
  have e : Vn w g = truncf .bf16 (mulf (mulf (Gel w) (broadcastTo S256x128 (rsqrt (addf (divf (shapeCast S256x1 (multiReduction .add [1] S256 (mulf (Gel w) (Gel w)) 0x00000000#32 (by decide) (.inl rfl) rfl) (by decide)) (broadcast S256x1 (Scalar.ofBits .f32 0x43000000#32))) (broadcast S256x1 (Scalar.ofBits .f32 0x358637BD#32)))) (by decide))) (broadcastTo S256x128 (shapeCast S1x128 g (by decide)) (by decide))) bitsLt_bf16_f32 := rfl
  rw [e]
  pointwise
  simp only [gel_at hw, hg, ofBits_128, ofBits_eps, ← EReal.coe_mul, ← EReal.coe_add, sum_coe, div_128, rsqrt_msh]

/-- A head's product on the first block of the half tile … -/
theorem lo_at {u : FVec Ideal S256x128 .f32} {v : FVec Ideal S256x128 .bf16} {w : Vec Ideal S1x128x128 .bf16} {b : Vec Ideal S1x128x128 .f32}
    {U V : Fin 256 → Fin 128 → ℝ} {W : Fin 128 → Fin 128 → ℝ} {B : Fin 128 → ℝ} (hu : ∀ p c, u (ix2 p c) = (U p c : EReal)) (hv : ∀ p c, v (ix2 p c) = (V p c : EReal))
    (hw : ∀ i j, w (ix3 0 i j) = (W i j : EReal)) (hb : ∀ i c, b (ix3 0 i c) = (B i : EReal)) (i c : Fin 128) :
    k0_pay12 u v w b (ix2 i c) = ((U ⟨i.val, by omega⟩ c * ((∑ j, W i j * V ⟨j.val, by omega⟩ c) + B i) : ℝ) : EReal) := by
  pointwise [k0_pay12]
  simp only [hu, hv, hw, hb, ← EReal.coe_mul, ← EReal.coe_add, sum_coe]

/-- … and on the second. -/
theorem hi_at {u : FVec Ideal S256x128 .f32} {v : FVec Ideal S256x128 .bf16} {w : Vec Ideal S1x128x128 .bf16} {b : Vec Ideal S1x128x128 .f32}
    {U V : Fin 256 → Fin 128 → ℝ} {W : Fin 128 → Fin 128 → ℝ} {B : Fin 128 → ℝ} (hu : ∀ p c, u (ix2 p c) = (U p c : EReal)) (hv : ∀ p c, v (ix2 p c) = (V p c : EReal))
    (hw : ∀ i j, w (ix3 0 i j) = (W i j : EReal)) (hb : ∀ i c, b (ix3 0 i c) = (B i : EReal)) (i c : Fin 128) :
    k0_pay13 u v w b (ix2 i c) = ((U ⟨128 + i.val, by omega⟩ c * ((∑ j, W i j * V ⟨128 + j.val, by omega⟩ c) + B i) : ℝ) : EReal) := by
  pointwise [k0_pay13]
  simp only [hu, hv, hw, hb, ← EReal.coe_mul, ← EReal.coe_add, sum_coe]

/-! ## The half tile's projection, and the heads -/

section
variable {P : FVec Ideal S256x1536 .f32} {q : Fin 32} (hP : ∀ p n, P (ix2 p n) = ((pj A (tm q p) n : ℝ) : EReal))

include hP in
theorem sl_at (o : ℕ) (h : o + 128 ≤ 1536) (p : Fin 256) (c : Fin 128) : Sl o h P (ix2 p c) = ((pj A (tm q p) ⟨o + c.val, by omega⟩ : ℝ) : EReal) := by
  pointwise [Sl]
  exact hP _ _

variable {g : Vec Ideal S1x128 .f32} {w : Vec Ideal S1x128x128 .bf16} {b : Vec Ideal S1x128x128 .f32} (h : Fin 4)
  (hg : ∀ c, g (ix2 0 c) = ((A.sg h c : ℝ) : EReal)) (hw : ∀ i j, w (ix3 0 i j) = ((wm A h i j : ℝ) : EReal)) (hb : ∀ i c, b (ix3 0 i c) = ((A.bs h i : ℝ) : EReal))

include hP in
theorem gel_sl (o : ℕ) (ho : o = 128 * h.val) (h') (p : Fin 256) (c : Fin 128) : Gel (Sl o h' P) (ix2 p c) = ((uu A (tm q p) h c : ℝ) : EReal) := by
  subst ho
  exact gel_at (sl_at hP _ h') p c

include hP hg in
theorem vn_sl (o : ℕ) (ho : o = 128 * h.val) (h') (p : Fin 256) (c : Fin 128) : Vn (Sl (512 + o) h' P) g (ix2 p c) = ((vn A (tm q p) h c : ℝ) : EReal) := by
  subst ho
  refine (vn_at (sl_at hP _ h') hg p c).trans ?_
  simp only [Nat.add_assoc]
  rfl

theorem blk_lo (i j : Fin 128) : blkAt (tm q ⟨i.val, by omega⟩) j = tm q ⟨j.val, by omega⟩ := Fin.ext (by simp [blkAt, tm]; omega)
theorem blk_hi (i j : Fin 128) : blkAt (tm q ⟨128 + i.val, by omega⟩) j = tm q ⟨128 + j.val, by omega⟩ := Fin.ext (by simp [blkAt, tm]; omega)
theorem in_lo (i : Fin 128) : inBlk (tm q ⟨i.val, by omega⟩) = i := Fin.ext (by simp [inBlk, tm]; omega)
theorem in_hi (i : Fin 128) : inBlk (tm q ⟨128 + i.val, by omega⟩) = i := Fin.ext (by simp [inBlk, tm]; omega)

include hP hg hw hb in
theorem lo (o : ℕ) (ho : o = 128 * h.val) (h') (i c : Fin 128) : Lo o h' P g w b (ix2 i c) = ((outA A (tm q ⟨i.val, by omega⟩) h c : ℝ) : EReal) := by
  refine (lo_at (gel_sl hP h o ho _) (vn_sl hP h hg o ho _) hw hb i c).trans ?_
  simp only [outA, zz, blk_lo, in_lo]

include hP hg hw hb in
theorem hi (o : ℕ) (ho : o = 128 * h.val) (h') (i c : Fin 128) : Hi o h' P g w b (ix2 i c) = ((outA A (tm q ⟨128 + i.val, by omega⟩) h c : ℝ) : EReal) := by
  refine (hi_at (gel_sl hP h o ho _) (vn_sl hP h hg o ho _) hw hb i c).trans ?_
  simp only [outA, zz, blk_hi, in_hi]

end

/-! ## The pooling groups -/

/-- A group's column sixteen steps before row `r`: zero before the first step. -/
def early (A : Args) (q : Fin 32) (g : Fin 4) (c : Fin 128) (r : ℕ) : ℝ := if 16 ≤ 256 * q.val + r then ppn A g c (256 * q.val + r - 16) else 0

/-- Column `c` of group `g`. -/
def col (g : Fin 4) (c : Fin 128) : Fin 512 := ⟨128 * g.val + c.val, by omega⟩

theorem early_row (q : Fin 32) (g : Fin 4) (c : Fin 128) (p : Fin 256) (k : ℕ) (hk : k ≤ 16) : early A q g c (16 + p.val - k) = back A k (tm q p) g c := by
  have ht : (tm q p).val = 256 * q.val + p.val := rfl
  unfold early back
  by_cases h : k ≤ (tm q p).val
  · rw [if_pos h, if_pos (by omega), ppn, dif_pos (by omega)]
    congr 1; exact Fin.ext (by simp; omega)
  · rw [if_neg h, if_neg (by omega)]

theorem roll_at {e : FVec Ideal S272x128 .f32} {F : ℕ → ℝ} {m : ℕ} {c : Fin 128} (he : ∀ r : Fin 272, m ≤ r.val → e (ix2 r c) = (F r.val : EReal))
    (d : ℕ) (hd : d < 272) (r : Fin 272) (hr : m + d ≤ r.val) : Roll (BitVec.ofNat 32 d) e (ix2 r c) = ((F r.val + F (r.val - d) : ℝ) : EReal) := by
  have hn : (BitVec.ofNat 32 d).toNat = d := by rw [BitVec.toNat_ofNat]; omega
  have e1 : dynamicRotate 0 (BitVec.ofNat 32 d) none e rotates_S272x128_d0 (ix2 r c) = e (ix2 ⟨r.val - d, by omega⟩ c) := by
    unfold dynamicRotate
    refine congrArg e (funext fun a => ?_)
    fin_cases a
    · refine Fin.ext ?_
      show (r.val + 272 - ((BitVec.ofNat 32 d).toNat + 0) % 272) % 272 = r.val - d
      rw [hn]; omega
    · rfl
  have e2 : Roll (BitVec.ofNat 32 d) e (ix2 r c) = e (ix2 r c) + dynamicRotate 0 (BitVec.ofNat 32 d) none e rotates_S272x128_d0 (ix2 r c) := rfl
  rw [e2, e1, he r (by omega), he _ (by simp; omega), ← EReal.coe_add]

section
variable {P : FVec Ideal S256x1536 .f32} {K : FVec Ideal S16x512 .f32} {T : IVec S256x128 32} {q : Fin 32}
  (hP : ∀ p n, P (ix2 p n) = ((pj A (tm q p) n : ℝ) : EReal))
  (hK : ∀ (g : Fin 4) (r : Fin 16) (c : Fin 128), K (ix2 r (col g c)) = ((early A q g c r.val : ℝ) : EReal))
  (hT : ∀ p c, T (ix2 p c) = BitVec.ofNat 32 (256 * q.val + p.val))

include hP in
theorem pp_sl (g : Fin 4) (o : ℕ) (ho : o = 128 * g.val) (h) (p : Fin 256) (c : Fin 128) : Sl (1024 + o) h P (ix2 p c) = ((pp A (tm q p) g c : ℝ) : EReal) := by
  subst ho
  refine (sl_at hP _ h p c).trans ?_
  simp only [Nat.add_assoc]
  rfl

include hP hK in
theorem ext_at (g : Fin 4) (o : ℕ) (ho : o = 128 * g.val) (h) (c : Fin 128) (r : Fin 272) (_ : 0 ≤ r.val) :
    Ext o h P K (ix2 r c) = ((early A q g c r.val : ℝ) : EReal) := by
  pointwise [Ext]
  by_cases hr : r.val < 16
  · rw [dif_pos hr]
    subst ho
    exact hK g ⟨r.val, hr⟩ c
  · rw [dif_neg hr]
    refine (pp_sl hP g o ho (by omega) ⟨r.val - 16, by omega⟩ c).trans (congrArg _ ?_)
    have e := early_row (A := A) q g c ⟨r.val - 16, by omega⟩ 0 (by omega)
    rw [show 16 + (r.val - 16) - 0 = r.val by omega] at e
    rw [e]; unfold back; rw [if_pos (by omega)]; rfl

include hP hT in
theorem pl_at (g : Fin 4) (o : ℕ) (ho : o = 128 * g.val) (h) {S : FVec Ideal S272x128 .f32} {wp : Vec Ideal S1x128x128 .bf16} {ps : Vec Ideal S1x128 .f32}
    (hS : ∀ (p : Fin 256) (c : Fin 128), S (ix2 ⟨16 + p.val, by omega⟩ c) = ((∑ k ∈ Finset.range (2 ^ (g.val + 1)), back A k (tm q p) g c : ℝ) : EReal))
    (hwp : ∀ i j, wp (ix3 0 i j) = ((A.wp g i j : ℝ) : EReal)) (hps : ∀ j : Fin 128, ps (ix2 0 j) = ((A.ps ⟨128 * g.val + j.val, by omega⟩ : ℝ) : EReal))
    (p : Fin 256) (d : Fin 128) : Pl o h (BitVec.ofNat 32 (2 ^ (g.val + 1))) S P T wp ps (ix2 p d) = ((outB A (tm q p) g d : ℝ) : EReal) := by
  have hw : 2 ^ (g.val + 1) ≤ 16 := by fin_cases g <;> decide
  have hw0 : 0 < 2 ^ (g.val + 1) := Nat.pow_pos (by decide)
  have hc : ∀ c : Fin 128, Cnt (BitVec.ofNat 32 (2 ^ (g.val + 1))) T (ix2 p c) = (((min ((tm q p).val + 1) (2 ^ (g.val + 1)) : ℕ) : ℝ) : EReal) := fun c => by
    have e : Cnt (BitVec.ofNat 32 (2 ^ (g.val + 1))) T (ix2 p c)
      = (((IntOp.minsi (T (ix2 p c) + 1#32) (BitVec.ofNat 32 (2 ^ (g.val + 1)))).toInt : ℝ) : EReal) := rfl
    rw [e, hT, cnt_word _ _ (by omega) hw]; rfl
  have hn : ((min ((tm q p).val + 1) (2 ^ (g.val + 1)) : ℕ) : ℝ) ≠ 0 := by
    rw [Nat.cast_ne_zero]; omega
  pointwise [Pl, k0_pay42]
  simp only [hc, hS, pp_sl hP g o ho, hwp, hps, div_coe _ _ hn, ← EReal.coe_mul, ← EReal.coe_add, ← EReal.coe_sub, sum_coe]
  rfl

end

/-! ## The rest of the half tile -/

theorem hh_at {X : Vec Ideal S256x1024 .f32} {pre sc sh : Vec Ideal S1x1024 .f32} {q : Fin 32} (hX : ∀ p k, X (ix2 p k) = ((A.x (tm q p) k : ℝ) : EReal))
    (hpre : ∀ k, pre (ix2 0 k) = ((A.pre k : ℝ) : EReal)) (hsc : ∀ k, sc (ix2 0 k) = ((A.scm k : ℝ) : EReal)) (hsh : ∀ k, sh (ix2 0 k) = ((A.shm k : ℝ) : EReal))
    (p : Fin 256) (k : Fin 1024) : k0_pay3 X pre sc sh (ix2 p k) = ((hh A (tm q p) k : ℝ) : EReal) := by
  pointwise [k0_pay3]
  simp only [hX, hpre, hsc, hsh, ofBits_1024, ofBits_eps, ← EReal.coe_one, ← EReal.coe_mul, ← EReal.coe_add, sum_coe, div_1024, rsqrt_ms]
  rfl

theorem pj_at {X : Vec Ideal S256x1024 .f32} {pre sc sh : Vec Ideal S1x1024 .f32} {W : Vec Ideal S1024x1536 .bf16} {q : Fin 32}
    (hH : ∀ p k, k0_pay3 X pre sc sh (ix2 p k) = ((hh A (tm q p) k : ℝ) : EReal)) (hW : ∀ k n, W (ix2 k n) = ((A.wi k n : ℝ) : EReal))
    (p : Fin 256) (n : Fin 1536) : k0_pay4 X pre sc sh W (ix2 p n) = ((pj A (tm q p) n : ℝ) : EReal) := by
  pointwise [k0_pay4]
  simp only [hH, hW, ← EReal.coe_mul, sum_coe]
  rfl

theorem mixed_at {C : FVec Ideal S256x1024 .bf16} {W : Vec Ideal S1024x1024 .bf16} {q : Fin 32} (hC : ∀ p k, C (ix2 p k) = ((cat A (tm q p) k : ℝ) : EReal))
    (hW : ∀ k n, W (ix2 k n) = ((A.wo k n : ℝ) : EReal)) (p : Fin 256) (n : Fin 1024) : k0_pay46 C W (ix2 p n) = ((mixed A (tm q p) n : ℝ) : EReal) := by
  pointwise [k0_pay46]
  simp only [hC, hW, ← EReal.coe_mul, sum_coe]
  rfl

theorem x2_at {M X : FVec Ideal S256x1024 .f32} {po gm : Vec Ideal S1x1024 .f32} {q : Fin 32} (hM : ∀ p k, M (ix2 p k) = ((mixed A (tm q p) k : ℝ) : EReal))
    (hX : ∀ p k, X (ix2 p k) = ((A.x (tm q p) k : ℝ) : EReal)) (hpo : ∀ k, po (ix2 0 k) = ((A.gm k : ℝ) : EReal)) (hgm : ∀ k, gm (ix2 0 k) = ((A.post k : ℝ) : EReal))
    (p : Fin 256) (k : Fin 1024) : k0_pay90 M X po gm (ix2 p k) = ((x2 A (tm q p) k : ℝ) : EReal) := by
  pointwise [k0_pay90]
  simp only [hM, hX, hpo, hgm, ofBits_1024, ofBits_eps, ← EReal.coe_one, ← EReal.coe_mul, ← EReal.coe_add, sum_coe, div_1024, rsqrt_ms]
  rfl

end Mix.Ker

end
-- ==== Proof.MixTail.lean ====
module

public import proofs.«01_k».proof.Proof.MixTile
public import proofs.«01_k».proof.Proof.Hot

@[expose] public section

set_option maxRecDepth 16384
set_option maxHeartbeats 2000000

noncomputable section

/-! The pooling windows by doubling, the step numbers, the rows kept for the next half tile, and the last norm brought into the tile's order. -/

namespace Mix.Ker

open Idealize.ShloMosaic Idealize.ShloMosaic.TcCoe Idealize.SL.Sem
open Cert.MixFwdIdeal Cert.MixFwdIdeal.Gen Lift
open Fwd (rms rsqrt_ms)
open Fwd.Ker (hot sum_hot_step)

variable {A : Args}

/-! ## Windows -/

def two (A : Args) (q : Fin 32) (g : Fin 4) (c : Fin 128) (r : ℕ) : ℝ := early A q g c r + early A q g c (r - 1)
def four (A : Args) (q : Fin 32) (g : Fin 4) (c : Fin 128) (r : ℕ) : ℝ := two A q g c r + two A q g c (r - 2)
def eight (A : Args) (q : Fin 32) (g : Fin 4) (c : Fin 128) (r : ℕ) : ℝ := four A q g c r + four A q g c (r - 4)
def sixteen (A : Args) (q : Fin 32) (g : Fin 4) (c : Fin 128) (r : ℕ) : ℝ := eight A q g c r + eight A q g c (r - 8)

section
variable (q : Fin 32) (g : Fin 4) (c : Fin 128) (p : Fin 256)

theorem two_row (k : ℕ) (hk : k ≤ 15) : two A q g c (16 + p.val - k) = back A k (tm q p) g c + back A (k + 1) (tm q p) g c := by
  unfold two
  rw [Nat.sub_sub, early_row q g c p k (by omega), early_row q g c p (k + 1) (by omega)]

theorem four_row (k : ℕ) (hk : k ≤ 13) :
    four A q g c (16 + p.val - k) = ∑ j ∈ Finset.range 4, back A (k + j) (tm q p) g c := by
  unfold four
  rw [Nat.sub_sub, two_row q g c p k (by omega), two_row q g c p (k + 2) (by omega)]
  simp only [Finset.sum_range_succ, Finset.sum_range_zero, Nat.add_assoc, Nat.reduceAdd, add_zero, zero_add, add_assoc]

theorem eight_row (k : ℕ) (hk : k ≤ 8) :
    eight A q g c (16 + p.val - k) = ∑ j ∈ Finset.range 8, back A (k + j) (tm q p) g c := by
  unfold eight
  rw [Nat.sub_sub, four_row q g c p k (by omega), four_row q g c p (k + 4) (by omega), Finset.sum_range_add _ 4 4]
  simp only [Nat.add_assoc]

theorem sixteen_row : sixteen A q g c (16 + p.val) = ∑ j ∈ Finset.range 16, back A j (tm q p) g c := by
  unfold sixteen
  rw [show eight A q g c (16 + p.val) = eight A q g c (16 + p.val - 0) from rfl, eight_row q g c p 0 (by omega), eight_row q g c p 8 (by omega),
    Finset.sum_range_add _ 8 8]
  simp only [Nat.zero_add]

end

section
variable {P : FVec Ideal S256x1536 .f32} {K : FVec Ideal S16x512 .f32} {q : Fin 32}
  (hP : ∀ p n, P (ix2 p n) = ((pj A (tm q p) n : ℝ) : EReal))
  (hK : ∀ (g : Fin 4) (r : Fin 16) (c : Fin 128), K (ix2 r (col g c)) = ((early A q g c r.val : ℝ) : EReal)) (g : Fin 4) (o : ℕ) (ho : o = 128 * g.val) (h : o + 128 ≤ 512)

include hP hK ho
theorem roll1 (c : Fin 128) (r : Fin 272) (hr : 1 ≤ r.val) : Roll 1 (Ext o h P K) (ix2 r c) = ((two A q g c r.val : ℝ) : EReal) :=
  roll_at (m := 0) (ext_at hP hK g o ho h c) 1 (by decide) r (by omega)

theorem roll2 (c : Fin 128) (r : Fin 272) (hr : 3 ≤ r.val) : Roll 2 (Roll 1 (Ext o h P K)) (ix2 r c) = ((four A q g c r.val : ℝ) : EReal) :=
  roll_at (m := 1) (roll1 hP hK g o ho h c) 2 (by decide) r (by omega)

theorem roll4 (c : Fin 128) (r : Fin 272) (hr : 7 ≤ r.val) : Roll 4 (Roll 2 (Roll 1 (Ext o h P K))) (ix2 r c) = ((eight A q g c r.val : ℝ) : EReal) :=
  roll_at (m := 3) (roll2 hP hK g o ho h c) 4 (by decide) r (by omega)

theorem roll8 (c : Fin 128) (r : Fin 272) (hr : 15 ≤ r.val) :
    Roll 8 (Roll 4 (Roll 2 (Roll 1 (Ext o h P K)))) (ix2 r c) = ((sixteen A q g c r.val : ℝ) : EReal) :=
  roll_at (m := 7) (roll4 hP hK g o ho h c) 8 (by decide) r (by omega)

end

section
variable {P : FVec Ideal S256x1536 .f32} {K : FVec Ideal S16x512 .f32} {N : IVec S256x128 32} {q : Fin 32}
  (hP : ∀ p n, P (ix2 p n) = ((pj A (tm q p) n : ℝ) : EReal))
  (hK : ∀ (g : Fin 4) (r : Fin 16) (c : Fin 128), K (ix2 r (col g c)) = ((early A q g c r.val : ℝ) : EReal))
  (hN : ∀ p c, N (ix2 p c) = BitVec.ofNat 32 (256 * q.val + p.val))

variable {wp : Vec Ideal S1x128x128 .bf16} {ps : Vec Ideal S1x128 .f32}
include hP hK hN

theorem pool0 (hwp : ∀ i j, wp (ix3 0 i j) = ((A.wp 0 i j : ℝ) : EReal)) (hps : ∀ j : Fin 128, ps (ix2 0 j) = ((A.ps ⟨0 + j.val, by omega⟩ : ℝ) : EReal))
    (p : Fin 256) (d : Fin 128) : Pl 0 (by decide) 2 (Roll 1 (Ext 0 (by decide) P K)) P N wp ps (ix2 p d) = ((outB A (tm q p) 0 d : ℝ) : EReal) :=
  pl_at hP hN 0 0 rfl (by decide) (fun p c => (roll1 hP hK 0 0 rfl _ c _ (by simp; omega)).trans (congrArg _ (by
    refine (two_row q 0 c p 0 (by omega)).trans ?_
    simp [Finset.sum_range_succ]))) hwp hps p d

theorem pool1 (hwp : ∀ i j, wp (ix3 0 i j) = ((A.wp 1 i j : ℝ) : EReal)) (hps : ∀ j : Fin 128, ps (ix2 0 j) = ((A.ps ⟨128 + j.val, by omega⟩ : ℝ) : EReal))
    (p : Fin 256) (d : Fin 128) : Pl 128 (by decide) 4 (Roll 2 (Roll 1 (Ext 128 (by decide) P K))) P N wp ps (ix2 p d) = ((outB A (tm q p) 1 d : ℝ) : EReal) :=
  pl_at hP hN 1 128 rfl (by decide) (fun p c => (roll2 hP hK 1 128 rfl _ c _ (by simp; omega)).trans (congrArg _ (by
    refine (four_row q 1 c p 0 (by omega)).trans ?_
    simp only [Nat.zero_add]; rfl))) hwp hps p d

theorem pool2 (hwp : ∀ i j, wp (ix3 0 i j) = ((A.wp 2 i j : ℝ) : EReal)) (hps : ∀ j : Fin 128, ps (ix2 0 j) = ((A.ps ⟨256 + j.val, by omega⟩ : ℝ) : EReal))
    (p : Fin 256) (d : Fin 128) :
    Pl 256 (by decide) 8 (Roll 4 (Roll 2 (Roll 1 (Ext 256 (by decide) P K)))) P N wp ps (ix2 p d) = ((outB A (tm q p) 2 d : ℝ) : EReal) :=
  pl_at hP hN 2 256 rfl (by decide) (fun p c => (roll4 hP hK 2 256 rfl _ c _ (by simp; omega)).trans (congrArg _ (by
    refine (eight_row q 2 c p 0 (by omega)).trans ?_
    simp only [Nat.zero_add]; rfl))) hwp hps p d

theorem pool3 (hwp : ∀ i j, wp (ix3 0 i j) = ((A.wp 3 i j : ℝ) : EReal)) (hps : ∀ j : Fin 128, ps (ix2 0 j) = ((A.ps ⟨384 + j.val, by omega⟩ : ℝ) : EReal))
    (p : Fin 256) (d : Fin 128) :
    Pl 384 (by decide) 16 (Roll 8 (Roll 4 (Roll 2 (Roll 1 (Ext 384 (by decide) P K))))) P N wp ps (ix2 p d) = ((outB A (tm q p) 3 d : ℝ) : EReal) :=
  pl_at hP hN 3 384 rfl (by decide) (fun p c => (roll8 hP hK 3 384 rfl _ c _ (by simp; omega)).trans (congrArg _ (sixteen_row q 3 c p))) hwp hps p d

end

/-! ## Step numbers -/

theorem word_lo (n p : ℕ) (hn : n < 16) (hp : p < 256) : BitVec.ofNat 32 p + (BitVec.ofNat 32 n * 512#32 + 0#32) = BitVec.ofNat 32 (256 * (2 * n) + p) := by
  rw [← BitVec.toNat_inj]; simp only [BitVec.toNat_add, BitVec.toNat_mul, BitVec.toNat_ofNat]; omega
theorem word_hi (n p : ℕ) (hn : n < 16) (hp : p < 256) : BitVec.ofNat 32 p + (BitVec.ofNat 32 n * 512#32 + 256#32) = BitVec.ofNat 32 (256 * (2 * n + 1) + p) := by
  rw [← BitVec.toNat_inj]; simp only [BitVec.toNat_add, BitVec.toNat_mul, BitVec.toNat_ofNat]; omega

theorem time_lo (n : ℕ) (hn : n < 16) (p : Fin 256) (c : Fin 128) :
    k0_pay9 (iota Kind.tc S256x128 32 [0] iota_S256x128_d0_w32) (Scalar.muli (BitVec.ofNat 32 n) 512#32) 0#32 (ix2 p c) = BitVec.ofNat 32 (256 * (2 * n) + p.val) := by
  pointwise [k0_pay9]
  exact word_lo n p.val hn p.isLt
theorem time_hi (n : ℕ) (hn : n < 16) (p : Fin 256) (c : Fin 128) : k0_pay47 (BitVec.ofNat 32 n) (ix2 p c) = BitVec.ofNat 32 (256 * (2 * n + 1) + p.val) := by
  pointwise [k0_pay47]
  exact word_hi n p.val hn p.isLt

/-! ## The rows kept -/

theorem keep_at {P : FVec Ideal S256x1536 .f32} {q q' : Fin 32} (hq : q'.val = q.val + 1) (hP : ∀ p n, P (ix2 p n) = ((pj A (tm q p) n : ℝ) : EReal))
    (g : Fin 4) (r : Fin 16) (c : Fin 128) : k0_pay45 P (ix2 r (col g c)) = ((early A q' g c r.val : ℝ) : EReal) := by
  pointwise [k0_pay45]
  refine (hP ⟨240 + r.val, by omega⟩ ⟨1024 + (128 * g.val + c.val), by omega⟩).trans (congrArg _ ?_)
  unfold early
  rw [if_pos (by omega), ppn, dif_pos (by omega)]
  unfold pp
  refine congrArg (fun s => pj A s _) (Fin.ext ?_)
  show 256 * q.val + (240 + r.val) = 256 * q'.val + r.val - 16
  omega

theorem keep_zero {q : Fin 32} (hq : q.val = 0) (g : Fin 4) (r : Fin 16) (c : Fin 128) :
    k0_pay2 (F := Ideal) (ix2 r (col g c)) = ((early A q g c r.val : ℝ) : EReal) := by
  pointwise [k0_pay2]
  unfold early
  rw [if_neg (by omega)]; rfl

/-! ## The last norm -/

theorem xh_at {M X : FVec Ideal S256x1024 .f32} {gm po : Vec Ideal S1x1024 .f32} {q : Fin 32} (hM : ∀ p k, M (ix2 p k) = ((mixed A (tm q p) k : ℝ) : EReal))
    (hX : ∀ p k, X (ix2 p k) = ((A.x (tm q p) k : ℝ) : EReal)) (hgm : ∀ k, gm (ix2 0 k) = ((A.gm k : ℝ) : EReal)) (hpo : ∀ k, po (ix2 0 k) = ((A.post k : ℝ) : EReal))
    (p : Fin 256) (k : Fin 1024) : k0_pay91 M X gm po (ix2 p k) = ((x2 A (tm q p) k * rms (x2 A (tm q p)) : ℝ) : EReal) := by
  pointwise [k0_pay91]
  simp only [x2_at hM hX hgm hpo, ofBits_1024, ofBits_eps, ← EReal.coe_mul, ← EReal.coe_add, sum_coe, div_1024, rsqrt_ms]

theorem h2_at {Y : FVec Ideal S256x1024 .f32} {pf sc sh : Vec Ideal S1x1024 .f32} {pm : Vec Ideal S1x256x256 .bf16} {q : Fin 32}
    (hY : ∀ p k, Y (ix2 p k) = ((x2 A (tm q p) k * rms (x2 A (tm q p)) : ℝ) : EReal)) (hpf : ∀ k, pf (ix2 0 k) = ((A.pref k : ℝ) : EReal))
    (hsc : ∀ k, sc (ix2 0 k) = ((A.scf k : ℝ) : EReal)) (hsh : ∀ k, sh (ix2 0 k) = ((A.shf k : ℝ) : EReal)) (hpm : ∀ p s : Fin 256, pm (ix3 0 p s) = hot p s)
    (p : Fin 256) (k : Fin 1024) : k0_pay1 Y (k0_pay92 pf) sc sh pm (ix2 p k) = ((h2 A (tm q ⟨p.val % 8 * 32 + p.val / 8, by omega⟩) k : ℝ) : EReal) := by
  pointwise [k0_pay1, k0_pay92]
  simp only [hY, hpf, hsc, hsh, hpm, ← EReal.coe_one, ← EReal.coe_mul, ← EReal.coe_add, sum_hot_step]
  rfl

end Mix.Ker

end
-- ==== Proof.MixBlock.lean ====
module

public import proofs.«01_k».proof.Proof.MixTail
public import Idealize.ShloMosaic.Lib.Pipeline.ReadBack

@[expose] public section

set_option maxRecDepth 16384
set_option maxHeartbeats 2000000

noncomputable section

/-! One tile, 512 steps in two halves: its input blocks, and each of the pieces it writes as a rectangle of the real array. -/

namespace Mix.Ker

open Idealize.ShloMosaic Idealize.ShloMosaic.TcCoe Idealize.SL.Sem
open Cert.MixFwdIdeal Cert.MixFwdIdeal.Gen Lift
open Fwd (rms)
open Fwd.Ker (hot)

/-- A rectangle of an array given entry by entry. -/
theorem at_rect {M N r o m w : ℕ} {v : (⟨2, ![m, w]⟩ : Shape).Idx → EReal} {g : Fin M → Fin N → EReal} (hr : r + m ≤ M) (ho : o + w ≤ N)
    (hv : ∀ (p : Fin m) (j : Fin w), v (ix2 p j) = g ⟨r + p.val, by omega⟩ ⟨o + j.val, by omega⟩) (h)
    (x : (Rect.unit (s := ⟨2, ![M, N]⟩) ![r, o] ![m, w] h).shape.Idx) :
    v x = (fun y : (⟨2, ![M, N]⟩ : Shape).Idx => g (y 0) (y 1)) ((Rect.unit (s := ⟨2, ![M, N]⟩) ![r, o] ![m, w] h).emb x) := by
  have hx : x = ix2 (x 0 : Fin m) (x 1 : Fin w) := by funext a; refine Fin.cases rfl (fun a => Fin.cases rfl (fun a => a.elim0) a) a
  refine (congrArg v hx).trans ((hv _ _).trans (congrArg₂ g (Fin.ext ?_) (Fin.ext ?_)))
  · exact (by simp [ValueKit.rect_emb_unit_val])
  · exact (by simp [ValueKit.rect_emb_unit_val])

/-- The step at row `p` of tile `t`, and the step that row `p` holds in the tile's order. -/
def tt (t : Fin 16) (p : Fin 512) : Fin 8192 := ⟨512 * t.val + p.val, by omega⟩
def tp (t : Fin 16) (p : Fin 512) : Fin 8192 := ⟨512 * t.val + (p.val / 256 * 256 + (p.val % 8 * 32 + p.val % 256 / 8)), by omega⟩

/-- The ten input blocks of tile `t`. -/
structure Blocks (A : Args) (t : Fin 16) (B0 : Vec Ideal S512x1024 .f32) (B1 : Vec Ideal S16x1024 .f32) (B2 : Vec Ideal S1024x1536 .bf16) (B3 : Vec Ideal S1024x1024 .bf16)
    (B4 : Vec Ideal S8x128 .f32) (B5 : Vec Ideal S4x128x128 .bf16) (B6 : Vec Ideal S4x128x128 .f32) (B7 : Vec Ideal S4x128x128 .bf16) (B8 : Vec Ideal S8x512 .f32)
    (B9 : Vec Ideal S2x256x256 .bf16) : Prop where
  x : ∀ (p : Fin 512) (k : Fin 1024), B0 (ix2 p k) = ((A.x (tt t p) k : ℝ) : EReal)
  shm : ∀ k : Fin 1024, B1 (ix2 0 k) = ((A.shm k : ℝ) : EReal)
  scm : ∀ k : Fin 1024, B1 (ix2 1 k) = ((A.scm k : ℝ) : EReal)
  gm : ∀ k : Fin 1024, B1 (ix2 2 k) = ((A.gm k : ℝ) : EReal)
  shf : ∀ k : Fin 1024, B1 (ix2 3 k) = ((A.shf k : ℝ) : EReal)
  scf : ∀ k : Fin 1024, B1 (ix2 4 k) = ((A.scf k : ℝ) : EReal)
  pre : ∀ k : Fin 1024, B1 (ix2 6 k) = ((A.pre k : ℝ) : EReal)
  post : ∀ k : Fin 1024, B1 (ix2 7 k) = ((A.post k : ℝ) : EReal)
  pref : ∀ k : Fin 1024, B1 (ix2 8 k) = ((A.pref k : ℝ) : EReal)
  wi : ∀ (k : Fin 1024) (n : Fin 1536), B2 (ix2 k n) = ((A.wi k n : ℝ) : EReal)
  wo : ∀ (k : Fin 1024) (n : Fin 1024), B3 (ix2 k n) = ((A.wo k n : ℝ) : EReal)
  sg : ∀ (h : Fin 4) (j : Fin 128), B4 (ix2 ⟨h.val, Nat.lt_of_lt_of_le h.isLt (by decide)⟩ j) = ((A.sg h j : ℝ) : EReal)
  wm : ∀ (h : Fin 4) (i j : Fin 128), B5 (ix3 h i j) = ((wm A h i j : ℝ) : EReal)
  bs : ∀ (h : Fin 4) (i j : Fin 128), B6 (ix3 h i j) = ((A.bs h i : ℝ) : EReal)
  wp : ∀ (h : Fin 4) (i j : Fin 128), B7 (ix3 h i j) = ((A.wp h i j : ℝ) : EReal)
  ps : ∀ k : Fin 512, B8 (ix2 0 k) = ((A.ps k : ℝ) : EReal)
  hot : ∀ p s : Fin 256, B9 (ix3 0 p s) = hot p s

/-! What a tile's outputs hold. -/
def GH (A : Args) (t : Fin 16) (y : S512x1024.Idx) : EReal := ((hh A (tt t (y 0)) (y 1) : ℝ) : EReal)
def GPj (A : Args) (t : Fin 16) (y : S512x1536.Idx) : EReal := ((pj A (tt t (y 0)) (y 1) : ℝ) : EReal)
def GCat (A : Args) (t : Fin 16) (y : S512x1024.Idx) : EReal := ((cat A (tt t (y 0)) (y 1) : ℝ) : EReal)
def GMix (A : Args) (t : Fin 16) (y : S512x1024.Idx) : EReal := ((mixed A (tt t (y 0)) (y 1) : ℝ) : EReal)
def GX (A : Args) (t : Fin 16) (y : S512x1024.Idx) : EReal := ((x2 A (tt t (y 0)) (y 1) : ℝ) : EReal)
def GH2 (A : Args) (t : Fin 16) (y : S512x1024.Idx) : EReal := ((h2 A (tp t (y 0)) (y 1) : ℝ) : EReal)

variable {A : Args} {t : Fin 16} {B0 : Vec Ideal S512x1024 .f32} {B1 : Vec Ideal S16x1024 .f32} {B2 : Vec Ideal S1024x1536 .bf16} {B3 : Vec Ideal S1024x1024 .bf16}
  {B4 : Vec Ideal S8x128 .f32} {B5 : Vec Ideal S4x128x128 .bf16} {B6 : Vec Ideal S4x128x128 .f32} {B7 : Vec Ideal S4x128x128 .bf16} {B8 : Vec Ideal S8x512 .f32}
  {B9 : Vec Ideal S2x256x256 .bf16}

/-- Half tile `q` begins at row `r` of tile `t`. -/
structure At (t : Fin 16) (q : Fin 32) (r : ℕ) : Prop where
  le : r + 256 ≤ 512
  eq : 256 * q.val = 512 * t.val + r

theorem tm_eq {q : Fin 32} {r : ℕ} (Q : At t q r) (p : Fin 256) (p' : Fin 512) (h : p'.val = r + p.val) : tt t p' = tm q p :=
  Fin.ext (by have := Q.eq; simp only [tt, tm]; omega)

theorem rows_ok {r o m w : ℕ} (hr : r + m ≤ 512) (ho : o + w ≤ 1024) : ∀ a, (![r, o] : Fin 2 → ℕ) a + (![m, w] : Fin 2 → ℕ) a ≤ S512x1024.size a :=
  fun a => Fin.cases hr (fun a => Fin.cases ho (fun a => a.elim0) a) a

variable {q : Fin 32} {r : ℕ} (T : Blocks A t B0 B1 B2 B3 B4 B5 B6 B7 B8 B9) (Q : At t q r)

/-! ## The half tile's own arrays -/

/-- Its rows of the input, their norm and their projection. -/
def Xr (B0 : Vec Ideal S512x1024 .f32) (r : ℕ) (hr : r + 256 ≤ 512) : Vec Ideal S256x1024 .f32 := View.ld B0 (Rect.unit ![r, 0] ![256, 1024] (rows_ok hr (by decide)))
def Hr (B0 : Vec Ideal S512x1024 .f32) (B1 : Vec Ideal S16x1024 .f32) (r : ℕ) (hr : r + 256 ≤ 512) : FVec Ideal S256x1024 .bf16 :=
  k0_pay3 (Xr B0 r hr) (View.ld B1 (Rect.unit ![6, 0] ![1, 1024] inb_S16x1024_S1x1024_6_0)) (View.ld B1 (Rect.unit ![1, 0] ![1, 1024] inb_S16x1024_S1x1024_1_0))
    (View.ld B1 (Rect.unit ![0, 0] ![1, 1024] inb_S16x1024_S1x1024_0_0))
def Pr (B0 : Vec Ideal S512x1024 .f32) (B1 : Vec Ideal S16x1024 .f32) (B2 : Vec Ideal S1024x1536 .bf16) (r : ℕ) (hr : r + 256 ≤ 512) : FVec Ideal S256x1536 .f32 :=
  k0_pay4 (Xr B0 r hr) (View.ld B1 (Rect.unit ![6, 0] ![1, 1024] inb_S16x1024_S1x1024_6_0)) (View.ld B1 (Rect.unit ![1, 0] ![1, 1024] inb_S16x1024_S1x1024_1_0))
    (View.ld B1 (Rect.unit ![0, 0] ![1, 1024] inb_S16x1024_S1x1024_0_0)) B2
def Pb (B0 : Vec Ideal S512x1024 .f32) (B1 : Vec Ideal S16x1024 .f32) (B2 : Vec Ideal S1024x1536 .bf16) (r : ℕ) (hr : r + 256 ≤ 512) : FVec Ideal S256x1536 .bf16 :=
  k0_pay5 (Xr B0 r hr) (View.ld B1 (Rect.unit ![6, 0] ![1, 1024] inb_S16x1024_S1x1024_6_0)) (View.ld B1 (Rect.unit ![1, 0] ![1, 1024] inb_S16x1024_S1x1024_1_0))
    (View.ld B1 (Rect.unit ![0, 0] ![1, 1024] inb_S16x1024_S1x1024_0_0)) B2

include T Q

theorem xr_at (p : Fin 256) (k : Fin 1024) : Xr B0 r Q.le (ix2 p k) = ((A.x (tm q p) k : ℝ) : EReal) := by
  have hl := Q.le
  pointwise [Xr]
  refine (T.x _ _).trans ?_
  rw [tm_eq Q p _ rfl]

theorem hr_at (p : Fin 256) (k : Fin 1024) : Hr B0 B1 r Q.le (ix2 p k) = ((hh A (tm q p) k : ℝ) : EReal) :=
  hh_at (xr_at T Q) (fun k => by pointwise; exact T.pre k) (fun k => by pointwise; exact T.scm k) (fun k => by pointwise; exact T.shm k) p k

theorem pr_at (p : Fin 256) (n : Fin 1536) : Pr B0 B1 B2 r Q.le (ix2 p n) = ((pj A (tm q p) n : ℝ) : EReal) :=
  pj_at (hr_at T Q) T.wi p n

theorem pb_at (p : Fin 256) (n : Fin 1536) : Pb B0 B1 B2 r Q.le (ix2 p n) = ((pj A (tm q p) n : ℝ) : EReal) := pr_at T Q p n

theorem h_piece (h) (x : (Rect.unit (s := S512x1024) ![r, 0] ![256, 1024] h).shape.Idx) :
    Hr B0 B1 r Q.le x = GH A t ((Rect.unit (s := S512x1024) ![r, 0] ![256, 1024] h).emb x) :=
  at_rect (M := 512) (N := 1024) (g := fun p n => ((hh A (tt t p) n : ℝ) : EReal)) Q.le (by decide)
    (fun p j => (hr_at T Q p j).trans (by rw [tm_eq Q p _ rfl]; simp only [Nat.zero_add])) h x

theorem pj_piece (h) (x : (Rect.unit (s := S512x1536) ![r, 0] ![256, 1536] h).shape.Idx) :
    Pb B0 B1 B2 r Q.le x = GPj A t ((Rect.unit (s := S512x1536) ![r, 0] ![256, 1536] h).emb x) :=
  at_rect (M := 512) (N := 1536) (g := fun p n => ((pj A (tt t p) n : ℝ) : EReal)) Q.le (by decide)
    (fun p j => (pb_at T Q p j).trans (by rw [tm_eq Q p _ rfl]; simp only [Nat.zero_add])) h x

/-! ## The gating and pooling columns -/

theorem lo_piece (k : Fin 4) (o : ℕ) (ho : o = 128 * k.val) (h') (h4 h5 h6) (h) (x : (Rect.unit (s := S512x1024) ![r, o] ![128, 128] h).shape.Idx) :
    Lo o h' (Pr B0 B1 B2 r Q.le) (View.ld B4 (Rect.unit ![k.val, 0] ![1, 128] h4)) (View.ld B5 (Rect.unit ![k.val, 0, 0] ![1, 128, 128] h5))
      (View.ld B6 (Rect.unit ![k.val, 0, 0] ![1, 128, 128] h6)) x = GCat A t ((Rect.unit (s := S512x1024) ![r, o] ![128, 128] h).emb x) :=
  at_rect (M := 512) (N := 1024) (g := fun p n => ((cat A (tt t p) n : ℝ) : EReal)) (by have := Q.le; omega) (by omega)
    (fun p j => (lo (pr_at T Q) k (fun c => by pointwise; exact T.sg k c) (fun i j => by pointwise; exact T.wm k i j) (fun i j => by pointwise; exact T.bs k i j) o ho h' p j).trans
      (by rw [tm_eq Q ⟨p.val, by omega⟩ _ rfl, cat_lo A _ k j _ (by simp only [ho])])) h x

theorem hi_piece (k : Fin 4) (o : ℕ) (ho : o = 128 * k.val) (r' : ℕ) (hr' : r' = r + 128) (h') (h4 h5 h6) (h) (x : (Rect.unit (s := S512x1024) ![r', o] ![128, 128] h).shape.Idx) :
    Hi o h' (Pr B0 B1 B2 r Q.le) (View.ld B4 (Rect.unit ![k.val, 0] ![1, 128] h4)) (View.ld B5 (Rect.unit ![k.val, 0, 0] ![1, 128, 128] h5))
      (View.ld B6 (Rect.unit ![k.val, 0, 0] ![1, 128, 128] h6)) x = GCat A t ((Rect.unit (s := S512x1024) ![r', o] ![128, 128] h).emb x) :=
  at_rect (M := 512) (N := 1024) (g := fun p n => ((cat A (tt t p) n : ℝ) : EReal)) (by have := Q.le; omega) (by omega)
    (fun p j => (hi (pr_at T Q) k (fun c => by pointwise; exact T.sg k c) (fun i j => by pointwise; exact T.wm k i j) (fun i j => by pointwise; exact T.bs k i j) o ho h' p j).trans
      (by rw [tm_eq Q ⟨128 + p.val, by omega⟩ _ (by simp only [hr']; omega), cat_lo A _ k j _ (by simp only [ho])])) h x

section
variable {K : FVec Ideal S16x512 .f32} {N : IVec S256x128 32} (hK : ∀ (g : Fin 4) (r : Fin 16) (c : Fin 128), K (ix2 r (col g c)) = ((early A q g c r.val : ℝ) : EReal))
  (hN : ∀ p c, N (ix2 p c) = BitVec.ofNat 32 (256 * q.val + p.val))

/-- A pooling group's columns, once its entries are known. -/
theorem pool_piece (k : Fin 4) (o : ℕ) (ho : o = 512 + 128 * k.val) {v : FVec Ideal S256x128 .bf16} (hv : ∀ p d, v (ix2 p d) = ((outB A (tm q p) k d : ℝ) : EReal)) (h)
    (x : (Rect.unit (s := S512x1024) ![r, o] ![256, 128] h).shape.Idx) : v x = GCat A t ((Rect.unit (s := S512x1024) ![r, o] ![256, 128] h).emb x) :=
  at_rect (M := 512) (N := 1024) (g := fun p n => ((cat A (tt t p) n : ℝ) : EReal)) Q.le (by omega)
    (fun p j => (hv p j).trans (by rw [tm_eq Q p _ rfl, cat_hi A _ k j _ (by simp only [ho]; omega)])) h x

omit T Q
/-- The half tile's twelve pieces, the last written first. -/
def Sub (B4 : Vec Ideal S8x128 .f32) (B5 : Vec Ideal S4x128x128 .bf16) (B6 : Vec Ideal S4x128x128 .f32) (B7 : Vec Ideal S4x128x128 .bf16) (B8 : Vec Ideal S8x512 .f32)
    (r : ℕ) (hr : r + 256 ≤ 512) (P : FVec Ideal S256x1536 .f32) (K : FVec Ideal S16x512 .f32) (N : IVec S256x128 32) (L : List (View.Piece (Elt Ideal) S512x1024 .bf16)) :
    List (View.Piece (Elt Ideal) S512x1024 .bf16) :=
  ⟨Rect.unit ![r, 896] ![256, 128] (rows_ok hr (by decide)), Pl 384 (by decide) 16 (Roll 8 (Roll 4 (Roll 2 (Roll 1 (Ext 384 (by decide) P K))))) P N
    (View.ld B7 (Rect.unit ![3, 0, 0] ![1, 128, 128] inb_S4x128x128_S1x128x128_3_0_0)) (View.ld B8 (Rect.unit ![0, 384] ![1, 128] inb_S8x512_S1x128_0_384))⟩ ::
  ⟨Rect.unit ![r, 768] ![256, 128] (rows_ok hr (by decide)), Pl 256 (by decide) 8 (Roll 4 (Roll 2 (Roll 1 (Ext 256 (by decide) P K)))) P N
    (View.ld B7 (Rect.unit ![2, 0, 0] ![1, 128, 128] inb_S4x128x128_S1x128x128_2_0_0)) (View.ld B8 (Rect.unit ![0, 256] ![1, 128] inb_S8x512_S1x128_0_256))⟩ ::
  ⟨Rect.unit ![r, 640] ![256, 128] (rows_ok hr (by decide)), Pl 128 (by decide) 4 (Roll 2 (Roll 1 (Ext 128 (by decide) P K))) P N
    (View.ld B7 (Rect.unit ![1, 0, 0] ![1, 128, 128] inb_S4x128x128_S1x128x128_1_0_0)) (View.ld B8 (Rect.unit ![0, 128] ![1, 128] inb_S8x512_S1x128_0_128))⟩ ::
  ⟨Rect.unit ![r, 512] ![256, 128] (rows_ok hr (by decide)), Pl 0 (by decide) 2 (Roll 1 (Ext 0 (by decide) P K)) P N
    (View.ld B7 (Rect.unit ![0, 0, 0] ![1, 128, 128] inb_S4x128x128_S1x128x128_0_0_0)) (View.ld B8 (Rect.unit ![0, 0] ![1, 128] inb_S8x512_S1x128_0_0))⟩ ::
  ⟨Rect.unit ![r + 128, 384] ![128, 128] (rows_ok (by omega) (by decide)), Hi 384 (by decide) P (View.ld B4 (Rect.unit ![3, 0] ![1, 128] inb_S8x128_S1x128_3_0))
    (View.ld B5 (Rect.unit ![3, 0, 0] ![1, 128, 128] inb_S4x128x128_S1x128x128_3_0_0)) (View.ld B6 (Rect.unit ![3, 0, 0] ![1, 128, 128] inb_S4x128x128_S1x128x128_3_0_0))⟩ ::
  ⟨Rect.unit ![r, 384] ![128, 128] (rows_ok (by omega) (by decide)), Lo 384 (by decide) P (View.ld B4 (Rect.unit ![3, 0] ![1, 128] inb_S8x128_S1x128_3_0))
    (View.ld B5 (Rect.unit ![3, 0, 0] ![1, 128, 128] inb_S4x128x128_S1x128x128_3_0_0)) (View.ld B6 (Rect.unit ![3, 0, 0] ![1, 128, 128] inb_S4x128x128_S1x128x128_3_0_0))⟩ ::
  ⟨Rect.unit ![r + 128, 256] ![128, 128] (rows_ok (by omega) (by decide)), Hi 256 (by decide) P (View.ld B4 (Rect.unit ![2, 0] ![1, 128] inb_S8x128_S1x128_2_0))
    (View.ld B5 (Rect.unit ![2, 0, 0] ![1, 128, 128] inb_S4x128x128_S1x128x128_2_0_0)) (View.ld B6 (Rect.unit ![2, 0, 0] ![1, 128, 128] inb_S4x128x128_S1x128x128_2_0_0))⟩ ::
  ⟨Rect.unit ![r, 256] ![128, 128] (rows_ok (by omega) (by decide)), Lo 256 (by decide) P (View.ld B4 (Rect.unit ![2, 0] ![1, 128] inb_S8x128_S1x128_2_0))
    (View.ld B5 (Rect.unit ![2, 0, 0] ![1, 128, 128] inb_S4x128x128_S1x128x128_2_0_0)) (View.ld B6 (Rect.unit ![2, 0, 0] ![1, 128, 128] inb_S4x128x128_S1x128x128_2_0_0))⟩ ::
  ⟨Rect.unit ![r + 128, 128] ![128, 128] (rows_ok (by omega) (by decide)), Hi 128 (by decide) P (View.ld B4 (Rect.unit ![1, 0] ![1, 128] inb_S8x128_S1x128_1_0))
    (View.ld B5 (Rect.unit ![1, 0, 0] ![1, 128, 128] inb_S4x128x128_S1x128x128_1_0_0)) (View.ld B6 (Rect.unit ![1, 0, 0] ![1, 128, 128] inb_S4x128x128_S1x128x128_1_0_0))⟩ ::
  ⟨Rect.unit ![r, 128] ![128, 128] (rows_ok (by omega) (by decide)), Lo 128 (by decide) P (View.ld B4 (Rect.unit ![1, 0] ![1, 128] inb_S8x128_S1x128_1_0))
    (View.ld B5 (Rect.unit ![1, 0, 0] ![1, 128, 128] inb_S4x128x128_S1x128x128_1_0_0)) (View.ld B6 (Rect.unit ![1, 0, 0] ![1, 128, 128] inb_S4x128x128_S1x128x128_1_0_0))⟩ ::
  ⟨Rect.unit ![r + 128, 0] ![128, 128] (rows_ok (by omega) (by decide)), Hi 0 (by decide) P (View.ld B4 (Rect.unit ![0, 0] ![1, 128] inb_S8x128_S1x128_0_0))
    (View.ld B5 (Rect.unit ![0, 0, 0] ![1, 128, 128] inb_S4x128x128_S1x128x128_0_0_0)) (View.ld B6 (Rect.unit ![0, 0, 0] ![1, 128, 128] inb_S4x128x128_S1x128x128_0_0_0))⟩ ::
  ⟨Rect.unit ![r, 0] ![128, 128] (rows_ok (by omega) (by decide)), Lo 0 (by decide) P (View.ld B4 (Rect.unit ![0, 0] ![1, 128] inb_S8x128_S1x128_0_0))
    (View.ld B5 (Rect.unit ![0, 0, 0] ![1, 128, 128] inb_S4x128x128_S1x128x128_0_0_0)) (View.ld B6 (Rect.unit ![0, 0, 0] ![1, 128, 128] inb_S4x128x128_S1x128x128_0_0_0))⟩ ::
  L

include T Q hK hN
theorem sub_of {L : List (View.Piece (Elt Ideal) S512x1024 .bf16)} (hL : View.PiecesOf (GCat A t) L) :
    View.PiecesOf (GCat A t) (Sub B4 B5 B6 B7 B8 r Q.le (Pr B0 B1 B2 r Q.le) K N L) :=
  ⟨pool_piece T Q 3 896 rfl (pool3 (pr_at T Q) hK hN (fun i j => by pointwise; exact T.wp 3 i j) (fun j => by pointwise; exact T.ps _)) (rows_ok Q.le (by decide)),
    pool_piece T Q 2 768 rfl (pool2 (pr_at T Q) hK hN (fun i j => by pointwise; exact T.wp 2 i j) (fun j => by pointwise; exact T.ps _)) (rows_ok Q.le (by decide)),
    pool_piece T Q 1 640 rfl (pool1 (pr_at T Q) hK hN (fun i j => by pointwise; exact T.wp 1 i j) (fun j => by pointwise; exact T.ps _)) (rows_ok Q.le (by decide)),
    pool_piece T Q 0 512 rfl (pool0 (pr_at T Q) hK hN (fun i j => by pointwise; exact T.wp 0 i j) (fun j => by pointwise; exact T.ps _)) (rows_ok Q.le (by decide)),
    hi_piece T Q 3 384 rfl (r + 128) rfl (by decide) inb_S8x128_S1x128_3_0 inb_S4x128x128_S1x128x128_3_0_0 inb_S4x128x128_S1x128x128_3_0_0 (rows_ok (by have := Q.le; omega) (by decide)),
    lo_piece T Q 3 384 rfl (by decide) inb_S8x128_S1x128_3_0 inb_S4x128x128_S1x128x128_3_0_0 inb_S4x128x128_S1x128x128_3_0_0 (rows_ok (by have := Q.le; omega) (by decide)),
    hi_piece T Q 2 256 rfl (r + 128) rfl (by decide) inb_S8x128_S1x128_2_0 inb_S4x128x128_S1x128x128_2_0_0 inb_S4x128x128_S1x128x128_2_0_0 (rows_ok (by have := Q.le; omega) (by decide)),
    lo_piece T Q 2 256 rfl (by decide) inb_S8x128_S1x128_2_0 inb_S4x128x128_S1x128x128_2_0_0 inb_S4x128x128_S1x128x128_2_0_0 (rows_ok (by have := Q.le; omega) (by decide)),
    hi_piece T Q 1 128 rfl (r + 128) rfl (by decide) inb_S8x128_S1x128_1_0 inb_S4x128x128_S1x128x128_1_0_0 inb_S4x128x128_S1x128x128_1_0_0 (rows_ok (by have := Q.le; omega) (by decide)),
    lo_piece T Q 1 128 rfl (by decide) inb_S8x128_S1x128_1_0 inb_S4x128x128_S1x128x128_1_0_0 inb_S4x128x128_S1x128x128_1_0_0 (rows_ok (by have := Q.le; omega) (by decide)),
    hi_piece T Q 0 0 rfl (r + 128) rfl (by decide) inb_S8x128_S1x128_0_0 inb_S4x128x128_S1x128x128_0_0_0 inb_S4x128x128_S1x128x128_0_0_0 (rows_ok (by have := Q.le; omega) (by decide)),
    lo_piece T Q 0 0 rfl (by decide) inb_S8x128_S1x128_0_0 inb_S4x128x128_S1x128x128_0_0_0 inb_S4x128x128_S1x128x128_0_0_0 (rows_ok (by have := Q.le; omega) (by decide)), hL⟩

end

end Mix.Ker

end
-- ==== Proof.MixCat.lean ====
module

public import proofs.«01_k».proof.Proof.MixBlock
public import Idealize.ShloMosaic.Lib.Ring

@[expose] public section

set_option maxRecDepth 16384
set_option maxHeartbeats 2000000

noncomputable section

/-! The tile's concatenated columns read back, and the pieces computed from them. -/

namespace Mix.Ker

open Idealize.ShloMosaic Idealize.ShloMosaic.TcCoe Idealize.SL.Sem
open Cert.MixFwdIdeal Cert.MixFwdIdeal.Gen Lift
open Fwd (rms)
open Fwd.Ker (hot)

variable {A : Args} {t : Fin 16} {B0 : Vec Ideal S512x1024 .f32} {B1 : Vec Ideal S16x1024 .f32} {B2 : Vec Ideal S1024x1536 .bf16} {B3 : Vec Ideal S1024x1024 .bf16}
  {B4 : Vec Ideal S8x128 .f32} {B5 : Vec Ideal S4x128x128 .bf16} {B6 : Vec Ideal S4x128x128 .f32} {B7 : Vec Ideal S4x128x128 .bf16} {B8 : Vec Ideal S8x512 .f32}
  {B9 : Vec Ideal S2x256x256 .bf16}

/-! ## Reading back -/

/-- Pieces that tile the array once its lower half is added cover the upper half. -/
theorem cover_upper (L : List (View.Piece (Elt Ideal) S512x1024 .bf16))
    (hL : View.Piece.tiledBy ((⟨Rect.unit ![256, 0] ![256, 1024] inb_S512x1024_S256x1024_256_0, fun _ => (0 : EReal)⟩ : View.Piece (Elt Ideal) S512x1024 .bf16) :: L) ![128, 128] = true)
    (y : S512x1024.Idx) (hy : (y 0).val < 256) : ∃ p ∈ L, y ∈ p.1.set := by
  obtain ⟨p, hp, hm⟩ := View.cover_of_tiledBy _ _ hL y
  rcases List.mem_cons.mp hp with rfl | hp
  · have h := (Rect.mem_set_unit (inb := inb_S512x1024_S256x1024_256_0).mp hm 0).1
    exact absurd h (by show ¬ 256 ≤ (y 0).val; omega)
  · exact ⟨p, hp, hm⟩

theorem read_at {κ sp} (v : View sig κ sp S512x1024 .bf16) {q : Fin 32} {r : ℕ} (Q : At t q r) {L : List (View.Piece (Elt Ideal) S512x1024 .bf16)} (hL : View.PiecesOf (GCat A t) L) (h)
    (hc : ∀ y : S512x1024.Idx, r ≤ (y 0).val → (y 0).val < r + 256 → ∃ p ∈ L, y ∈ p.1.set) (p : Fin 256) (k : Fin 1024) :
    v.readCov (Val := Elt Ideal) L (Rect.unit (s := S512x1024) ![r, 0] ![256, 1024] h).toLoadRect (ix2 p k) = ((cat A (tm q p) k : ℝ) : EReal) := by
  rw [View.readCov_eq_canon']
  have e0 : ((Rect.unit (s := S512x1024) ![r, 0] ![256, 1024] h).toLoadRect.idx (ix2 p k) 0).val = r + p.val := by
    show r + 1 * p.val = _; omega
  have e1 : (Rect.unit (s := S512x1024) ![r, 0] ![256, 1024] h).toLoadRect.idx (ix2 p k) 1 = k := Fin.ext (by show 0 + 1 * k.val = _; omega)
  refine (View.canon_apply_of_pieces (Val := Elt Ideal) (e := .bf16) (GCat A t) L hL.mem _ (hc _ (by omega) (by omega))).trans ?_
  unfold GCat
  rw [e1, tm_eq Q p _ e0]

variable (T : Blocks A t B0 B1 B2 B3 B4 B5 B6 B7 B8 B9)

section
variable {q0 q1 : Fin 32} (Q0 : At t q0 0) (Q1 : At t q1 256) {K0 K1 : FVec Ideal S16x512 .f32} {N0 N1 : IVec S256x128 32}
  (hK0 : ∀ (g : Fin 4) (r : Fin 16) (c : Fin 128), K0 (ix2 r (col g c)) = ((early A q0 g c r.val : ℝ) : EReal))
  (hK1 : ∀ (g : Fin 4) (r : Fin 16) (c : Fin 128), K1 (ix2 r (col g c)) = ((early A q1 g c r.val : ℝ) : EReal))
  (hN0 : ∀ p c, N0 (ix2 p c) = BitVec.ofNat 32 (256 * q0.val + p.val)) (hN1 : ∀ p c, N1 (ix2 p c) = BitVec.ofNat 32 (256 * q1.val + p.val))
include T Q0 hK0 hN0

/-- The upper half, read back when it alone is written. -/
theorem cat_upper {κ sp} (v : View sig κ sp S512x1024 .bf16) (h) (p : Fin 256) (k : Fin 1024) :
    v.readCov (Val := Elt Ideal) (Sub B4 B5 B6 B7 B8 0 Q0.le (Pr B0 B1 B2 0 Q0.le) K0 N0 []) (Rect.unit (s := S512x1024) ![0, 0] ![256, 1024] h).toLoadRect (ix2 p k)
      = ((cat A (tm q0 p) k : ℝ) : EReal) :=
  read_at v Q0 (sub_of T Q0 hK0 hN0 (L := []) True.intro) h (fun y _ hy => cover_upper _ (by sl_kernel_rfl) y (by omega)) p k

include Q1 hK1 hN1

theorem both_of : View.PiecesOf (GCat A t) (Sub B4 B5 B6 B7 B8 256 Q1.le (Pr B0 B1 B2 256 Q1.le) K1 N1 (Sub B4 B5 B6 B7 B8 0 Q0.le (Pr B0 B1 B2 0 Q0.le) K0 N0 [])) :=
  sub_of T Q1 hK1 hN1 (sub_of T Q0 hK0 hN0 (L := []) True.intro)

theorem cat_lower {κ sp} (v : View sig κ sp S512x1024 .bf16) (h) (p : Fin 256) (k : Fin 1024) :
    v.readCov (Val := Elt Ideal) (Sub B4 B5 B6 B7 B8 256 Q1.le (Pr B0 B1 B2 256 Q1.le) K1 N1 (Sub B4 B5 B6 B7 B8 0 Q0.le (Pr B0 B1 B2 0 Q0.le) K0 N0 []))
        (Rect.unit (s := S512x1024) ![256, 0] ![256, 1024] h).toLoadRect (ix2 p k)
      = ((cat A (tm q1 p) k : ℝ) : EReal) :=
  read_at v Q1 (both_of T Q0 Q1 hK0 hK1 hN0 hN1) h (fun y _ hy => View.cover_of_tiledBy _ ![128, 128] (by sl_kernel_rfl) y) p k

theorem cat_all (y) :
    View.canon (Sub B4 B5 B6 B7 B8 256 Q1.le (Pr B0 B1 B2 256 Q1.le) K1 N1 (Sub B4 B5 B6 B7 B8 0 Q0.le (Pr B0 B1 B2 0 Q0.le) K0 N0 [])) y = GCat A t y :=
  View.canon_apply_of_pieces (Val := Elt Ideal) (e := .bf16) (GCat A t) _ (both_of T Q0 Q1 hK0 hK1 hN0 hN1).mem y
    (View.cover_of_tiledBy _ ![128, 128] (by sl_kernel_rfl) y)

end

/-! ## The pieces computed from the columns -/

section
variable {q : Fin 32} {r : ℕ} (Q : At t q r) {C : FVec Ideal S256x1024 .bf16} (hC : ∀ p k, C (ix2 p k) = ((cat A (tm q p) k : ℝ) : EReal))
include T Q hC

theorem mix_piece (h) (x : (Rect.unit (s := S512x1024) ![r, 0] ![256, 1024] h).shape.Idx) :
    k0_pay46 C B3 x = GMix A t ((Rect.unit (s := S512x1024) ![r, 0] ![256, 1024] h).emb x) :=
  at_rect (M := 512) (N := 1024) (g := fun p n => ((mixed A (tt t p) n : ℝ) : EReal)) Q.le (by decide)
    (fun p j => (mixed_at hC T.wo p j).trans (by rw [tm_eq Q p _ rfl]; simp only [Nat.zero_add])) h x

theorem x2_row (g2 g7) (p : Fin 256) (k : Fin 1024) :
    k0_pay90 (k0_pay46 C B3) (Xr B0 r Q.le) (View.ld B1 (Rect.unit ![2, 0] ![1, 1024] g2)) (View.ld B1 (Rect.unit ![7, 0] ![1, 1024] g7)) (ix2 p k)
      = ((x2 A (tm q p) k : ℝ) : EReal) :=
  x2_at (mixed_at hC T.wo) (xr_at T Q) (fun k => by pointwise; exact T.gm k) (fun k => by pointwise; exact T.post k) p k

theorem x2_piece (g2 g7) (h) (x : (Rect.unit (s := S512x1024) ![r, 0] ![256, 1024] h).shape.Idx) :
    k0_pay90 (k0_pay46 C B3) (Xr B0 r Q.le) (View.ld B1 (Rect.unit ![2, 0] ![1, 1024] g2)) (View.ld B1 (Rect.unit ![7, 0] ![1, 1024] g7)) x
      = GX A t ((Rect.unit (s := S512x1024) ![r, 0] ![256, 1024] h).emb x) :=
  at_rect (M := 512) (N := 1024) (g := fun p n => ((x2 A (tt t p) n : ℝ) : EReal)) Q.le (by decide)
    (fun p j => (x2_row T Q hC g2 g7 p j).trans (by rw [tm_eq Q p _ rfl]; simp only [Nat.zero_add])) h x

theorem h2_row (g2 g7 g8 g4 g3 g9) (p : Fin 256) (k : Fin 1024) :
    k0_pay1 (k0_pay91 (k0_pay46 C B3) (Xr B0 r Q.le) (View.ld B1 (Rect.unit ![2, 0] ![1, 1024] g2)) (View.ld B1 (Rect.unit ![7, 0] ![1, 1024] g7)))
        (k0_pay92 (View.ld B1 (Rect.unit ![8, 0] ![1, 1024] g8))) (View.ld B1 (Rect.unit ![4, 0] ![1, 1024] g4)) (View.ld B1 (Rect.unit ![3, 0] ![1, 1024] g3))
        (View.ld B9 (Rect.unit ![0, 0, 0] ![1, 256, 256] g9)) (ix2 p k)
      = ((h2 A (tm q ⟨p.val % 8 * 32 + p.val / 8, by omega⟩) k : ℝ) : EReal) :=
  h2_at (xh_at (mixed_at hC T.wo) (xr_at T Q) (fun k => by pointwise; exact T.gm k) (fun k => by pointwise; exact T.post k))
    (fun k => by pointwise; exact T.pref k) (fun k => by pointwise; exact T.scf k) (fun k => by pointwise; exact T.shf k) (fun p s => by pointwise; exact T.hot p s) p k

theorem h2_piece (hr : r % 256 = 0) (g2 g7 g8 g4 g3 g9) (h) (x : (Rect.unit (s := S512x1024) ![r, 0] ![256, 1024] h).shape.Idx) :
    k0_pay1 (k0_pay91 (k0_pay46 C B3) (Xr B0 r Q.le) (View.ld B1 (Rect.unit ![2, 0] ![1, 1024] g2)) (View.ld B1 (Rect.unit ![7, 0] ![1, 1024] g7)))
        (k0_pay92 (View.ld B1 (Rect.unit ![8, 0] ![1, 1024] g8))) (View.ld B1 (Rect.unit ![4, 0] ![1, 1024] g4)) (View.ld B1 (Rect.unit ![3, 0] ![1, 1024] g3))
        (View.ld B9 (Rect.unit ![0, 0, 0] ![1, 256, 256] g9)) x
      = GH2 A t ((Rect.unit (s := S512x1024) ![r, 0] ![256, 1024] h).emb x) :=
  at_rect (M := 512) (N := 1024) (g := fun p n => ((h2 A (tp t p) n : ℝ) : EReal)) Q.le (by decide)
    (fun p j => (h2_row T Q hC g2 g7 g8 g4 g3 g9 p j).trans
      (by
        have e := Q.eq
        have l := Q.le
        have hp := p.isLt
        have e1 : tm q ⟨p.val % 8 * 32 + p.val / 8, by omega⟩ = tp t ⟨r + p.val, by omega⟩ := Fin.ext (by simp only [tm, tp]; omega)
        rw [e1]; simp only [Nat.zero_add])) h x

end

end Mix.Ker

end
-- ==== Proof.MixPoint.lean ====
module

public import proofs.«01_k».proof.Proof.MixCat
public import proofs.«01_k».proof.Proof.Gen.MixFwdIdeal.Value
public import Idealize.ShloMosaic.Lib.WritesUnit
public import Idealize.ShloMosaic.Lib.Pipeline.ValueKit

@[expose] public section

set_option maxRecDepth 16384
set_option maxHeartbeats 2000000

noncomputable section

/-! What each of the launch's outputs, and its scratch, holds after one point of its grid. -/

namespace Mix.Ker

open Idealize.ShloMosaic Idealize.ShloMosaic.TcCoe Idealize.SL.Sem
open Cert.MixFwdIdeal Cert.MixFwdIdeal.Gen Lift

/-- The two halves of a tile. -/
def half0 (t : Fin 16) : Fin 32 := ⟨2 * t.val, by omega⟩
def half1 (t : Fin 16) : Fin 32 := ⟨2 * t.val + 1, by omega⟩

theorem at0 (t : Fin 16) : At t (half0 t) 0 := ⟨by omega, by simp only [half0]; omega⟩
theorem at1 (t : Fin 16) : At t (half1 t) 256 := ⟨by omega, by simp only [half1]; omega⟩

theorem coords : ∀ t : Fin cfg0.N, (grid0.coords t 0).val = t.val := (by decide +kernel : ∀ t : Fin grid0.N, _)

/-- The times that the kernel counts. -/
theorem word0 (t : Fin cfg0.N) {τ : Fin 16} (hτ : τ.val = t.val) (p : Fin 256) (j : Fin 128) :
    k0_pay9 (iota .tc S256x128 32 [0] iota_S256x128_d0_w32) (Scalar.muli (BitVec.ofNat 32 (grid0.coords t 0).val) 512#32) 0#32 (ix2 p j)
      = BitVec.ofNat 32 (256 * (half0 τ).val + p.val) := by
  rw [coords t, ← hτ]
  exact time_lo τ.val τ.isLt p j

theorem word1 (t : Fin cfg0.N) {τ : Fin 16} (hτ : τ.val = t.val) (p : Fin 256) (j : Fin 128) :
    k0_pay47 (BitVec.ofNat 32 (grid0.coords t 0).val) (ix2 p j) = BitVec.ofNat 32 (256 * (half1 τ).val + p.val) := by
  rw [coords t, ← hτ]
  exact time_hi τ.val τ.isLt p j

/-- What one point leaves. -/
structure Point (m : (ℓ : Loc nD τ sig) → Buf (Elt Ideal) ℓ) (A : Args) (T : Fin 16) (c : Dev nD) (t : Fin cfg0.N) : Prop where
  h : ∀ y, (outsAt0 m c t.val t.isLt).1 y = GH A T y
  pj : ∀ y, (outsAt0 m c t.val t.isLt).2.1 y = GPj A T y
  cat : ∀ y, (outsAt0 m c t.val t.isLt).2.2.1 y = GCat A T y
  mix : ∀ y, (outsAt0 m c t.val t.isLt).2.2.2.1 y = GMix A T y
  x : ∀ y, (outsAt0 m c t.val t.isLt).2.2.2.2.1 y = GX A T y
  h2 : ∀ y, (outsAt0 m c t.val t.isLt).2.2.2.2.2.1 y = GH2 A T y
  kept : ∀ q : Fin 32, q.val = 2 * T.val + 2 → ∀ (g : Fin 4) (r : Fin 16) (j : Fin 128),
    (outsAt0 m c t.val t.isLt).2.2.2.2.2.2 (ix2 r (col g j)) = ((early A q g j r.val : ℝ) : EReal)

variable (m : (ℓ : Loc nD Cert.MixFwdIdeal.τ sig) → Buf (Elt Ideal) ℓ) {A : Args} {τ : Fin 16} (c : Dev nD) (t : Fin cfg0.N) (hτ : τ.val = t.val)
  (T : Blocks A τ (iblk m c 0 t) (iblk m c 1 t) (iblk m c 2 t) (iblk m c 3 t) (iblk m c 4 t) (iblk m c 5 t) (iblk m c 6 t) (iblk m c 7 t) (iblk m c 8 t) (iblk m c 9 t))
include hτ T

/-- At the first tile, where the scratch is zeroed. -/
theorem point_a (h0 : t.val % 16 = 0) : Point m A τ c t := by
  have Q0 := at0 τ
  have Q1 := at1 τ
  have hK0 : ∀ (g : Fin 4) (r : Fin 16) (c : Fin 128), k0_pay2 (F := Ideal) (ix2 r (col g c)) = ((early A (half0 τ) g c r.val : ℝ) : EReal) :=
    keep_zero (by simp only [half0]; omega)
  have hK1 : ∀ (g : Fin 4) (r : Fin 16) (j : Fin 128), k0_pay45 (Pr (iblk m c 0 t) (iblk m c 1 t) (iblk m c 2 t) 0 Q0.le) (ix2 r (col g j)) = ((early A (half1 τ) g j r.val : ℝ) : EReal) :=
    keep_at rfl (pr_at T Q0)
  have hN0 := fun p j => (word0 t hτ p j)
  have hN1 := fun p j => (word1 t hτ p j)
  refine ⟨fun y => ?_, fun y => ?_, fun y => ?_, fun y => ?_, fun y => ?_, fun y => ?_, fun q hq g r j => ?_⟩
  · rw [outsAt0_A m c t h0]
    frame_open
    simp (disch := decide) only [↓ View.readCov_skip, ↓ View.readCov_cons_toLoadRect, ↓ View.readCov_fill]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    refine View.canon_apply_of_pieces (Val := Elt Ideal) (e := .bf16) (GH A τ) _ (View.PiecesOf.mem ?_) y (View.cover_of_tiledBy _ ![256, 512] (by sl_kernel_rfl) y)
    exact ⟨h_piece T Q1 inb_S512x1024_S256x1024_256_0, h_piece T Q0 inb_S512x1024_S256x1024_0_0, trivial⟩
  · rw [outsAt0_A m c t h0]
    frame_open
    simp (disch := decide) only [↓ View.readCov_skip, ↓ View.readCov_cons_toLoadRect, ↓ View.readCov_fill]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    refine View.canon_apply_of_pieces (Val := Elt Ideal) (e := .bf16) (GPj A τ) _ (View.PiecesOf.mem ?_) y (View.cover_of_tiledBy _ ![256, 512] (by sl_kernel_rfl) y)
    exact ⟨pj_piece T Q1 inb_S512x1536_S256x1536_256_0, pj_piece T Q0 inb_S512x1536_S256x1536_0_0, trivial⟩
  · rw [outsAt0_A m c t h0]
    frame_open
    simp (disch := decide) only [↓ View.readCov_skip, ↓ View.readCov_cons_toLoadRect, ↓ View.readCov_fill]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    exact cat_all T Q0 Q1 hK0 hK1 hN0 hN1 y
  · rw [outsAt0_A m c t h0]
    frame_open
    simp (disch := decide) only [↓ View.readCov_skip, ↓ View.readCov_cons_toLoadRect, ↓ View.readCov_fill]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    refine View.canon_apply_of_pieces (Val := Elt Ideal) (e := .f32) (GMix A τ) _ (View.PiecesOf.mem ?_) y (View.cover_of_tiledBy _ ![256, 512] (by sl_kernel_rfl) y)
    exact ⟨mix_piece T Q1 (fun p k => cat_lower T Q0 Q1 hK0 hK1 hN0 hN1 _ inb_S512x1024_S256x1024_256_0 p k) inb_S512x1024_S256x1024_256_0, mix_piece T Q0 (fun p k => cat_upper T Q0 hK0 hN0 _ inb_S512x1024_S256x1024_0_0 p k) inb_S512x1024_S256x1024_0_0, trivial⟩
  · rw [outsAt0_A m c t h0]
    frame_open
    simp (disch := decide) only [↓ View.readCov_skip, ↓ View.readCov_cons_toLoadRect, ↓ View.readCov_fill]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    refine View.canon_apply_of_pieces (Val := Elt Ideal) (e := .f32) (GX A τ) _ (View.PiecesOf.mem ?_) y (View.cover_of_tiledBy _ ![256, 512] (by sl_kernel_rfl) y)
    exact ⟨x2_piece T Q1 (fun p k => cat_lower T Q0 Q1 hK0 hK1 hN0 hN1 _ inb_S512x1024_S256x1024_256_0 p k) inb_S16x1024_S1x1024_2_0 inb_S16x1024_S1x1024_7_0 inb_S512x1024_S256x1024_256_0, x2_piece T Q0 (fun p k => cat_upper T Q0 hK0 hN0 _ inb_S512x1024_S256x1024_0_0 p k) inb_S16x1024_S1x1024_2_0 inb_S16x1024_S1x1024_7_0 inb_S512x1024_S256x1024_0_0, trivial⟩
  · rw [outsAt0_A m c t h0]
    frame_open
    simp (disch := decide) only [↓ View.readCov_skip, ↓ View.readCov_cons_toLoadRect, ↓ View.readCov_fill]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    refine View.canon_apply_of_pieces (Val := Elt Ideal) (e := .bf16) (GH2 A τ) _ (View.PiecesOf.mem ?_) y (View.cover_of_tiledBy _ ![256, 512] (by sl_kernel_rfl) y)
    exact ⟨h2_piece T Q1 (fun p k => cat_lower T Q0 Q1 hK0 hK1 hN0 hN1 _ inb_S512x1024_S256x1024_256_0 p k) rfl inb_S16x1024_S1x1024_2_0 inb_S16x1024_S1x1024_7_0 inb_S16x1024_S1x1024_8_0 inb_S16x1024_S1x1024_4_0 inb_S16x1024_S1x1024_3_0 inb_S2x256x256_S1x256x256_0_0_0 inb_S512x1024_S256x1024_256_0, h2_piece T Q0 (fun p k => cat_upper T Q0 hK0 hN0 _ inb_S512x1024_S256x1024_0_0 p k) rfl inb_S16x1024_S1x1024_2_0 inb_S16x1024_S1x1024_7_0 inb_S16x1024_S1x1024_8_0 inb_S16x1024_S1x1024_4_0 inb_S16x1024_S1x1024_3_0 inb_S2x256x256_S1x256x256_0_0_0 inb_S512x1024_S256x1024_0_0, trivial⟩
  · rw [outsAt0_A m c t h0]
    frame_open
    simp (disch := decide) only [↓ View.readCov_skip, ↓ View.readCov_cons_toLoadRect, ↓ View.readCov_fill]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    refine Eq.trans ?_ (keep_at (by simp only [half1]; omega) (pr_at T Q1) g r j)
    pointwise [k0_pay89]
    rfl

/-- At a later tile, given what the tile before kept. -/
theorem point_b (h0 : ¬ t.val % 16 = 0)
    (hK : ∀ (g : Fin 4) (r : Fin 16) (j : Fin 128), (outsAt0 m c (t.val - 1) (Nat.lt_of_le_of_lt (Nat.sub_le _ _) t.isLt)).2.2.2.2.2.2 (ix2 r (col g j))
      = ((early A (half0 τ) g j r.val : ℝ) : EReal)) : Point m A τ c t := by
  have Q0 := at0 τ
  have Q1 := at1 τ
  have hK0 : ∀ (h : (Memref.whole cc0_scratch0).IsWhole) (g : Fin 4) (r : Fin 16) (j : Fin 128), View.read (Elt Ideal) (View.whole cc0_scratch0)
      (h.unread (outsAt0 m c (t.val - 1) (Nat.lt_of_le_of_lt (Nat.sub_le _ _) t.isLt)).2.2.2.2.2.2) (ix2 r (col g j)) = ((early A (half0 τ) g j r.val : ℝ) : EReal) :=
    fun h g r j => (congrFun (read_unread_whole cc0_scratch0 h _) _).trans (hK g r j)
  have hK1 : ∀ (g : Fin 4) (r : Fin 16) (j : Fin 128), k0_pay45 (Pr (iblk m c 0 t) (iblk m c 1 t) (iblk m c 2 t) 0 Q0.le) (ix2 r (col g j)) = ((early A (half1 τ) g j r.val : ℝ) : EReal) :=
    keep_at rfl (pr_at T Q0)
  have hN0 := fun p j => (word0 t hτ p j)
  have hN1 := fun p j => (word1 t hτ p j)
  refine ⟨fun y => ?_, fun y => ?_, fun y => ?_, fun y => ?_, fun y => ?_, fun y => ?_, fun q hq g r j => ?_⟩
  · rw [outsAt0_B m c t h0]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    refine View.canon_apply_of_pieces (Val := Elt Ideal) (e := .bf16) (GH A τ) _ (View.PiecesOf.mem ?_) y (View.cover_of_tiledBy _ ![256, 512] (by sl_kernel_rfl) y)
    exact ⟨h_piece T Q1 inb_S512x1024_S256x1024_256_0, h_piece T Q0 inb_S512x1024_S256x1024_0_0, trivial⟩
  · rw [outsAt0_B m c t h0]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    refine View.canon_apply_of_pieces (Val := Elt Ideal) (e := .bf16) (GPj A τ) _ (View.PiecesOf.mem ?_) y (View.cover_of_tiledBy _ ![256, 512] (by sl_kernel_rfl) y)
    exact ⟨pj_piece T Q1 inb_S512x1536_S256x1536_256_0, pj_piece T Q0 inb_S512x1536_S256x1536_0_0, trivial⟩
  · rw [outsAt0_B m c t h0]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    exact cat_all T Q0 Q1 (hK0 _) hK1 hN0 hN1 y
  · rw [outsAt0_B m c t h0]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    refine View.canon_apply_of_pieces (Val := Elt Ideal) (e := .f32) (GMix A τ) _ (View.PiecesOf.mem ?_) y (View.cover_of_tiledBy _ ![256, 512] (by sl_kernel_rfl) y)
    exact ⟨mix_piece T Q1 (fun p k => cat_lower T Q0 Q1 (hK0 _) hK1 hN0 hN1 _ inb_S512x1024_S256x1024_256_0 p k) inb_S512x1024_S256x1024_256_0, mix_piece T Q0 (fun p k => cat_upper T Q0 (hK0 _) hN0 _ inb_S512x1024_S256x1024_0_0 p k) inb_S512x1024_S256x1024_0_0, trivial⟩
  · rw [outsAt0_B m c t h0]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    refine View.canon_apply_of_pieces (Val := Elt Ideal) (e := .f32) (GX A τ) _ (View.PiecesOf.mem ?_) y (View.cover_of_tiledBy _ ![256, 512] (by sl_kernel_rfl) y)
    exact ⟨x2_piece T Q1 (fun p k => cat_lower T Q0 Q1 (hK0 _) hK1 hN0 hN1 _ inb_S512x1024_S256x1024_256_0 p k) inb_S16x1024_S1x1024_2_0 inb_S16x1024_S1x1024_7_0 inb_S512x1024_S256x1024_256_0, x2_piece T Q0 (fun p k => cat_upper T Q0 (hK0 _) hN0 _ inb_S512x1024_S256x1024_0_0 p k) inb_S16x1024_S1x1024_2_0 inb_S16x1024_S1x1024_7_0 inb_S512x1024_S256x1024_0_0, trivial⟩
  · rw [outsAt0_B m c t h0]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    refine View.canon_apply_of_pieces (Val := Elt Ideal) (e := .bf16) (GH2 A τ) _ (View.PiecesOf.mem ?_) y (View.cover_of_tiledBy _ ![256, 512] (by sl_kernel_rfl) y)
    exact ⟨h2_piece T Q1 (fun p k => cat_lower T Q0 Q1 (hK0 _) hK1 hN0 hN1 _ inb_S512x1024_S256x1024_256_0 p k) rfl inb_S16x1024_S1x1024_2_0 inb_S16x1024_S1x1024_7_0 inb_S16x1024_S1x1024_8_0 inb_S16x1024_S1x1024_4_0 inb_S16x1024_S1x1024_3_0 inb_S2x256x256_S1x256x256_0_0_0 inb_S512x1024_S256x1024_256_0, h2_piece T Q0 (fun p k => cat_upper T Q0 (hK0 _) hN0 _ inb_S512x1024_S256x1024_0_0 p k) rfl inb_S16x1024_S1x1024_2_0 inb_S16x1024_S1x1024_7_0 inb_S16x1024_S1x1024_8_0 inb_S16x1024_S1x1024_4_0 inb_S16x1024_S1x1024_3_0 inb_S2x256x256_S1x256x256_0_0_0 inb_S512x1024_S256x1024_0_0, trivial⟩
  · rw [outsAt0_B m c t h0]
    frame_out
    simp only [lo0, hi0, lo1, hi1, lo2, hi2, lo3, hi3, pl0, pl1, pl2, pl3, lo0', hi0', lo1', hi1', lo2', hi2', lo3', hi3', pl0', pl1', pl2', pl3', h', p', q', k', m', x', f']
    refine Eq.trans ?_ (keep_at (by simp only [half1]; omega) (pr_at T Q1) g r j)
    pointwise [k0_pay89]
    rfl

end Mix.Ker

end
-- ==== Proof.MixArr.lean ====
module

public import proofs.«01_k».proof.Proof.MixPoint
public import proofs.«01_k».proof.Proof.Gen.MixFwdIdeal.Value
public import Idealize.ShloMosaic.Lib.WritesUnit
public import Idealize.ShloMosaic.Lib.Pipeline.ValueKit

@[expose] public section

set_option maxRecDepth 16384
set_option maxHeartbeats 2000000

noncomputable section

/-! The arrays that the launch leaves, given what its input blocks hold at every point. -/

namespace Mix.Ker

open Idealize.ShloMosaic Idealize.ShloMosaic.TcCoe Idealize.SL.Sem
open Cert.MixFwdIdeal Cert.MixFwdIdeal.Gen Lift
open Idealize.ShloMosaic.Pipeline (Dat)
open Fwd (time)

/-- The tile of a point. -/
def tile (n : ℕ) (h : n < cfg0.N) : Fin 16 := ⟨n, h⟩

/-- What every point's input blocks hold. -/
def Filled (m : (ℓ : Loc nD τ sig) → Buf (Elt Ideal) ℓ) (A : Args) (c : Dev nD) : Prop :=
  ∀ t : Fin cfg0.N, Blocks A (tile t.val t.isLt) (iblk m c 0 t) (iblk m c 1 t) (iblk m c 2 t) (iblk m c 3 t) (iblk m c 4 t) (iblk m c 5 t) (iblk m c 6 t) (iblk m c 7 t)
    (iblk m c 8 t) (iblk m c 9 t)

theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)

theorem tt_of (t : Fin 16) (p : Fin 512) (q : Fin 8192) (h : q.val = t.val * 512 + p.val) : q = tt t p := Fin.ext (by simp only [tt]; omega)
theorem tp_of (t : Fin 16) (p : Fin 512) (q : Fin 8192) (h : q.val = t.val * 512 + p.val) : time q = tp t p := Fin.ext (by simp only [time, tp]; omega)

variable {m : (ℓ : Loc nD τ sig) → Buf (Elt Ideal) ℓ} {A : Args} {c : Dev nD} (H : Filled m A c)
include H

theorem point_all : ∀ (n : ℕ) (hn : n < cfg0.N), Point m A (tile n hn) c ⟨n, hn⟩
  | 0, hn => point_a m c ⟨0, hn⟩ rfl (H ⟨0, hn⟩) rfl
  | n + 1, hn => by
    have hl : n + 1 < 16 := hn
    exact point_b m c ⟨n + 1, hn⟩ rfl (H ⟨n + 1, hn⟩) (by simp only; omega)
      ((point_all n (by omega)).kept (half0 (tile (n + 1) hn)) (by simp only [half0, tile]; omega))

theorem arr10 : (dats m 0 c).arrAt 10 cfg0.N = fun i => ((hh A (i 0) (i 1) : ℝ) : EReal) := by
  refine (dats m 0 c).arrAt_eq_of_covers 10 _ (by decide +kernel) fun t _ y => ?_
  blk_simp
  rw [after0_10]
  refine ((point_all H t.val t.isLt).h y).trans ?_
  have e0 : ((win0_10.blk t).view.emb y 0).val = t.val * 512 + (y 0).val := by blk_point [idx10 t]
  have e1 : (win0_10.blk t).view.emb y 1 = y 1 := Fin.ext (by blk_point [idx10 t])
  unfold GH
  rw [e1]
  exact congrArg (fun s => ((hh A s (y 1) : ℝ) : EReal)) (tt_of (tile t.val t.isLt) (y 0) _ e0).symm

theorem arr11 : (dats m 0 c).arrAt 11 cfg0.N = fun i => ((pj A (i 0) (i 1) : ℝ) : EReal) := by
  refine (dats m 0 c).arrAt_eq_of_covers 11 _ (by decide +kernel) fun t _ y => ?_
  blk_simp
  rw [after0_11]
  refine ((point_all H t.val t.isLt).pj y).trans ?_
  have e0 : ((win0_11.blk t).view.emb y 0).val = t.val * 512 + (y 0).val := by blk_point [idx11 t]
  have e1 : (win0_11.blk t).view.emb y 1 = y 1 := Fin.ext (by blk_point [idx11 t])
  unfold GPj
  rw [e1]
  exact congrArg (fun s => ((pj A s (y 1) : ℝ) : EReal)) (tt_of (tile t.val t.isLt) (y 0) _ e0).symm

theorem arr12 : (dats m 0 c).arrAt 12 cfg0.N = fun i => ((cat A (i 0) (i 1) : ℝ) : EReal) := by
  refine (dats m 0 c).arrAt_eq_of_covers 12 _ (by decide +kernel) fun t _ y => ?_
  blk_simp
  rw [after0_12]
  refine ((point_all H t.val t.isLt).cat y).trans ?_
  have e0 : ((win0_12.blk t).view.emb y 0).val = t.val * 512 + (y 0).val := by blk_point [idx12 t]
  have e1 : (win0_12.blk t).view.emb y 1 = y 1 := Fin.ext (by blk_point [idx12 t])
  unfold GCat
  rw [e1]
  exact congrArg (fun s => ((cat A s (y 1) : ℝ) : EReal)) (tt_of (tile t.val t.isLt) (y 0) _ e0).symm

theorem arr13 : (dats m 0 c).arrAt 13 cfg0.N = fun i => ((mixed A (i 0) (i 1) : ℝ) : EReal) := by
  refine (dats m 0 c).arrAt_eq_of_covers 13 _ (by decide +kernel) fun t _ y => ?_
  blk_simp
  rw [after0_13]
  refine ((point_all H t.val t.isLt).mix y).trans ?_
  have e0 : ((win0_13.blk t).view.emb y 0).val = t.val * 512 + (y 0).val := by blk_point [idx13 t]
  have e1 : (win0_13.blk t).view.emb y 1 = y 1 := Fin.ext (by blk_point [idx13 t])
  unfold GMix
  rw [e1]
  exact congrArg (fun s => ((mixed A s (y 1) : ℝ) : EReal)) (tt_of (tile t.val t.isLt) (y 0) _ e0).symm

theorem arr14 : (dats m 0 c).arrAt 14 cfg0.N = fun i => ((x2 A (i 0) (i 1) : ℝ) : EReal) := by
  refine (dats m 0 c).arrAt_eq_of_covers 14 _ (by decide +kernel) fun t _ y => ?_
  blk_simp
  rw [after0_14]
  refine ((point_all H t.val t.isLt).x y).trans ?_
  have e0 : ((win0_14.blk t).view.emb y 0).val = t.val * 512 + (y 0).val := by blk_point [idx14 t]
  have e1 : (win0_14.blk t).view.emb y 1 = y 1 := Fin.ext (by blk_point [idx14 t])
  unfold GX
  rw [e1]
  exact congrArg (fun s => ((x2 A s (y 1) : ℝ) : EReal)) (tt_of (tile t.val t.isLt) (y 0) _ e0).symm

theorem arr15 : (dats m 0 c).arrAt 15 cfg0.N = fun i => ((h2 A (time (i 0)) (i 1) : ℝ) : EReal) := by
  refine (dats m 0 c).arrAt_eq_of_covers 15 _ (by decide +kernel) fun t _ y => ?_
  blk_simp
  rw [after0_15]
  refine ((point_all H t.val t.isLt).h2 y).trans ?_
  have e0 : ((win0_15.blk t).view.emb y 0).val = t.val * 512 + (y 0).val := by blk_point [idx15 t]
  have e1 : (win0_15.blk t).view.emb y 1 = y 1 := Fin.ext (by blk_point [idx15 t])
  unfold GH2
  rw [tp_of (tile t.val t.isLt) (y 0) _ e0, e1]

end Mix.Ker

end
-- ==== Proof.MixRef.lean ====
module

public import proofs.«01_k».proof.Proof.MixSpec
public import proofs.«01_k».proof.Proof.Gen.MixFwdRefIdeal.Run

@[expose] public section

set_option maxRecDepth 16384

noncomputable section

/-! The reference, read entry by entry: each of its named values is the real quantity of `MixSpec`. -/

namespace Mix.Ref

open Idealize.ShloMosaic Idealize.ShloMosaic.TcCoe Idealize.SL.Sem
open Cert.MixFwdRefIdeal Cert.MixFwdRefIdeal.Gen Cert.MixFwdRefIdeal.Value Lift
open Fwd (rms rsqrt_ms)

/-! ## The running sum -/

/-- The index set of the running sum's window. -/
abbrev win : Shape := ⟨3, ![1, 8192, 1]⟩

theorem foldl_sum {ι : Type} (L : List ι) (G : ι → EReal) (v : EReal) : L.foldl (fun r n => r + G n) v = v + (L.map G).sum := by
  induction L generalizing v with
  | nil => simp
  | cons a L ih => rw [List.foldl_cons, ih, List.map_cons, List.sum_cons, add_assoc]

def steps : win.Idx ≃ Fin 8192 where
  toFun i := i 1
  invFun k := ix3 (n0 := 1) (n1 := 8192) (n2 := 1) 0 k 0
  left_inv i := by
    funext a
    fin_cases a
    · exact Subsingleton.elim (α := Fin 1) _ _
    · rfl
    · exact Subsingleton.elim (α := Fin 1) _ _
  right_inv k := rfl

theorem reduceWindowAdd_eq {s t u : Shape} (w st lo hi : Fin s.rank → ℕ) (x : FVec Ideal s .f32) (init : u.Idx → Ideal .f32) (h : s.ReduceWindows w st lo hi t) (hu : 0 < u.numel) :
    Host.reduceWindowAdd w st lo hi x init h hu
      = Host.reduceWindow (fun a b : EReal => a + b) w st lo hi x (fun _ : (⟨0, ![]⟩ : Shape).Idx => init (Shape.Idx.first hu)) h := rfl

theorem window_term {x : FVec Ideal S1x8192x128 .f32} {Y : Fin 128 → ℕ → ℝ} (hx : ∀ (a : Fin 1) (s : Fin 8192) (d : Fin 128), x (ix3 a s d) = (Y d s.val : EReal))
    (a : Fin 1) (s : Fin 8192) (d : Fin 128) (p : Fin 3 → ℕ) (k : Fin 8192) (h0 : p 0 = 0) (h1 : p 1 = s.val + k.val) (h2 : p 2 = d.val)
    [dec : Decidable (∀ b : Fin 3, (![0, 8191, 0] : Fin 3 → ℕ) b ≤ p b ∧ p b - (![0, 8191, 0] : Fin 3 → ℕ) b < S1x8192x128.size b)] :
    (if hin : ∀ b : Fin 3, (![0, 8191, 0] : Fin 3 → ℕ) b ≤ p b ∧ p b - (![0, 8191, 0] : Fin 3 → ℕ) b < S1x8192x128.size b
      then x (fun b => ⟨p b - (![0, 8191, 0] : Fin 3 → ℕ) b, (hin b).2⟩) else (0 : EReal))
      = ((if 8191 ≤ s.val + k.val then Y d (s.val + k.val - 8191) else 0 : ℝ) : EReal) := by
  by_cases hc : 8191 ≤ s.val + k.val
  · have hin : ∀ b : Fin 3, (![0, 8191, 0] : Fin 3 → ℕ) b ≤ p b ∧ p b - (![0, 8191, 0] : Fin 3 → ℕ) b < S1x8192x128.size b := by
      intro b
      match b with
      | 0 => show 0 ≤ p 0 ∧ p 0 - 0 < 1; omega
      | 1 => show 8191 ≤ p 1 ∧ p 1 - 8191 < 8192; omega
      | 2 => show 0 ≤ p 2 ∧ p 2 - 0 < 128; omega
    rw [dif_pos hin, if_pos hc, ← hx 0 ⟨s.val + k.val - 8191, by omega⟩ d]
    refine congrArg x (funext fun b => Fin.ext ?_)
    match b with
    | 0 => show p 0 - 0 = 0; omega
    | 1 => show p 1 - 8191 = s.val + k.val - 8191; omega
    | 2 => show p 2 - 0 = d.val; omega
  · rw [dif_neg, if_neg hc, EReal.coe_zero]
    intro hin
    have := (hin 1).1
    change 8191 ≤ p 1 at this
    omega

theorem running {x : FVec Ideal S1x8192x128 .f32} {Y : Fin 128 → ℕ → ℝ} (hx : ∀ (a : Fin 1) (s : Fin 8192) (d : Fin 128), x (ix3 a s d) = (Y d s.val : EReal))
    {init : FVec Ideal S_ .f32} (hi : ∀ i, init i = (0 : EReal)) (h) (hu) (a : Fin 1) (s : Fin 8192) (d : Fin 128) :
    Host.reduceWindowAdd (F := Ideal) (t := S1x8192x128) ![1, 8192, 1] ![1, 1, 1] ![0, 8191, 0] ![0, 0, 0] x init h hu (ix3 a s d) = ((∑ j ∈ Finset.range (s.val + 1), Y d j : ℝ) : EReal) := by
  rw [reduceWindowAdd_eq]
  unfold Host.reduceWindow
  refine (foldl_sum _ _ _).trans ?_
  rw [hi, zero_add]
  refine (Fin.sum_univ_def _).symm.trans ?_
  refine (Finset.sum_congr (g := fun n => ((if 8191 ≤ s.val + (steps (win.rowMajor.symm n)).val then Y d (s.val + (steps (win.rowMajor.symm n)).val - 8191) else 0 : ℝ) : EReal)) rfl fun n _ => ?_).trans ?_
  · refine window_term (dec := _) hx a s d (fun b => (ix3 a s d b).val * ![1, 1, 1] b + (win.rowMajor.symm n b).val) (steps (win.rowMajor.symm n)) ?_ ?_ ?_
    · have h0 : (win.rowMajor.symm n 0).val = 0 := Nat.lt_one_iff.1 (win.rowMajor.symm n 0).isLt
      have ha := Nat.lt_one_iff.1 a.isLt
      show a.val * 1 + (win.rowMajor.symm n 0).val = 0
      omega
    · show s.val * 1 + (win.rowMajor.symm n 1).val = s.val + (win.rowMajor.symm n 1).val
      omega
    · have h2 : (win.rowMajor.symm n 2).val = 0 := Nat.lt_one_iff.1 (win.rowMajor.symm n 2).isLt
      show d.val * 1 + (win.rowMajor.symm n 2).val = d.val
      omega
  · refine (Equiv.sum_comp (win.rowMajor.symm.trans steps) fun k => ((if 8191 ≤ s.val + k.val then Y d (s.val + k.val - 8191) else 0 : ℝ) : EReal)).trans ?_
    rw [sum_coe]
    refine congrArg _ ?_
    rw [Fin.sum_univ_eq_sum_range (fun k => if 8191 ≤ s.val + k then Y d (s.val + k - 8191) else 0) 8192]
    have w := window (Y d) s.val 8192
    rw [Nat.sub_eq_zero_of_le s.isLt, Finset.sum_range_zero, sub_zero] at w
    rw [w, ← Finset.sum_range_reflect]
    refine Finset.sum_congr rfl fun k hk => ?_
    have := Finset.mem_range.1 hk
    by_cases hc : k ≤ s.val
    · rw [if_pos (by omega), if_pos hc]; exact congrArg (Y d) (by omega)
    · rw [if_neg (by omega), if_neg hc]

theorem zero_int : (FloatOps.sitofp (F := Ideal) .f32 (0#32) : EReal) = 0 := by
  show (((0#32 : BitVec 32).toInt : ℝ) : EReal) = 0
  simp

/-- The running sum with `w` zeros before it. -/
theorem padded {x : FVec Ideal S1x8192x128 .f32} {Y : Fin 128 → ℕ → ℝ} (hx : ∀ (a : Fin 1) (s : Fin 8192) (d : Fin 128), x (ix3 a s d) = (Y d s.val : EReal))
    {init : FVec Ideal S_ .f32} (hi : ∀ i, init i = (0 : EReal)) (h) (hu) (w s : ℕ) (hw : 1 ≤ w) (d : Fin 128) (hs : s - w < 8192) :
    (if hin : w ≤ s ∧ s - w < 8192 then
        Host.reduceWindowAdd (F := Ideal) (t := S1x8192x128) ![1, 8192, 1] ![1, 1, 1] ![0, 8191, 0] ![0, 0, 0] x init h hu (ix3 0 ⟨s - w, hin.2⟩ d)
      else (FloatOps.sitofp (F := Ideal) .f32 (0#32) : EReal)) = ((∑ j ∈ Finset.range (s + 1 - w), Y d j : ℝ) : EReal) := by
  by_cases hc : w ≤ s
  · rw [dif_pos ⟨hc, hs⟩, running hx hi]
    congr 3
    show s - w + 1 = s + 1 - w
    omega
  · rw [dif_neg (fun k => hc k.1), zero_int, Nat.sub_eq_zero_of_le (by omega), Finset.sum_range_zero, EReal.coe_zero]

/-! ## The values -/

/-- The reference's arguments hold the real arrays `A`. -/
structure Holds (V0 : Valuation τ sig (Elt Ideal)) (A : Args) : Prop where
  x : ∀ a s k, (V0 (Proc.devRef .tc main_arg0) : FVec Ideal S1x8192x1024 .f32) (ix3 a s k) = (A.x s k : EReal)
  shm : ∀ a k, (V0 (Proc.devRef .tc main_arg1) : FVec Ideal S1x1024 .f32) (ix2 a k) = (A.shm k : EReal)
  scm : ∀ a k, (V0 (Proc.devRef .tc main_arg2) : FVec Ideal S1x1024 .f32) (ix2 a k) = (A.scm k : EReal)
  gm : ∀ a k, (V0 (Proc.devRef .tc main_arg3) : FVec Ideal S1x1024 .f32) (ix2 a k) = (A.gm k : EReal)
  shf : ∀ a k, (V0 (Proc.devRef .tc main_arg4) : FVec Ideal S1x1024 .f32) (ix2 a k) = (A.shf k : EReal)
  scf : ∀ a k, (V0 (Proc.devRef .tc main_arg5) : FVec Ideal S1x1024 .f32) (ix2 a k) = (A.scf k : EReal)
  pre : ∀ a k, (V0 (Proc.devRef .tc main_arg6) : FVec Ideal S1x1024 .f32) (ix2 a k) = (A.pre k : EReal)
  post : ∀ a k, (V0 (Proc.devRef .tc main_arg7) : FVec Ideal S1x1024 .f32) (ix2 a k) = (A.post k : EReal)
  pref : ∀ a k, (V0 (Proc.devRef .tc main_arg8) : FVec Ideal S1x1024 .f32) (ix2 a k) = (A.pref k : EReal)
  wi : ∀ a k n, (V0 (Proc.devRef .tc main_arg9) : FVec Ideal S1x1024x1536 .f32) (ix3 a k n) = (A.wi k n : EReal)
  sg : ∀ a h c, (V0 (Proc.devRef .tc main_arg10) : FVec Ideal S1x4x128 .f32) (ix3 a h c) = (A.sg h c : EReal)
  ws : ∀ a h i j, (V0 (Proc.devRef .tc main_arg11) : FVec Ideal S1x4x128x128 .f32) (ix4 a h i j) = (A.ws h i j : EReal)
  bs : ∀ a h i, (V0 (Proc.devRef .tc main_arg12) : FVec Ideal S1x4x128 .f32) (ix3 a h i) = (A.bs h i : EReal)
  wp : ∀ a g c d, (V0 (Proc.devRef .tc main_arg13) : FVec Ideal S1x4x128x128 .f32) (ix4 a g c d) = (A.wp g c d : EReal)
  ps : ∀ a n, (V0 (Proc.devRef .tc main_arg14) : FVec Ideal S1x512 .f32) (ix2 a n) = (A.ps n : EReal)
  wo : ∀ a k n, (V0 (Proc.devRef .tc main_arg15) : FVec Ideal S1x1024x1024 .f32) (ix3 a k n) = (A.wo k n : EReal)

variable {V0 : Valuation τ sig (Elt Ideal)} {A : Args} (H : Holds V0 A)
include H

theorem v21 (a : Fin 1) (s : Fin 8192) (k : Fin 1024) : (res_main_v21 V0 : FVec Ideal S1x8192x1024 .f32) (ix3 a s k) = ((hh A s k : ℝ) : EReal) := by
  pointwise [res_main_v21]
  simp only [H.x, H.pre, H.scm, H.shm, ofBits_1024, ofBits_eps, ← EReal.coe_one, ← EReal.coe_mul, ← EReal.coe_add, sum_coe, div_1024, rsqrt_ms]
  refine congrArg _ ?_
  unfold hh; ring

theorem v23 (a : Fin 1) (s : Fin 8192) (n : Fin 1536) : (res_main_v23 V0 : FVec Ideal S1x8192x1536 .f32) (ix3 a s n) = ((pj A s n : ℝ) : EReal) := by
  pointwise [res_main_v23]
  simp only [v21 H, H.wi, ← EReal.coe_mul, sum_coe]
  rfl

theorem v24 (a : Fin 1) (s : Fin 8192) (n : Fin 1024) : (res_main_v24 V0 : FVec Ideal S1x8192x1024 .f32) (ix3 a s n) = ((pj A s ⟨n.val, by omega⟩ : ℝ) : EReal) := by
  pointwise [res_main_v24]
  exact v23 H _ _ _

theorem v40 (a : Fin 1) (s : Fin 8192) (n : Fin 1024) : (res_main_v40 V0 : FVec Ideal S1x8192x1024 .f32) (ix3 a s n) = ((gelu (pj A s ⟨n.val, by omega⟩) : ℝ) : EReal) := by
  pointwise [res_main_v40]
  simp only [v24 H, ofBits_half, ofBits_c0, ofBits_c1, ← EReal.coe_one, ← EReal.coe_mul, ← EReal.coe_add, tanh_coe]
  rw [gelu_eq]

theorem v43 (a : Fin 1) (b : Fin 64) (j : Fin 128) (h : Fin 4) (c : Fin 128) :
    (res_main_v43 V0 : FVec Ideal S1x64x128x4x128 .f32) (ix5 a b j h c) = ((vv A ⟨128 * b.val + j.val, by omega⟩ h c : ℝ) : EReal) := by
  pointwise [res_main_v43]
  rw [v40 H]
  unfold vv
  congr 4 <;> simp <;> omega

theorem v82 (a : Fin 1) (s : Fin 8192) (d : Fin 128) : (res_main_v82 V0 : FVec Ideal S1x8192x128 .f32) (ix3 a s d) = ((ppn A 0 d s.val : ℝ) : EReal) := by
  pointwise [res_main_v82, res_main_v79]
  rw [v23 H, ppn, dif_pos s.isLt]
  refine congrArg (fun n => ((pj A s n : ℝ) : EReal)) (Fin.ext ?_)
  simp

theorem v84 (a : Fin 1) (s : Fin 8194) (d : Fin 128) : (res_main_v84 V0 : FVec Ideal S1x8194x128 .f32) (ix3 a s d) = ((∑ j ∈ Finset.range (s.val + 1 - 2), ppn A 0 d j : ℝ) : EReal) := by
  pointwise [res_main_v84]
  exact padded (Y := ppn A 0) (v82 H) (fun i => Ideal.ofBits_zero_f32) _ _ 2 s.val (by omega) d (by omega)

theorem v98 (a : Fin 1) (s : Fin 8192) (d : Fin 128) : (res_main_v98 V0 : FVec Ideal S1x8192x128 .f32) (ix3 a s d) = ((ppn A 1 d s.val : ℝ) : EReal) := by
  pointwise [res_main_v98, res_main_v79]
  rw [v23 H, ppn, dif_pos s.isLt]
  refine congrArg (fun n => ((pj A s n : ℝ) : EReal)) (Fin.ext ?_)
  simp

theorem v100 (a : Fin 1) (s : Fin 8196) (d : Fin 128) : (res_main_v100 V0 : FVec Ideal S1x8196x128 .f32) (ix3 a s d) = ((∑ j ∈ Finset.range (s.val + 1 - 4), ppn A 1 d j : ℝ) : EReal) := by
  pointwise [res_main_v100]
  exact padded (Y := ppn A 1) (v98 H) (fun i => Ideal.ofBits_zero_f32) _ _ 4 s.val (by omega) d (by omega)

theorem v114 (a : Fin 1) (s : Fin 8192) (d : Fin 128) : (res_main_v114 V0 : FVec Ideal S1x8192x128 .f32) (ix3 a s d) = ((ppn A 2 d s.val : ℝ) : EReal) := by
  pointwise [res_main_v114, res_main_v79]
  rw [v23 H, ppn, dif_pos s.isLt]
  refine congrArg (fun n => ((pj A s n : ℝ) : EReal)) (Fin.ext ?_)
  simp

theorem v116 (a : Fin 1) (s : Fin 8200) (d : Fin 128) : (res_main_v116 V0 : FVec Ideal S1x8200x128 .f32) (ix3 a s d) = ((∑ j ∈ Finset.range (s.val + 1 - 8), ppn A 2 d j : ℝ) : EReal) := by
  pointwise [res_main_v116]
  exact padded (Y := ppn A 2) (v114 H) (fun i => Ideal.ofBits_zero_f32) _ _ 8 s.val (by omega) d (by omega)

theorem v130 (a : Fin 1) (s : Fin 8192) (d : Fin 128) : (res_main_v130 V0 : FVec Ideal S1x8192x128 .f32) (ix3 a s d) = ((ppn A 3 d s.val : ℝ) : EReal) := by
  pointwise [res_main_v130, res_main_v79]
  rw [v23 H, ppn, dif_pos s.isLt]
  refine congrArg (fun n => ((pj A s n : ℝ) : EReal)) (Fin.ext ?_)
  simp

theorem v132 (a : Fin 1) (s : Fin 8208) (d : Fin 128) : (res_main_v132 V0 : FVec Ideal S1x8208x128 .f32) (ix3 a s d) = ((∑ j ∈ Finset.range (s.val + 1 - 16), ppn A 3 d j : ℝ) : EReal) := by
  pointwise [res_main_v132]
  exact padded (Y := ppn A 3) (v130 H) (fun i => Ideal.ofBits_zero_f32) _ _ 16 s.val (by omega) d (by omega)

omit H in
/-- A word's floor division by 64, as the reference spells it … -/
def fd (w : BitVec 32) : BitVec 32 :=
  Scalar.select (IntOp.andi (IntOp.cmpi .ne (if w = 0 then 0 else if w.msb = true then -1 else 1 : BitVec 32) (if (64#32) = 0 then 0 else if BitVec.msb 64#32 = true then -1 else 1 : BitVec 32))
      (IntOp.cmpi .ne (IntOp.remsi .host w 64#32) 0#32)) (IntOp.subi (IntOp.divsi .host w 64#32) 1#32) (IntOp.divsi .host w 64#32)

omit H in
/-- … and so its mask. -/
theorem mask (j : Fin 128) (s : ℕ) : IntOp.cmpi .sle (fd (BitVec.ofNat 32 j.val)) (fd (BitVec.ofNat 32 (s % 128))) = if j.val / 64 ≤ s % 128 / 64 then 1#1 else 0#1 := by
  have h : ∀ k : Fin 128, fd (BitVec.ofNat 32 k.val) = BitVec.ofNat 32 (k.val / 64) := by decide +kernel
  have h2 : ∀ a b : Fin 2, IntOp.cmpi .sle (BitVec.ofNat 32 b.val) (BitVec.ofNat 32 a.val) = if b.val ≤ a.val then 1#1 else 0#1 := by decide +kernel
  have hs := h ⟨s % 128, by omega⟩
  rw [h, hs]
  exact h2 ⟨s % 128 / 64, by omega⟩ ⟨j.val / 64, by omega⟩

omit H in
/-- One group's window, from the running sums. -/
theorem mean (g : Fin 4) (w s : ℕ) (hs : s < 8192) (hw : 1 ≤ w) (hw' : w ≤ 16) (c : Fin 128) :
    Ideal.div ((((∑ j ∈ Finset.range (w + s + 1 - w), ppn A g c j : ℝ)) : EReal) - (((∑ j ∈ Finset.range (s + 1 - w), ppn A g c j : ℝ)) : EReal))
        (FloatOps.sitofp (F := Ideal) .f32 (IntOp.minsi (IntOp.addi (BitVec.ofNat 32 s) 1#32) (BitVec.ofNat 32 w)) : EReal) - ((ppn A g c s : ℝ) : EReal)
      = ((pool A w ⟨s, hs⟩ g c : ℝ) : EReal) := by
  have e : (FloatOps.sitofp (F := Ideal) .f32 (IntOp.minsi (IntOp.addi (BitVec.ofNat 32 s) 1#32) (BitVec.ofNat 32 w)) : EReal) = (((min (s + 1) w : ℕ) : ℝ) : EReal) :=
    congrArg (fun r : ℝ => (r : EReal)) (cnt_word s w hs hw')
  have hn : ((min (s + 1) w : ℕ) : ℝ) ≠ 0 := by rw [Nat.cast_ne_zero]; omega
  have hb : ∀ k, (if k ≤ s then ppn A g c (s - k) else 0) = back A k ⟨s, hs⟩ g c := fun k => by
    unfold back
    by_cases h : k ≤ s
    · rw [if_pos h, if_pos h, ppn, dif_pos (by omega)]
    · rw [if_neg h, if_neg h]
  have hp : ppn A g c s = pp A ⟨s, hs⟩ g c := dif_pos hs
  rw [e, ← EReal.coe_sub, show w + s + 1 - w = s + 1 by omega, window, div_coe _ _ hn, ← EReal.coe_sub, hp]
  simp only [hb]
  rfl

omit H in
/-- The mask as the reference computes it. -/
def maskV (V0 : Valuation τ sig (Elt Ideal)) : IVec S128x128 1 :=
  cmpi .sle (broadcastInDim S128x128 ![0, 1] bcast_S1x128_S128x128_0_1 (select (andi (cmpi .ne (signi (res_main_v58 V0)) (broadcastInDim S1x128 ![] bcast_S_S1x128 (signi (res_main_call0_v0 V0)))) (cmpi .ne (Host.remsi (res_main_v58 V0) (broadcastInDim S1x128 ![] bcast_S_S1x128 (res_main_call0_v0 V0))) (broadcastInDim S1x128 ![] bcast_S_S1x128 (constantI S_ 32 0#32)))) (subi (res_main_call0_v2 V0) (broadcastInDim S1x128 ![] bcast_S_S1x128 (constantI S_ 32 1#32))) (res_main_call0_v2 V0))) (broadcastInDim S128x128 ![0, 1] bcast_S128x1_S128x128_0_1 (select (andi (cmpi .ne (signi (res_main_v60 V0)) (broadcastInDim S128x1 ![] bcast_S_S128x1 (signi (res_main_call1_v0 V0)))) (cmpi .ne (Host.remsi (res_main_v60 V0) (broadcastInDim S128x1 ![] bcast_S_S128x1 (res_main_call1_v0 V0))) (broadcastInDim S128x1 ![] bcast_S_S128x1 (constantI S_ 32 0#32)))) (subi (res_main_call1_v2 V0) (broadcastInDim S128x1 ![] bcast_S_S128x1 (constantI S_ 32 1#32))) (res_main_call1_v2 V0)))

omit H in
theorem maskV_at (i j : Fin 128) : maskV V0 (ix2 i j) = if j.val / 64 ≤ i.val / 64 then 1#1 else 0#1 := by
  have h := mask j i.val
  rw [Nat.mod_eq_of_lt i.isLt] at h
  exact h

omit H in
theorem sel (c : Prop) [Decidable c] (r : ℝ) : Scalar.select (if c then 1#1 else 0#1) (r : EReal) 0 = ((if c then r else 0 : ℝ) : EReal) := by
  by_cases h : c <;> simp [h, Scalar.select]

omit H in
theorem gate_term (s : Fin 8192) (h : Fin 4) (c j : Fin 128) (B : Fin 8192) (hB : B = blkAt s j) :
    (if j.val / 64 ≤ s.val % 128 / 64 then vv A B h c * rmsh (vv A B h) * A.sg h c * A.ws h ⟨s.val % 128, by omega⟩ j else 0) = wm A h (inBlk s) j * vn A (blkAt s j) h c := by
  subst hB
  unfold wm vn inBlk
  by_cases hm : j.val / 64 ≤ s.val % 128 / 64
  · rw [if_pos hm, if_pos hm]; ring
  · rw [if_neg hm, if_neg hm, zero_mul]

theorem v156 (a : Fin 1) (s : Fin 8192) (n : Fin 1024) : (res_main_v156 V0 : FVec Ideal S1x8192x1024 .f32) (ix3 a s n) = ((cat A s n : ℝ) : EReal) := by
  rw [res_main_v156, ← maskV]
  pointwise [res_main_v80]
  by_cases hn : n.val < 512
  · have hc : cat A s n = outA A s ⟨n.val / 128, by omega⟩ ⟨n.val % 128, by omega⟩ := dif_pos hn
    refine Eq.trans ?_ (congrArg (fun r : ℝ => (r : EReal)) hc.symm)
    refine (dif_pos hn).trans ?_
    simp only [maskV_at, v40 H, H.bs,  v43 H, H.sg, H.ws, ofBits_128, ofBits_eps, ← EReal.coe_mul, ← EReal.coe_add, sum_coe, div_128, rsqrt_msh]
    simp only [sel, sum_coe, ← EReal.coe_add, ← EReal.coe_mul]
    refine congrArg _ ?_
    have hu : (⟨n.val, by omega⟩ : Fin 1536) = ⟨128 * (n.val / 128) + n.val % 128, by omega⟩ := Fin.ext (by simp only []; omega)
    unfold outA
    refine congrArg₂ (fun y z : ℝ => y * z) (congrArg (fun i => gelu (pj A s i)) hu) ?_
    unfold zz
    exact congrArg (fun z : ℝ => z + _) (Finset.sum_congr rfl fun j _ => gate_term s _ _ j _ (Fin.ext (by simp only [blkAt]; omega)))
  · have hc : cat A s n = outB A s ⟨(n.val - 512) / 128, by omega⟩ ⟨(n.val - 512) % 128, by omega⟩ := dif_neg hn
    refine Eq.trans ?_ (congrArg (fun r : ℝ => (r : EReal)) hc.symm)
    refine (dif_neg hn).trans ?_
    simp only [H.wp, H.ps, v84 H, v100 H, v116 H, v132 H, v82 H, v98 H, v114 H, v130 H]
    have hg : (n.val - 512) / 128 < 4 := by omega
    refine (congrArg (fun z : EReal => z * (_ : EReal)) (Finset.sum_congr (g := fun x : Fin 128 => ((A.wp ⟨(n.val - 512) / 128, hg⟩ x ⟨(n.val - 512) % 128, by omega⟩
        * pool A (2 ^ ((n.val - 512) / 128 + 1)) s ⟨(n.val - 512) / 128, hg⟩ x : ℝ) : EReal)) rfl fun x _ => ?_)).trans ?_
    · rw [EReal.coe_mul]
      refine congrArg (fun z : EReal => (_ : EReal) * z) ?_
      by_cases h0 : (n.val - 512) / 128 < 1
      · have e : (n.val - 512) / 128 = 0 := by omega
        have e' : (⟨(n.val - 512) / 128, hg⟩ : Fin 4) = 0 := Fin.ext e
        refine (dif_pos h0).trans ?_
        rw [e', e]
        exact mean 0 2 s.val s.isLt (by omega) (by omega) x
      refine (dif_neg h0).trans ?_
      by_cases h1 : (n.val - 512) / 128 - 1 < 1
      · have e : (n.val - 512) / 128 = 1 := by omega
        have e' : (⟨(n.val - 512) / 128, hg⟩ : Fin 4) = 1 := Fin.ext e
        refine (dif_pos h1).trans ?_
        rw [e', e]
        exact mean 1 4 s.val s.isLt (by omega) (by omega) x
      refine (dif_neg h1).trans ?_
      by_cases h2 : (n.val - 512) / 128 - 1 - 1 < 1
      · have e : (n.val - 512) / 128 = 2 := by omega
        have e' : (⟨(n.val - 512) / 128, hg⟩ : Fin 4) = 2 := Fin.ext e
        refine (dif_pos h2).trans ?_
        rw [e', e]
        exact mean 2 8 s.val s.isLt (by omega) (by omega) x
      have e : (n.val - 512) / 128 = 3 := by omega
      have e' : (⟨(n.val - 512) / 128, hg⟩ : Fin 4) = 3 := Fin.ext e
      refine (dif_neg h2).trans ?_
      rw [e', e]
      exact mean 3 16 s.val s.isLt (by omega) (by omega) x
    · rw [sum_coe, ← EReal.coe_mul]
      refine congrArg _ ?_
      have hu : (⟨n.val - 512, by omega⟩ : Fin 512) = ⟨128 * ((n.val - 512) / 128) + (n.val - 512) % 128, by omega⟩ := Fin.ext (by simp only []; omega)
      unfold outB
      exact congrArg₂ (fun y z : ℝ => y * z) (Finset.sum_congr rfl fun x _ => mul_comm _ _) (congrArg A.ps hu)

theorem v158 (a : Fin 1) (s : Fin 8192) (n : Fin 1024) : (res_main_v158 V0 : FVec Ideal S1x8192x1024 .f32) (ix3 a s n) = ((mixed A s n : ℝ) : EReal) := by
  pointwise [res_main_v158]
  simp only [v156 H, H.wo, ← EReal.coe_mul, sum_coe]
  rfl

theorem v176 (a : Fin 1) (s : Fin 8192) (n : Fin 1024) : (res_main_v176 V0 : FVec Ideal S1x8192x1024 .f32) (ix3 a s n) = ((x2 A s n : ℝ) : EReal) := by
  pointwise [res_main_v176]
  simp only [v158 H, H.x, H.gm, H.post, ofBits_1024, ofBits_eps, ← EReal.coe_mul, ← EReal.coe_add, sum_coe, div_1024, rsqrt_ms]
  refine congrArg _ ?_
  unfold x2; ring

end Mix.Ref

end
-- ==== Proof.MixHost.lean ====
module

public import proofs.«01_k».proof.Proof.MixTail
public import proofs.«01_k».proof.Proof.MixRef
public import proofs.«01_k».proof.Proof.Gen.MixFwdIdeal.Value
public import Idealize.ShloMosaic.Lib.Claim
public import Idealize.ShloMosaic.Lib.StableHlo.ReadAt
public import Idealize.ShloMosaic.Lib.Pointwise

@[expose] public section

set_option maxRecDepth 16384
set_option maxHeartbeats 2000000

noncomputable section

/-! What the host lines before the launch leave in its input arrays. -/

namespace Mix.Ker

open Idealize.ShloMosaic Idealize.ShloMosaic.TcCoe Idealize.SL.Sem
open Cert.MixFwdIdeal Cert.MixFwdIdeal.Gen Lift
open Idealize.ShloMosaic.Pipeline (Dat)
open Fwd.Ker (hot hot_word)

/-- The kernel's arguments hold the real arrays `A`. -/
structure Given (m : (ℓ : Loc nD τ sig) → Buf (Elt Ideal) ℓ) (c : Dev nD) (A : Args) : Prop where
  x : ∀ a s k, (m ((c : Thread nD τ).loc main_arg0) : FVec Ideal S1x8192x1024 .f32) (ix3 a s k) = (A.x s k : EReal)
  shm : ∀ a k, (m ((c : Thread nD τ).loc main_arg1) : FVec Ideal S1x1024 .f32) (ix2 a k) = (A.shm k : EReal)
  scm : ∀ a k, (m ((c : Thread nD τ).loc main_arg2) : FVec Ideal S1x1024 .f32) (ix2 a k) = (A.scm k : EReal)
  gm : ∀ a k, (m ((c : Thread nD τ).loc main_arg3) : FVec Ideal S1x1024 .f32) (ix2 a k) = (A.gm k : EReal)
  shf : ∀ a k, (m ((c : Thread nD τ).loc main_arg4) : FVec Ideal S1x1024 .f32) (ix2 a k) = (A.shf k : EReal)
  scf : ∀ a k, (m ((c : Thread nD τ).loc main_arg5) : FVec Ideal S1x1024 .f32) (ix2 a k) = (A.scf k : EReal)
  pre : ∀ a k, (m ((c : Thread nD τ).loc main_arg6) : FVec Ideal S1x1024 .f32) (ix2 a k) = (A.pre k : EReal)
  post : ∀ a k, (m ((c : Thread nD τ).loc main_arg7) : FVec Ideal S1x1024 .f32) (ix2 a k) = (A.post k : EReal)
  pref : ∀ a k, (m ((c : Thread nD τ).loc main_arg8) : FVec Ideal S1x1024 .f32) (ix2 a k) = (A.pref k : EReal)
  wi : ∀ a k n, (m ((c : Thread nD τ).loc main_arg9) : FVec Ideal S1x1024x1536 .f32) (ix3 a k n) = (A.wi k n : EReal)
  sg : ∀ a h j, (m ((c : Thread nD τ).loc main_arg10) : FVec Ideal S1x4x128 .f32) (ix3 a h j) = (A.sg h j : EReal)
  ws : ∀ a h i j, (m ((c : Thread nD τ).loc main_arg11) : FVec Ideal S1x4x128x128 .f32) (ix4 a h i j) = (A.ws h i j : EReal)
  bs : ∀ a h i, (m ((c : Thread nD τ).loc main_arg12) : FVec Ideal S1x4x128 .f32) (ix3 a h i) = (A.bs h i : EReal)
  wp : ∀ a g i j, (m ((c : Thread nD τ).loc main_arg13) : FVec Ideal S1x4x128x128 .f32) (ix4 a g i j) = (A.wp g i j : EReal)
  ps : ∀ a k, (m ((c : Thread nD τ).loc main_arg14) : FVec Ideal S1x512 .f32) (ix2 a k) = (A.ps k : EReal)
  wo : ∀ a k n, (m ((c : Thread nD τ).loc main_arg15) : FVec Ideal S1x1024x1024 .f32) (ix3 a k n) = (A.wo k n : EReal)

variable {m : (ℓ : Loc nD τ sig) → Buf (Elt Ideal) ℓ} {c : Dev nD} {A : Args} (H : Given m c A)
include H

theorem at_x (s : Fin 8192) (k : Fin 1024) : (V m c main_v23 : FVec Ideal S8192x1024 .f32) (ix2 s k) = ((A.x s k : ℝ) : EReal) := by
  unfold V
  after_reads_at
  exact H.x _ _ _

theorem at_shm (k : Fin 1024) : (V m c main_v2 : FVec Ideal S16x1024 .f32) (ix2 0 k) = ((A.shm k : ℝ) : EReal) := by
  unfold V
  after_reads_at
  exact H.shm _ _

theorem at_scm (k : Fin 1024) : (V m c main_v2 : FVec Ideal S16x1024 .f32) (ix2 1 k) = ((A.scm k : ℝ) : EReal) := by
  unfold V
  after_reads_at
  exact H.scm _ _

theorem at_gm (k : Fin 1024) : (V m c main_v2 : FVec Ideal S16x1024 .f32) (ix2 2 k) = ((A.gm k : ℝ) : EReal) := by
  unfold V
  after_reads_at
  exact H.gm _ _

theorem at_shf (k : Fin 1024) : (V m c main_v2 : FVec Ideal S16x1024 .f32) (ix2 3 k) = ((A.shf k : ℝ) : EReal) := by
  unfold V
  after_reads_at
  exact H.shf _ _

theorem at_scf (k : Fin 1024) : (V m c main_v2 : FVec Ideal S16x1024 .f32) (ix2 4 k) = ((A.scf k : ℝ) : EReal) := by
  unfold V
  after_reads_at
  exact H.scf _ _

theorem at_pre (k : Fin 1024) : (V m c main_v2 : FVec Ideal S16x1024 .f32) (ix2 6 k) = ((A.pre k : ℝ) : EReal) := by
  unfold V
  after_reads_at
  exact H.pre _ _

theorem at_post (k : Fin 1024) : (V m c main_v2 : FVec Ideal S16x1024 .f32) (ix2 7 k) = ((A.post k : ℝ) : EReal) := by
  unfold V
  after_reads_at
  exact H.post _ _

theorem at_pref (k : Fin 1024) : (V m c main_v2 : FVec Ideal S16x1024 .f32) (ix2 8 k) = ((A.pref k : ℝ) : EReal) := by
  unfold V
  after_reads_at
  exact H.pref _ _

theorem at_wi (k : Fin 1024) (n : Fin 1536) : (V m c main_v25 : FVec Ideal S1024x1536 .bf16) (ix2 k n) = ((A.wi k n : ℝ) : EReal) := by
  unfold V
  after_reads_at
  exact H.wi _ _ _

theorem at_wo (k : Fin 1024) (n : Fin 1024) : (V m c main_v27 : FVec Ideal S1024x1024 .bf16) (ix2 k n) = ((A.wo k n : ℝ) : EReal) := by
  unfold V
  after_reads_at
  exact H.wo _ _ _

theorem at_sg (h : Fin 4) (j : Fin 128) : (V m c main_v20 : FVec Ideal S8x128 .f32) (ix2 ⟨h.val, by omega⟩ j) = ((A.sg h j : ℝ) : EReal) := by
  unfold V
  after_reads_at
  exact H.sg _ _ _

theorem at_bs (h : Fin 4) (i j : Fin 128) : (V m c main_v17 : FVec Ideal S4x128x128 .f32) (ix3 h i j) = ((A.bs h i : ℝ) : EReal) := by
  unfold V
  after_reads_at
  exact H.bs _ _ _

theorem at_wp (h : Fin 4) (i j : Fin 128) : (V m c main_v29 : FVec Ideal S4x128x128 .bf16) (ix3 h i j) = ((A.wp h i j : ℝ) : EReal) := by
  unfold V
  after_reads_at
  exact H.wp _ _ _ _

theorem at_ps (k : Fin 512) : (V m c main_v22 : FVec Ideal S8x512 .f32) (ix2 0 k) = ((A.ps k : ℝ) : EReal) := by
  unfold V
  after_reads_at
  exact H.ps _ _

theorem at_wm (h : Fin 4) (i j : Fin 128) : (V m c main_v14 : FVec Ideal S4x128x128 .bf16) (ix3 h i j) = ((wm A h i j : ℝ) : EReal) := by
  unfold V
  after_reads_at
  have e := Ref.mask j i.val
  rw [Nat.mod_eq_of_lt i.isLt] at e
  refine (congrArg (fun b => Scalar.select b _ _) e).trans ?_
  exact (congrArg₂ (fun y z : EReal => Scalar.select (if j.val / 64 ≤ i.val / 64 then 1#1 else 0#1) y z) (H.ws 0 h i j) Ideal.ofBits_zero_f32).trans (Ref.sel _ _)

omit H in
theorem at_hot (p s : Fin 256) : (V m c main_v45 : FVec Ideal S2x256x256 .bf16) (ix3 0 p s) = hot p s := by
  unfold V
  after_reads_at
  refine (congrArg (fun w => FloatOps.uitofp (F := Ideal) .bf16 (IntOp.cmpi .eq w (BitVec.ofNat 32 s.val))) (?_ : _ = BitVec.ofNat 32 (p.val % 8 * 32 + p.val / 8))).trans ?_
  · revert p; decide +kernel
  · exact hot_word p s

end Mix.Ker

end
-- ==== Proof.MixIn.lean ====
module

public import proofs.«01_k».proof.Proof.MixArr
public import proofs.«01_k».proof.Proof.MixHost
public import proofs.«01_k».proof.Proof.Gen.MixFwdIdeal.Value
public import Idealize.ShloMosaic.Lib.WritesUnit
public import Idealize.ShloMosaic.Lib.Pipeline.ValueKit

@[expose] public section

set_option maxRecDepth 16384
set_option maxHeartbeats 2000000

noncomputable section

/-! Every point's input blocks, from the arguments. -/

namespace Mix.Ker

open Idealize.ShloMosaic Idealize.ShloMosaic.TcCoe Idealize.SL.Sem
open Cert.MixFwdIdeal Cert.MixFwdIdeal.Gen Lift
open Idealize.ShloMosaic.Pipeline (Dat)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0, 0] := (by decide +kernel : ∀ t : Fin grid0.N, _)

variable {m : (ℓ : Loc nD τ sig) → Buf (Elt Ideal) ℓ} {c : Dev nD} {A : Args}

theorem blk0 (t : Fin cfg0.N) (p : Fin 512) (k : Fin 1024) :
    (iblk m c 0 t : FVec Ideal S512x1024 .f32) (ix2 p k) = (V m c main_v23 : FVec Ideal S8192x1024 .f32) (ix2 (tt (tile t.val t.isLt) p) k) := by
  blk_simp [iblk]
  refine congrArg (V m c main_v23 : FVec Ideal S8192x1024 .f32) ?_
  blk_ext [idx0 t, tt, tile]

theorem blk1 (t : Fin cfg0.N) (p : Fin 16) (k : Fin 1024) :
    (iblk m c 1 t : FVec Ideal S16x1024 .f32) (ix2 p k) = (V m c main_v2 : FVec Ideal S16x1024 .f32) (ix2 p k) := by
  blk_simp [iblk]
  refine congrArg (V m c main_v2 : FVec Ideal S16x1024 .f32) ?_
  blk_ext [idx1 t]

theorem blk2 (t : Fin cfg0.N) (p : Fin 1024) (k : Fin 1536) :
    (iblk m c 2 t : FVec Ideal S1024x1536 .bf16) (ix2 p k) = (V m c main_v25 : FVec Ideal S1024x1536 .bf16) (ix2 p k) := by
  blk_simp [iblk]
  refine congrArg (V m c main_v25 : FVec Ideal S1024x1536 .bf16) ?_
  blk_ext [idx2 t]

theorem blk3 (t : Fin cfg0.N) (p : Fin 1024) (k : Fin 1024) :
    (iblk m c 3 t : FVec Ideal S1024x1024 .bf16) (ix2 p k) = (V m c main_v27 : FVec Ideal S1024x1024 .bf16) (ix2 p k) := by
  blk_simp [iblk]
  refine congrArg (V m c main_v27 : FVec Ideal S1024x1024 .bf16) ?_
  blk_ext [idx3 t]

theorem blk4 (t : Fin cfg0.N) (p : Fin 8) (k : Fin 128) :
    (iblk m c 4 t : FVec Ideal S8x128 .f32) (ix2 p k) = (V m c main_v20 : FVec Ideal S8x128 .f32) (ix2 p k) := by
  blk_simp [iblk]
  refine congrArg (V m c main_v20 : FVec Ideal S8x128 .f32) ?_
  blk_ext [idx4 t]

theorem blk5 (t : Fin cfg0.N) (a : Fin 4) (p : Fin 128) (k : Fin 128) :
    (iblk m c 5 t : FVec Ideal S4x128x128 .bf16) (ix3 a p k) = (V m c main_v14 : FVec Ideal S4x128x128 .bf16) (ix3 a p k) := by
  blk_simp [iblk]
  refine congrArg (V m c main_v14 : FVec Ideal S4x128x128 .bf16) ?_
  blk_ext [idx5 t]

theorem blk6 (t : Fin cfg0.N) (a : Fin 4) (p : Fin 128) (k : Fin 128) :
    (iblk m c 6 t : FVec Ideal S4x128x128 .f32) (ix3 a p k) = (V m c main_v17 : FVec Ideal S4x128x128 .f32) (ix3 a p k) := by
  blk_simp [iblk]
  refine congrArg (V m c main_v17 : FVec Ideal S4x128x128 .f32) ?_
  blk_ext [idx6 t]

theorem blk7 (t : Fin cfg0.N) (a : Fin 4) (p : Fin 128) (k : Fin 128) :
    (iblk m c 7 t : FVec Ideal S4x128x128 .bf16) (ix3 a p k) = (V m c main_v29 : FVec Ideal S4x128x128 .bf16) (ix3 a p k) := by
  blk_simp [iblk]
  refine congrArg (V m c main_v29 : FVec Ideal S4x128x128 .bf16) ?_
  blk_ext [idx7 t]

theorem blk8 (t : Fin cfg0.N) (p : Fin 8) (k : Fin 512) :
    (iblk m c 8 t : FVec Ideal S8x512 .f32) (ix2 p k) = (V m c main_v22 : FVec Ideal S8x512 .f32) (ix2 p k) := by
  blk_simp [iblk]
  refine congrArg (V m c main_v22 : FVec Ideal S8x512 .f32) ?_
  blk_ext [idx8 t]

theorem blk9 (t : Fin cfg0.N) (a : Fin 2) (p : Fin 256) (k : Fin 256) :
    (iblk m c 9 t : FVec Ideal S2x256x256 .bf16) (ix3 a p k) = (V m c main_v45 : FVec Ideal S2x256x256 .bf16) (ix3 a p k) := by
  blk_simp [iblk]
  refine congrArg (V m c main_v45 : FVec Ideal S2x256x256 .bf16) ?_
  blk_ext [idx9 t]

theorem filled (H : Given m c A) : Filled m A c := fun t =>
  { x := fun p k => (blk0 t p k).trans (at_x H _ _)
    shm := fun k => (blk1 t 0 k).trans (at_shm H k)
    scm := fun k => (blk1 t 1 k).trans (at_scm H k)
    gm := fun k => (blk1 t 2 k).trans (at_gm H k)
    shf := fun k => (blk1 t 3 k).trans (at_shf H k)
    scf := fun k => (blk1 t 4 k).trans (at_scf H k)
    pre := fun k => (blk1 t 6 k).trans (at_pre H k)
    post := fun k => (blk1 t 7 k).trans (at_post H k)
    pref := fun k => (blk1 t 8 k).trans (at_pref H k)
    wi := fun k n => (blk2 t k n).trans (at_wi H k n)
    wo := fun k n => (blk3 t k n).trans (at_wo H k n)
    sg := fun h j => (blk4 t _ j).trans (at_sg H h j)
    wm := fun h i j => (blk5 t h i j).trans (at_wm H h i j)
    bs := fun h i j => (blk6 t h i j).trans (at_bs H h i j)
    wp := fun h i j => (blk7 t h i j).trans (at_wp H h i j)
    ps := fun k => (blk8 t 0 k).trans (at_ps H k)
    hot := fun p s => (blk9 t 0 p s).trans (at_hot p s) }

end Mix.Ker

end
-- ==== Proof.MixOut.lean ====
module

public import proofs.«01_k».proof.Proof.MixRef
public import proofs.«01_k».proof.Proof.Hot

@[expose] public section

set_option maxRecDepth 16384
set_option maxHeartbeats 2000000

noncomputable section

/-! The reference's six results. -/

namespace Mix.Ref

open Idealize.ShloMosaic Idealize.ShloMosaic.TcCoe Idealize.SL.Sem
open Cert.MixFwdRefIdeal Cert.MixFwdRefIdeal.Gen Cert.MixFwdRefIdeal.Value Lift
open Fwd (rms rsqrt_ms time time_mk)

variable {V0 : Valuation τ sig (Elt Ideal)} {A : Args} (H : Holds V0 A)
include H

theorem out200 (s : Fin 8192) (n : Fin 1024) : (val5 V0 (Proc.devRef .tc main_v200) : FVec Ideal S8192x1024 .bf16) (ix2 s n) = ((hh A s n : ℝ) : EReal) := by
  rw [val5_main_v200]
  pointwise []
  exact v21 H _ _ _

theorem out202 (s : Fin 8192) (n : Fin 1536) : (val5 V0 (Proc.devRef .tc main_v202) : FVec Ideal S8192x1536 .bf16) (ix2 s n) = ((pj A s n : ℝ) : EReal) := by
  rw [val5_main_v202]
  pointwise []
  exact v23 H _ _ _

theorem out204 (s : Fin 8192) (n : Fin 1024) : (val5 V0 (Proc.devRef .tc main_v204) : FVec Ideal S8192x1024 .bf16) (ix2 s n) = ((cat A s n : ℝ) : EReal) := by
  rw [val5_main_v204]
  pointwise []
  exact v156 H _ _ _

theorem out205 (s : Fin 8192) (n : Fin 1024) : (val5 V0 (Proc.devRef .tc main_v205) : FVec Ideal S8192x1024 .f32) (ix2 s n) = ((mixed A s n : ℝ) : EReal) := by
  rw [val5_main_v205]
  pointwise []
  exact v158 H _ _ _

theorem out206 (s : Fin 8192) (n : Fin 1024) : (val5 V0 (Proc.devRef .tc main_v206) : FVec Ideal S8192x1024 .f32) (ix2 s n) = ((x2 A s n : ℝ) : EReal) := by
  rw [val5_main_v206]
  pointwise []
  exact v176 H _ _ _

theorem out210 (s : Fin 8192) (n : Fin 1024) : (val5 V0 (Proc.devRef .tc main_v210) : FVec Ideal S8192x1024 .bf16) (ix2 s n) = ((h2 A (time s) n : ℝ) : EReal) := by
  rw [val5_main_v210]
  pointwise []
  simp only [time_mk, v176 H, H.pref, H.scf, H.shf, ofBits_1024, ofBits_eps, ← EReal.coe_one, ← EReal.coe_mul, ← EReal.coe_add, sum_coe, div_1024, rsqrt_ms]
  refine congrArg _ ?_
  unfold h2; ring

end Mix.Ref

end
-- ==== Proof.MixValue.lean ====
module

public import proofs.«01_k».proof.Defs
public import proofs.«01_k».proof.Proof.Finite
public import proofs.«01_k».proof.Proof.MixIn
public import proofs.«01_k».proof.Proof.MixOut

@[expose] public section

set_option maxRecDepth 16384
set_option maxHeartbeats 2000000

noncomputable section

/-! The time mixer's forward call: the kernel's six results are the reference's. -/

namespace Mix

open Idealize.ShloMosaic Idealize.ShloMosaic.TcCoe Idealize.SL.Sem
open Finite (all_real and_one)

theorem facts : Cert.Pre_finite_mix.Facts := by
  constructor <;> decide

/-- The real arrays that the arguments hold. -/
def args (m : (ℓ : Loc Cert.MixFwdIdeal.nD Cert.MixFwdIdeal.τ Cert.MixFwdIdeal.sig) → Buf (Elt Ideal) ℓ) (c : Dev Cert.MixFwdIdeal.nD) : Args where
  x s k := EReal.toReal ((m ((c.tc : Thread Cert.MixFwdIdeal.nD Cert.MixFwdIdeal.τ).loc Cert.MixFwdIdeal.main_arg0) : FVec Ideal Cert.MixFwdIdeal.S1x8192x1024 .f32) (ix3 0 s k))
  shm k := EReal.toReal ((m ((c.tc : Thread Cert.MixFwdIdeal.nD Cert.MixFwdIdeal.τ).loc Cert.MixFwdIdeal.main_arg1) : FVec Ideal Cert.MixFwdIdeal.S1x1024 .f32) (ix2 0 k))
  scm k := EReal.toReal ((m ((c.tc : Thread Cert.MixFwdIdeal.nD Cert.MixFwdIdeal.τ).loc Cert.MixFwdIdeal.main_arg2) : FVec Ideal Cert.MixFwdIdeal.S1x1024 .f32) (ix2 0 k))
  gm k := EReal.toReal ((m ((c.tc : Thread Cert.MixFwdIdeal.nD Cert.MixFwdIdeal.τ).loc Cert.MixFwdIdeal.main_arg3) : FVec Ideal Cert.MixFwdIdeal.S1x1024 .f32) (ix2 0 k))
  shf k := EReal.toReal ((m ((c.tc : Thread Cert.MixFwdIdeal.nD Cert.MixFwdIdeal.τ).loc Cert.MixFwdIdeal.main_arg4) : FVec Ideal Cert.MixFwdIdeal.S1x1024 .f32) (ix2 0 k))
  scf k := EReal.toReal ((m ((c.tc : Thread Cert.MixFwdIdeal.nD Cert.MixFwdIdeal.τ).loc Cert.MixFwdIdeal.main_arg5) : FVec Ideal Cert.MixFwdIdeal.S1x1024 .f32) (ix2 0 k))
  pre k := EReal.toReal ((m ((c.tc : Thread Cert.MixFwdIdeal.nD Cert.MixFwdIdeal.τ).loc Cert.MixFwdIdeal.main_arg6) : FVec Ideal Cert.MixFwdIdeal.S1x1024 .f32) (ix2 0 k))
  post k := EReal.toReal ((m ((c.tc : Thread Cert.MixFwdIdeal.nD Cert.MixFwdIdeal.τ).loc Cert.MixFwdIdeal.main_arg7) : FVec Ideal Cert.MixFwdIdeal.S1x1024 .f32) (ix2 0 k))
  pref k := EReal.toReal ((m ((c.tc : Thread Cert.MixFwdIdeal.nD Cert.MixFwdIdeal.τ).loc Cert.MixFwdIdeal.main_arg8) : FVec Ideal Cert.MixFwdIdeal.S1x1024 .f32) (ix2 0 k))
  wi k n := EReal.toReal ((m ((c.tc : Thread Cert.MixFwdIdeal.nD Cert.MixFwdIdeal.τ).loc Cert.MixFwdIdeal.main_arg9) : FVec Ideal Cert.MixFwdIdeal.S1x1024x1536 .f32) (ix3 0 k n))
  sg h j := EReal.toReal ((m ((c.tc : Thread Cert.MixFwdIdeal.nD Cert.MixFwdIdeal.τ).loc Cert.MixFwdIdeal.main_arg10) : FVec Ideal Cert.MixFwdIdeal.S1x4x128 .f32) (ix3 0 h j))
  ws h i j := EReal.toReal ((m ((c.tc : Thread Cert.MixFwdIdeal.nD Cert.MixFwdIdeal.τ).loc Cert.MixFwdIdeal.main_arg11) : FVec Ideal Cert.MixFwdIdeal.S1x4x128x128 .f32) (ix4 0 h i j))
  bs h i := EReal.toReal ((m ((c.tc : Thread Cert.MixFwdIdeal.nD Cert.MixFwdIdeal.τ).loc Cert.MixFwdIdeal.main_arg12) : FVec Ideal Cert.MixFwdIdeal.S1x4x128 .f32) (ix3 0 h i))
  wp g i j := EReal.toReal ((m ((c.tc : Thread Cert.MixFwdIdeal.nD Cert.MixFwdIdeal.τ).loc Cert.MixFwdIdeal.main_arg13) : FVec Ideal Cert.MixFwdIdeal.S1x4x128x128 .f32) (ix4 0 g i j))
  ps k := EReal.toReal ((m ((c.tc : Thread Cert.MixFwdIdeal.nD Cert.MixFwdIdeal.τ).loc Cert.MixFwdIdeal.main_arg14) : FVec Ideal Cert.MixFwdIdeal.S1x512 .f32) (ix2 0 k))
  wo k n := EReal.toReal ((m ((c.tc : Thread Cert.MixFwdIdeal.nD Cert.MixFwdIdeal.τ).loc Cert.MixFwdIdeal.main_arg15) : FVec Ideal Cert.MixFwdIdeal.S1x1024x1024 .f32) (ix3 0 k n))

variable [Cert.Pre_finite_mix.Facts] {m : (ℓ : Loc Cert.MixFwdIdeal.nD Cert.MixFwdIdeal.τ Cert.MixFwdIdeal.sig) → Buf (Elt Ideal) ℓ}

theorem given (h : Cert.Pre_MixFwdIdeal_finite_mix m) (c : Dev Cert.MixFwdIdeal.nD) : Ker.Given m c (args m c) := by
  have e := congrFun (h c) ix0
  dsimp only [Cert.Pre_finite_mix.fn, Cert.Pre_finite_mix.fn_part1, Cert.Pre_finite_mix.fn_part2, Cert.Pre_finite_mix.fn_part3, Cert.Pre_finite_mix.fn_part4] at e
  simp only [andi] at e
  obtain ⟨e, e15⟩ := and_one _ _ e
  obtain ⟨e, e14⟩ := and_one _ _ e
  obtain ⟨e, e13⟩ := and_one _ _ e
  obtain ⟨e, e12⟩ := and_one _ _ e
  obtain ⟨e, e11⟩ := and_one _ _ e
  obtain ⟨e, e10⟩ := and_one _ _ e
  obtain ⟨e, e9⟩ := and_one _ _ e
  obtain ⟨e, e8⟩ := and_one _ _ e
  obtain ⟨e, e7⟩ := and_one _ _ e
  obtain ⟨e, e6⟩ := and_one _ _ e
  obtain ⟨e, e5⟩ := and_one _ _ e
  obtain ⟨e, e4⟩ := and_one _ _ e
  obtain ⟨e, e3⟩ := and_one _ _ e
  obtain ⟨e, e2⟩ := and_one _ _ e
  obtain ⟨e, e1⟩ := and_one _ _ e
  have one (a : Fin 1) : a = 0 := Subsingleton.elim _ _
  exact {
    x := fun a s k => by rw [one a]; exact all_real _ _ _ _ _ _ e _
    shm := fun a k => by rw [one a]; exact all_real _ _ _ _ _ _ e1 _
    scm := fun a k => by rw [one a]; exact all_real _ _ _ _ _ _ e2 _
    gm := fun a k => by rw [one a]; exact all_real _ _ _ _ _ _ e3 _
    shf := fun a k => by rw [one a]; exact all_real _ _ _ _ _ _ e4 _
    scf := fun a k => by rw [one a]; exact all_real _ _ _ _ _ _ e5 _
    pre := fun a k => by rw [one a]; exact all_real _ _ _ _ _ _ e6 _
    post := fun a k => by rw [one a]; exact all_real _ _ _ _ _ _ e7 _
    pref := fun a k => by rw [one a]; exact all_real _ _ _ _ _ _ e8 _
    wi := fun a k n => by rw [one a]; exact all_real _ _ _ _ _ _ e9 _
    sg := fun a h j => by rw [one a]; exact all_real _ _ _ _ _ _ e10 _
    ws := fun a h i j => by rw [one a]; exact all_real _ _ _ _ _ _ e11 _
    bs := fun a h i => by rw [one a]; exact all_real _ _ _ _ _ _ e12 _
    wp := fun a g i j => by rw [one a]; exact all_real _ _ _ _ _ _ e13 _
    ps := fun a k => by rw [one a]; exact all_real _ _ _ _ _ _ e14 _
    wo := fun a k n => by rw [one a]; exact all_real _ _ _ _ _ _ e15 _
  }

theorem agree {m' : (ℓ : Loc Cert.MixFwdRefIdeal.nD Cert.MixFwdRefIdeal.τ Cert.MixFwdRefIdeal.sig) → Buf (Elt Ideal) ℓ} (c : Dev Cert.MixFwdIdeal.nD)
    (A : Args) (G : Ker.Given m c A)
    (h0 : m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0))
    (h1 : m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1))
    (h2 : m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2))
    (h3 : m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3))
    (h4 : m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4))
    (h5 : m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5))
    (h6 : m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6))
    (h7 : m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7))
    (h8 : m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8))
    (h9 : m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9))
    (h10 : m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10))
    (h11 : m' ((c.tc : Thread Cert.MixFwdRefIdeal.nD Cert.MixFwdRefIdeal.τ).loc Cert.MixFwdRefIdeal.main_arg11) = m ((c.tc : Thread Cert.MixFwdIdeal.nD Cert.MixFwdIdeal.τ).loc Cert.MixFwdIdeal.main_arg11))
    (h12 : m' ((c.tc : Thread Cert.MixFwdRefIdeal.nD Cert.MixFwdRefIdeal.τ).loc Cert.MixFwdRefIdeal.main_arg12) = m ((c.tc : Thread Cert.MixFwdIdeal.nD Cert.MixFwdIdeal.τ).loc Cert.MixFwdIdeal.main_arg12))
    (h13 : m' ((c.tc : Thread Cert.MixFwdRefIdeal.nD Cert.MixFwdRefIdeal.τ).loc Cert.MixFwdRefIdeal.main_arg13) = m ((c.tc : Thread Cert.MixFwdIdeal.nD Cert.MixFwdIdeal.τ).loc Cert.MixFwdIdeal.main_arg13))
    (h14 : m' ((c.tc : Thread Cert.MixFwdRefIdeal.nD Cert.MixFwdRefIdeal.τ).loc Cert.MixFwdRefIdeal.main_arg14) = m ((c.tc : Thread Cert.MixFwdIdeal.nD Cert.MixFwdIdeal.τ).loc Cert.MixFwdIdeal.main_arg14))
    (h15 : m' ((c.tc : Thread Cert.MixFwdRefIdeal.nD Cert.MixFwdRefIdeal.τ).loc Cert.MixFwdRefIdeal.main_arg15) = m ((c.tc : Thread Cert.MixFwdIdeal.nD Cert.MixFwdIdeal.τ).loc Cert.MixFwdIdeal.main_arg15)) :
    Ref.Holds (StableHlo.launchContents m' c) A where
  x a s k := (congrFun h0 _).trans (G.x a s k)
  shm a k := (congrFun h1 _).trans (G.shm a k)
  scm a k := (congrFun h2 _).trans (G.scm a k)
  gm a k := (congrFun h3 _).trans (G.gm a k)
  shf a k := (congrFun h4 _).trans (G.shf a k)
  scf a k := (congrFun h5 _).trans (G.scf a k)
  pre a k := (congrFun h6 _).trans (G.pre a k)
  post a k := (congrFun h7 _).trans (G.post a k)
  pref a k := (congrFun h8 _).trans (G.pref a k)
  wi a k n := (congrFun h9 _).trans (G.wi a k n)
  sg a h j := (congrFun h10 _).trans (G.sg a h j)
  ws a h i j := (congrFun h11 _).trans (G.ws a h i j)
  bs a h i := (congrFun h12 _).trans (G.bs a h i)
  wp a g i j := (congrFun h13 _).trans (G.wp a g i j)
  ps a k := (congrFun h14 _).trans (G.ps a k)
  wo a k n := (congrFun h15 _).trans (G.wo a k n)

theorem eta {M N : ℕ} (y : (⟨2, ![M, N]⟩ : Shape).Idx) : y = ix2 (y 0 : Fin M) (y 1 : Fin N) := by
  funext a; fin_cases a <;> rfl

/-- The claim. -/
theorem value [Cert.MixFwdIdeal.Facts] [Cert.MixFwdRefIdeal.Facts] : Cert.algebraic_MixFwdIdeal_MixFwdRefIdeal_pre_finite_mix := by
  intro m ρ m' ρ' hpre hagree
  refine ⟨_, _, _, _, _, _, Cert.MixFwdIdeal.Value.run_blocks m ρ, ?_⟩
  refine (θ_run Cert.MixFwdRefIdeal.defs _ _).mono (fun r h c => ?_) (Cert.MixFwdRefIdeal.Value.run (F := Ideal) m' ρ')
  have G := given hpre c
  have H := Ker.filled G
  obtain ⟨a0, a1, a2, a3, a4, a5, a6, a7, a8, a9, a10, a11, a12, a13, a14, a15⟩ := hagree c
  have R := agree c _ G a0 a1 a2 a3 a4 a5 a6 a7 a8 a9 a10 a11 a12 a13 a14 a15
  obtain ⟨r0, r1, r2, r3, r4, r5, rest⟩ := h c
  refine ⟨r0.trans ?_, r1.trans ?_, r2.trans ?_, r3.trans ?_, r4.trans ?_, r5.trans ?_, rest⟩
  · refine Eq.trans ((Cert.MixFwdRefIdeal.Value.val5_main_v200 _).symm.trans (funext fun i => ?_)) (Ker.arr10 H).symm
    exact (congrArg _ (eta i)).trans (Ref.out200 R _ _)
  · refine Eq.trans ((Cert.MixFwdRefIdeal.Value.val5_main_v202 _).symm.trans (funext fun i => ?_)) (Ker.arr11 H).symm
    exact (congrArg _ (eta i)).trans (Ref.out202 R _ _)
  · refine Eq.trans ((Cert.MixFwdRefIdeal.Value.val5_main_v204 _).symm.trans (funext fun i => ?_)) (Ker.arr12 H).symm
    exact (congrArg _ (eta i)).trans (Ref.out204 R _ _)
  · refine Eq.trans ((Cert.MixFwdRefIdeal.Value.val5_main_v205 _).symm.trans (funext fun i => ?_)) (Ker.arr13 H).symm
    exact (congrArg _ (eta i)).trans (Ref.out205 R _ _)
  · refine Eq.trans ((Cert.MixFwdRefIdeal.Value.val5_main_v206 _).symm.trans (funext fun i => ?_)) (Ker.arr14 H).symm
    exact (congrArg _ (eta i)).trans (Ref.out206 R _ _)
  · refine Eq.trans ((Cert.MixFwdRefIdeal.Value.val5_main_v210 _).symm.trans (funext fun i => ?_)) (Ker.arr15 H).symm
    exact (congrArg _ (eta i)).trans (Ref.out210 R _ _)

end Mix

end
-- ==== Proof.Opt.lean ====
module

public import Idealize.ShloMosaic.PureOps.Ideal
public import Idealize.ShloMosaic.Lib.ValueIdx
public import Idealize.ShloMosaic.Lib.WritesUnit
public import Idealize.ShloMosaic.Lib.Pipeline.ValueKit

@[expose] public section

noncomputable section

/-! One entry of the activation and of the optimiser's step, and indices of the arrays it works on. -/

namespace Opt

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- The activation at an entry. -/
def silu (a : EReal) : EReal := a * Ideal.div 1 (1 + Ideal.exp (-a))

/-- The two moments' next values and the step, of one entry. -/
def next1 (a g : EReal) : EReal := FloatOps.addf (F := Ideal) (φ := .f32) (FloatOps.mulf (F := Ideal) (φ := .f32) (Scalar.ofBits (F := Ideal) .f32 0x3F666666#32) a) (FloatOps.mulf (F := Ideal) (φ := .f32) (Scalar.ofBits (F := Ideal) .f32 0x3DCCCCCD#32) g)
def next2 (a g : EReal) : EReal := FloatOps.addf (F := Ideal) (φ := .f32) (FloatOps.mulf (F := Ideal) (φ := .f32) (Scalar.ofBits (F := Ideal) .f32 0x3F7FBE77#32) a) (FloatOps.mulf (F := Ideal) (φ := .f32) (Scalar.ofBits (F := Ideal) .f32 0x3A83126F#32) (FloatOps.mulf (F := Ideal) (φ := .f32) g g))
def delta (a b w : EReal) : EReal := FloatOps.mulf (F := Ideal) (φ := .f32) (Scalar.ofBits (F := Ideal) .f32 0xBA83126F#32) (FloatOps.addf (F := Ideal) (φ := .f32) (FloatOps.divf (F := Ideal) (φ := .f32) (FloatOps.divf (F := Ideal) (φ := .f32) a (Scalar.ofBits (F := Ideal) .f32 0x3F26BD02#32))
  (FloatOps.addf (F := Ideal) (φ := .f32) (FloatOps.sqrt (F := Ideal) (φ := .f32) (FloatOps.divf (F := Ideal) (φ := .f32) b (Scalar.ofBits (F := Ideal) .f32 0x3C231ACC#32))) (Scalar.ofBits (F := Ideal) .f32 0x322BCC77#32)))
  (FloatOps.mulf (F := Ideal) (φ := .f32) (Scalar.ofBits (F := Ideal) .f32 0x3C23D70A#32) w))

theorem eta3 {M N : ℕ} (y : (⟨3, ![1, M, N]⟩ : Shape).Idx) : y = ix3 (0 : Fin 1) (y 1 : Fin M) (y 2 : Fin N) := by
  funext a; fin_cases a
  · exact Subsingleton.elim (α := Fin 1) _ _
  · rfl
  · rfl

end Opt

end
-- ==== Proof.ModValue.lean ====
module

public import proofs.«01_k».proof.Defs
public import proofs.«01_k».proof.Proof.Gen.ModIdeal.Value
public import proofs.«01_k».proof.Proof.Gen.ModRefIdeal.Run
public import proofs.«01_k».proof.Proof.Opt
public import Idealize.ShloMosaic.Lib.Claim
public import Idealize.ShloMosaic.Lib.StableHlo.ReadAt
public import Idealize.ShloMosaic.Lib.Pointwise
public import Idealize.ShloMosaic.Lib.Pipeline.ReadBack

@[expose] public section

set_option maxRecDepth 16384
set_option maxHeartbeats 2000000

noncomputable section

/-! The modulations: the kernel's two results are the reference's, on any arguments. -/

namespace Mod

open Idealize.ShloMosaic Idealize.ShloMosaic.TcCoe Idealize.SL.Sem
open Opt Cert.ModIdeal Cert.ModIdeal.Gen Cert.ModIdeal.Value
open Idealize.ShloMosaic.Pipeline (Dat)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

variable (m : (ℓ : Loc nD τ sig) → Buf (Elt Ideal) ℓ) (c : Dev nD)

/-- The three arguments, and the weights as the call reads them. -/
def x : FVec Ideal S8x1024 .f32 := m ((c.tc : Thread nD τ).loc main_arg0)
def w : FVec Ideal S1x1024x1536 .f32 := m ((c.tc : Thread nD τ).loc main_arg1)
def b : FVec Ideal S1x1536 .f32 := m ((c.tc : Thread nD τ).loc main_arg2)
def L1 : FVec Ideal S1024x1536 .f32 := V m c main_v0

theorem at1 (k : Fin 1024) (j : Fin 1536) : L1 m c (ix2 k j) = w m c (ix3 0 k j) := by
  unfold L1 V
  after_reads_at
  rfl

theorem blk0 (t : Fin cfg0.N) (p : Fin 8) (k : Fin 1024) : (iblk m c 0 t : FVec Ideal S8x1024 .f32) (ix2 p k) = x m c (ix2 p k) := by
  blk_simp [iblk]
  refine (congrFun (V_main_arg0 m c) _).trans (congrArg (x m c) ?_)
  blk_ext [idx0 t]
theorem blk1 (t : Fin cfg0.N) (k : Fin 1024) (j : Fin 1536) : (iblk m c 1 t : FVec Ideal S1024x1536 .f32) (ix2 k j) = L1 m c (ix2 k j) := by
  blk_simp [iblk]
  refine congrArg (L1 m c) ?_
  blk_ext [idx1 t]
theorem blk2 (t : Fin cfg0.N) (j : Fin 1536) : (iblk m c 2 t : FVec Ideal S1x1536 .f32) (ix2 0 j) = b m c (ix2 0 j) := by
  blk_simp [iblk]
  refine (congrFun (V_main_arg2 m c) _).trans (congrArg (b m c) ?_)
  blk_ext [idx2 t]

theorem act_at (X : Vec Ideal S8x1024 .f32) (i : S8x1024.Idx) : (k0_pay1 X i : EReal) = silu (X i) := by
  unfold k0_pay1 silu
  pointwise
  rw [zero_sub]

theorem prod_at (X : Vec Ideal S8x1024 .f32) (Y : Vec Ideal S1024x1536 .f32) (Z : Vec Ideal S1x1536 .f32) (i : S8x1536.Idx) :
    (k0_pay2 X Y Z i : EReal) = ∑ k : Fin 1024, silu (X (ix2 (i 0) k)) * Y (ix2 k (i 1)) + Z (ix2 0 (i 1)) := by
  unfold k0_pay2
  pointwise
  simp only [act_at]

/-- What the two arrays end holding. -/
def G3 (p : Fin 8) (j : Fin 1536) : EReal := ∑ k : Fin 1024, silu (x m c (ix2 p k)) * w m c (ix3 0 k j) + b m c (ix2 0 j)
def G4 (p : Fin 8) (k : Fin 1024) : EReal := silu (x m c (ix2 p k))

theorem arr3 : (dats m 0 c).arrAt 3 cfg0.N = fun i => G3 m c (i 0) (i 1) := by
  refine (dats m 0 c).arrAt_eq_of_covers 3 _ (by decide +kernel) fun t _ y => ?_
  blk_simp
  rw [after0_3]
  unfold outsAt0
  frame_out
  simp only [read_unread_whole]
  have e0 : (win0_3.blk t).view.emb y 0 = y 0 := Fin.ext (by blk_point [idx3 t])
  have e1 : (win0_3.blk t).view.emb y 1 = y 1 := Fin.ext (by blk_point [idx3 t])
  refine (prod_at _ _ _ y).trans (Eq.trans ?_ (congrArg₂ (G3 m c) e0.symm e1.symm))
  exact congrArg₂ (· + ·) (Finset.sum_congr rfl fun k _ => congrArg₂ (fun u v => silu u * v) (blk0 m c t (y 0) k) ((blk1 m c t k (y 1)).trans (at1 m c k (y 1)))) (blk2 m c t (y 1))

theorem arr4 : (dats m 0 c).arrAt 4 cfg0.N = fun i => G4 m c (i 0) (i 1) := by
  refine (dats m 0 c).arrAt_eq_of_covers 4 _ (by decide +kernel) fun t _ y => ?_
  blk_simp
  rw [after0_4]
  unfold outsAt0
  frame_out
  simp only [read_unread_whole]
  have e0 : (win0_4.blk t).view.emb y 0 = y 0 := Fin.ext (by blk_point [idx4 t])
  have e1 : (win0_4.blk t).view.emb y 1 = y 1 := Fin.ext (by blk_point [idx4 t])
  have ey : y = ix2 (y 0) (y 1) := by funext a; fin_cases a <;> rfl
  refine (act_at _ y).trans (Eq.trans (congrArg silu ?_) (congrArg₂ (G4 m c) e0.symm e1.symm))
  exact (congrArg _ ey).trans (blk0 m c t (y 0) (y 1))

/-! The reference's two terms, at an entry. -/

theorem refact_at (X : FVec Ideal S8x1024 .f32) (i : S8x1024.Idx) : ((mulf X (Host.divf (broadcastInDim Cert.ModRefIdeal.S8x1024 ![] Cert.ModRefIdeal.Gen.bcast_S_S8x1024 (constant Cert.ModRefIdeal.S_ .f32 0x3F800000#32)) (addf (broadcastInDim Cert.ModRefIdeal.S8x1024 ![] Cert.ModRefIdeal.Gen.bcast_S_S8x1024 (constant Cert.ModRefIdeal.S_ .f32 0x3F800000#32)) (Host.exp (Host.negf X))))) : FVec Ideal S8x1024 .f32) i = silu (X i) := by
  unfold silu
  pointwise

theorem ref_at (X : FVec Ideal S8x1024 .f32) (W : FVec Ideal S1x1024x1536 .f32) (B : FVec Ideal S1x1536 .f32) (i : S8x1536.Idx) :
    (addf (Host.dotGeneral (F := Ideal) Cert.ModRefIdeal.dot_S8x1024_S1024x1536_S8x1536_1_0_0_1_n_n none (mulf X (Host.divf (broadcastInDim Cert.ModRefIdeal.S8x1024 ![] Cert.ModRefIdeal.Gen.bcast_S_S8x1024 (constant Cert.ModRefIdeal.S_ .f32 0x3F800000#32)) (addf (broadcastInDim Cert.ModRefIdeal.S8x1024 ![] Cert.ModRefIdeal.Gen.bcast_S_S8x1024 (constant Cert.ModRefIdeal.S_ .f32 0x3F800000#32)) (Host.exp (Host.negf X))))) (shapeCast _ W Cert.ModRefIdeal.Gen.shapeCasts_S1x1024x1536_S1024x1536)) (broadcastInDim Cert.ModRefIdeal.S8x1536 ![0, 1] Cert.ModRefIdeal.Gen.bcast_S1x1536_S8x1536_0_1 (broadcastInDim Cert.ModRefIdeal.S1x1536 ![1] Cert.ModRefIdeal.Gen.bcast_S1536_S1x1536_1 (shapeCast _ B Cert.ModRefIdeal.Gen.shapeCasts_S1x1536_S1536))) : FVec Ideal S8x1536 .f32) i
      = ∑ k : Fin 1024, silu (X (ix2 (i 0) k)) * W (ix3 0 k (i 1)) + B (ix2 0 (i 1)) := by
  unfold silu
  pointwise

/-- The claim. -/
theorem value [Cert.ModIdeal.Facts] [Cert.ModRefIdeal.Facts] : Cert.algebraic_ModIdeal_ModRefIdeal := by
  intro m ρ m' ρ' _ hagree
  refine ⟨_, _, Cert.ModIdeal.Value.run_blocks m ρ, ?_⟩
  refine (θ_run Cert.ModRefIdeal.defs _ _).mono (fun r h c => ?_) (Cert.ModRefIdeal.Value.run (F := Ideal) m' ρ')
  obtain ⟨a0, a1, a2⟩ := hagree c
  obtain ⟨r0, r1, rest⟩ := h c
  rw [a0, a1, a2] at r0
  rw [a0] at r1
  refine ⟨r0.trans ((arr3 m c).trans (funext fun i => (ref_at (x m c) (w m c) (b m c) i).symm)).symm, r1.trans ((arr4 m c).trans (funext fun i => ?_)).symm, rest⟩
  exact (congrArg (fun j => silu (x m c j)) (show ix2 (i 0) (i 1) = i by funext a; fin_cases a <;> rfl)).trans (refact_at (x m c) i).symm

end Mod

end
-- ==== Proof.Runs.lean ====
module

public import Idealize.ShloMosaic.PureOps.Ideal

@[expose] public section

set_option maxRecDepth 16384
set_option maxHeartbeats 2000000

noncomputable section

/-! A long sum taken block by block. -/

namespace Runs

/-- The function, zero past its end. -/
def upto {N : ℕ} (f : Fin N → EReal) (k : ℕ) : EReal := if h : k < N then f ⟨k, h⟩ else 0

theorem upto_lt {N : ℕ} (f : Fin N → EReal) {k : ℕ} (h : k < N) : upto f k = f ⟨k, h⟩ := dif_pos h

theorem sum_blocks_nat (A B : ℕ) (f : ℕ → EReal) : ∑ s ∈ Finset.range A, ∑ q : Fin B, f (s * B + q.val) = ∑ k ∈ Finset.range (A * B), f k := by
  induction A with
  | zero => simp
  | succ n ih =>
    rw [Finset.sum_range_succ, ih, Nat.succ_mul, Finset.sum_range_add, Fin.sum_univ_eq_sum_range (fun q => f (n * B + q)) B]

/-- The blocks' sums add up to the whole sum. -/
theorem sum_blocks {A B N : ℕ} (hN : A * B = N) (f : Fin N → EReal) : ∑ s ∈ Finset.range A, ∑ q : Fin B, upto f (s * B + q.val) = ∑ k : Fin N, f k := by
  subst hN
  rw [sum_blocks_nat, ← Fin.sum_univ_eq_sum_range]
  exact Finset.sum_congr rfl fun k _ => upto_lt f k.isLt

end Runs

end
-- ==== Proof.WgradValue.lean ====
module

public import proofs.«01_k».proof.Defs
public import proofs.«01_k».proof.Proof.Gen.WgradIdeal.Value
public import proofs.«01_k».proof.Proof.Gen.WgradRefIdeal.Run
public import proofs.«01_k».proof.Proof.Runs
public import Idealize.ShloMosaic.Lib.Claim
public import Idealize.ShloMosaic.Lib.StableHlo.ReadAt
public import Idealize.ShloMosaic.Lib.Pointwise
public import Idealize.ShloMosaic.Lib.WritesUnit
public import Idealize.ShloMosaic.Lib.Pipeline.ValueKit

@[expose] public section

set_option maxRecDepth 16384
set_option maxHeartbeats 2000000

noncomputable section

/-! The gradient of w_up: the blocks' products, added along a column of the grid, are the reference's one product. -/

namespace Wgrad

open Idealize.ShloMosaic Idealize.ShloMosaic.TcCoe Idealize.SL.Sem
open Runs Cert.WgradIdeal Cert.WgradIdeal.Gen Cert.WgradIdeal.Value
open Idealize.ShloMosaic.Pipeline (Dat)

theorem idx0 : ∀ t : Fin cfg0.N, win0_0.index t = ![t.val % 4, 0] := (by decide +kernel : ∀ t : Fin grid0.N, _)
theorem idx1 : ∀ t : Fin cfg0.N, win0_1.index t = ![t.val % 4, t.val / 4] := (by decide +kernel : ∀ t : Fin grid0.N, _)

variable (m : (ℓ : Loc nD τ sig) → Buf (Elt Ideal) ℓ) (c : Dev nD)

/-- The two arguments, and the two arrays the call reads. -/
def h : FVec Ideal S1x8192x1024 .f32 := m ((c.tc : Thread nD τ).loc main_arg0)
def du : FVec Ideal S1x8192x5632 .f32 := m ((c.tc : Thread nD τ).loc main_arg1)
def L0 : FVec Ideal S8192x1024 .bf16 := V m c main_v1
def L1 : FVec Ideal S8192x5632 .bf16 := V m c main_v3

theorem at0 (s : Fin 8192) (k : Fin 1024) : L0 m c (ix2 s k) = h m c (ix3 0 s k) := by
  unfold L0 V
  after_reads_at
  rfl

theorem at1 (s : Fin 8192) (k : Fin 5632) : L1 m c (ix2 s k) = du m c (ix3 0 s k) := by
  unfold L1 V
  after_reads_at
  rfl

theorem blk0 (t : Fin cfg0.N) (q : Fin 2048) (k : Fin 1024) : (iblk m c 0 t : FVec Ideal S2048x1024 .bf16) (ix2 q k) = L0 m c (ix2 ⟨t.val % 4 * 2048 + q.val, by omega⟩ k) := by
  blk_simp [iblk]
  refine congrArg (L0 m c) ?_
  blk_ext [idx0 t]

theorem blk1 (t : Fin cfg0.N) (q : Fin 2048) (k : Fin 2816) :
    (iblk m c 1 t : FVec Ideal S2048x2816 .bf16) (ix2 q k) = L1 m c (ix2 ⟨t.val % 4 * 2048 + q.val, by omega⟩ ⟨t.val / 4 * 2816 + k.val, by have : t.val < 8 := t.isLt; omega⟩) := by
  blk_simp [iblk]
  refine congrArg (L1 m c) ?_
  blk_ext [idx1 t]

theorem pay_at (acc : Vec Ideal S1024x2816 .f32) (X : Vec Ideal S2048x1024 .bf16) (Y : Vec Ideal S2048x2816 .bf16) (i : S1024x2816.Idx) :
    k0_pay2 acc X Y i = (acc i : EReal) + ∑ q : Fin 2048, (X (ix2 q (i 0)) : EReal) * Y (ix2 q (i 1)) := by
  unfold k0_pay2
  pointwise

theorem zero_at (i : S1024x2816.Idx) : (k0_pay1 (F := Ideal) i : EReal) = 0 := by
  unfold k0_pay1
  pointwise

/-- One row's part of an entry. -/
def part (a : Fin 1024) (b : Fin 5632) (k : Fin 8192) : EReal := L0 m c (ix2 k a) * L1 m c (ix2 k b)

/-- What a point adds. -/
theorem add_at (r : Fin 2) (n : ℕ) (hn : n < cfg0.N) (h0 : 4 * r.val ≤ n) (h1 : n ≤ 4 * r.val + 3) (acc : Vec Ideal S1024x2816 .f32) (i : S1024x2816.Idx) :
    k0_pay2 acc (iblk m c 0 ⟨n, hn⟩) (iblk m c 1 ⟨n, hn⟩) i
      = (acc i : EReal) + ∑ q : Fin 2048, upto (part m c (i 0) ⟨r.val * 2816 + (i 1).val, by have : (i 1).val < 2816 := (i 1).isLt; omega⟩) ((n - 4 * r.val) * 2048 + q.val) := by
  refine (pay_at _ _ _ i).trans (congrArg _ (Finset.sum_congr rfl fun q _ => ?_))
  rw [upto_lt _ (show (n - 4 * r.val) * 2048 + q.val < 8192 by omega)]
  refine congrArg₂ (· * ·) ((blk0 m c ⟨n, hn⟩ q (i 0)).trans (congrArg (fun k => L0 m c (ix2 k (i 0))) (Fin.ext ?_)))
    ((blk1 m c ⟨n, hn⟩ q (i 1)).trans (congrArg₂ (fun k j => L1 m c (ix2 k j)) (Fin.ext ?_) (Fin.ext ?_)))
  · show n % 4 * 2048 + q.val = (n - 4 * r.val) * 2048 + q.val; omega
  · show n % 4 * 2048 + q.val = (n - 4 * r.val) * 2048 + q.val; omega
  · show n / 4 * 2816 + (i 1).val = r.val * 2816 + (i 1).val; omega

theorem fold_at (r : Fin 2) (hr : 4 * r.val + 3 < cfg0.N) (i : S1024x2816.Idx) :
    (Pipeline.accAt (reset2 m c) (step2 m c) (4 * r.val) 3 hr i : EReal)
      = ∑ k : Fin 8192, part m c (i 0) ⟨r.val * 2816 + (i 1).val, by have : (i 1).val < 2816 := (i 1).isLt; omega⟩ k := by
  refine (Pipeline.accAt_add_apply (β := EReal) (reset2 m c) (step2 m c) (fun _ => 0)
    (fun n i => ∑ q : Fin 2048, upto (part m c (i 0) ⟨r.val * 2816 + (i 1).val, by have : (i 1).val < 2816 := (i 1).isLt; omega⟩) ((n - 4 * r.val) * 2048 + q.val))
    (4 * r.val) 3 (fun h i => (add_at m c r _ h (le_refl _) (by omega) _ i).trans (congrArg (· + _) (zero_at i)))
    (fun n h acc i h0 h1 => add_at m c r n h (by omega) (by omega) acc i) 3 (le_refl _) hr i).trans ?_
  rw [zero_add]
  simp only [Nat.add_sub_cancel_left]
  exact sum_blocks (A := 4) (B := 2048) (by norm_num) _

/-- The whole array. -/
theorem whole_at (i : S1024x5632.Idx) : (G2 m c i : EReal) = ∑ k : Fin 8192, part m c (i 0) (i 1) k := by
  have h0 : (i 0).val < 1024 := (i 0).isLt
  have h1 : (i 1).val < 5632 := (i 1).isLt
  have hr : run2Of i = (i 1).val / 2816 := by show 2 * ((i 0).val / 1024 - 0) + 1 * ((i 1).val / 2816 - 0) = _; omega
  have hb : 4 * run2Of i + 3 < cfg0.N := lt_of_lt_of_eq (show 4 * run2Of i + 3 < 8 by rw [hr]; omega) N_0.symm
  have key : ∀ (R : ℕ) (hR : R < 2) (h : 4 * R + 3 < cfg0.N), (Pipeline.accAt (reset2 m c) (step2 m c) (4 * R) 3 h (loc2Of i) : EReal)
      = ∑ k : Fin 8192, part m c (loc2Of i 0) ⟨R * 2816 + (loc2Of i 1).val, by have : (loc2Of i 1).val < 2816 := (loc2Of i 1).isLt; omega⟩ k :=
    fun R hR h => fold_at m c ⟨R, hR⟩ h (loc2Of i)
  refine (dif_pos hb).trans ((key (run2Of i) (by omega) hb).trans (Finset.sum_congr rfl fun k _ => ?_))
  refine congrArg₂ (fun a b => part m c a b k) (Fin.ext ?_) (Fin.ext ?_)
  · show (i 0).val % 1024 = (i 0).val; omega
  · show run2Of i * 2816 + (i 1).val % 2816 = (i 1).val; omega

theorem ref_at (X : FVec Ideal S1x8192x1024 .f32) (Y : FVec Ideal S1x8192x5632 .f32) (i : S1024x5632.Idx) :
    (transpose Cert.WgradRefIdeal.S1024x5632 [1, 0] (Host.dotGeneral (F := Ideal) Cert.WgradRefIdeal.dot_S1x8192x5632_S1x8192x1024_S5632x1024_01_01_2_2_n_n none Y X) Cert.WgradRefIdeal.Gen.transposes_S5632x1024_S1024x5632_1_0 : FVec Ideal S1024x5632 .f32) i
      = ∑ k : Fin 8192, (X (ix3 0 k (i 0)) : EReal) * Y (ix3 0 k (i 1)) := by
  pointwise
  exact (Fin.sum_univ_one _).trans (Finset.sum_congr rfl fun k _ => mul_comm _ _)

/-- The claim. -/
theorem value [Cert.WgradIdeal.Facts] [Cert.WgradRefIdeal.Facts] : Cert.algebraic_WgradIdeal_WgradRefIdeal := by
  intro m ρ m' ρ' _ hagree
  refine ⟨_, Cert.WgradIdeal.Value.run m ρ, ?_⟩
  refine (θ_run Cert.WgradRefIdeal.defs _ _).mono (fun r h c => ?_) (Cert.WgradRefIdeal.Value.run (F := Ideal) m' ρ')
  obtain ⟨a0, a1⟩ := hagree c
  obtain ⟨r0, rest⟩ := h c
  rw [a0, a1] at r0
  refine ⟨r0.trans (funext fun i => ?_), rest⟩
  exact (ref_at (Wgrad.h m c) (du m c) i).trans (Eq.trans (Finset.sum_congr rfl fun k _ => (congrArg₂ (· * ·) (at0 m c k (i 0)) (at1 m c k (i 1))).symm) (whole_at m c i).symm)

end Wgrad

end
-- ==== Proof.PairValue.lean ====
module

public import proofs.«01_k».proof.Defs
public import proofs.«01_k».proof.Proof.Gen.PairIdeal.Value
public import proofs.«01_k».proof.Proof.Gen.PairRefIdeal.Run
public import proofs.«01_k».proof.Proof.Runs
public import Idealize.ShloMosaic.Lib.Claim
public import Idealize.ShloMosaic.Lib.StableHlo.ReadAt
public import Idealize.ShloMosaic.Lib.Pointwise
public import Idealize.ShloMosaic.Lib.WritesUnit
public import Idealize.ShloMosaic.Lib.Pipeline.ValueKit

@[expose] public section

set_option maxRecDepth 16384
set_option maxHeartbeats 2000000

noncomputable section

/-! The gradients of w_out and w_in: each is the blocks' products added along the grid, which is the reference's one product. -/

namespace Pair

open Idealize.ShloMosaic Idealize.ShloMosaic.TcCoe Idealize.SL.Sem
open Runs Cert.PairIdeal Cert.PairIdeal.Gen Cert.PairIdeal.Value
open Idealize.ShloMosaic.Pipeline (Dat)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

variable (m : (ℓ : Loc nD τ sig) → Buf (Elt Ideal) ℓ) (c : Dev nD)

/-- The four arguments, and the four arrays the call reads. -/
def b0 : FVec Ideal S1x8192x1024 .f32 := m ((c.tc : Thread nD τ).loc main_arg0)
def b1 : FVec Ideal S1x8192x1024 .f32 := m ((c.tc : Thread nD τ).loc main_arg1)
def b2 : FVec Ideal S1x8192x1024 .f32 := m ((c.tc : Thread nD τ).loc main_arg2)
def b3 : FVec Ideal S1x8192x1536 .f32 := m ((c.tc : Thread nD τ).loc main_arg3)
def L0 : FVec Ideal S8192x1024 .bf16 := V m c main_v1
def L1 : FVec Ideal S8192x1024 .bf16 := V m c main_v3
def L2 : FVec Ideal S8192x1024 .bf16 := V m c main_v5
def L3 : FVec Ideal S8192x1536 .bf16 := V m c main_v7

theorem at0 (s : Fin 8192) (k : Fin 1024) : L0 m c (ix2 s k) = b0 m c (ix3 0 s k) := by
  unfold L0 V
  after_reads_at
  rfl

theorem blk0 (t : Fin cfg0.N) (q : Fin 1024) (k : Fin 1024) : (iblk m c 0 t : FVec Ideal S1024x1024 .bf16) (ix2 q k) = L0 m c (ix2 ⟨t.val * 1024 + q.val, by have : t.val < 8 := t.isLt; omega⟩ k) := by
  blk_simp [iblk]
  refine congrArg (L0 m c) ?_
  blk_ext [idx0 t]

theorem at1 (s : Fin 8192) (k : Fin 1024) : L1 m c (ix2 s k) = b1 m c (ix3 0 s k) := by
  unfold L1 V
  after_reads_at
  rfl

theorem blk1 (t : Fin cfg0.N) (q : Fin 1024) (k : Fin 1024) : (iblk m c 1 t : FVec Ideal S1024x1024 .bf16) (ix2 q k) = L1 m c (ix2 ⟨t.val * 1024 + q.val, by have : t.val < 8 := t.isLt; omega⟩ k) := by
  blk_simp [iblk]
  refine congrArg (L1 m c) ?_
  blk_ext [idx1 t]

theorem at2 (s : Fin 8192) (k : Fin 1024) : L2 m c (ix2 s k) = b2 m c (ix3 0 s k) := by
  unfold L2 V
  after_reads_at
  rfl

theorem blk2 (t : Fin cfg0.N) (q : Fin 1024) (k : Fin 1024) : (iblk m c 2 t : FVec Ideal S1024x1024 .bf16) (ix2 q k) = L2 m c (ix2 ⟨t.val * 1024 + q.val, by have : t.val < 8 := t.isLt; omega⟩ k) := by
  blk_simp [iblk]
  refine congrArg (L2 m c) ?_
  blk_ext [idx2 t]

theorem at3 (s : Fin 8192) (k : Fin 1536) : L3 m c (ix2 s k) = b3 m c (ix3 0 s k) := by
  unfold L3 V
  after_reads_at
  rfl

theorem blk3 (t : Fin cfg0.N) (q : Fin 1024) (k : Fin 1536) : (iblk m c 3 t : FVec Ideal S1024x1536 .bf16) (ix2 q k) = L3 m c (ix2 ⟨t.val * 1024 + q.val, by have : t.val < 8 := t.isLt; omega⟩ k) := by
  blk_simp [iblk]
  refine congrArg (L3 m c) ?_
  blk_ext [idx3 t]

/-! Result 0. -/

theorem pay5_at (acc : Vec Ideal S1024x1024 .f32) (X : Vec Ideal S1024x1024 .bf16) (Y : Vec Ideal S1024x1024 .bf16) (i : S1024x1024.Idx) :
    k0_pay3 acc X Y i = (acc i : EReal) + ∑ q : Fin 1024, (X (ix2 q (i 0)) : EReal) * Y (ix2 q (i 1)) := by
  unfold k0_pay3
  pointwise

theorem zero5_at (i : S1024x1024.Idx) : (k0_pay1 (F := Ideal) i : EReal) = 0 := by
  unfold k0_pay1
  pointwise

/-- One row's part of an entry. -/
def part5 (a : Fin 1024) (b : Fin 1024) (k : Fin 8192) : EReal := L0 m c (ix2 k a) * L1 m c (ix2 k b)

/-- What a point adds. -/
theorem add5_at (n : ℕ) (hn : n < cfg0.N) (acc : Vec Ideal S1024x1024 .f32) (i : S1024x1024.Idx) :
    k0_pay3 acc (iblk m c 0 ⟨n, hn⟩) (iblk m c 1 ⟨n, hn⟩) i = (acc i : EReal) + ∑ q : Fin 1024, upto (part5 m c (i 0) (i 1)) (n * 1024 + q.val) := by
  have h8 : n < 8 := hn
  refine (pay5_at _ _ _ i).trans (congrArg _ (Finset.sum_congr rfl fun q _ => ?_))
  rw [upto_lt _ (show n * 1024 + q.val < 8192 by omega)]
  exact congrArg₂ (· * ·) (blk0 m c ⟨n, hn⟩ q (i 0)) (blk1 m c ⟨n, hn⟩ q (i 1))

theorem fold5_at (h : 0 + 7 < cfg0.N) (i : S1024x1024.Idx) :
    (Pipeline.accAt (reset5 m c) (step5 m c) 0 7 h i : EReal) = ∑ k : Fin 8192, part5 m c (i 0) (i 1) k := by
  refine (Pipeline.accAt_add_apply (β := EReal) (reset5 m c) (step5 m c) (fun _ => 0)
    (fun n i => ∑ q : Fin 1024, upto (part5 m c (i 0) (i 1)) (n * 1024 + q.val))
    0 7 (fun h i => (add5_at m c _ h _ i).trans (congrArg (· + _) (zero5_at i)))
    (fun n h acc i _ _ => add5_at m c n h acc i) 7 (le_refl _) h i).trans ?_
  rw [zero_add]
  simp only [Nat.zero_add]
  exact sum_blocks (A := 8) (B := 1024) (by norm_num) _

/-- The whole array. -/
theorem whole5_at (i : S1024x1024.Idx) : (G5 m c i : EReal) = ∑ k : Fin 8192, part5 m c (i 0) (i 1) k := by
  have h0 : (i 0).val < 1024 := (i 0).isLt
  have h1 : (i 1).val < 1024 := (i 1).isLt
  have hr : 8 * run5Of i = 0 := by show 8 * (1 * ((i 0).val / 1024 - 0) + 1 * ((i 1).val / 1024 - 0)) = _; omega
  have hb : 8 * run5Of i + 7 < cfg0.N := lt_of_lt_of_eq (show 8 * run5Of i + 7 < 8 by rw [hr]; omega) N_0.symm
  have key : ∀ (R : ℕ) (hR : R = 0) (h : R + 7 < cfg0.N), (Pipeline.accAt (reset5 m c) (step5 m c) R 7 h (loc5Of i) : EReal)
      = ∑ k : Fin 8192, part5 m c (loc5Of i 0) (loc5Of i 1) k := fun R hR h => by subst hR; exact fold5_at m c h (loc5Of i)
  refine (dif_pos hb).trans ((key (8 * run5Of i) hr hb).trans (Finset.sum_congr rfl fun k _ => ?_))
  refine congrArg₂ (fun a b => part5 m c a b k) (Fin.ext ?_) (Fin.ext ?_)
  · show (i 0).val % 1024 = (i 0).val; omega
  · show (i 1).val % 1024 = (i 1).val; omega

theorem ref5_at (X : FVec Ideal S1x8192x1024 .f32) (Y : FVec Ideal S1x8192x1024 .f32) (i : S1024x1024.Idx) :
    (transpose Cert.PairRefIdeal.S1024x1024 [1, 0] (Host.dotGeneral (F := Ideal) Cert.PairRefIdeal.dot_S1x8192x1024_S1x8192x1024_S1024x1024_01_01_2_2_n_n none Y X) Cert.PairRefIdeal.Gen.transposes_S1024x1024_S1024x1024_1_0 : FVec Ideal S1024x1024 .f32) i
      = ∑ k : Fin 8192, (X (ix3 0 k (i 0)) : EReal) * Y (ix3 0 k (i 1)) := by
  pointwise
  exact (Fin.sum_univ_one _).trans (Finset.sum_congr rfl fun k _ => mul_comm _ _)

/-! Result 1. -/

theorem pay6_at (acc : Vec Ideal S1024x1536 .f32) (X : Vec Ideal S1024x1024 .bf16) (Y : Vec Ideal S1024x1536 .bf16) (i : S1024x1536.Idx) :
    k0_pay4 acc X Y i = (acc i : EReal) + ∑ q : Fin 1024, (X (ix2 q (i 0)) : EReal) * Y (ix2 q (i 1)) := by
  unfold k0_pay4
  pointwise

theorem zero6_at (i : S1024x1536.Idx) : (k0_pay2 (F := Ideal) i : EReal) = 0 := by
  unfold k0_pay2
  pointwise

/-- One row's part of an entry. -/
def part6 (a : Fin 1024) (b : Fin 1536) (k : Fin 8192) : EReal := L2 m c (ix2 k a) * L3 m c (ix2 k b)

/-- What a point adds. -/
theorem add6_at (n : ℕ) (hn : n < cfg0.N) (acc : Vec Ideal S1024x1536 .f32) (i : S1024x1536.Idx) :
    k0_pay4 acc (iblk m c 2 ⟨n, hn⟩) (iblk m c 3 ⟨n, hn⟩) i = (acc i : EReal) + ∑ q : Fin 1024, upto (part6 m c (i 0) (i 1)) (n * 1024 + q.val) := by
  have h8 : n < 8 := hn
  refine (pay6_at _ _ _ i).trans (congrArg _ (Finset.sum_congr rfl fun q _ => ?_))
  rw [upto_lt _ (show n * 1024 + q.val < 8192 by omega)]
  exact congrArg₂ (· * ·) (blk2 m c ⟨n, hn⟩ q (i 0)) (blk3 m c ⟨n, hn⟩ q (i 1))

theorem fold6_at (h : 0 + 7 < cfg0.N) (i : S1024x1536.Idx) :
    (Pipeline.accAt (reset6 m c) (step6 m c) 0 7 h i : EReal) = ∑ k : Fin 8192, part6 m c (i 0) (i 1) k := by
  refine (Pipeline.accAt_add_apply (β := EReal) (reset6 m c) (step6 m c) (fun _ => 0)
    (fun n i => ∑ q : Fin 1024, upto (part6 m c (i 0) (i 1)) (n * 1024 + q.val))
    0 7 (fun h i => (add6_at m c _ h _ i).trans (congrArg (· + _) (zero6_at i)))
    (fun n h acc i _ _ => add6_at m c n h acc i) 7 (le_refl _) h i).trans ?_
  rw [zero_add]
  simp only [Nat.zero_add]
  exact sum_blocks (A := 8) (B := 1024) (by norm_num) _

/-- The whole array. -/
theorem whole6_at (i : S1024x1536.Idx) : (G6 m c i : EReal) = ∑ k : Fin 8192, part6 m c (i 0) (i 1) k := by
  have h0 : (i 0).val < 1024 := (i 0).isLt
  have h1 : (i 1).val < 1536 := (i 1).isLt
  have hr : 8 * run6Of i = 0 := by show 8 * (1 * ((i 0).val / 1024 - 0) + 1 * ((i 1).val / 1536 - 0)) = _; omega
  have hb : 8 * run6Of i + 7 < cfg0.N := lt_of_lt_of_eq (show 8 * run6Of i + 7 < 8 by rw [hr]; omega) N_0.symm
  have key : ∀ (R : ℕ) (hR : R = 0) (h : R + 7 < cfg0.N), (Pipeline.accAt (reset6 m c) (step6 m c) R 7 h (loc6Of i) : EReal)
      = ∑ k : Fin 8192, part6 m c (loc6Of i 0) (loc6Of i 1) k := fun R hR h => by subst hR; exact fold6_at m c h (loc6Of i)
  refine (dif_pos hb).trans ((key (8 * run6Of i) hr hb).trans (Finset.sum_congr rfl fun k _ => ?_))
  refine congrArg₂ (fun a b => part6 m c a b k) (Fin.ext ?_) (Fin.ext ?_)
  · show (i 0).val % 1024 = (i 0).val; omega
  · show (i 1).val % 1536 = (i 1).val; omega

theorem ref6_at (X : FVec Ideal S1x8192x1024 .f32) (Y : FVec Ideal S1x8192x1536 .f32) (i : S1024x1536.Idx) :
    (transpose Cert.PairRefIdeal.S1024x1536 [1, 0] (Host.dotGeneral (F := Ideal) Cert.PairRefIdeal.dot_S1x8192x1536_S1x8192x1024_S1536x1024_01_01_2_2_n_n none Y X) Cert.PairRefIdeal.Gen.transposes_S1536x1024_S1024x1536_1_0 : FVec Ideal S1024x1536 .f32) i
      = ∑ k : Fin 8192, (X (ix3 0 k (i 0)) : EReal) * Y (ix3 0 k (i 1)) := by
  pointwise
  exact (Fin.sum_univ_one _).trans (Finset.sum_congr rfl fun k _ => mul_comm _ _)

/-- The claim. -/
theorem value [Cert.PairIdeal.Facts] [Cert.PairRefIdeal.Facts] : Cert.algebraic_PairIdeal_PairRefIdeal := by
  intro m ρ m' ρ' _ hagree
  refine ⟨_, _, Cert.PairIdeal.Value.run m ρ, ?_⟩
  refine (θ_run Cert.PairRefIdeal.defs _ _).mono (fun r h c => ?_) (Cert.PairRefIdeal.Value.run (F := Ideal) m' ρ')
  obtain ⟨a0, a1, a2, a3⟩ := hagree c
  obtain ⟨r0, r1, rest⟩ := h c
  rw [a0, a1] at r0
  rw [a2, a3] at r1
  refine ⟨r0.trans (funext fun i => ?_), r1.trans (funext fun i => ?_), rest⟩
  · exact (ref5_at (b0 m c) (b1 m c) i).trans (Eq.trans (Finset.sum_congr rfl fun k _ => (congrArg₂ (· * ·) (at0 m c k (i 0)) (at1 m c k (i 1))).symm) (whole5_at m c i).symm)
  · exact (ref6_at (b2 m c) (b3 m c) i).trans (Eq.trans (Finset.sum_congr rfl fun k _ => (congrArg₂ (· * ·) (at2 m c k (i 0)) (at3 m c k (i 1))).symm) (whole6_at m c i).symm)

end Pair

end
-- ==== Proof.AdamValue.lean ====
module

public import proofs.«01_k».proof.Defs
public import proofs.«01_k».proof.Proof.Gen.AdamIdeal.Value
public import proofs.«01_k».proof.Proof.Gen.AdamRefIdeal.Run
public import proofs.«01_k».proof.Proof.Opt

@[expose] public section

set_option maxRecDepth 16384
set_option maxHeartbeats 2000000

noncomputable section

/-! The optimiser's step on w_up: the kernel's four results are the reference's, on any arguments. -/

namespace Adam

open Idealize.ShloMosaic Idealize.ShloMosaic.TcCoe Idealize.SL.Sem
open Opt Cert.AdamIdeal Cert.AdamIdeal.Gen Cert.AdamIdeal.Value
open Idealize.ShloMosaic.Pipeline (Dat)

theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)

/-- A row of a block, in the whole array. -/
def row (t : Fin cfg0.N) (p : Fin 256) : Fin 1024 := ⟨t.val * 256 + p.val, by have : t.val < 4 := t.isLt; omega⟩

variable (m : (ℓ : Loc nD τ sig) → Buf (Elt Ideal) ℓ) (c : Dev nD)

/-- The four arguments. -/
def g : FVec Ideal S1024x1408 .f32 := m ((c.tc : Thread nD τ).loc main_arg0)
def w : FVec Ideal S1x1024x1408 .f32 := m ((c.tc : Thread nD τ).loc main_arg1)
def m1 : FVec Ideal S1x1024x1408 .f32 := m ((c.tc : Thread nD τ).loc main_arg2)
def m2 : FVec Ideal S1x1024x1408 .f32 := m ((c.tc : Thread nD τ).loc main_arg3)

theorem blk0 (t : Fin cfg0.N) (p : Fin 256) (k : Fin 1408) : (iblk m c 0 t : FVec Ideal S256x1408 .f32) (ix2 p k) = g m c (ix2 (row t p) k) := by
  blk_simp [iblk]
  refine congrArg (g m c) ?_
  blk_ext [idx0 t, row]
theorem blk1 (t : Fin cfg0.N) (p : Fin 256) (k : Fin 1408) : (iblk m c 1 t : FVec Ideal S1x256x1408 .f32) (ix3 0 p k) = w m c (ix3 0 (row t p) k) := by
  blk_simp [iblk]
  refine congrArg (w m c) ?_
  blk_ext [idx1 t, row]
theorem blk2 (t : Fin cfg0.N) (p : Fin 256) (k : Fin 1408) : (iblk m c 2 t : FVec Ideal S1x256x1408 .f32) (ix3 0 p k) = m1 m c (ix3 0 (row t p) k) := by
  blk_simp [iblk]
  refine congrArg (m1 m c) ?_
  blk_ext [idx2 t, row]
theorem blk3 (t : Fin cfg0.N) (p : Fin 256) (k : Fin 1408) : (iblk m c 3 t : FVec Ideal S1x256x1408 .f32) (ix3 0 p k) = m2 m c (ix3 0 (row t p) k) := by
  blk_simp [iblk]
  refine congrArg (m2 m c) ?_
  blk_ext [idx3 t, row]

/-- What the four arrays end holding at row `s` and column `k`. -/
def G4 (s : Fin 1024) (k : Fin 1408) : EReal := g m c (ix2 s k)
def G6 (s : Fin 1024) (k : Fin 1408) : EReal := next1 (m1 m c (ix3 0 s k)) (g m c (ix2 s k))
def G7 (s : Fin 1024) (k : Fin 1408) : EReal := next2 (m2 m c (ix3 0 s k)) (g m c (ix2 s k))
def G5 (s : Fin 1024) (k : Fin 1408) : EReal := delta (G6 m c s k) (G7 m c s k) (w m c (ix3 0 s k))

theorem point4 (t : Fin cfg0.N) (p : Fin 256) (k : Fin 1408) : out0_4 (iblk m c 0 t) (iblk m c 1 t) (iblk m c 2 t) (iblk m c 3 t) (ix3 0 p k) = G4 m c (row t p) k := by
  unfold out0_4
  rw [View.ld_unit_zero (S := S256x1408) hz2]
  refine (canon4_eq _ _).trans (Eq.trans ?_ (blk0 m c t p k))
  exact congrArg (iblk m c 0 t : FVec Ideal S256x1408 .f32) (by funext a; fin_cases a <;> rfl)

theorem point6 (t : Fin cfg0.N) (p : Fin 256) (k : Fin 1408) : out0_6 (iblk m c 0 t) (iblk m c 1 t) (iblk m c 2 t) (iblk m c 3 t) (ix3 0 p k) = G6 m c (row t p) k := by
  unfold out0_6 G6
  rw [View.ld_unit_zero (S := S256x1408) hz2, View.ld_unit_zero (S := S1x256x1408) hz3, ← blk0, ← blk2]
  refine (canon6_eq _ _ _).trans ?_
  exact congrArg₂ next1 (congrArg _ (by funext a; fin_cases a <;> rfl)) (congrArg _ (by funext a; fin_cases a <;> rfl))

theorem point7 (t : Fin cfg0.N) (p : Fin 256) (k : Fin 1408) : out0_7 (iblk m c 0 t) (iblk m c 1 t) (iblk m c 2 t) (iblk m c 3 t) (ix3 0 p k) = G7 m c (row t p) k := by
  unfold out0_7 G7
  rw [View.ld_unit_zero (S := S256x1408) hz2, View.ld_unit_zero (S := S1x256x1408) hz3, ← blk0, ← blk3]
  refine (canon7_eq _ _ _).trans ?_
  exact congrArg₂ next2 (congrArg _ (by funext a; fin_cases a <;> rfl)) (congrArg _ (by funext a; fin_cases a <;> rfl))

theorem point5 (t : Fin cfg0.N) (p : Fin 256) (k : Fin 1408) : out0_5 (iblk m c 0 t) (iblk m c 1 t) (iblk m c 2 t) (iblk m c 3 t) (ix3 0 p k) = G5 m c (row t p) k := by
  unfold out0_5 G5 G6 G7
  rw [View.ld_unit_zero (S := S256x1408) hz2]
  simp only [View.ld_unit_zero (S := S1x256x1408) hz3]
  rw [← blk0, ← blk1, ← blk2, ← blk3]
  refine (canon5_eq _ _ _ _ _).trans ?_
  have f5 : ix5_0 (ix3 0 p k) = ix3 0 p k := by funext a; fin_cases a <;> rfl
  have f6 : ix5_1 (ix3 0 p k) = ix2 p k := by funext a; fin_cases a <;> rfl
  show delta (next1 ((iblk m c 2 t : FVec Ideal S1x256x1408 .f32) (ix5_0 (ix3 0 p k))) ((iblk m c 0 t : FVec Ideal S256x1408 .f32) (ix5_1 (ix3 0 p k))))
    (next2 ((iblk m c 3 t : FVec Ideal S1x256x1408 .f32) (ix5_0 (ix3 0 p k))) ((iblk m c 0 t : FVec Ideal S256x1408 .f32) (ix5_1 (ix3 0 p k))))
    ((iblk m c 1 t : FVec Ideal S1x256x1408 .f32) (ix5_0 (ix3 0 p k))) = _
  rw [f5, f6]

theorem arr4 : (dats m 0 c).arrAt 4 cfg0.N = fun i => G4 m c (i 1) (i 2) := by
  refine (dats m 0 c).arrAt_eq_of_covers 4 _ (by decide +kernel) fun t _ y => ?_
  blk_simp
  rw [after0_4]
  have e1 : (win0_4.blk t).view.emb y 1 = row t (y 1) := Fin.ext (by blk_point [idx4 t, row])
  have e2 : (win0_4.blk t).view.emb y 2 = y 2 := Fin.ext (by blk_point [idx4 t])
  exact (congrArg _ (eta3 y)).trans ((point4 m c t (y 1) (y 2)).trans (congrArg₂ (G4 m c) e1.symm e2.symm))

theorem arr5 : (dats m 0 c).arrAt 5 cfg0.N = fun i => G5 m c (i 1) (i 2) := by
  refine (dats m 0 c).arrAt_eq_of_covers 5 _ (by decide +kernel) fun t _ y => ?_
  blk_simp
  rw [after0_5]
  have e1 : (win0_5.blk t).view.emb y 1 = row t (y 1) := Fin.ext (by blk_point [idx5 t, row])
  have e2 : (win0_5.blk t).view.emb y 2 = y 2 := Fin.ext (by blk_point [idx5 t])
  exact (congrArg _ (eta3 y)).trans ((point5 m c t (y 1) (y 2)).trans (congrArg₂ (G5 m c) e1.symm e2.symm))

theorem arr6 : (dats m 0 c).arrAt 6 cfg0.N = fun i => G6 m c (i 1) (i 2) := by
  refine (dats m 0 c).arrAt_eq_of_covers 6 _ (by decide +kernel) fun t _ y => ?_
  blk_simp
  rw [after0_6]
  have e1 : (win0_6.blk t).view.emb y 1 = row t (y 1) := Fin.ext (by blk_point [idx6 t, row])
  have e2 : (win0_6.blk t).view.emb y 2 = y 2 := Fin.ext (by blk_point [idx6 t])
  exact (congrArg _ (eta3 y)).trans ((point6 m c t (y 1) (y 2)).trans (congrArg₂ (G6 m c) e1.symm e2.symm))

theorem arr7 : (dats m 0 c).arrAt 7 cfg0.N = fun i => G7 m c (i 1) (i 2) := by
  refine (dats m 0 c).arrAt_eq_of_covers 7 _ (by decide +kernel) fun t _ y => ?_
  blk_simp
  rw [after0_7]
  have e1 : (win0_7.blk t).view.emb y 1 = row t (y 1) := Fin.ext (by blk_point [idx7 t, row])
  have e2 : (win0_7.blk t).view.emb y 2 = y 2 := Fin.ext (by blk_point [idx7 t])
  exact (congrArg _ (eta3 y)).trans ((point7 m c t (y 1) (y 2)).trans (congrArg₂ (G7 m c) e1.symm e2.symm))

/-- The claim. -/
theorem value [Cert.AdamIdeal.Facts] [Cert.AdamRefIdeal.Facts] : Cert.algebraic_AdamIdeal_AdamRefIdeal := by
  intro m ρ m' ρ' _ hagree
  refine ⟨_, _, _, _, Cert.AdamIdeal.Value.run_blocks m ρ, ?_⟩
  refine (θ_run Cert.AdamRefIdeal.defs _ _).mono (fun r h c => ?_) (Cert.AdamRefIdeal.Value.run (F := Ideal) m' ρ')
  obtain ⟨a0, a1, a2, a3⟩ := hagree c
  obtain ⟨r0, r1, r2, r3, rest⟩ := h c
  rw [a0, a1, a2, a3] at r1
  rw [a0] at r0
  rw [a0, a2] at r2
  rw [a0, a3] at r3
  refine ⟨r0.trans ((arr4 m c).trans (funext fun i => ?_)).symm, r1.trans ((arr5 m c).trans (funext fun i => ?_)).symm, r2.trans ((arr6 m c).trans (funext fun i => ?_)).symm,
    r3.trans ((arr7 m c).trans (funext fun i => ?_)).symm, rest⟩
  · rw [eta3 i]; refine congrArg (g m c) ?_; funext a; fin_cases a <;> rfl
  · rw [eta3 i]; exact congrArg (fun u => delta (next1 _ (g m c u)) (next2 _ (g m c u)) _) (by funext a; fin_cases a <;> rfl)
  · rw [eta3 i]; exact congrArg (fun u => next1 _ (g m c u)) (by funext a; fin_cases a <;> rfl)
  · rw [eta3 i]; exact congrArg (fun u => next2 _ (g m c u)) (by funext a; fin_cases a <;> rfl)

end Adam

end
-- ==== Proof.WadaValue.lean ====
module

public import proofs.«01_k».proof.Defs
public import proofs.«01_k».proof.Proof.Gen.WadaIdeal.Value
public import proofs.«01_k».proof.Proof.Gen.WadaRefIdeal.Run
public import proofs.«01_k».proof.Proof.Opt
public import Idealize.ShloMosaic.Lib.Claim
public import Idealize.ShloMosaic.Lib.StableHlo.ReadAt
public import Idealize.ShloMosaic.Lib.Pointwise

@[expose] public section

set_option maxRecDepth 16384
set_option maxHeartbeats 2000000

noncomputable section

/-! The step on w_ada: what the kernel's four results are, entry by entry. -/

namespace Wada

open Idealize.ShloMosaic Idealize.ShloMosaic.TcCoe Idealize.SL.Sem
open Opt Cert.WadaIdeal Cert.WadaIdeal.Gen Cert.WadaIdeal.Value
open Idealize.ShloMosaic.Pipeline (Dat)

variable (m : (ℓ : Loc nD τ sig) → Buf (Elt Ideal) ℓ) (c : Dev nD)

/-- The five arguments. -/
def x : FVec Ideal S8x1024 .f32 := m ((c.tc : Thread nD τ).loc main_arg0)
def gm : FVec Ideal S8x1536 .f32 := m ((c.tc : Thread nD τ).loc main_arg1)
def w : FVec Ideal S1x1024x1536 .f32 := m ((c.tc : Thread nD τ).loc main_arg2)
def m1 : FVec Ideal S1x1024x1536 .f32 := m ((c.tc : Thread nD τ).loc main_arg3)
def m2 : FVec Ideal S1x1024x1536 .f32 := m ((c.tc : Thread nD τ).loc main_arg4)

/-! The arrays the call reads: the activation and the gradient of the modulations, both filled with zeros up to 128 rows. -/

def L0 : FVec Ideal S1024x128 .f32 := V m c main_v3
def L1 : FVec Ideal S128x1536 .f32 := V m c main_v5

theorem at0 (s : Fin 1024) (b : Fin 8) : L0 m c (ix2 s (Fin.castAdd 120 b)) = silu (x m c (ix2 b s)) := by
  unfold L0 V
  after_reads_at
  exact dif_pos b.isLt

theorem at0_zero (s : Fin 1024) (b : Fin 120) : L0 m c (ix2 s (Fin.natAdd 8 b)) = (0 : EReal) := by
  unfold L0 V
  after_reads_at
  exact dif_neg (by simp)

theorem at1 (b : Fin 8) (k : Fin 1536) : L1 m c (ix2 (Fin.castAdd 120 b) k) = gm m c (ix2 b k) := by
  unfold L1 V
  after_reads_at
  exact dif_pos b.isLt

/-- The gradient of the weights, at row `s` and column `k`. -/
def gr (s : Fin 1024) (k : Fin 1536) : EReal := ∑ b : Fin 8, silu (x m c (ix2 b s)) * gm m c (ix2 b k)

/-- The filled rows add nothing to the product. -/
theorem sum_filled (s : Fin 1024) (k : Fin 1536) :
    ∑ j : Fin 128, L0 m c (ix2 s j) * L1 m c (ix2 j k) = gr m c s k := by
  refine (Fin.sum_univ_add (a := 8) (b := 120) (fun j : Fin 128 => (L0 m c (ix2 s j) : EReal) * L1 m c (ix2 j k))).trans ?_
  have z : ∀ b : Fin 120, (L0 m c (ix2 s (Fin.natAdd 8 b)) : EReal) * L1 m c (ix2 (Fin.natAdd 8 b) k) = 0 := fun b => by
    rw [at0_zero]; exact zero_mul _
  refine (congrArg₂ (· + ·) (Finset.sum_congr rfl fun b _ => congrArg₂ (· * ·) (at0 m c s b) (at1 m c b k)) (Finset.sum_eq_zero fun b _ => z b)).trans ?_
  exact add_zero _

/-- The product of a block. -/
theorem prod_at (X0 : Vec Ideal S256x128 .f32) (X1 : Vec Ideal S128x1536 .f32) (p : Fin 256) (k : Fin 1536) :
    k0_pay4 X0 X1 (ix2 p k) = ∑ j : Fin 128, (X0 (ix2 p j) : EReal) * X1 (ix2 j k) := by
  unfold k0_pay4
  pointwise

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)
theorem idx8 : ∀ t : Fin cfg0.N, win0_8.index t = ![0, t.val, 0] := (by decide +kernel : ∀ t : Fin grid0.N, _)

/-- A row of a block, in the whole array. -/
def row (t : Fin cfg0.N) (p : Fin 256) : Fin 1024 := ⟨t.val * 256 + p.val, by have : t.val < 4 := t.isLt; omega⟩

theorem blk0 (t : Fin cfg0.N) (p : Fin 256) (j : Fin 128) : (iblk m c 0 t : FVec Ideal S256x128 .f32) (ix2 p j) = L0 m c (ix2 (row t p) j) := by
  blk_simp [iblk]
  refine congrArg (L0 m c) ?_
  blk_ext [idx0 t, row]
theorem blk1 (t : Fin cfg0.N) (j : Fin 128) (k : Fin 1536) : (iblk m c 1 t : FVec Ideal S128x1536 .f32) (ix2 j k) = L1 m c (ix2 j k) := by
  blk_simp [iblk]
  refine congrArg (L1 m c) ?_
  blk_ext [idx1 t]
theorem blk2 (t : Fin cfg0.N) (p : Fin 256) (k : Fin 1536) : (iblk m c 2 t : FVec Ideal S1x256x1536 .f32) (ix3 0 p k) = w m c (ix3 0 (row t p) k) := by
  blk_simp [iblk]
  refine (congrFun (V_main_arg2 m c) _).trans (congrArg (w m c) ?_)
  blk_ext [idx2 t, row]
theorem blk3 (t : Fin cfg0.N) (p : Fin 256) (k : Fin 1536) : (iblk m c 3 t : FVec Ideal S1x256x1536 .f32) (ix3 0 p k) = m1 m c (ix3 0 (row t p) k) := by
  blk_simp [iblk]
  refine (congrFun (V_main_arg3 m c) _).trans (congrArg (m1 m c) ?_)
  blk_ext [idx3 t, row]
theorem blk4 (t : Fin cfg0.N) (p : Fin 256) (k : Fin 1536) : (iblk m c 4 t : FVec Ideal S1x256x1536 .f32) (ix3 0 p k) = m2 m c (ix3 0 (row t p) k) := by
  blk_simp [iblk]
  refine (congrFun (V_main_arg4 m c) _).trans (congrArg (m2 m c) ?_)
  blk_ext [idx4 t, row]

theorem grad_at (t : Fin cfg0.N) (p : Fin 256) (k : Fin 1536) : k0_pay4 (iblk m c 0 t) (iblk m c 1 t) (ix2 p k) = gr m c (row t p) k := by
  refine (prod_at _ _ p k).trans (Eq.trans (Finset.sum_congr rfl fun j _ => congrArg₂ (· * ·) (blk0 m c t p j) (blk1 m c t j k)) (sum_filled m c (row t p) k))

/-- What the four arrays end holding at row `s` and column `k`. -/
def G7 (s : Fin 1024) (k : Fin 1536) : EReal := next1 (m1 m c (ix3 0 s k)) (gr m c s k)
def G8 (s : Fin 1024) (k : Fin 1536) : EReal := next2 (m2 m c (ix3 0 s k)) (gr m c s k)
def G6 (s : Fin 1024) (k : Fin 1536) : EReal := delta (G7 m c s k) (G8 m c s k) (w m c (ix3 0 s k))

theorem point5 (t : Fin cfg0.N) (p : Fin 256) (k : Fin 1536) : out0_5 (iblk m c 0 t) (iblk m c 1 t) (iblk m c 2 t) (iblk m c 3 t) (iblk m c 4 t) (ix3 0 p k) = gr m c (row t p) k := by
  unfold out0_5
  rw [View.ld_unit_zero (S := S256x128) hz2, View.ld_unit_zero (S := S128x1536) hz2]
  refine (canon5_eq _ _ _).trans (Eq.trans ?_ (grad_at m c t p k))
  exact congrArg (k0_pay4 (iblk m c 0 t) (iblk m c 1 t)) (by funext a; fin_cases a <;> rfl)

theorem point7 (t : Fin cfg0.N) (p : Fin 256) (k : Fin 1536) : out0_7 (iblk m c 0 t) (iblk m c 1 t) (iblk m c 2 t) (iblk m c 3 t) (iblk m c 4 t) (ix3 0 p k) = G7 m c (row t p) k := by
  unfold out0_7 G7
  rw [View.ld_unit_zero (S := S256x128) hz2, View.ld_unit_zero (S := S128x1536) hz2, View.ld_unit_zero (S := S1x256x1536) hz3, ← grad_at, ← blk3]
  refine (canon7_eq _ _ _ _).trans ?_
  exact congrArg₂ next1 (congrArg _ (by funext a; fin_cases a <;> rfl)) (congrArg _ (by funext a; fin_cases a <;> rfl))

theorem point8 (t : Fin cfg0.N) (p : Fin 256) (k : Fin 1536) : out0_8 (iblk m c 0 t) (iblk m c 1 t) (iblk m c 2 t) (iblk m c 3 t) (iblk m c 4 t) (ix3 0 p k) = G8 m c (row t p) k := by
  unfold out0_8 G8
  rw [View.ld_unit_zero (S := S256x128) hz2, View.ld_unit_zero (S := S128x1536) hz2, View.ld_unit_zero (S := S1x256x1536) hz3, ← grad_at, ← blk4]
  refine (canon8_eq _ _ _ _).trans ?_
  exact congrArg₂ next2 (congrArg _ (by funext a; fin_cases a <;> rfl)) (congrArg _ (by funext a; fin_cases a <;> rfl))

/-- The step, at an entry of a block. -/
theorem step_at (X0 : Vec Ideal S256x128 .f32) (X1 : Vec Ideal S128x1536 .f32) (X2 X3 X4 : Vec Ideal S1x256x1536 .f32) (p : Fin 256) (k : Fin 1536) :
    k0_pay1 (k0_pay6 X2) (k0_pay9 X0 X1 X3 X4) (Scalar.ofBits .f32 0x3C23D70A#32) (ix3 0 p k)
      = delta (next1 (X3 (ix3 0 p k)) (k0_pay4 X0 X1 (ix2 p k))) (next2 (X4 (ix3 0 p k)) (k0_pay4 X0 X1 (ix2 p k))) (X2 (ix3 0 p k)) := by
  unfold k0_pay1 k0_pay6 k0_pay9 k0_pay7 k0_pay8 delta next1 next2
  pointwise

theorem point6 (t : Fin cfg0.N) (p : Fin 256) (k : Fin 1536) : out0_6 (iblk m c 0 t) (iblk m c 1 t) (iblk m c 2 t) (iblk m c 3 t) (iblk m c 4 t) (ix3 0 p k) = G6 m c (row t p) k := by
  unfold out0_6 G6 G7 G8
  rw [View.ld_unit_zero (S := S256x128) hz2, View.ld_unit_zero (S := S128x1536) hz2]
  simp only [View.ld_unit_zero (S := S1x256x1536) hz3]
  rw [← grad_at, ← blk2, ← blk3, ← blk4, ← step_at]
  exact congrFun (View.canon_unit_zero (S := S1x256x1536) hz3 _ _) _

theorem arr5 : (dats m 0 c).arrAt 5 cfg0.N = fun i => gr m c (i 1) (i 2) := by
  refine (dats m 0 c).arrAt_eq_of_covers 5 _ (by decide +kernel) fun t _ y => ?_
  blk_simp
  rw [after0_5]
  have e1 : (win0_5.blk t).view.emb y 1 = row t (y 1) := Fin.ext (by blk_point [idx5 t, row])
  have e2 : (win0_5.blk t).view.emb y 2 = y 2 := Fin.ext (by blk_point [idx5 t])
  exact (congrArg _ (eta3 y)).trans ((point5 m c t (y 1) (y 2)).trans (congrArg₂ (gr m c) e1.symm e2.symm))

theorem arr6 : (dats m 0 c).arrAt 6 cfg0.N = fun i => G6 m c (i 1) (i 2) := by
  refine (dats m 0 c).arrAt_eq_of_covers 6 _ (by decide +kernel) fun t _ y => ?_
  blk_simp
  rw [after0_6]
  have e1 : (win0_6.blk t).view.emb y 1 = row t (y 1) := Fin.ext (by blk_point [idx6 t, row])
  have e2 : (win0_6.blk t).view.emb y 2 = y 2 := Fin.ext (by blk_point [idx6 t])
  exact (congrArg _ (eta3 y)).trans ((point6 m c t (y 1) (y 2)).trans (congrArg₂ (G6 m c) e1.symm e2.symm))

theorem arr7 : (dats m 0 c).arrAt 7 cfg0.N = fun i => G7 m c (i 1) (i 2) := by
  refine (dats m 0 c).arrAt_eq_of_covers 7 _ (by decide +kernel) fun t _ y => ?_
  blk_simp
  rw [after0_7]
  have e1 : (win0_7.blk t).view.emb y 1 = row t (y 1) := Fin.ext (by blk_point [idx7 t, row])
  have e2 : (win0_7.blk t).view.emb y 2 = y 2 := Fin.ext (by blk_point [idx7 t])
  exact (congrArg _ (eta3 y)).trans ((point7 m c t (y 1) (y 2)).trans (congrArg₂ (G7 m c) e1.symm e2.symm))

theorem arr8 : (dats m 0 c).arrAt 8 cfg0.N = fun i => G8 m c (i 1) (i 2) := by
  refine (dats m 0 c).arrAt_eq_of_covers 8 _ (by decide +kernel) fun t _ y => ?_
  blk_simp
  rw [after0_8]
  have e1 : (win0_8.blk t).view.emb y 1 = row t (y 1) := Fin.ext (by blk_point [idx8 t, row])
  have e2 : (win0_8.blk t).view.emb y 2 = y 2 := Fin.ext (by blk_point [idx8 t])
  exact (congrArg _ (eta3 y)).trans ((point8 m c t (y 1) (y 2)).trans (congrArg₂ (G8 m c) e1.symm e2.symm))

/-- The reference's product, at an entry. -/
theorem ref_at (X : FVec Ideal S8x1024 .f32) (Y : FVec Ideal S8x1536 .f32) (i : Cert.WadaRefIdeal.S1x1024x1536.Idx) :
    (broadcastInDim Cert.WadaRefIdeal.S1x1024x1536 ![1, 2] Cert.WadaRefIdeal.Gen.bcast_S1024x1536_S1x1024x1536_1_2 (transpose Cert.WadaRefIdeal.S1024x1536 [1, 0] (Host.dotGeneral (F := Ideal) Cert.WadaRefIdeal.dot_S8x1536_S8x1024_S1536x1024_0_0_1_1_n_n none Y (mulf X (Host.divf (broadcastInDim S8x1024 ![] Cert.WadaRefIdeal.Gen.bcast_S_S8x1024 (constant Cert.WadaRefIdeal.S_ .f32 0x3F800000#32)) (addf (broadcastInDim S8x1024 ![] Cert.WadaRefIdeal.Gen.bcast_S_S8x1024 (constant Cert.WadaRefIdeal.S_ .f32 0x3F800000#32)) (Host.exp (Host.negf X)))))) Cert.WadaRefIdeal.Gen.transposes_S1536x1024_S1024x1536_1_0) : FVec Ideal Cert.WadaRefIdeal.S1x1024x1536 .f32) i
      = ∑ b : Fin 8, silu (X (ix2 b (i 1))) * Y (ix2 b (i 2)) := by
  pointwise
  exact Finset.sum_congr rfl fun b _ => mul_comm _ _

/-- The claim. -/
theorem value [Cert.WadaIdeal.Facts] [Cert.WadaRefIdeal.Facts] : Cert.algebraic_WadaIdeal_WadaRefIdeal := by
  intro m ρ m' ρ' _ hagree
  refine ⟨_, _, _, _, Cert.WadaIdeal.Value.run_blocks m ρ, ?_⟩
  refine (θ_run Cert.WadaRefIdeal.defs _ _).mono (fun r h c => ?_) (Cert.WadaRefIdeal.Value.run (F := Ideal) m' ρ')
  obtain ⟨a0, a1, a2, a3, a4⟩ := hagree c
  obtain ⟨r0, r1, r2, r3, rest⟩ := h c
  rw [a0, a1] at r0
  rw [a0, a1, a2, a3, a4] at r1
  rw [a0, a1, a3] at r2
  rw [a0, a1, a4] at r3
  have key := ref_at (x m c) (gm m c)
  refine ⟨r0.trans ((arr5 m c).trans (funext fun i => (key i).symm)).symm, r1.trans ((arr6 m c).trans (funext fun i => ?_)).symm, r2.trans ((arr7 m c).trans (funext fun i => ?_)).symm,
    r3.trans ((arr8 m c).trans (funext fun i => ?_)).symm, rest⟩
  · have e := congrArg₂ (fun u j => delta (next1 (m1 m c j) u) (next2 (m2 m c j) u) (w m c j)) (key i).symm (eta3 i).symm
    exact e
  · exact congrArg₂ (fun u j => next1 (m1 m c j) u) (key i).symm (eta3 i).symm
  · exact congrArg₂ (fun u j => next2 (m2 m c j) u) (key i).symm (eta3 i).symm

end Wada

end
-- ==== Proof.BwdNames.lean ====
module

public import proofs.«01_k».proof.Proof.MixFrame
public import Idealize.ShloMosaic.Lib.Pipeline.ValueKit
public import Idealize.ShloMosaic.Lib.Pointwise

@[expose] public section

set_option maxRecDepth 65536
set_option maxHeartbeats 4000000

noncomputable section

/-! One name for each computation that the body does sixteen times, once for every block of 128 steps and every head of a tile,
and the lists of pieces that the body leaves in its three accumulators, in those names. -/

namespace Bwd.Ker

open Idealize.ShloMosaic Idealize.ShloMosaic.TcCoe Idealize.SL.Sem
open Cert.MixBwdIdeal Cert.MixBwdIdeal.Gen MixFrame

/-! ## On a block of one head -/

/-- The GELU of a block. -/
def Gx (a : Vec Ideal S128x128 .bf16) : FVec Ideal S128x128 .f32 := k0_pay32 (k0_pay25 a) (k0_pay28 a)

/-- The normalised GELU of a block. -/
def Vh (a : Vec Ideal S128x128 .bf16) : FVec Ideal S128x128 .f32 :=
  mulf (k0_pay37 (k0_pay26 a)) (broadcastTo S128x128 (rsqrt (addf (divf (k0_pay38 (k0_pay26 a)) k0_pay39) (broadcast S128x1 (Scalar.ofBits .f32 0x358637BD#32)))) (by decide))

/-- … with its gain. -/
def Vg (a : Vec Ideal S128x128 .bf16) (g : Vec Ideal S1x128 .f32) : FVec Ideal S128x128 .bf16 :=
  truncf .bf16 (mulf (Vh a) (broadcastTo S128x128 (k0_pay24 g) (by decide))) bitsLt_bf16_f32

theorem cut_ok (r o : ℕ) (hr : r + 128 ≤ 256) (ho : o + 128 ≤ 1024) : S256x1024.Slices ![r, o] S128x128 :=
  ⟨rfl, fun a => by match a with | 0 => exact hr | 1 => exact ho⟩

/-- The derivative with respect to the mixing of a block, from that of the concatenated columns of its half tile. -/
def Dz (r o : ℕ) (hr : r + 128 ≤ 256) (ho : o + 128 ≤ 1024) (D : FVec Ideal S256x1024 .f32) (a : Vec Ideal S128x128 .bf16) : FVec Ideal S128x128 .f32 :=
  mulf (extractStridedSlice S128x128 ![r, o] D (cut_ok r o hr ho)) (Gx a)

/-- A block's part of the gradient of the weights … -/
def Wp (z : FVec Ideal S128x128 .f32) (v : FVec Ideal S128x128 .bf16) : FVec Ideal S128x128 .f32 :=
  matmul dot_S128x128_S128x128_S128x128_1_1_0_0_n_n none (truncf .bf16 z bitsLt_bf16_f32) v (constant S128x128 .f32 0x00000000#32)

/-- … and of the norm's gain. -/
def Gp (z v : FVec Ideal S128x128 .f32) (w : Vec Ideal S1x128x128 .bf16) : FVec Ideal S1x128 .f32 :=
  shapeCast S1x128 (multiReduction .add [0] S128 (mulf (matmul dot_S128x128_S128x128_S128x128_1_0_0_1_n_n none (φ₁ := .bf16) (shapeCast S128x128 (show FVec Ideal S1x128x128 .bf16 from w) shapeCasts_S1x128x128_S128x128) (truncf .bf16 z bitsLt_bf16_f32)
    (constant S128x128 .f32 0x00000000#32)) v) 0x00000000#32 reduces_S128x128_S128_2 (.inl rfl) rfl) (by decide)

/-! ## The lists of pieces -/

theorem slab_ok (h : Fin 4) : ∀ a, ![h.val, 0, 0] a + S1x128x128.size a ≤ S4x128x128.size a := by
  intro a; match a with | 0 => exact h.isLt | 1 => exact le_refl 128 | 2 => exact le_refl 128

theorem line_ok (h : Fin 4) : ∀ a, ![h.val, 0] a + S1x128.size a ≤ S8x128.size a := by
  intro a; match a with | 0 => exact (by omega : h.val + 1 ≤ 8) | 1 => exact le_refl 128

abbrev slab (h : Fin 4) : Rect S4x128x128 := Rect.unit ![h.val, 0, 0] S1x128x128.size (slab_ok h)
abbrev line (h : Fin 4) : Rect S8x128 := Rect.unit ![h.val, 0] S1x128.size (line_ok h)

/-- A block added to the slab of head `h`, read back from the pieces before … -/
def put3 {κ : Kind} {sp : Space} (v : View sig κ sp S4x128x128 .f32) (h : Fin 4) (P : FVec Ideal S128x128 .f32) (L : List (View.Piece (Elt Ideal) S4x128x128 .f32)) :
    List (View.Piece (Elt Ideal) S4x128x128 .f32) :=
  ⟨slab h, shapeCast S1x128x128 (addf (shapeCast S128x128 (v.readCov L (slab h).toLoadRect) shapeCasts_S1x128x128_S128x128) P) shapeCasts_S128x128_S1x128x128⟩ :: L

/-- … or from what the buffer held. -/
def new3 {κ : Kind} {sp : Space} (v : View sig κ sp S4x128x128 .f32) (f : v.ty.Contents (Elt Ideal)) (h : Fin 4) (P : FVec Ideal S128x128 .f32)
    (L : List (View.Piece (Elt Ideal) S4x128x128 .f32)) : List (View.Piece (Elt Ideal) S4x128x128 .f32) :=
  ⟨slab h, shapeCast S1x128x128 (addf (shapeCast S128x128 (v.readAt (Elt Ideal) (slab h).toLoadRect f) shapeCasts_S1x128x128_S128x128) P) shapeCasts_S128x128_S1x128x128⟩ :: L

def put2 {κ : Kind} {sp : Space} (v : View sig κ sp S8x128 .f32) (h : Fin 4) (P : FVec Ideal S1x128 .f32) (L : List (View.Piece (Elt Ideal) S8x128 .f32)) :
    List (View.Piece (Elt Ideal) S8x128 .f32) :=
  ⟨line h, addf (shapeCast S1x128 (v.readCov L (line h).toLoadRect) shapeCasts_S1x128_S1x128) P⟩ :: L

def new2 {κ : Kind} {sp : Space} (v : View sig κ sp S8x128 .f32) (f : v.ty.Contents (Elt Ideal)) (h : Fin 4) (P : FVec Ideal S1x128 .f32)
    (L : List (View.Piece (Elt Ideal) S8x128 .f32)) : List (View.Piece (Elt Ideal) S8x128 .f32) :=
  ⟨line h, addf (shapeCast S1x128 (v.readAt (Elt Ideal) (line h).toLoadRect f) shapeCasts_S1x128_S1x128) P⟩ :: L

section
variable {κ : Kind} {sp : Space}

/-- Two blocks of every head, in the order of the body. -/
def half3 (v : View sig κ sp S4x128x128 .f32) (P Q : Fin 4 → FVec Ideal S128x128 .f32) (L : List (View.Piece (Elt Ideal) S4x128x128 .f32)) :=
  put3 v 3 (Q 3) <| put3 v 3 (P 3) <| put3 v 2 (Q 2) <| put3 v 2 (P 2) <| put3 v 1 (Q 1) <| put3 v 1 (P 1) <| put3 v 0 (Q 0) <| put3 v 0 (P 0) L

def start3 (v : View sig κ sp S4x128x128 .f32) (f : v.ty.Contents (Elt Ideal)) (P Q : Fin 4 → FVec Ideal S128x128 .f32) :=
  put3 v 3 (Q 3) <| new3 v f 3 (P 3) <| put3 v 2 (Q 2) <| new3 v f 2 (P 2) <| put3 v 1 (Q 1) <| new3 v f 1 (P 1) <| put3 v 0 (Q 0) <| new3 v f 0 (P 0) []

def half2 (v : View sig κ sp S8x128 .f32) (P Q : Fin 4 → FVec Ideal S1x128 .f32) (L : List (View.Piece (Elt Ideal) S8x128 .f32)) :=
  put2 v 3 (Q 3) <| put2 v 3 (P 3) <| put2 v 2 (Q 2) <| put2 v 2 (P 2) <| put2 v 1 (Q 1) <| put2 v 1 (P 1) <| put2 v 0 (Q 0) <| put2 v 0 (P 0) L

def start2 (v : View sig κ sp S8x128 .f32) (f : v.ty.Contents (Elt Ideal)) (P Q : Fin 4 → FVec Ideal S1x128 .f32) :=
  put2 v 3 (Q 3) <| new2 v f 3 (P 3) <| put2 v 2 (Q 2) <| new2 v f 2 (P 2) <| put2 v 1 (Q 1) <| new2 v f 1 (P 1) <| put2 v 0 (Q 0) <| new2 v f 0 (P 0) []

end

/-! ## The blocks of a point -/

variable (m : (ℓ : Loc nD τ sig) → Buf (Elt Ideal) ℓ) (c : Dev nD) (t : Fin cfg0.N)

theorem half_ok (k : Fin 4) : ∀ a, ![256 * (k.val / 2), 0] a + S256x1024.size a ≤ S512x1024.size a := by
  intro a; match a with | 0 => exact (by omega : 256 * (k.val / 2) + 256 ≤ 512) | 1 => exact le_refl 1024

theorem part_ok (k : Fin 4) (o : ℕ) (ho : o + 128 ≤ 1536) : ∀ a, ![128 * k.val, o] a + S128x128.size a ≤ S512x1536.size a := by
  intro a; match a with | 0 => exact (by omega : 128 * k.val + 128 ≤ 512) | 1 => exact ho

/-- The derivative of the concatenated columns of the half tile of block `k`. -/
def rdD (k : Fin 4) : FVec Ideal S256x1024 .f32 :=
  k0_pay20 ((ms0_0 t).view.readAt (Elt Ideal) (Rect.unit (s := S512x1024) ![256 * (k.val / 2), 0] S256x1024.size (half_ok k)).toLoadRect ((hs0_0 t).unread (iblk m c 0 t)))
    ((ms0_7 t).view.readAt (Elt Ideal) (Rect.unit (s := S1024x1024) ![0, 0] S1024x1024.size inb_S1024x1024_S1024x1024_0_0).toLoadRect ((hs0_7 t).unread (iblk m c 7 t)))

/-- Columns of the projection, the gain and the weights of a head. -/
def rdP (k : Fin 4) (o : ℕ) (ho : o + 128 ≤ 1536) : Vec Ideal S128x128 .bf16 :=
  (ms0_3 t).view.readAt (Elt Ideal) (Rect.unit (s := S512x1536) ![128 * k.val, o] S128x128.size (part_ok k o ho)).toLoadRect ((hs0_3 t).unread (iblk m c 3 t))

def rdG (h : Fin 4) : Vec Ideal S1x128 .f32 := (ms0_8 t).view.readAt (Elt Ideal) (line h).toLoadRect ((hs0_8 t).unread (iblk m c 8 t))

def rdW (h : Fin 4) : Vec Ideal S1x128x128 .bf16 :=
  (ms0_10 t).view.readAt (Elt Ideal) (Rect.unit (s := S4x128x128) ![h.val, 0, 0] S1x128x128.size (slab_ok h)).toLoadRect ((hs0_10 t).unread (iblk m c 10 t))

def zP (k h : Fin 4) : FVec Ideal S128x128 .f32 := Dz (128 * (k.val % 2)) (128 * h.val) (by omega) (by omega) (rdD m c t k) (rdP m c t k (128 * h.val) (by omega))
def wP (k h : Fin 4) : FVec Ideal S128x128 .f32 := Wp (zP m c t k h) (Vg (rdP m c t k (512 + 128 * h.val) (by omega)) (rdG m c t h))
def gP (k h : Fin 4) : FVec Ideal S1x128 .f32 := Gp (zP m c t k h) (Vh (rdP m c t k (512 + 128 * h.val) (by omega))) (rdW m c t h)

/-! ## The accumulators at the first point, which fills them with zeros first … -/

abbrev zero3 : List (View.Piece (Elt Ideal) S4x128x128 .f32) := [⟨Rect.unit ![0, 0, 0] S4x128x128.size inb_S4x128x128_S4x128x128_0_0_0, (k0_pay15 : FVec Ideal S4x128x128 .f32)⟩]
abbrev zero2 : List (View.Piece (Elt Ideal) S8x128 .f32) := [⟨Rect.unit ![0, 0] S8x128.size inb_S8x128_S8x128_0_0, (k0_pay18 : FVec Ideal S8x128 .f32)⟩]

section
variable (h0 : t.val % 16 = 0) (h1 : ¬t.val % 16 = 15)

theorem s1A : (lsA m c t h0 h1).s1 = half3 scM0_1.view (wP m c t 0) (wP m c t 1) (half3 scM0_1.view (wP m c t 2) (wP m c t 3) zero3) := by sl_kernel_rfl
theorem s3A : (lsA m c t h0 h1).s3 = half3 scM0_3.view (zP m c t 0) (zP m c t 1) (half3 scM0_3.view (zP m c t 2) (zP m c t 3) zero3) := by sl_kernel_rfl
theorem o20A : (lsA m c t h0 h1).o20 = half2 (ms0_20 t).view (gP m c t 0) (gP m c t 1) (half2 (ms0_20 t).view (gP m c t 2) (gP m c t 3) zero2) := by sl_kernel_rfl

end

/-! ## … at the points in between, and at the last one -/

section
variable (h0 : ¬t.val % 16 = 0) (h1 : ¬t.val % 16 = 15) (s : St Ideal)

theorem s1B : (lsB m c t h0 h1 s).s1 = half3 scM0_1.view (wP m c t 0) (wP m c t 1) (start3 scM0_1.view ((Memref.isWhole_whole _).unread s.s1) (wP m c t 2) (wP m c t 3)) := by
  sl_kernel_rfl
theorem s3B : (lsB m c t h0 h1 s).s3 = half3 scM0_3.view (zP m c t 0) (zP m c t 1) (start3 scM0_3.view ((Memref.isWhole_whole _).unread s.s3) (zP m c t 2) (zP m c t 3)) := by
  sl_kernel_rfl
theorem o20B : (lsB m c t h0 h1 s).o20 = half2 (ms0_20 t).view (gP m c t 0) (gP m c t 1) (start2 (ms0_20 t).view ((hs0_20 t).unread s.o20) (gP m c t 2) (gP m c t 3)) := by
  sl_kernel_rfl

end

section
variable (h0 : ¬t.val % 16 = 0) (h1 : t.val % 16 = 15) (s : St Ideal)

theorem s1C : (lsC m c t h0 h1 s).s1 = half3 scM0_1.view (wP m c t 0) (wP m c t 1) (start3 scM0_1.view ((Memref.isWhole_whole _).unread s.s1) (wP m c t 2) (wP m c t 3)) := by
  sl_kernel_rfl
theorem s3C : (lsC m c t h0 h1 s).s3 = half3 scM0_3.view (zP m c t 0) (zP m c t 1) (start3 scM0_3.view ((Memref.isWhole_whole _).unread s.s3) (zP m c t 2) (zP m c t 3)) := by
  sl_kernel_rfl
theorem o20C : (lsC m c t h0 h1 s).o20 = half2 (ms0_20 t).view (gP m c t 0) (gP m c t 1) (start2 (ms0_20 t).view ((hs0_20 t).unread s.o20) (gP m c t 2) (gP m c t 3)) := by
  sl_kernel_rfl

/-- The gradient of the weights, stored at the last point. -/
theorem o17C : (lsC m c t h0 h1 s).o17 = [⟨Rect.unit ![0, 0, 0] S4x128x128.size inb_S4x128x128_S4x128x128_0_0_0,
    k0_pay9 (scM0_1.view.readCov (lsC m c t h0 h1 s).s1 (Rect.unit ![0, 0, 0] S4x128x128.size inb_S4x128x128_S4x128x128_0_0_0).toLoadRect)⟩] := by
  sl_kernel_rfl

/-- The row of the bias's gradient of head `h`. -/
def rowS (h : Fin 4) : FVec Ideal S1x128 .f32 := k0_pay12 (scM0_3.view.readCov (lsC m c t h0 h1 s).s3 (slab h).toLoadRect)

theorem o19C : (lsC m c t h0 h1 s).o19 = [⟨line 3, rowS m c t h0 h1 s 3⟩, ⟨line 2, rowS m c t h0 h1 s 2⟩, ⟨line 1, rowS m c t h0 h1 s 1⟩, ⟨line 0, rowS m c t h0 h1 s 0⟩,
    ⟨Rect.unit ![0, 0] S8x128.size inb_S8x128_S8x128_0_0, (k0_pay11 : FVec Ideal S8x128 .f32)⟩] := by
  sl_kernel_rfl

end

end Bwd.Ker

end
-- ==== Proof.BwdSpec.lean ====
module

public import proofs.«01_k».proof.Proof.MixSpec

@[expose] public section

noncomputable section

/-! What the gating unit's part of the mixer's backward call computes, over the real numbers: sums over the 64 blocks of 128 steps. -/

namespace Bwd

open Mix

variable (A : Args) (dm : Fin 8192 → Fin 1024 → ℝ)

/-- Step `i` of block `b`. -/
def row (b : Fin 64) (i : Fin 128) : Fin 8192 := ⟨128 * b.val + i.val, by omega⟩

/-- The derivative of the mixed rows with respect to column `c` of head `h` … -/
def dout (s : Fin 8192) (h : Fin 4) (c : Fin 128) : ℝ := ∑ n, dm s n * A.wo ⟨128 * h.val + c.val, by omega⟩ n

/-- … and with respect to the spatial mixing there. -/
def dz (s : Fin 8192) (h : Fin 4) (c : Fin 128) : ℝ := dout A dm s h c * uu A s h c

/-- The normalised half, before its gain. -/
def vhat (s : Fin 8192) (h : Fin 4) (c : Fin 128) : ℝ := vv A s h c * rmsh (vv A s h)

/-- A block's part of the gradient of the spatial weights, of their bias (column by column), and of the norm's gain. -/
def bw (h : Fin 4) (i j : Fin 128) (b : Fin 64) : ℝ := ∑ c, dz A dm (row b i) h c * vn A (row b j) h c
def bz (h : Fin 4) (i c : Fin 128) (b : Fin 64) : ℝ := dz A dm (row b i) h c
def bg (h : Fin 4) (c : Fin 128) (b : Fin 64) : ℝ := ∑ j, (∑ i, wm A h i j * dz A dm (row b i) h c) * vhat A (row b j) h c

def dwm (h : Fin 4) (i j : Fin 128) : ℝ := ∑ b, bw A dm h i j b
def db (h : Fin 4) (i : Fin 128) : ℝ := ∑ c, ∑ b, bz A dm h i c b
def dg (h : Fin 4) (c : Fin 128) : ℝ := ∑ b, bg A dm h c b

/-- Four rows of a gradient, and four rows of zeros. -/
def rows (f : Fin 4 → Fin 128 → ℝ) (r : Fin 8) (k : Fin 128) : ℝ := if h : r.val < 4 then f ⟨r.val, h⟩ k else 0

/-- The `q`-th block in the order of the grid: the tiles backwards, and in each the two late blocks before the two early ones. -/
def ord (q : Fin 64) : Fin 64 := ⟨4 * (15 - q.val / 4) + (q.val + 2) % 4, by omega⟩

theorem ord_ord : Function.Involutive ord := by
  intro q; apply Fin.ext; simp only [ord]; omega

/-- The sum of the first `n` blocks. -/
def part (n : ℕ) (f : Fin 64 → ℝ) : ℝ := ∑ q ∈ Finset.range n, if h : q < 64 then f (ord ⟨q, h⟩) else 0

theorem part_zero (f : Fin 64 → ℝ) : part 0 f = 0 := Finset.sum_range_zero _

theorem part_all (f : Fin 64 → ℝ) : part 64 f = ∑ b, f b := by
  rw [← Equiv.sum_comp ord_ord.toPerm f, part, ← Fin.sum_univ_eq_sum_range (fun q => if h : q < 64 then f (ord ⟨q, h⟩) else 0) 64]
  exact Finset.sum_congr rfl fun q _ => dif_pos q.isLt

/-- Block `k` of tile `15 - t`. -/
def blk (t : Fin 16) (k : Fin 4) : Fin 64 := ⟨4 * (15 - t.val) + k.val, by omega⟩

theorem part_tile (t : Fin 16) (f : Fin 64 → ℝ) :
    part (4 * (t.val + 1)) f = part (4 * t.val) f + f (blk t 2) + f (blk t 3) + f (blk t 0) + f (blk t 1) := by
  have e (k : ℕ) (j : Fin 4) (hk : k < 4) (hj : j.val = (k + 2) % 4) :
      (if h : 4 * t.val + k < 64 then f (ord ⟨4 * t.val + k, h⟩) else 0) = f (blk t j) := by
    rw [dif_pos (by omega)]
    refine congrArg f (Fin.ext ?_)
    simp only [ord, blk]
    omega
  have e0 := e 0 2 (by omega) rfl
  simp only [Nat.add_zero] at e0
  rw [show 4 * (t.val + 1) = 4 * t.val + 1 + 1 + 1 + 1 by ring]
  simp only [part, Finset.sum_range_succ]
  rw [e0, e 1 3 (by omega) rfl, e 2 0 (by omega) rfl, e 3 1 (by omega) rfl]

end Bwd

end
-- ==== Proof.BwdIn.lean ====
module

public import proofs.«01_k».proof.Proof.BwdSpec
public import proofs.«01_k».proof.Proof.MixRef
public import proofs.«01_k».proof.Proof.Gen.MixBwdIdeal.Frame.Runs
public import Idealize.ShloMosaic.Lib.StableHlo.ReadAt
public import Idealize.ShloMosaic.Lib.Claim
public import Idealize.ShloMosaic.Lib.Pipeline.ValueKit

@[expose] public section

set_option maxRecDepth 16384
set_option maxHeartbeats 2000000

noncomputable section

/-! The input blocks of every point of the grid, from the arguments. -/

namespace Bwd.Ker

open Idealize.ShloMosaic Idealize.ShloMosaic.TcCoe Idealize.SL.Sem
open Cert.MixBwdIdeal Cert.MixBwdIdeal.Gen Lift Mix
open Fwd (rms rsqrt_ms)

/-- The kernel's arguments hold the real arrays `A`, and the derivative `dm` of the mixed rows. -/
structure Given (m : (ℓ : Loc nD τ sig) → Buf (Elt Ideal) ℓ) (c : Dev nD) (A : Args) (dm : Fin 8192 → Fin 1024 → ℝ) : Prop where
  x : ∀ a s k, (m ((c : Thread nD τ).loc main_arg0) : FVec Ideal S1x8192x1024 .f32) (ix3 a s k) = (A.x s k : EReal)
  shm : ∀ a k, (m ((c : Thread nD τ).loc main_arg1) : FVec Ideal S1x1024 .f32) (ix2 a k) = (A.shm k : EReal)
  scm : ∀ a k, (m ((c : Thread nD τ).loc main_arg2) : FVec Ideal S1x1024 .f32) (ix2 a k) = (A.scm k : EReal)
  pre : ∀ a k, (m ((c : Thread nD τ).loc main_arg3) : FVec Ideal S1x1024 .f32) (ix2 a k) = (A.pre k : EReal)
  wi : ∀ a k n, (m ((c : Thread nD τ).loc main_arg4) : FVec Ideal S1x1024x1536 .f32) (ix3 a k n) = (A.wi k n : EReal)
  sg : ∀ a h j, (m ((c : Thread nD τ).loc main_arg5) : FVec Ideal S1x4x128 .f32) (ix3 a h j) = (A.sg h j : EReal)
  ws : ∀ a h i j, (m ((c : Thread nD τ).loc main_arg6) : FVec Ideal S1x4x128x128 .f32) (ix4 a h i j) = (A.ws h i j : EReal)
  wo : ∀ a k n, (m ((c : Thread nD τ).loc main_arg10) : FVec Ideal S1x1024x1024 .f32) (ix3 a k n) = (A.wo k n : EReal)
  dm : ∀ s n, (m ((c : Thread nD τ).loc main_arg11) : FVec Ideal S8192x1024 .bf16) (ix2 s n) = (dm s n : EReal)

/-- Row `p` of the tile of point `t`, the tiles taken backwards. -/
def tt (t : Fin 16) (p : Fin 512) : Fin 8192 := ⟨512 * (15 - t.val) + p.val, by omega⟩

/-- What the blocks of one point hold. -/
structure Blocks (A : Args) (dm : Fin 8192 → Fin 1024 → ℝ) (t : Fin 16) (x0 : Vec Ideal S512x1024 .bf16) (x3 : Vec Ideal S512x1536 .bf16)
    (x7 : Vec Ideal S1024x1024 .bf16) (x8 : Vec Ideal S8x128 .f32) (x10 : Vec Ideal S4x128x128 .bf16) : Prop where
  dm : ∀ p n, x0 (ix2 p n) = (dm (tt t p) n : EReal)
  pj : ∀ p n, x3 (ix2 p n) = (pj A (tt t p) n : EReal)
  wo : ∀ k n, x7 (ix2 k n) = (A.wo k n : EReal)
  sg : ∀ (h : Fin 4) j, x8 (ix2 ⟨h.val, by omega⟩ j) = (A.sg h j : EReal)
  wm : ∀ h i j, x10 (ix3 h i j) = (wm A h j i : EReal)

variable {m : (ℓ : Loc nD τ sig) → Buf (Elt Ideal) ℓ} {c : Dev nD} {A : Args} {dm : Fin 8192 → Fin 1024 → ℝ} (H : Given m c A dm)
include H

theorem at_dm (s : Fin 8192) (n : Fin 1024) : (V m c main_arg11 : FVec Ideal S8192x1024 .bf16) (ix2 s n) = ((dm s n : ℝ) : EReal) := by
  unfold V
  after_reads_at
  exact H.dm _ _

theorem at_pj (s : Fin 8192) (n : Fin 1536) : (V m c main_v51 : FVec Ideal S8192x1536 .bf16) (ix2 s n) = ((pj A s n : ℝ) : EReal) := by
  unfold V
  after_reads_at
  simp only [H.x, H.pre, H.scm, H.shm, H.wi, ofBits_1024, ofBits_eps, ← EReal.coe_one, ← EReal.coe_mul, ← EReal.coe_add, sum_coe, div_1024, rsqrt_ms]
  rfl

theorem at_wo (k : Fin 1024) (n : Fin 1024) : (V m c main_v30 : FVec Ideal S1024x1024 .bf16) (ix2 k n) = ((A.wo k n : ℝ) : EReal) := by
  unfold V
  after_reads_at
  exact H.wo _ _ _

theorem at_sg (h : Fin 4) (j : Fin 128) : (V m c main_v24 : FVec Ideal S8x128 .f32) (ix2 ⟨h.val, by omega⟩ j) = ((A.sg h j : ℝ) : EReal) := by
  unfold V
  after_reads_at
  exact H.sg _ _ _

theorem at_wm (h : Fin 4) (i j : Fin 128) : (V m c main_v16 : FVec Ideal S4x128x128 .bf16) (ix3 h i j) = ((wm A h j i : ℝ) : EReal) := by
  unfold V
  after_reads_at
  have e := Mix.Ref.mask i j.val
  rw [Nat.mod_eq_of_lt j.isLt] at e
  refine (congrArg (fun b => Scalar.select b _ _) e).trans ?_
  exact (congrArg₂ (fun y z : EReal => Scalar.select (if i.val / 64 ≤ j.val / 64 then 1#1 else 0#1) y z) (H.ws 0 h j i) Ideal.ofBits_zero_f32).trans (Mix.Ref.sel _ _)

omit H

theorem idx0 : ∀ t : Fin cfg0.N, win0_0.index t = ![15 - t.val, 0] := (by decide +kernel : ∀ t : Fin grid0.N, _)
theorem idx3 : ∀ t : Fin cfg0.N, win0_3.index t = ![15 - t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx10 : ∀ t : Fin cfg0.N, win0_10.index t = ![0, 0, 0] := (by decide +kernel : ∀ t : Fin grid0.N, _)

/-- The point, as a number below sixteen. -/
def pt (t : Fin cfg0.N) : Fin 16 := ⟨t.val, lt_of_lt_of_eq t.isLt N_0⟩

theorem blk0 (t : Fin cfg0.N) (p : Fin 512) (k : Fin 1024) :
    (iblk m c 0 t : FVec Ideal S512x1024 .bf16) (ix2 p k) = (V m c main_arg11 : FVec Ideal S8192x1024 .bf16) (ix2 (tt (pt t) p) k) := by
  blk_simp [iblk]
  refine congrArg (V m c main_arg11 : FVec Ideal S8192x1024 .bf16) ?_
  blk_ext [idx0 t, tt, pt]

theorem blk3 (t : Fin cfg0.N) (p : Fin 512) (k : Fin 1536) :
    (iblk m c 3 t : FVec Ideal S512x1536 .bf16) (ix2 p k) = (V m c main_v51 : FVec Ideal S8192x1536 .bf16) (ix2 (tt (pt t) p) k) := by
  blk_simp [iblk]
  refine congrArg (V m c main_v51 : FVec Ideal S8192x1536 .bf16) ?_
  blk_ext [idx3 t, tt, pt]

theorem blk7 (t : Fin cfg0.N) (p : Fin 1024) (k : Fin 1024) :
    (iblk m c 7 t : FVec Ideal S1024x1024 .bf16) (ix2 p k) = (V m c main_v30 : FVec Ideal S1024x1024 .bf16) (ix2 p k) := by
  blk_simp [iblk]
  refine congrArg (V m c main_v30 : FVec Ideal S1024x1024 .bf16) ?_
  blk_ext [idx7 t]

theorem blk8 (t : Fin cfg0.N) (p : Fin 8) (k : Fin 128) :
    (iblk m c 8 t : FVec Ideal S8x128 .f32) (ix2 p k) = (V m c main_v24 : FVec Ideal S8x128 .f32) (ix2 p k) := by
  blk_simp [iblk]
  refine congrArg (V m c main_v24 : FVec Ideal S8x128 .f32) ?_
  blk_ext [idx8 t]

theorem blk10 (t : Fin cfg0.N) (a : Fin 4) (p : Fin 128) (k : Fin 128) :
    (iblk m c 10 t : FVec Ideal S4x128x128 .bf16) (ix3 a p k) = (V m c main_v16 : FVec Ideal S4x128x128 .bf16) (ix3 a p k) := by
  blk_simp [iblk]
  refine congrArg (V m c main_v16 : FVec Ideal S4x128x128 .bf16) ?_
  blk_ext [idx10 t]

include H in
theorem filled (t : Fin cfg0.N) : Blocks A dm (pt t) (iblk m c 0 t) (iblk m c 3 t) (iblk m c 7 t) (iblk m c 8 t) (iblk m c 10 t) where
  dm p n := (blk0 t p n).trans (at_dm H _ _)
  pj p n := (blk3 t p n).trans (at_pj H _ _)
  wo k n := (blk7 t k n).trans (at_wo H _ _)
  sg h j := (blk8 t _ j).trans (at_sg H h j)
  wm h i j := (blk10 t h i j).trans (at_wm H h i j)

end Bwd.Ker

end
-- ==== Proof.BwdTile.lean ====
module

public import proofs.«01_k».proof.Proof.BwdNames
public import proofs.«01_k».proof.Proof.BwdIn
public import Idealize.ShloMosaic.Lib.Pipeline.ReadBack

@[expose] public section

set_option maxRecDepth 16384
set_option maxHeartbeats 200000

noncomputable section

/-! What the named computations of `BwdNames` are on the blocks of a point, in the quantities of `BwdSpec`. -/

namespace Bwd.Ker

open Idealize.ShloMosaic Idealize.ShloMosaic.TcCoe Idealize.SL.Sem
open Cert.MixBwdIdeal Cert.MixBwdIdeal.Gen MixFrame Lift Mix
open Fwd (rms rsqrt_ms)

theorem c1_at : (Named.named (F := Ideal) Cert.MixBwdIdeal.κ "gelu_c1" (φ := .f32) 0x3D122279#32 : EReal) = ((80338380498831 / 2251799813685248 : ℝ) : EReal) := rfl

section
variable {a : Vec Ideal S128x128 .bf16} {z : Fin 128 → Fin 128 → ℝ} (ha : ∀ i c, a (ix2 i c) = (z i c : EReal))

include ha in
theorem gx_at (i c : Fin 128) : Gx a (ix2 i c) = ((gelu (z i c) : ℝ) : EReal) := by
  pointwise [Gx, k0_pay25, k0_pay27, k0_pay28, k0_pay29, k0_pay30, k0_pay31, k0_pay32]
  simp only [ha, ofBits_half, ofBits_c0, c1_at, ← EReal.coe_mul, ← EReal.coe_add, tanh_coe]
  rfl

theorem pay37_eq (a : Vec Ideal S128x128 .bf16) : k0_pay37 (k0_pay26 a) = Gx a := rfl

include ha in
theorem vh_at (i c : Fin 128) : Vh a (ix2 i c) = ((gelu (z i c) * rmsh (fun c => gelu (z i c)) : ℝ) : EReal) := by
  have e : Vh a = mulf (Gx a) (broadcastTo S128x128 (rsqrt (addf (divf (shapeCast S128x1 (multiReduction .add [1] S128 (mulf (Gx a) (Gx a)) 0x00000000#32 reduces_S128x128_S128 (.inl rfl) rfl)
      shapeCasts_S128_S128x1) (broadcast S128x1 (Scalar.ofBits .f32 0x43000000#32))) (broadcast S128x1 (Scalar.ofBits .f32 0x358637BD#32)))) (by decide)) := rfl
  rw [e]
  pointwise
  simp only [gx_at ha, ofBits_128, ofBits_eps, ← EReal.coe_mul, ← EReal.coe_add, sum_coe, div_128, rsqrt_msh]

include ha in
theorem vg_at {g : Vec Ideal S1x128 .f32} {γ : Fin 128 → ℝ} (hg : ∀ c, g (ix2 0 c) = (γ c : EReal)) (i c : Fin 128) :
    Vg a g (ix2 i c) = ((gelu (z i c) * rmsh (fun c => gelu (z i c)) * γ c : ℝ) : EReal) := by
  pointwise [Vg, k0_pay24]
  rw [vh_at ha, hg, ← EReal.coe_mul]

include ha in
theorem dz_at {D : FVec Ideal S256x1024 .f32} {d : Fin 256 → Fin 1024 → ℝ} (hD : ∀ p n, D (ix2 p n) = (d p n : EReal)) (r o : ℕ) (hr : r + 128 ≤ 256) (ho : o + 128 ≤ 1024)
    (i c : Fin 128) : Dz r o hr ho D a (ix2 i c) = ((d ⟨r + i.val, by omega⟩ ⟨o + c.val, by omega⟩ * gelu (z i c) : ℝ) : EReal) := by
  pointwise [Dz]
  rw [gx_at ha, EReal.coe_mul]
  exact congrArg (· * _) (hD _ _)

end

theorem wp_at {z : FVec Ideal S128x128 .f32} {v : FVec Ideal S128x128 .bf16} {Z W : Fin 128 → Fin 128 → ℝ} (hz : ∀ i c, z (ix2 i c) = (Z i c : EReal))
    (hv : ∀ i c, v (ix2 i c) = (W i c : EReal)) (i j : Fin 128) : Wp z v (ix2 i j) = ((∑ c, Z i c * W j c : ℝ) : EReal) := by
  pointwise [Wp]
  simp only [hz, hv, ← EReal.coe_mul, sum_coe]

theorem gp_at {z v : FVec Ideal S128x128 .f32} {w : Vec Ideal S1x128x128 .bf16} {Z U W : Fin 128 → Fin 128 → ℝ} (hz : ∀ i c, z (ix2 i c) = (Z i c : EReal))
    (hv : ∀ i c, v (ix2 i c) = (U i c : EReal)) (hw : ∀ i j, w (ix3 0 i j) = (W i j : EReal)) (c : Fin 128) :
    Gp z v w (ix2 0 c) = ((∑ j, (∑ i, W j i * Z i c) * U j c : ℝ) : EReal) := by
  pointwise [Gp]
  simp only [hz, hv, hw, ← EReal.coe_mul, sum_coe]

/-! ## The blocks -/

/-- A load from a buffer that holds `X`. -/
theorem ld_at {sp : Space} {s : Shape} {e : EltTy} (M : Memref sig .tc sp s e) (hM : M.IsWhole) (X : s.Idx → Elt Ideal e) (r : Rect s) {j : r.shape.Idx} {y : s.Idx} (h : r.emb j = y) :
    M.view.readAt (Elt Ideal) r.toLoadRect (hM.unread X) j = X y := by
  rw [View.readAt_apply, hM.read_unread]
  exact congrArg X h

theorem emb2 {M N o p m n : ℕ} (h : ∀ a, ![o, p] a + ![m, n] a ≤ (⟨2, ![M, N]⟩ : Shape).size a) (i : Fin m) (j : Fin n) :
    (Rect.unit (s := ⟨2, ![M, N]⟩) ![o, p] ![m, n] h).emb (ix2 i j)
      = ix2 ⟨o + i.val, Nat.lt_of_lt_of_le (Nat.add_lt_add_left i.isLt o) (h 0)⟩ ⟨p + j.val, Nat.lt_of_lt_of_le (Nat.add_lt_add_left j.isLt p) (h 1)⟩ := by
  funext a
  match a with
  | 0 => exact Fin.ext (ValueKit.rect_emb_unit_val ..)
  | 1 => exact Fin.ext (ValueKit.rect_emb_unit_val ..)

theorem emb3 {M h : ℕ} (hh : ∀ a, ![h, 0, 0] a + ![1, 128, 128] a ≤ (⟨3, ![M, 128, 128]⟩ : Shape).size a) (i j : Fin 128) :
    (Rect.unit (s := ⟨3, ![M, 128, 128]⟩) ![h, 0, 0] ![1, 128, 128] hh).emb (ix3 0 i j) = ix3 ⟨h, hh 0⟩ i j := by
  funext a
  match a with
  | 0 => exact Fin.ext (by simp [ValueKit.rect_emb_unit_val])
  | 1 => exact Fin.ext (by simp [ValueKit.rect_emb_unit_val])
  | 2 => exact Fin.ext (by simp [ValueKit.rect_emb_unit_val])

theorem tt_row (T : Fin 16) (k : Fin 4) (i : Fin 128) : tt T ⟨128 * k.val + i.val, by omega⟩ = row (blk T k) i := Fin.ext (by simp [tt, row, blk]; omega)

variable {m : (ℓ : Loc nD τ sig) → Buf (Elt Ideal) ℓ} {c : Dev nD} {t : Fin cfg0.N} {A : Args} {dm : Fin 8192 → Fin 1024 → ℝ} {T : Fin 16}
  (B : Blocks A dm T (iblk m c 0 t) (iblk m c 3 t) (iblk m c 7 t) (iblk m c 8 t) (iblk m c 10 t))
include B

theorem rdD_at (k : Fin 4) (p : Fin 256) (n : Fin 1024) :
    rdD m c t k (ix2 p n) = ((∑ x, dm (tt T ⟨256 * (k.val / 2) + p.val, by omega⟩) x * A.wo n x : ℝ) : EReal) := by
  pointwise [rdD, k0_pay20]
  rw [← sum_coe]
  refine Finset.sum_congr rfl fun x _ => (congrArg₂ (fun a b : EReal => a * b) ((ld_at _ _ _ _ (emb2 _ p x)).trans (Eq.trans (congrArg _ ?_) (B.dm ⟨256 * (k.val / 2) + p.val, by omega⟩ x)))
    ((ld_at _ _ _ _ (emb2 _ n x)).trans (Eq.trans (congrArg _ ?_) (B.wo n x)))).trans (EReal.coe_mul _ _).symm
  · exact congrArg (ix2 _) (Fin.ext (Nat.zero_add _))
  · exact congrArg₂ ix2 (Fin.ext (Nat.zero_add _)) (Fin.ext (Nat.zero_add _))

theorem rdP_at (k : Fin 4) (o : ℕ) (ho : o + 128 ≤ 1536) (i j : Fin 128) : rdP m c t k o ho (ix2 i j) = ((pj A (row (blk T k) i) ⟨o + j.val, by omega⟩ : ℝ) : EReal) := by
  rw [← tt_row]
  refine (ld_at _ _ _ _ (emb2 _ i j)).trans (B.pj _ _)

theorem rdG_at (h : Fin 4) (j : Fin 128) : rdG m c t h (ix2 0 j) = ((A.sg h j : ℝ) : EReal) := by
  refine (ld_at _ _ _ _ (emb2 _ 0 j)).trans (Eq.trans (congrArg _ ?_) (B.sg h j))
  exact congrArg₂ ix2 (Fin.ext (Nat.add_zero _)) (Fin.ext (Nat.zero_add _))

theorem rdW_at (h : Fin 4) (i j : Fin 128) : rdW m c t h (ix3 0 i j) = ((wm A h j i : ℝ) : EReal) := by
  exact (ld_at _ _ _ _ (emb3 _ i j)).trans (B.wm h i j)

theorem zP_at (k h : Fin 4) (i j : Fin 128) : zP m c t k h (ix2 i j) = ((bz A dm h i j (blk T k) : ℝ) : EReal) := by
  refine (dz_at (rdP_at B k _ _) (rdD_at B k) _ _ _ _ i j).trans ?_
  rw [bz, dz, dout, uu, ← tt_row]
  simp only [show 256 * (k.val / 2) + (128 * (k.val % 2) + i.val) = 128 * k.val + i.val by omega]

theorem wP_at (k h : Fin 4) (i j : Fin 128) : wP m c t k h (ix2 i j) = ((bw A dm h i j (blk T k) : ℝ) : EReal) := by
  refine (wp_at (zP_at B k h) (vg_at (rdP_at B k _ _) (rdG_at B h)) i j).trans ?_
  simp only [bw, bz, vn, vv, Nat.add_assoc]
  rfl

theorem gP_at (k h : Fin 4) (j : Fin 128) : gP m c t k h (ix2 0 j) = ((bg A dm h j (blk T k) : ℝ) : EReal) := by
  refine (gp_at (zP_at B k h) (vh_at (rdP_at B k _ _)) (rdW_at B h) j).trans ?_
  simp only [bg, bz, vhat, vv, Nat.add_assoc]
  rfl

end Bwd.Ker

end
-- ==== Proof.BwdList.lean ====
module

public import proofs.«01_k».proof.Proof.BwdTile

@[expose] public section

set_option maxRecDepth 16384

noncomputable section

/-! What the lists of pieces of `BwdNames` leave in the accumulators: each slab, or row, has its two blocks added. -/

namespace Bwd.Ker

open Idealize.ShloMosaic Idealize.ShloMosaic.TcCoe Idealize.SL.Sem
open Cert.MixBwdIdeal Cert.MixBwdIdeal.Gen

variable {sp : Space}

theorem slab_mem (h h' : Fin 4) (i j : Fin 128) : ix3 h' i j ∈ (slab h).set ↔ h' = h := by
  rw [Rect.mem_set_unit]
  constructor
  · intro hm
    have := hm 0
    exact Fin.ext (by simp at this; omega)
  · rintro rfl a
    match a with
    | 0 => simp
    | 1 => simp [i.isLt]
    | 2 => simp [j.isLt]

theorem line_mem (h : Fin 4) (r : Fin 8) (j : Fin 128) : ix2 r j ∈ (line h).set ↔ r.val = h.val := by
  rw [Rect.mem_set_unit]
  constructor
  · intro hm
    have := hm 0
    simp at this; omega
  · intro e a
    match a with
    | 0 => simp [e]
    | 1 => simp [j.isLt]

theorem line_emb (h : Fin 4) (r : Fin 8) (e : r.val = h.val) (j : Fin 128) : (line h).emb (ix2 0 j) = ix2 r j := by
  refine (emb2 (line_ok h) 0 j).trans ?_
  exact congrArg₂ ix2 (Fin.ext e.symm) (Fin.ext (Nat.zero_add _))

/-! ## One piece more -/

theorem slab_sum (Q : Vec Ideal S1x128x128 .f32) (P : FVec Ideal S128x128 .f32) (i j : Fin 128) :
    shapeCast S1x128x128 (addf (shapeCast S128x128 (show FVec Ideal S1x128x128 .f32 from Q) shapeCasts_S1x128x128_S128x128) P) shapeCasts_S128x128_S1x128x128 (ix3 0 i j) = Q (ix3 0 i j) + P (ix2 i j) := by
  pointwise

theorem line_sum (Q : Vec Ideal S1x128 .f32) (P : FVec Ideal S1x128 .f32) (j : Fin 128) :
    addf (shapeCast S1x128 (show FVec Ideal S1x128 .f32 from Q) shapeCasts_S1x128_S1x128) P (ix2 0 j) = Q (ix2 0 j) + P (ix2 0 j) := by
  pointwise

theorem put3_at (v : View sig .tc sp S4x128x128 .f32) (h h' : Fin 4) (P : FVec Ideal S128x128 .f32) (L : List (View.Piece (Elt Ideal) S4x128x128 .f32)) (i j : Fin 128) :
    View.canon (put3 v h P L) (ix3 h' i j) = if h' = h then View.canon L (ix3 h' i j) + P (ix2 i j) else View.canon L (ix3 h' i j) := by
  by_cases e : h' = h
  · subst e
    rw [if_pos rfl]
    refine (congrArg _ (emb3 (slab_ok h') i j).symm).trans ((View.canon_cons_emb (Val := Elt Ideal) (slab h') _ L (ix3 0 i j)).trans ((slab_sum _ P i j).trans ?_))
    rw [View.readCov_eq_canon']
    exact congrArg (fun y => View.canon L y + P (ix2 i j)) (emb3 (slab_ok h') i j)
  · rw [if_neg e]
    exact View.canon_cons_of_not_mem _ _ fun hm => e ((slab_mem h h' i j).mp hm)

theorem new3_at (M : Memref sig .tc sp S4x128x128 .f32) (hM : M.IsWhole) (X : Vec Ideal S4x128x128 .f32) (h h' : Fin 4) (P : FVec Ideal S128x128 .f32)
    (L : List (View.Piece (Elt Ideal) S4x128x128 .f32)) (i j : Fin 128) :
    View.canon (new3 M.view (hM.unread X) h P L) (ix3 h' i j) = if h' = h then X (ix3 h' i j) + P (ix2 i j) else View.canon L (ix3 h' i j) := by
  by_cases e : h' = h
  · subst e
    rw [if_pos rfl]
    refine (congrArg _ (emb3 (slab_ok h') i j).symm).trans ((View.canon_cons_emb (Val := Elt Ideal) (slab h') _ L (ix3 0 i j)).trans ((slab_sum _ P i j).trans ?_))
    exact congrArg (fun y => y + P (ix2 i j)) (ld_at M hM X (slab h') (emb3 (slab_ok h') i j))
  · rw [if_neg e]
    exact View.canon_cons_of_not_mem _ _ fun hm => e ((slab_mem h h' i j).mp hm)

theorem put2_at (v : View sig .tc sp S8x128 .f32) (h : Fin 4) (P : FVec Ideal S1x128 .f32) (L : List (View.Piece (Elt Ideal) S8x128 .f32)) (r : Fin 8) (j : Fin 128) :
    View.canon (put2 v h P L) (ix2 r j) = if r.val = h.val then View.canon L (ix2 r j) + P (ix2 0 j) else View.canon L (ix2 r j) := by
  by_cases e : r.val = h.val
  · rw [if_pos e]
    refine (congrArg _ (line_emb h r e j).symm).trans ((View.canon_cons_emb (Val := Elt Ideal) (line h) _ L (ix2 0 j)).trans ((line_sum _ P j).trans ?_))
    rw [View.readCov_eq_canon']
    exact congrArg (fun y => View.canon L y + P (ix2 0 j)) (line_emb h r e j)
  · rw [if_neg e]
    exact View.canon_cons_of_not_mem _ _ fun hm => e ((line_mem h r j).mp hm)

theorem new2_at (M : Memref sig .tc sp S8x128 .f32) (hM : M.IsWhole) (X : Vec Ideal S8x128 .f32) (h : Fin 4) (P : FVec Ideal S1x128 .f32)
    (L : List (View.Piece (Elt Ideal) S8x128 .f32)) (r : Fin 8) (j : Fin 128) :
    View.canon (new2 M.view (hM.unread X) h P L) (ix2 r j) = if r.val = h.val then X (ix2 r j) + P (ix2 0 j) else View.canon L (ix2 r j) := by
  by_cases e : r.val = h.val
  · rw [if_pos e]
    refine (congrArg _ (line_emb h r e j).symm).trans ((View.canon_cons_emb (Val := Elt Ideal) (line h) _ L (ix2 0 j)).trans ((line_sum _ P j).trans ?_))
    exact congrArg (fun y => y + P (ix2 0 j)) (ld_at M hM X (line h) (line_emb h r e j))
  · rw [if_neg e]
    exact View.canon_cons_of_not_mem _ _ fun hm => e ((line_mem h r j).mp hm)

/-! ## Two blocks of every head -/

theorem half3_at (v : View sig .tc sp S4x128x128 .f32) (P Q : Fin 4 → FVec Ideal S128x128 .f32) (L : List (View.Piece (Elt Ideal) S4x128x128 .f32)) (h : Fin 4) (i j : Fin 128) :
    View.canon (half3 v P Q L) (ix3 h i j) = View.canon L (ix3 h i j) + P h (ix2 i j) + Q h (ix2 i j) := by
  unfold half3
  match h with
  | 0 => simp only [put3_at]; rfl
  | 1 => simp only [put3_at]; rfl
  | 2 => simp only [put3_at]; rfl
  | 3 => simp only [put3_at]; rfl

theorem start3_at (M : Memref sig .tc sp S4x128x128 .f32) (hM : M.IsWhole) (X : Vec Ideal S4x128x128 .f32) (P Q : Fin 4 → FVec Ideal S128x128 .f32) (h : Fin 4) (i j : Fin 128) :
    View.canon (start3 M.view (hM.unread X) P Q) (ix3 h i j) = X (ix3 h i j) + P h (ix2 i j) + Q h (ix2 i j) := by
  unfold start3
  match h with
  | 0 => simp only [put3_at, new3_at]; rfl
  | 1 => simp only [put3_at, new3_at]; rfl
  | 2 => simp only [put3_at, new3_at]; rfl
  | 3 => simp only [put3_at, new3_at]; rfl

theorem half2_at (v : View sig .tc sp S8x128 .f32) (P Q : Fin 4 → FVec Ideal S1x128 .f32) (L : List (View.Piece (Elt Ideal) S8x128 .f32)) (h : Fin 4) (j : Fin 128) :
    View.canon (half2 v P Q L) (ix2 ⟨h.val, by omega⟩ j) = View.canon L (ix2 ⟨h.val, by omega⟩ j) + P h (ix2 0 j) + Q h (ix2 0 j) := by
  unfold half2
  match h with
  | 0 => simp only [put2_at]; rfl
  | 1 => simp only [put2_at]; rfl
  | 2 => simp only [put2_at]; rfl
  | 3 => simp only [put2_at]; rfl

theorem half2_low (v : View sig .tc sp S8x128 .f32) (P Q : Fin 4 → FVec Ideal S1x128 .f32) (L : List (View.Piece (Elt Ideal) S8x128 .f32)) (r : Fin 8) (hr : ¬ r.val < 4) (j : Fin 128) :
    View.canon (half2 v P Q L) (ix2 r j) = View.canon L (ix2 r j) := by
  have n (h : Fin 4) : ¬ r.val = h.val := by omega
  unfold half2
  simp only [put2_at, if_neg (n _)]

theorem start2_at (M : Memref sig .tc sp S8x128 .f32) (hM : M.IsWhole) (X : Vec Ideal S8x128 .f32) (P Q : Fin 4 → FVec Ideal S1x128 .f32) (h : Fin 4) (j : Fin 128) :
    View.canon (start2 M.view (hM.unread X) P Q) (ix2 ⟨h.val, by omega⟩ j) = X (ix2 ⟨h.val, by omega⟩ j) + P h (ix2 0 j) + Q h (ix2 0 j) := by
  unfold start2
  match h with
  | 0 => simp only [put2_at, new2_at]; rfl
  | 1 => simp only [put2_at, new2_at]; rfl
  | 2 => simp only [put2_at, new2_at]; rfl
  | 3 => simp only [put2_at, new2_at]; rfl

/-- The pieces over what the buffer held: a row of a head … -/
theorem over_at (M : Memref sig .tc sp S8x128 .f32) (hM : M.IsWhole) (X : Vec Ideal S8x128 .f32) (P Q P' Q' : Fin 4 → FVec Ideal S1x128 .f32) (h : Fin 4) (j : Fin 128) :
    M.view.read (Elt Ideal) (M.view.writes (Elt Ideal) (hM.unread X) (half2 M.view P Q (start2 M.view (hM.unread X) P' Q'))) (ix2 ⟨h.val, by omega⟩ j)
      = X (ix2 ⟨h.val, by omega⟩ j) + P' h (ix2 0 j) + Q' h (ix2 0 j) + P h (ix2 0 j) + Q h (ix2 0 j) := by
  rw [View.read_writes_apply_eq_canon, half2_at, start2_at]
  match h with
  | 3 => exact ⟨_, .head _, (line_mem 3 _ j).mpr rfl⟩
  | 2 => exact ⟨_, .tail _ (.tail _ (.head _)), (line_mem 2 _ j).mpr rfl⟩
  | 1 => exact ⟨_, .tail _ (.tail _ (.tail _ (.tail _ (.head _)))), (line_mem 1 _ j).mpr rfl⟩
  | 0 => exact ⟨_, .tail _ (.tail _ (.tail _ (.tail _ (.tail _ (.tail _ (.head _)))))), (line_mem 0 _ j).mpr rfl⟩

/-- … and one of the others. -/
theorem over_low (M : Memref sig .tc sp S8x128 .f32) (hM : M.IsWhole) (X : Vec Ideal S8x128 .f32) (P Q P' Q' : Fin 4 → FVec Ideal S1x128 .f32) (r : Fin 8) (hr : ¬ r.val < 4) (j : Fin 128) :
    M.view.read (Elt Ideal) (M.view.writes (Elt Ideal) (hM.unread X) (half2 M.view P Q (start2 M.view (hM.unread X) P' Q'))) (ix2 r j) = X (ix2 r j) := by
  have n (h : Fin 4) : ix2 r j ∉ (line h).set := fun hm => by have := (line_mem h r j).mp hm; omega
  rw [View.read_writes_apply_of_forall_not_mem]
  · exact congrFun (hM.read_unread X) _
  · intro p hp
    simp only [half2, start2, put2, new2, List.mem_cons, List.not_mem_nil, or_false] at hp
    rcases hp with rfl | rfl | rfl | rfl | rfl | rfl | rfl | rfl | rfl | rfl | rfl | rfl | rfl | rfl | rfl | rfl <;> exact n _

end Bwd.Ker

end
-- ==== Proof.BwdAcc.lean ====
module

public import proofs.«01_k».proof.Proof.BwdList
public import proofs.«01_k».proof.Proof.MixFrame

@[expose] public section

set_option maxRecDepth 16384

noncomputable section

/-! The accumulators after every point of the grid: the sums over the blocks taken so far. -/

namespace Bwd.Ker

open Idealize.ShloMosaic Idealize.ShloMosaic.TcCoe Idealize.SL.Sem
open Cert.MixBwdIdeal Cert.MixBwdIdeal.Gen MixFrame Lift Mix

/-- After `n` tiles. -/
structure Acc (A : Args) (dm : Fin 8192 → Fin 1024 → ℝ) (n : ℕ) (s : St Ideal) : Prop where
  w : ∀ h i j, (s.s1 : FVec Ideal S4x128x128 .f32) (ix3 h i j) = ((part (4 * n) (bw A dm h i j) : ℝ) : EReal)
  z : ∀ h i j, (s.s3 : FVec Ideal S4x128x128 .f32) (ix3 h i j) = ((part (4 * n) (bz A dm h i j) : ℝ) : EReal)
  g : ∀ r k, (s.o20 : FVec Ideal S8x128 .f32) (ix2 r k) = ((rows (fun h k => part (4 * n) (bg A dm h k)) r k : ℝ) : EReal)

theorem tile_sum (T : Fin 16) (f : Fin 64 → ℝ) :
    ((part (4 * T.val) f : ℝ) : EReal) + (f (blk T 2) : EReal) + (f (blk T 3) : EReal) + (f (blk T 0) : EReal) + (f (blk T 1) : EReal) = ((part (4 * (T.val + 1)) f : ℝ) : EReal) := by
  rw [part_tile]; simp only [EReal.coe_add]

theorem tile_zero (T : Fin 16) (hT : T.val = 0) (f : Fin 64 → ℝ) : (0 : EReal) = ((part (4 * T.val) f : ℝ) : EReal) := by
  rw [hT, Nat.mul_zero, part_zero, EReal.coe_zero]

theorem zero3_at (h : Fin 4) (i j : Fin 128) : View.canon zero3 (ix3 h i j) = (0 : EReal) := by
  refine (congrFun (View.canon_cons_unit_lit _ _ _ (by decide)) _).trans ?_
  pointwise [k0_pay15]

theorem zero2_at (r : Fin 8) (j : Fin 128) : View.canon zero2 (ix2 r j) = (0 : EReal) := by
  refine (congrFun (View.canon_cons_unit_lit _ _ _ (by decide)) _).trans ?_
  pointwise [k0_pay18]

theorem rows_of (f : Fin 4 → Fin 128 → ℝ) (h : Fin 4) (k : Fin 128) : rows f ⟨h.val, by omega⟩ k = f h k := dif_pos h.isLt
theorem rows_low (f : Fin 4 → Fin 128 → ℝ) (r : Fin 8) (hr : ¬ r.val < 4) (k : Fin 128) : rows f r k = 0 := dif_neg hr

/-! The fields of the records, as lists of pieces. -/

section
variable (m : (ℓ : Loc nD τ sig) → Buf (Elt Ideal) ℓ) (c : Dev nD) (t : Fin cfg0.N)

section
variable (h0 : t.val % 16 = 0) (h1 : ¬t.val % 16 = 15)
theorem stA_s1 : (stA m c t h0 h1).s1 = View.canon (lsA m c t h0 h1).s1 := by unfold stA; dsimp only
theorem stA_s3 : (stA m c t h0 h1).s3 = View.canon (lsA m c t h0 h1).s3 := by unfold stA; dsimp only
theorem stA_o20 : (stA m c t h0 h1).o20 = View.canon (lsA m c t h0 h1).o20 := by unfold stA; dsimp only
end

section
variable (h0 : ¬t.val % 16 = 0) (h1 : ¬t.val % 16 = 15) (s : St Ideal)
theorem stB_s1 : (stB m c t h0 h1 s).s1 = View.canon (lsB m c t h0 h1 s).s1 := by unfold stB; dsimp only
theorem stB_s3 : (stB m c t h0 h1 s).s3 = View.canon (lsB m c t h0 h1 s).s3 := by unfold stB; dsimp only
theorem stB_o20 : (stB m c t h0 h1 s).o20 = (ms0_20 t).view.read (Elt Ideal) ((ms0_20 t).view.writes (Elt Ideal) ((hs0_20 t).unread s.o20) (lsB m c t h0 h1 s).o20) := by
  unfold stB; dsimp only
end

section
variable (h0 : ¬t.val % 16 = 0) (h1 : t.val % 16 = 15) (s : St Ideal)
theorem stC_s1 : (stC m c t h0 h1 s).s1 = View.canon (lsC m c t h0 h1 s).s1 := by unfold stC; dsimp only
theorem stC_s3 : (stC m c t h0 h1 s).s3 = View.canon (lsC m c t h0 h1 s).s3 := by unfold stC; dsimp only
theorem stC_o17 : (stC m c t h0 h1 s).o17 = View.canon (lsC m c t h0 h1 s).o17 := by unfold stC; dsimp only
theorem stC_o19 : (stC m c t h0 h1 s).o19 = View.canon (lsC m c t h0 h1 s).o19 := by unfold stC; dsimp only
theorem stC_o20 : (stC m c t h0 h1 s).o20 = (ms0_20 t).view.read (Elt Ideal) ((ms0_20 t).view.writes (Elt Ideal) ((hs0_20 t).unread s.o20) (lsC m c t h0 h1 s).o20) := by
  unfold stC; dsimp only
end

end

variable {m : (ℓ : Loc nD τ sig) → Buf (Elt Ideal) ℓ} {c : Dev nD} {t : Fin cfg0.N} {A : Args} {dm : Fin 8192 → Fin 1024 → ℝ}
  (B : Blocks A dm (pt t) (iblk m c 0 t) (iblk m c 3 t) (iblk m c 7 t) (iblk m c 8 t) (iblk m c 10 t))
include B

theorem acc_A (h0 : t.val % 16 = 0) (h1 : ¬t.val % 16 = 15) (ht : (pt t).val = 0) : Acc A dm ((pt t).val + 1) (stA m c t h0 h1) where
  w h i j := by
    rw [stA_s1, s1A]
    rw [half3_at, half3_at, zero3_at, tile_zero (pt t) ht (bw A dm h i j), wP_at B, wP_at B, wP_at B, wP_at B]
    exact tile_sum _ _
  z h i j := by
    rw [stA_s3, s3A]
    rw [half3_at, half3_at, zero3_at, tile_zero (pt t) ht (bz A dm h i j), zP_at B, zP_at B, zP_at B, zP_at B]
    exact tile_sum _ _
  g r k := by
    rw [stA_o20, o20A]
    by_cases hr : r.val < 4
    · refine (half2_at _ _ _ _ ⟨r.val, hr⟩ k).trans ?_
      rw [half2_at, zero2_at, tile_zero (pt t) ht (bg A dm ⟨r.val, hr⟩ k), gP_at B, gP_at B, gP_at B, gP_at B]
      refine (tile_sum _ _).trans (congrArg _ ?_)
      exact (rows_of (fun h k => part (4 * ((pt t).val + 1)) (bg A dm h k)) ⟨r.val, hr⟩ k).symm
    · rw [half2_low _ _ _ _ r hr, half2_low _ _ _ _ r hr, zero2_at, rows_low _ r hr, EReal.coe_zero]

/-- The steps after the first point. -/
theorem acc_w {s : St Ideal} (S : Acc A dm (pt t).val s) (h : Fin 4) (i j : Fin 128) :
    View.canon (half3 scM0_1.view (wP m c t 0) (wP m c t 1) (start3 scM0_1.view ((Memref.isWhole_whole _).unread s.s1) (wP m c t 2) (wP m c t 3))) (ix3 h i j)
      = ((part (4 * ((pt t).val + 1)) (bw A dm h i j) : ℝ) : EReal) := by
  rw [half3_at, start3_at, S.w, wP_at B, wP_at B, wP_at B, wP_at B]
  exact tile_sum _ _

theorem acc_z {s : St Ideal} (S : Acc A dm (pt t).val s) (h : Fin 4) (i j : Fin 128) :
    View.canon (half3 scM0_3.view (zP m c t 0) (zP m c t 1) (start3 scM0_3.view ((Memref.isWhole_whole _).unread s.s3) (zP m c t 2) (zP m c t 3))) (ix3 h i j)
      = ((part (4 * ((pt t).val + 1)) (bz A dm h i j) : ℝ) : EReal) := by
  rw [half3_at, start3_at, S.z, zP_at B, zP_at B, zP_at B, zP_at B]
  exact tile_sum _ _

theorem acc_g {s : St Ideal} (S : Acc A dm (pt t).val s) (r : Fin 8) (k : Fin 128) :
    (ms0_20 t).view.read (Elt Ideal) ((ms0_20 t).view.writes (Elt Ideal) ((hs0_20 t).unread s.o20)
      (half2 (ms0_20 t).view (gP m c t 0) (gP m c t 1) (start2 (ms0_20 t).view ((hs0_20 t).unread s.o20) (gP m c t 2) (gP m c t 3)))) (ix2 r k)
      = ((rows (fun h k => part (4 * ((pt t).val + 1)) (bg A dm h k)) r k : ℝ) : EReal) := by
  by_cases hr : r.val < 4
  · refine (over_at _ (hs0_20 t) _ _ _ _ _ ⟨r.val, hr⟩ k).trans ?_
    rw [S.g, gP_at B, gP_at B, gP_at B, gP_at B, rows_of _ ⟨r.val, hr⟩ k]
    refine (tile_sum _ _).trans (congrArg _ ?_)
    exact (rows_of (fun h k => part (4 * ((pt t).val + 1)) (bg A dm h k)) ⟨r.val, hr⟩ k).symm
  · refine (over_low _ (hs0_20 t) _ _ _ _ _ r hr k).trans ((S.g r k).trans ?_)
    rw [rows_low _ r hr, rows_low _ r hr]

theorem acc_B (h0 : ¬t.val % 16 = 0) (h1 : ¬t.val % 16 = 15) {s : St Ideal} (S : Acc A dm (pt t).val s) : Acc A dm ((pt t).val + 1) (stB m c t h0 h1 s) where
  w h i j := by
    rw [stB_s1, s1B]
    exact acc_w B S h i j
  z h i j := by
    rw [stB_s3, s3B]
    exact acc_z B S h i j
  g r k := by
    rw [stB_o20, o20B]
    exact acc_g B S r k

theorem acc_C (h0 : ¬t.val % 16 = 0) (h1 : t.val % 16 = 15) {s : St Ideal} (S : Acc A dm (pt t).val s) : Acc A dm ((pt t).val + 1) (stC m c t h0 h1 s) where
  w h i j := by
    rw [stC_s1, s1C]
    exact acc_w B S h i j
  z h i j := by
    rw [stC_s3, s3C]
    exact acc_z B S h i j
  g r k := by
    rw [stC_o20, o20C]
    exact acc_g B S r k

/-! ## The results stored at the last point -/

theorem rowS_at (h0 : ¬t.val % 16 = 0) (h1 : t.val % 16 = 15) {s : St Ideal} (S : Acc A dm (pt t).val s) (h : Fin 4) (i : Fin 128) :
    rowS m c t h0 h1 s h (ix2 0 i) = ((∑ j, part (4 * ((pt t).val + 1)) (bz A dm h i j) : ℝ) : EReal) := by
  pointwise [rowS, k0_pay12]
  rw [← sum_coe]
  refine Finset.sum_congr rfl fun j _ => ?_
  rw [View.readCov_eq_canon', s3C]
  exact (congrArg _ (emb3 (slab_ok h) i j)).trans (acc_z B S h i j)

theorem last_w (h0 : ¬t.val % 16 = 0) (h1 : t.val % 16 = 15) {s : St Ideal} (S : Acc A dm (pt t).val s) (h : Fin 4) (i j : Fin 128) :
    ((stC m c t h0 h1 s).o17 : FVec Ideal S4x128x128 .bf16) (ix3 h i j) = ((part (4 * ((pt t).val + 1)) (bw A dm h i j) : ℝ) : EReal) := by
  rw [stC_o17, o17C]
  refine (congrFun (View.canon_cons_unit_lit _ _ _ (by decide)) _).trans ?_
  pointwise [k0_pay9]
  rw [View.readCov_eq_canon', s1C]
  refine (congrArg _ ?_).trans (acc_w B S h i j)
  refine funext fun a => Fin.ext ((ValueKit.rect_emb_unit_val (s := S4x128x128) ![0, 0, 0] S4x128x128.size inb_S4x128x128_S4x128x128_0_0_0 (ix3 h i j) a).trans ?_)
  match a with
  | 0 => exact Nat.zero_add _
  | 1 => exact Nat.zero_add _
  | 2 => exact Nat.zero_add _

theorem last_z (h0 : ¬t.val % 16 = 0) (h1 : t.val % 16 = 15) {s : St Ideal} (S : Acc A dm (pt t).val s) (r : Fin 8) (k : Fin 128) :
    ((stC m c t h0 h1 s).o19 : FVec Ideal S8x128 .f32) (ix2 r k) = ((rows (fun h i => ∑ j, part (4 * ((pt t).val + 1)) (bz A dm h i j)) r k : ℝ) : EReal) := by
  rw [stC_o19, o19C]
  have hit (h : Fin 4) (e : r.val = h.val) (L : List (View.Piece (Elt Ideal) S8x128 .f32)) : View.canon (Val := Elt Ideal) (⟨line h, rowS m c t h0 h1 s h⟩ :: L) (ix2 r k) = ((rows (fun h i => ∑ j, part (4 * ((pt t).val + 1)) (bz A dm h i j)) r k : ℝ) : EReal) := by
    refine (congrArg _ (line_emb h r e k).symm).trans ((View.canon_cons_emb (Val := Elt Ideal) (line h) _ L (ix2 0 k)).trans ((rowS_at B h0 h1 S h k).trans ?_))
    obtain ⟨v, hv⟩ := r
    simp only at e
    subst e
    exact congrArg _ (rows_of (fun h i => ∑ j, part (4 * ((pt t).val + 1)) (bz A dm h i j)) h k).symm
  have miss (h : Fin 4) (e : ¬ r.val = h.val) (L : List (View.Piece (Elt Ideal) S8x128 .f32)) : View.canon (⟨line h, rowS m c t h0 h1 s h⟩ :: L) (ix2 r k) = View.canon L (ix2 r k) :=
    View.canon_cons_of_not_mem _ _ fun hm => e ((line_mem h r k).mp hm)
  by_cases e3 : r.val = (3 : Fin 4).val
  · exact hit 3 e3 _
  rw [miss 3 e3]
  by_cases e2 : r.val = (2 : Fin 4).val
  · exact hit 2 e2 _
  rw [miss 2 e2]
  by_cases e1 : r.val = (1 : Fin 4).val
  · exact hit 1 e1 _
  rw [miss 1 e1]
  by_cases e0 : r.val = (0 : Fin 4).val
  · exact hit 0 e0 _
  rw [miss 0 e0, rows_low _ r (by simp at e0 e1 e2 e3; omega)]
  refine (congrFun (View.canon_cons_unit_lit _ _ _ (by decide)) _).trans ?_
  pointwise [k0_pay11]
  exact EReal.coe_zero.symm

omit B

theorem acc_all (B : ∀ t : Fin cfg0.N, Blocks A dm (pt t) (iblk m c 0 t) (iblk m c 3 t) (iblk m c 7 t) (iblk m c 8 t) (iblk m c 10 t)) :
    ∀ (n : ℕ) (hn : n < cfg0.N), Acc A dm (n + 1) (stAt m c n hn)
  | 0, hn => by
    rw [stAt_A m c ⟨0, hn⟩ rfl (by simp)]
    exact acc_A (B ⟨0, hn⟩) rfl (by simp) rfl
  | n + 1, hn => by
    have hl : n + 1 < 16 := lt_of_lt_of_eq hn N_0
    have S := acc_all B n (by omega)
    have h0 : ¬(n + 1) % 16 = 0 := by omega
    by_cases h1 : (n + 1) % 16 = 15
    · rw [stAt_C m c ⟨n + 1, hn⟩ h0 h1]
      exact acc_C (B ⟨n + 1, hn⟩) h0 h1 S
    · rw [stAt_B m c ⟨n + 1, hn⟩ h0 h1]
      exact acc_B (B ⟨n + 1, hn⟩) h0 h1 S

end Bwd.Ker

end
-- ==== Proof.BwdArr.lean ====
module

public import proofs.«01_k».proof.Proof.BwdAcc

@[expose] public section

set_option maxRecDepth 16384

noncomputable section

/-! The three arrays of gradients that the launch leaves. -/

namespace Bwd.Ker

open Idealize.ShloMosaic Idealize.ShloMosaic.TcCoe Idealize.SL.Sem
open Cert.MixBwdIdeal Cert.MixBwdIdeal.Gen MixFrame Lift Mix
open Idealize.ShloMosaic.Pipeline (Dat)

theorem idx17 : ∀ t : Fin cfg0.N, win0_17.index t = ![0, 0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)

theorem last17 : ∀ t : Fin cfg0.N, (cfg0.win 17).flush t = true → t.val = 15 := (by decide +kernel : ∀ t : Fin grid0.N, _)
theorem last19 : ∀ t : Fin cfg0.N, (cfg0.win 19).flush t = true → t.val = 15 := (by decide +kernel : ∀ t : Fin grid0.N, _)
theorem last20 : ∀ t : Fin cfg0.N, (cfg0.win 20).flush t = true → t.val = 15 := (by decide +kernel : ∀ t : Fin grid0.N, _)

theorem eta3 {K M N : ℕ} (y : (⟨3, ![K, M, N]⟩ : Shape).Idx) : y = ix3 (y 0 : Fin K) (y 1 : Fin M) (y 2 : Fin N) := by
  funext a; fin_cases a <;> rfl
theorem eta2 {M N : ℕ} (y : (⟨2, ![M, N]⟩ : Shape).Idx) : y = ix2 (y 0 : Fin M) (y 1 : Fin N) := by
  funext a; fin_cases a <;> rfl

variable {m : (ℓ : Loc nD τ sig) → Buf (Elt Ideal) ℓ} {c : Dev nD} {A : Args} {dm : Fin 8192 → Fin 1024 → ℝ}
  (B : ∀ t : Fin cfg0.N, Blocks A dm (pt t) (iblk m c 0 t) (iblk m c 3 t) (iblk m c 7 t) (iblk m c 8 t) (iblk m c 10 t))
include B

theorem before_last (t : Fin cfg0.N) (ht : t.val = 15) : Acc A dm (pt t).val (stPrev m c t) := by
  obtain ⟨n, hn⟩ := t
  simp only at ht
  subst ht
  exact acc_all B 14 _

theorem at17 (t : Fin cfg0.N) (ht : t.val = 15) (h : Fin 4) (i j : Fin 128) : ((stAt m c t.val t.isLt).o17 : FVec Ideal S4x128x128 .bf16) (ix3 h i j) = ((dwm A dm h i j : ℝ) : EReal) := by
  rw [stAt_C m c t (by omega) (by omega)]
  refine (last_w (B t) _ _ (before_last B t ht) h i j).trans ?_
  rw [show 4 * ((pt t).val + 1) = 64 from congrArg (fun n => 4 * (n + 1)) ht, part_all]
  rfl

theorem at19 (t : Fin cfg0.N) (ht : t.val = 15) (r : Fin 8) (k : Fin 128) : ((stAt m c t.val t.isLt).o19 : FVec Ideal S8x128 .f32) (ix2 r k) = ((rows (db A dm) r k : ℝ) : EReal) := by
  rw [stAt_C m c t (by omega) (by omega)]
  refine (last_z (B t) _ _ (before_last B t ht) r k).trans ?_
  rw [show 4 * ((pt t).val + 1) = 64 from congrArg (fun n => 4 * (n + 1)) ht]
  simp only [part_all]
  rfl

theorem at20 (t : Fin cfg0.N) (ht : t.val = 15) (r : Fin 8) (k : Fin 128) : ((stAt m c t.val t.isLt).o20 : FVec Ideal S8x128 .f32) (ix2 r k) = ((rows (dg A dm) r k : ℝ) : EReal) := by
  refine ((acc_all B t.val t.isLt).g r k).trans ?_
  rw [show 4 * (t.val + 1) = 64 from congrArg (fun n => 4 * (n + 1)) ht]
  simp only [part_all]
  rfl

theorem arr17 : (dats m 0 c).arrAt 17 cfg0.N = fun i => ((dwm A dm (i 0) (i 1) (i 2) : ℝ) : EReal) := by
  refine (dats m 0 c).arrAt_eq_of_covers 17 _ (by decide +kernel) fun t hf y => ?_
  blk_simp
  rw [after0_17]
  have e0 : (win0_17.blk t).view.emb y 0 = y 0 := Fin.ext (by blk_point [idx17 t])
  have e1 : (win0_17.blk t).view.emb y 1 = y 1 := Fin.ext (by blk_point [idx17 t])
  have e2 : (win0_17.blk t).view.emb y 2 = y 2 := Fin.ext (by blk_point [idx17 t])
  rw [e0, e1, e2]
  exact (congrArg _ (eta3 y)).trans (at17 B t (last17 t hf) _ _ _)

theorem arr19 : (dats m 0 c).arrAt 19 cfg0.N = fun i => ((rows (db A dm) (i 0) (i 1) : ℝ) : EReal) := by
  refine (dats m 0 c).arrAt_eq_of_covers 19 _ (by decide +kernel) fun t hf y => ?_
  blk_simp
  rw [after0_19]
  have e0 : (win0_19.blk t).view.emb y 0 = y 0 := Fin.ext (by blk_point [idx19 t])
  have e1 : (win0_19.blk t).view.emb y 1 = y 1 := Fin.ext (by blk_point [idx19 t])
  rw [e0, e1]
  exact (congrArg _ (eta2 y)).trans (at19 B t (last19 t hf) _ _)

theorem arr20 : (dats m 0 c).arrAt 20 cfg0.N = fun i => ((rows (dg A dm) (i 0) (i 1) : ℝ) : EReal) := by
  refine (dats m 0 c).arrAt_eq_of_covers 20 _ (by decide +kernel) fun t hf y => ?_
  blk_simp
  rw [after0_20]
  have e0 : (win0_20.blk t).view.emb y 0 = y 0 := Fin.ext (by blk_point [idx20 t])
  have e1 : (win0_20.blk t).view.emb y 1 = y 1 := Fin.ext (by blk_point [idx20 t])
  rw [e0, e1]
  exact (congrArg _ (eta2 y)).trans (at20 B t (last20 t hf) _ _)

end Bwd.Ker

end
-- ==== Proof.BwdRef.lean ====
module

public import proofs.«01_k».proof.Proof.BwdSpec
public import proofs.«01_k».proof.Proof.MixRef
public import proofs.«01_k».proof.Proof.Gen.MixBwdRefIdeal.Run

@[expose] public section

set_option maxRecDepth 16384

noncomputable section

/-! The reference's three results, read entry by entry. -/

namespace Bwd.Ref

open Idealize.ShloMosaic Idealize.ShloMosaic.TcCoe Idealize.SL.Sem
open Cert.MixBwdRefIdeal Cert.MixBwdRefIdeal.Gen Cert.MixBwdRefIdeal.Value Lift Mix
open Fwd (rms rsqrt_ms)
open Mix.Ref (mask sel)

/-! ## Sums over several axes -/

/-- A host sum over the blocks and the columns … -/
theorem reduce_14 (h : (⟨5, ![1, 64, 128, 4, 128]⟩ : Shape).ReducesTo [1, 4] ⟨3, ![1, 128, 4]⟩) (v : (⟨5, ![1, 64, 128, 4, 128]⟩ : Shape).Idx → EReal)
    (init : EReal) (i : Fin 128) (k : Fin 4) : Ideal.hostReduceAdd h v init (ix3 0 i k) = init + ∑ p : Fin 128 × Fin 64, v (ix5 0 p.2 i k p.1) := by
  refine congrArg (init + ·) (Eq.symm (Finset.sum_bij (fun (p : Fin 128 × Fin 64) _ => ix5 (n0 := 1) (n1 := 64) (n2 := 128) (n3 := 4) (n4 := 128) 0 p.2 i k p.1) ?_ ?_ ?_ fun _ _ => rfl))
  · intro p _
    refine Finset.mem_filter.2 ⟨Finset.mem_univ _, ?_⟩
    funext b; fin_cases b <;> rfl
  · intro p _ q _ e
    exact Prod.ext (congrFun e 4) (congrFun e 1)
  · intro y hy
    have e := (Finset.mem_filter.1 hy).2
    refine ⟨(y 4, y 1), Finset.mem_univ _, ?_⟩
    have e2 : (y 2).val = i.val := congrArg Fin.val (congrFun e 1)
    have e3 : (y 3).val = k.val := congrArg Fin.val (congrFun e 2)
    funext a
    fin_cases a
    · exact Subsingleton.elim (α := Fin 1) _ _
    · rfl
    · exact Fin.ext e2.symm
    · exact Fin.ext e3.symm
    · rfl

/-- … and over the blocks and the steps. -/
theorem reduce_12 (h : (⟨5, ![1, 64, 128, 4, 128]⟩ : Shape).ReducesTo [1, 2] ⟨3, ![1, 4, 128]⟩) (v : (⟨5, ![1, 64, 128, 4, 128]⟩ : Shape).Idx → EReal)
    (init : EReal) (k : Fin 4) (c : Fin 128) : Ideal.hostReduceAdd h v init (ix3 0 k c) = init + ∑ p : Fin 64 × Fin 128, v (ix5 0 p.1 p.2 k c) := by
  refine congrArg (init + ·) (Eq.symm (Finset.sum_bij (fun (p : Fin 64 × Fin 128) _ => ix5 (n0 := 1) (n1 := 64) (n2 := 128) (n3 := 4) (n4 := 128) 0 p.1 p.2 k c) ?_ ?_ ?_ fun _ _ => rfl))
  · intro p _
    refine Finset.mem_filter.2 ⟨Finset.mem_univ _, ?_⟩
    funext b; fin_cases b <;> rfl
  · intro p _ q _ e
    exact Prod.ext (congrFun e 1) (congrFun e 2)
  · intro y hy
    have e := (Finset.mem_filter.1 hy).2
    refine ⟨(y 1, y 2), Finset.mem_univ _, ?_⟩
    have e2 : (y 3).val = k.val := congrArg Fin.val (congrFun e 1)
    have e3 : (y 4).val = c.val := congrArg Fin.val (congrFun e 2)
    funext a
    fin_cases a
    · exact Subsingleton.elim (α := Fin 1) _ _
    · rfl
    · rfl
    · exact Fin.ext e2.symm
    · exact Fin.ext e3.symm

/-- A host sum whose summed axes have one element each. -/
theorem reduce_014 (h : (⟨5, ![1, 1, 128, 4, 1]⟩ : Shape).ReducesTo [0, 1, 4] ⟨2, ![128, 4]⟩) (v : (⟨5, ![1, 1, 128, 4, 1]⟩ : Shape).Idx → EReal)
    (init : EReal) (i : Fin 128) (k : Fin 4) : Ideal.hostReduceAdd h v init (ix2 i k) = init + v (ix5 0 0 i k 0) := by
  refine congrArg (init + ·) (Finset.sum_eq_single_of_mem _ (Finset.mem_filter.2 ⟨Finset.mem_univ _, ?_⟩) fun y hy hne => absurd ?_ hne)
  · funext b; fin_cases b <;> rfl
  · have e := (Finset.mem_filter.1 hy).2
    have e2 : (y 2).val = i.val := congrArg Fin.val (congrFun e 0)
    have e3 : (y 3).val = k.val := congrArg Fin.val (congrFun e 1)
    funext a
    fin_cases a
    · exact Subsingleton.elim (α := Fin 1) _ _
    · exact Subsingleton.elim (α := Fin 1) _ _
    · exact Fin.ext e2
    · exact Fin.ext e3
    · exact Subsingleton.elim (α := Fin 1) _ _

theorem reduce_012 (h : (⟨5, ![1, 1, 1, 4, 128]⟩ : Shape).ReducesTo [0, 1, 2] ⟨2, ![4, 128]⟩) (v : (⟨5, ![1, 1, 1, 4, 128]⟩ : Shape).Idx → EReal)
    (init : EReal) (k : Fin 4) (c : Fin 128) : Ideal.hostReduceAdd h v init (ix2 k c) = init + v (ix5 0 0 0 k c) := by
  refine congrArg (init + ·) (Finset.sum_eq_single_of_mem _ (Finset.mem_filter.2 ⟨Finset.mem_univ _, ?_⟩) fun y hy hne => absurd ?_ hne)
  · funext b; fin_cases b <;> rfl
  · have e := (Finset.mem_filter.1 hy).2
    have e2 : (y 3).val = k.val := congrArg Fin.val (congrFun e 0)
    have e3 : (y 4).val = c.val := congrArg Fin.val (congrFun e 1)
    funext a
    fin_cases a
    · exact Subsingleton.elim (α := Fin 1) _ _
    · exact Subsingleton.elim (α := Fin 1) _ _
    · exact Subsingleton.elim (α := Fin 1) _ _
    · exact Fin.ext e2
    · exact Fin.ext e3

/-! ## The values -/

/-- The reference's arguments hold the real arrays `A`, and the derivative `dm` of the mixed rows. -/
structure Holds (V0 : Valuation τ sig (Elt Ideal)) (A : Args) (dm : Fin 8192 → Fin 1024 → ℝ) : Prop where
  x : ∀ a s k, (V0 (Proc.devRef .tc main_arg0) : FVec Ideal S1x8192x1024 .f32) (ix3 a s k) = (A.x s k : EReal)
  shm : ∀ a k, (V0 (Proc.devRef .tc main_arg1) : FVec Ideal S1x1024 .f32) (ix2 a k) = (A.shm k : EReal)
  scm : ∀ a k, (V0 (Proc.devRef .tc main_arg2) : FVec Ideal S1x1024 .f32) (ix2 a k) = (A.scm k : EReal)
  pre : ∀ a k, (V0 (Proc.devRef .tc main_arg3) : FVec Ideal S1x1024 .f32) (ix2 a k) = (A.pre k : EReal)
  wi : ∀ a k n, (V0 (Proc.devRef .tc main_arg4) : FVec Ideal S1x1024x1536 .f32) (ix3 a k n) = (A.wi k n : EReal)
  sg : ∀ a h c, (V0 (Proc.devRef .tc main_arg5) : FVec Ideal S1x4x128 .f32) (ix3 a h c) = (A.sg h c : EReal)
  ws : ∀ a h i j, (V0 (Proc.devRef .tc main_arg6) : FVec Ideal S1x4x128x128 .f32) (ix4 a h i j) = (A.ws h i j : EReal)
  wo : ∀ a k n, (V0 (Proc.devRef .tc main_arg10) : FVec Ideal S1x1024x1024 .f32) (ix3 a k n) = (A.wo k n : EReal)
  dm : ∀ s n, (V0 (Proc.devRef .tc main_arg11) : FVec Ideal S8192x1024 .bf16) (ix2 s n) = (dm s n : EReal)

variable {V0 : Valuation τ sig (Elt Ideal)} {A : Args} {dm : Fin 8192 → Fin 1024 → ℝ} (H : Holds V0 A dm)
include H

theorem v36 (a : Fin 1) (s : Fin 8192) (n : Fin 1536) : (res_main_v36 V0 : FVec Ideal S1x8192x1536 .f32) (ix3 a s n) = ((pj A s n : ℝ) : EReal) := by
  pointwise [res_main_v36]
  simp only [H.wi, H.x, H.pre, H.scm, H.shm, ofBits_1024, ofBits_eps, ← EReal.coe_one, ← EReal.coe_mul, ← EReal.coe_add, sum_coe, div_1024, rsqrt_ms]
  refine congrArg _ ?_
  unfold pj hh
  exact Finset.sum_congr rfl fun k _ => by ring

theorem v37 (a : Fin 1) (s : Fin 8192) (n : Fin 1024) : (res_main_v37 V0 : FVec Ideal S1x8192x1024 .f32) (ix3 a s n) = ((pj A s ⟨n.val, by omega⟩ : ℝ) : EReal) := by
  pointwise [res_main_v37]
  exact v36 H _ _ _

theorem v52 (a : Fin 1) (s : Fin 8192) (n : Fin 1024) : (res_main_v52 V0 : FVec Ideal S1x8192x1024 .f32) (ix3 a s n) = ((gelu (pj A s ⟨n.val, by omega⟩) : ℝ) : EReal) := by
  pointwise [res_main_v52]
  simp only [v37 H, ofBits_half, ofBits_c0, ofBits_c1, ← EReal.coe_one, ← EReal.coe_mul, ← EReal.coe_add, tanh_coe]
  rw [gelu_eq]

theorem v55 (a : Fin 1) (b : Fin 64) (j : Fin 128) (h : Fin 4) (c : Fin 128) :
    (res_main_v55 V0 : FVec Ideal S1x64x128x4x128 .f32) (ix5 a b j h c) = ((vv A (row b j) h c : ℝ) : EReal) := by
  pointwise [res_main_v55]
  rw [v52 H]
  unfold vv row
  congr 4 <;> simp <;> omega

theorem v66 (a : Fin 1) (b : Fin 64) (j : Fin 128) (h : Fin 4) (c : Fin 128) :
    (res_main_v66 V0 : FVec Ideal S1x64x128x4x128 .f32) (ix5 a b j h c) = ((vhat A (row b j) h c : ℝ) : EReal) := by
  pointwise [res_main_v66]
  simp only [v55 H, ofBits_128, ofBits_eps, ← EReal.coe_mul, ← EReal.coe_add, sum_coe, div_128, rsqrt_msh]
  rfl

theorem v68 (a : Fin 1) (b : Fin 64) (j : Fin 128) (h : Fin 4) (c : Fin 128) :
    (res_main_v68 V0 : FVec Ideal S1x64x128x4x128 .f32) (ix5 a b j h c) = ((vn A (row b j) h c : ℝ) : EReal) := by
  pointwise [res_main_v68]
  simp only [v66 H, H.sg, ← EReal.coe_mul]
  rfl

theorem v163 (a : Fin 1) (s : Fin 8192) (n : Fin 1024) :
    (res_main_v163 V0 : FVec Ideal S1x8192x1024 .f32) (ix3 a s n) = ((∑ k, dm s k * A.wo n k : ℝ) : EReal) := by
  pointwise [res_main_v163, res_main_v159]
  simp only [H.dm, H.wo, ← EReal.coe_mul, sum_coe]

theorem v167 (a : Fin 1) (b : Fin 64) (j : Fin 128) (h : Fin 4) (c : Fin 128) :
    (res_main_v167 V0 : FVec Ideal S1x64x128x4x128 .f32) (ix5 a b j h c) = ((dz A dm (row b j) h c : ℝ) : EReal) := by
  pointwise [res_main_v167, res_main_v53]
  rw [v163 H, v52 H, ← EReal.coe_mul]
  refine congrArg _ ?_
  unfold dz dout uu row
  rw [mul_comm]
  congr 1
  · refine Finset.sum_congr rfl fun k _ => ?_
    congr 2 <;> first | (apply Fin.ext; simp; omega) | skip
  · congr 2 <;> simp <;> omega

theorem v172 (h : Fin 4) (a : Fin 1) (b : Fin 64) (c i : Fin 128) :
    (res_main_v172 V0 : FVec Ideal S4x1x64x128x128 .f32) (ix5 h a b c i) = ((dz A dm (row b i) h c : ℝ) : EReal) := by
  pointwise [res_main_v172]
  exact v167 H _ _ _ _ _

omit H in
/-- The mask as the reference computes it. -/
def maskV (V0 : Valuation τ sig (Elt Ideal)) : IVec S128x128 1 :=
  cmpi .sle (broadcastInDim S128x128 ![0, 1] bcast_S1x128_S128x128_0_1 (select (andi (cmpi .ne (signi (res_main_v1 V0)) (broadcastInDim S1x128 ![] bcast_S_S1x128 (signi (res_main_call0_v0 V0)))) (cmpi .ne (Host.remsi (res_main_v1 V0) (broadcastInDim S1x128 ![] bcast_S_S1x128 (res_main_call0_v0 V0))) (broadcastInDim S1x128 ![] bcast_S_S1x128 (constantI S_ 32 0#32)))) (subi (res_main_call0_v2 V0) (broadcastInDim S1x128 ![] bcast_S_S1x128 (constantI S_ 32 1#32))) (res_main_call0_v2 V0))) (broadcastInDim S128x128 ![0, 1] bcast_S128x1_S128x128_0_1 (select (andi (cmpi .ne (signi (res_main_v3 V0)) (broadcastInDim S128x1 ![] bcast_S_S128x1 (signi (res_main_call1_v0 V0)))) (cmpi .ne (Host.remsi (res_main_v3 V0) (broadcastInDim S128x1 ![] bcast_S_S128x1 (res_main_call1_v0 V0))) (broadcastInDim S128x1 ![] bcast_S_S128x1 (constantI S_ 32 0#32)))) (subi (res_main_call1_v2 V0) (broadcastInDim S128x1 ![] bcast_S_S128x1 (constantI S_ 32 1#32))) (res_main_call1_v2 V0)))

omit H in
theorem maskV_at (i j : Fin 128) : maskV V0 (ix2 i j) = if j.val / 64 ≤ i.val / 64 then 1#1 else 0#1 := by
  have h := mask j i.val
  rw [Nat.mod_eq_of_lt i.isLt] at h
  exact h

theorem v12 (h : Fin 4) (i j : Fin 128) : (res_main_v12 V0 : FVec Ideal S4x128x128 .f32) (ix3 h i j) = ((wm A h i j : ℝ) : EReal) := by
  rw [res_main_v12, ← maskV]
  pointwise
  simp only [maskV_at, H.ws]
  exact sel _ _

/-! ## The results -/

omit H in
/-- The product for the spatial weights is summed over the blocks and the columns. -/
def pairs : dot_S4x1x64x128x128_S1x64x128x4x128_S4x128x128_123_014_4_2_0_3.contr.Idx ≃ Fin 64 × Fin 128 where
  toFun k := ((k ⟨1, by decide⟩ : Fin 64), (k ⟨2, by decide⟩ : Fin 128))
  invFun p := fun (a : Fin 3) => match a with
    | 0 => (0 : Fin 1)
    | 1 => p.1
    | 2 => p.2
  left_inv k := by
    funext a
    match a with
    | ⟨0, _⟩ => exact Subsingleton.elim (α := Fin 1) _ _
    | ⟨1, _⟩ => rfl
    | ⟨2, _⟩ => rfl
  right_inv p := rfl

theorem out182 (h : Fin 4) (i j : Fin 128) : (val4 V0 (Proc.devRef .tc main_v182) : FVec Ideal S4x128x128 .bf16) (ix3 h i j) = ((dwm A dm h i j : ℝ) : EReal) := by
  rw [val4_main_v182]
  pointwise
  refine (zero_add (M := EReal) _).trans ?_
  refine (Equiv.sum_comp pairs.symm _).symm.trans ?_
  refine (Finset.sum_congr (g := fun p : Fin 64 × Fin 128 => ((dz A dm (row p.1 i) h p.2 * vn A (row p.1 j) h p.2 : ℝ) : EReal)) rfl fun p _ => ?_).trans ?_
  · refine (congrArg₂ (fun a b : EReal => a * b) ((congrArg (res_main_v172 V0 : FVec Ideal S4x1x64x128x128 .f32) ?_).trans (v172 H h 0 p.1 p.2 i))
      ((congrArg (res_main_v68 V0 : FVec Ideal S1x64x128x4x128 .f32) ?_).trans (v68 H 0 p.1 j h p.2))).trans (EReal.coe_mul _ _).symm
    · funext a; fin_cases a <;> rfl
    · funext a; fin_cases a <;> rfl
  · rw [sum_coe]
    exact congrArg _ (Fintype.sum_prod_type _)

theorem out185 (r : Fin 8) (k : Fin 128) : (val4 V0 (Proc.devRef .tc main_v185) : FVec Ideal S8x128 .f32) (ix2 r k) = ((rows (db A dm) r k : ℝ) : EReal) := by
  rw [val4_main_v185]
  pointwise
  unfold rows
  split
  · rw [reduce_014]
    pointwise
    rw [reduce_14]
    simp only [v167 H, sum_coe]
    rw [zero_add]
    exact congrArg _ (Fintype.sum_prod_type _)
  · rfl

theorem out188 (r : Fin 8) (k : Fin 128) : (val4 V0 (Proc.devRef .tc main_v188) : FVec Ideal S8x128 .f32) (ix2 r k) = ((rows (dg A dm) r k : ℝ) : EReal) := by
  rw [val4_main_v188]
  pointwise
  unfold rows
  split
  · rw [reduce_012]
    pointwise
    rw [reduce_12]
    pointwise
    simp only [v66 H, v172 H, v12 H, ← EReal.coe_mul, sum_coe]
    refine congrArg _ ((Fintype.sum_prod_type _).trans ?_)
    unfold dg bg
    refine Finset.sum_congr rfl fun b _ => Finset.sum_congr rfl fun j _ => ?_
    rw [mul_comm]
    congr 1
    exact Finset.sum_congr rfl fun i _ => mul_comm _ _
  · rfl

end Bwd.Ref

end
-- ==== Proof.BwdValue.lean ====
module

public import proofs.«01_k».proof.Defs
public import proofs.«01_k».proof.Proof.Finite
public import proofs.«01_k».proof.Proof.BwdArr
public import proofs.«01_k».proof.Proof.BwdRef

@[expose] public section

set_option maxRecDepth 16384
set_option maxHeartbeats 2000000

noncomputable section

/-! The time mixer's backward call: the kernel's gradients of the spatial weights, of their bias and of the gating norm's gain are the reference's. -/

namespace Bwd

open Idealize.ShloMosaic Idealize.ShloMosaic.TcCoe Idealize.SL.Sem
open Finite (all_real and_one)
open Cert.MixBwdIdeal

theorem facts : Cert.Pre_finite_mix_bwd.Facts := by
  constructor <;> decide

/-- The real arrays that the arguments hold; what the three gradients do not read is zero. -/
def args (m : (ℓ : Loc nD τ sig) → Buf (Elt Ideal) ℓ) (c : Dev nD) : Mix.Args where
  x s k := EReal.toReal ((m ((c.tc : Thread nD τ).loc main_arg0) : FVec Ideal S1x8192x1024 .f32) (ix3 0 s k))
  shm k := EReal.toReal ((m ((c.tc : Thread nD τ).loc main_arg1) : FVec Ideal S1x1024 .f32) (ix2 0 k))
  scm k := EReal.toReal ((m ((c.tc : Thread nD τ).loc main_arg2) : FVec Ideal S1x1024 .f32) (ix2 0 k))
  gm k := 0
  shf k := 0
  scf k := 0
  pre k := EReal.toReal ((m ((c.tc : Thread nD τ).loc main_arg3) : FVec Ideal S1x1024 .f32) (ix2 0 k))
  post k := 0
  pref k := 0
  wi k n := EReal.toReal ((m ((c.tc : Thread nD τ).loc main_arg4) : FVec Ideal S1x1024x1536 .f32) (ix3 0 k n))
  sg h j := EReal.toReal ((m ((c.tc : Thread nD τ).loc main_arg5) : FVec Ideal S1x4x128 .f32) (ix3 0 h j))
  ws h i j := EReal.toReal ((m ((c.tc : Thread nD τ).loc main_arg6) : FVec Ideal S1x4x128x128 .f32) (ix4 0 h i j))
  bs h i := 0
  wp g i j := 0
  ps k := 0
  wo k n := EReal.toReal ((m ((c.tc : Thread nD τ).loc main_arg10) : FVec Ideal S1x1024x1024 .f32) (ix3 0 k n))

/-- The derivative of the mixed rows. -/
def darg (m : (ℓ : Loc nD τ sig) → Buf (Elt Ideal) ℓ) (c : Dev nD) (s : Fin 8192) (n : Fin 1024) : ℝ :=
  EReal.toReal ((m ((c.tc : Thread nD τ).loc main_arg11) : FVec Ideal S8192x1024 .bf16) (ix2 s n))

variable [Cert.Pre_finite_mix_bwd.Facts] {m : (ℓ : Loc nD τ sig) → Buf (Elt Ideal) ℓ}

theorem given (h : Cert.Pre_MixBwdIdeal_finite_mix_bwd m) (c : Dev nD) : Ker.Given m c (args m c) (darg m c) := by
  have e := congrFun (h c) ix0
  dsimp only [Cert.Pre_finite_mix_bwd.fn, Cert.Pre_finite_mix_bwd.fn_part1, Cert.Pre_finite_mix_bwd.fn_part2] at e
  simp only [andi] at e
  obtain ⟨e, e11⟩ := and_one _ _ e
  obtain ⟨e, e10⟩ := and_one _ _ e
  obtain ⟨e, e6⟩ := and_one _ _ e
  obtain ⟨e, e5⟩ := and_one _ _ e
  obtain ⟨e, e4⟩ := and_one _ _ e
  obtain ⟨e, e3⟩ := and_one _ _ e
  obtain ⟨e, e2⟩ := and_one _ _ e
  obtain ⟨e, e1⟩ := and_one _ _ e
  have one (a : Fin 1) : a = 0 := Subsingleton.elim _ _
  exact {
    x := fun a s k => by rw [one a]; exact all_real _ _ _ _ _ _ e _
    shm := fun a k => by rw [one a]; exact all_real _ _ _ _ _ _ e1 _
    scm := fun a k => by rw [one a]; exact all_real _ _ _ _ _ _ e2 _
    pre := fun a k => by rw [one a]; exact all_real _ _ _ _ _ _ e3 _
    wi := fun a k n => by rw [one a]; exact all_real _ _ _ _ _ _ e4 _
    sg := fun a h j => by rw [one a]; exact all_real _ _ _ _ _ _ e5 _
    ws := fun a h i j => by rw [one a]; exact all_real _ _ _ _ _ _ e6 _
    wo := fun a k n => by rw [one a]; exact all_real _ _ _ _ _ _ e10 _
    dm := fun s n => all_real _ _ _ _ _ _ e11 _
  }

theorem agree {m' : (ℓ : Loc Cert.MixBwdRefIdeal.nD Cert.MixBwdRefIdeal.τ Cert.MixBwdRefIdeal.sig) → Buf (Elt Ideal) ℓ} (c : Dev nD) (A : Mix.Args) (dm : Fin 8192 → Fin 1024 → ℝ) (G : Ker.Given m c A dm)
    (h0 : m' ((c.tc : Thread Cert.MixBwdRefIdeal.nD Cert.MixBwdRefIdeal.τ).loc Cert.MixBwdRefIdeal.main_arg0) = m ((c.tc : Thread nD τ).loc main_arg0))
    (h1 : m' ((c.tc : Thread Cert.MixBwdRefIdeal.nD Cert.MixBwdRefIdeal.τ).loc Cert.MixBwdRefIdeal.main_arg1) = m ((c.tc : Thread nD τ).loc main_arg1))
    (h2 : m' ((c.tc : Thread Cert.MixBwdRefIdeal.nD Cert.MixBwdRefIdeal.τ).loc Cert.MixBwdRefIdeal.main_arg2) = m ((c.tc : Thread nD τ).loc main_arg2))
    (h3 : m' ((c.tc : Thread Cert.MixBwdRefIdeal.nD Cert.MixBwdRefIdeal.τ).loc Cert.MixBwdRefIdeal.main_arg3) = m ((c.tc : Thread nD τ).loc main_arg3))
    (h4 : m' ((c.tc : Thread Cert.MixBwdRefIdeal.nD Cert.MixBwdRefIdeal.τ).loc Cert.MixBwdRefIdeal.main_arg4) = m ((c.tc : Thread nD τ).loc main_arg4))
    (h5 : m' ((c.tc : Thread Cert.MixBwdRefIdeal.nD Cert.MixBwdRefIdeal.τ).loc Cert.MixBwdRefIdeal.main_arg5) = m ((c.tc : Thread nD τ).loc main_arg5))
    (h6 : m' ((c.tc : Thread Cert.MixBwdRefIdeal.nD Cert.MixBwdRefIdeal.τ).loc Cert.MixBwdRefIdeal.main_arg6) = m ((c.tc : Thread nD τ).loc main_arg6))
    (h10 : m' ((c.tc : Thread Cert.MixBwdRefIdeal.nD Cert.MixBwdRefIdeal.τ).loc Cert.MixBwdRefIdeal.main_arg10) = m ((c.tc : Thread nD τ).loc main_arg10))
    (h11 : m' ((c.tc : Thread Cert.MixBwdRefIdeal.nD Cert.MixBwdRefIdeal.τ).loc Cert.MixBwdRefIdeal.main_arg11) = m ((c.tc : Thread nD τ).loc main_arg11)) :
    Ref.Holds (StableHlo.launchContents m' c) A dm where
  x a s k := (congrFun h0 _).trans (G.x a s k)
  shm a k := (congrFun h1 _).trans (G.shm a k)
  scm a k := (congrFun h2 _).trans (G.scm a k)
  pre a k := (congrFun h3 _).trans (G.pre a k)
  wi a k n := (congrFun h4 _).trans (G.wi a k n)
  sg a h j := (congrFun h5 _).trans (G.sg a h j)
  ws a h i j := (congrFun h6 _).trans (G.ws a h i j)
  wo a k n := (congrFun h10 _).trans (G.wo a k n)
  dm s n := (congrFun h11 _).trans (G.dm s n)

/-- The run of the kernel, with its three results named. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c.tc : Thread nD τ).loc main_v52_3) = (MixFrame.dats m 0 c).arrAt 17 cfg0.N
      ∧ r.2.mem ((c.tc : Thread nD τ).loc main_v52_5) = (MixFrame.dats m 0 c).arrAt 19 cfg0.N
      ∧ r.2.mem ((c.tc : Thread nD τ).loc main_v52_6) = (MixFrame.dats m 0 c).arrAt 20 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h.1 c).1 17, (h.1 c).1 19, (h.1 c).1 20, h.2.1 c⟩) (θ_run_and (MixFrame.run_main m ρ) (MixFrame.frame m ρ))

/-- The claim. -/
theorem value [Facts] [Cert.MixBwdRefIdeal.Facts] : Cert.algebraic_MixBwdIdeal_MixBwdRefIdeal_pre_finite_mix_bwd := by
  intro m ρ m' ρ' hpre hagree
  refine ⟨_, _, _, run m ρ, ?_⟩
  refine (θ_run Cert.MixBwdRefIdeal.defs _ _).mono (fun r h c => ?_) (Cert.MixBwdRefIdeal.Value.run (F := Ideal) m' ρ')
  have G := given hpre c
  have B := fun t => Ker.filled G t
  obtain ⟨a0, a1, a2, a3, a4, a5, a6, a7, a8, a9, a10, a11, a12⟩ := hagree c
  have H := agree c _ _ G a0 a1 a2 a3 a4 a5 a6 a10 a11
  obtain ⟨r0, r1, r2, rest⟩ := h c
  refine ⟨r0.trans ?_, r1.trans ?_, r2.trans ?_, rest⟩
  · refine Eq.trans ((Cert.MixBwdRefIdeal.Value.val4_main_v182 _).symm.trans (funext fun i => ?_)) (Ker.arr17 B).symm
    exact (congrArg _ (Ker.eta3 i)).trans (Ref.out182 H _ _ _)
  · refine Eq.trans ((Cert.MixBwdRefIdeal.Value.val4_main_v185 _).symm.trans (funext fun i => ?_)) (Ker.arr19 B).symm
    exact (congrArg _ (Ker.eta2 i)).trans (Ref.out185 H _ _)
  · refine Eq.trans ((Cert.MixBwdRefIdeal.Value.val4_main_v188 _).symm.trans (funext fun i => ?_)) (Ker.arr20 B).symm
    exact (congrArg _ (Ker.eta2 i)).trans (Ref.out188 H _ _)

end Bwd

end
-- ==== Proof.lean ====
/- The proof of the claims: the frames and the values of the channel mixer's and the time mixer's forward calls, of the
time mixer's backward call, of the modulations, of two calls of plain products and of two of the optimiser. -/
module

public import proofs.«01_k».proof.Defs
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.Mod
public import proofs.«01_k».proof.Proof.Gen.Mod.Frame
public import proofs.«01_k».proof.Proof.Gen.ModIdeal
public import proofs.«01_k».proof.Proof.Gen.ModIdeal.Value
public import proofs.«01_k».proof.Proof.Gen.ModRefIdeal
public import proofs.«01_k».proof.Proof.Gen.ModRefIdeal.Run
public import proofs.«01_k».proof.Proof.Gen.Wgrad
public import proofs.«01_k».proof.Proof.Gen.Wgrad.Frame
public import proofs.«01_k».proof.Proof.Gen.WgradIdeal
public import proofs.«01_k».proof.Proof.Gen.WgradIdeal.Value
public import proofs.«01_k».proof.Proof.Gen.WgradRefIdeal
public import proofs.«01_k».proof.Proof.Gen.WgradRefIdeal.Run
public import proofs.«01_k».proof.Proof.Gen.Pair
public import proofs.«01_k».proof.Proof.Gen.Pair.Frame
public import proofs.«01_k».proof.Proof.Gen.PairIdeal
public import proofs.«01_k».proof.Proof.Gen.PairIdeal.Value
public import proofs.«01_k».proof.Proof.Gen.PairRefIdeal
public import proofs.«01_k».proof.Proof.Gen.PairRefIdeal.Run
public import proofs.«01_k».proof.Proof.Gen.Adam
public import proofs.«01_k».proof.Proof.Gen.Adam.Frame
public import proofs.«01_k».proof.Proof.Gen.AdamIdeal
public import proofs.«01_k».proof.Proof.Gen.AdamIdeal.Value
public import proofs.«01_k».proof.Proof.Gen.AdamRefIdeal
public import proofs.«01_k».proof.Proof.Gen.AdamRefIdeal.Run
public import proofs.«01_k».proof.Proof.Gen.Wada
public import proofs.«01_k».proof.Proof.Gen.Wada.Frame
public import proofs.«01_k».proof.Proof.Gen.WadaIdeal
public import proofs.«01_k».proof.Proof.Gen.WadaIdeal.Value
public import proofs.«01_k».proof.Proof.Gen.WadaRefIdeal
public import proofs.«01_k».proof.Proof.Gen.WadaRefIdeal.Run
public import proofs.«01_k».proof.Proof.Gen.MixBwd
public import proofs.«01_k».proof.Proof.Gen.MixBwdIdeal
public import proofs.«01_k».proof.Proof.Gen.MixBwdRefIdeal
public import proofs.«01_k».proof.Proof.Gen.MixBwdRefIdeal.Run
public import proofs.«01_k».proof.Proof.MixFrame
public import proofs.«01_k».proof.Proof.MixWord
public import proofs.«01_k».proof.Proof.Finite
public import proofs.«01_k».proof.Proof.FwdValue
public import proofs.«01_k».proof.Proof.MixValue
public import proofs.«01_k».proof.Proof.ModValue
public import proofs.«01_k».proof.Proof.WgradValue
public import proofs.«01_k».proof.Proof.PairValue
public import proofs.«01_k».proof.Proof.AdamValue
public import proofs.«01_k».proof.Proof.WadaValue
public import proofs.«01_k».proof.Proof.BwdValue
public import Idealize.ShloMosaic.Adequacy
public import Idealize.ShloMosaic.Init

@[expose] public section

noncomputable section

namespace Cert.Proof

open Idealize.ShloMosaic Idealize.SL.Sem

theorem ffn_fwd_reference : Cert.quiescent_FfnFwdRefIdeal := fun m ρ _ => (θ_run Cert.FfnFwdRefIdeal.defs _ _).mono
  (fun _ h => ⟨fun c => (h c).2.2.2.2.2.2, sem_eq_zero_of_no_sems (by decide) _⟩) (Cert.FfnFwdRefIdeal.Value.run (F := Ideal) m ρ)

theorem mix_fwd_reference : Cert.quiescent_MixFwdRefIdeal := fun m ρ _ => (θ_run Cert.MixFwdRefIdeal.defs _ _).mono
  (fun _ h => ⟨fun c => (h c).2.2.2.2.2.2, sem_eq_zero_of_no_sems (by decide) _⟩) (Cert.MixFwdRefIdeal.Value.run (F := Ideal) m ρ)

theorem mod_reference : Cert.quiescent_ModRefIdeal := fun m ρ _ => (θ_run Cert.ModRefIdeal.defs _ _).mono
  (fun _ h => ⟨fun c => (h c).2.2, sem_eq_zero_of_no_sems (by decide) _⟩) (Cert.ModRefIdeal.Value.run (F := Ideal) m ρ)

theorem wgrad_reference : Cert.quiescent_WgradRefIdeal := fun m ρ _ => (θ_run Cert.WgradRefIdeal.defs _ _).mono
  (fun _ h => ⟨fun c => (h c).2, sem_eq_zero_of_no_sems (by decide) _⟩) (Cert.WgradRefIdeal.Value.run (F := Ideal) m ρ)

theorem pair_reference : Cert.quiescent_PairRefIdeal := fun m ρ _ => (θ_run Cert.PairRefIdeal.defs _ _).mono
  (fun _ h => ⟨fun c => (h c).2.2, sem_eq_zero_of_no_sems (by decide) _⟩) (Cert.PairRefIdeal.Value.run (F := Ideal) m ρ)

theorem adam_reference : Cert.quiescent_AdamRefIdeal := fun m ρ _ => (θ_run Cert.AdamRefIdeal.defs _ _).mono
  (fun _ h => ⟨fun c => (h c).2.2.2.2, sem_eq_zero_of_no_sems (by decide) _⟩) (Cert.AdamRefIdeal.Value.run (F := Ideal) m ρ)

theorem wada_reference : Cert.quiescent_WadaRefIdeal := fun m ρ _ => (θ_run Cert.WadaRefIdeal.defs _ _).mono
  (fun _ h => ⟨fun c => (h c).2.2.2.2, sem_eq_zero_of_no_sems (by decide) _⟩) (Cert.WadaRefIdeal.Value.run (F := Ideal) m ρ)

theorem mix_bwd_reference : Cert.quiescent_MixBwdRefIdeal := fun m ρ _ => (θ_run Cert.MixBwdRefIdeal.defs _ _).mono
  (fun _ h => ⟨fun c => (h c).2.2.2, sem_eq_zero_of_no_sems (by decide) _⟩) (Cert.MixBwdRefIdeal.Value.run (F := Ideal) m ρ)

theorem mix_fwd_preserves : Cert.preserves_MixFwd_MixFwdIdeal :=
  IdealRules.named_const.statement Cert.MixFwdIdeal.κ "gelu_c1" .f32 0x3D122279#32 ((80338380498831 / 2251799813685248 : ℝ) : EReal) rfl

theorem mix_bwd_preserves : Cert.preserves_MixBwd_MixBwdIdeal :=
  ⟨IdealRules.named_const.statement Cert.MixBwdIdeal.κ "gelu_c1" .f32 0x3D122279#32 ((80338380498831 / 2251799813685248 : ℝ) : EReal) rfl,
    IdealRules.named_const.statement Cert.MixBwdIdeal.κ "gelu_3c1" .f32 0x3DDB33B6#32 ((241015141496493 / 2251799813685248 : ℝ) : EReal) rfl⟩

theorem claim : Cert.Claim := ⟨Cert.FfnFwd.Gen.facts, Cert.FfnFwdIdeal.Gen.facts, Cert.FfnFwdRefIdeal.Gen.facts,
  Cert.MixFwd.Gen.facts, Cert.MixFwdIdeal.Gen.facts, Cert.MixFwdRefIdeal.Gen.facts,
  Cert.Mod.Gen.facts, Cert.ModIdeal.Gen.facts, Cert.ModRefIdeal.Gen.facts,
  Cert.Wgrad.Gen.facts, Cert.WgradIdeal.Gen.facts, Cert.WgradRefIdeal.Gen.facts,
  Cert.Pair.Gen.facts, Cert.PairIdeal.Gen.facts, Cert.PairRefIdeal.Gen.facts,
  Cert.Adam.Gen.facts, Cert.AdamIdeal.Gen.facts, Cert.AdamRefIdeal.Gen.facts,
  Cert.Wada.Gen.facts, Cert.WadaIdeal.Gen.facts, Cert.WadaRefIdeal.Gen.facts,
  Cert.MixBwd.Gen.facts, Cert.MixBwdIdeal.Gen.facts, Cert.MixBwdRefIdeal.Gen.facts,
  Finite.facts, Mix.facts, Bwd.facts,
  fun m ρ _ => Cert.FfnFwd.Gen.frame m ρ, fun m ρ _ => Cert.FfnFwdIdeal.Gen.frame m ρ, fun m ρ _ => Cert.FfnFwdIdeal.Gen.frame m ρ,
  ffn_fwd_reference, fun m ρ _ => ffn_fwd_reference m ρ trivial,
  fun m ρ _ => Cert.MixFwd.Gen.frame m ρ, fun m ρ _ => Cert.MixFwdIdeal.Gen.frame m ρ, fun m ρ _ => Cert.MixFwdIdeal.Gen.frame m ρ,
  mix_fwd_reference, fun m ρ _ => mix_fwd_reference m ρ trivial,
  fun m ρ _ => Cert.Mod.Gen.frame m ρ, fun m ρ _ => Cert.ModIdeal.Gen.frame m ρ, mod_reference,
  fun m ρ _ => Cert.Wgrad.Gen.frame m ρ, fun m ρ _ => Cert.WgradIdeal.Gen.frame m ρ, wgrad_reference,
  fun m ρ _ => Cert.Pair.Gen.frame m ρ, fun m ρ _ => Cert.PairIdeal.Gen.frame m ρ, pair_reference,
  fun m ρ _ => Cert.Adam.Gen.frame m ρ, fun m ρ _ => Cert.AdamIdeal.Gen.frame m ρ, adam_reference,
  fun m ρ _ => Cert.Wada.Gen.frame m ρ, fun m ρ _ => Cert.WadaIdeal.Gen.frame m ρ, wada_reference,
  MixWord.frame, fun m ρ _ => MixFrame.frame m ρ, fun m ρ _ => MixFrame.frame m ρ,
  mix_bwd_reference, fun m ρ _ => mix_bwd_reference m ρ trivial,
  trivial, @Fwd.value Finite.facts Cert.FfnFwdIdeal.Gen.facts Cert.FfnFwdRefIdeal.Gen.facts,
  mix_fwd_preserves, @Mix.value Mix.facts Cert.MixFwdIdeal.Gen.facts Cert.MixFwdRefIdeal.Gen.facts,
  trivial, @Mod.value Cert.ModIdeal.Gen.facts Cert.ModRefIdeal.Gen.facts,
  trivial, @Wgrad.value Cert.WgradIdeal.Gen.facts Cert.WgradRefIdeal.Gen.facts,
  trivial, @Pair.value Cert.PairIdeal.Gen.facts Cert.PairRefIdeal.Gen.facts,
  trivial, @Adam.value Cert.AdamIdeal.Gen.facts Cert.AdamRefIdeal.Gen.facts,
  trivial, @Wada.value Cert.WadaIdeal.Gen.facts Cert.WadaRefIdeal.Gen.facts,
  mix_bwd_preserves, @Bwd.value Bwd.facts Cert.MixBwdIdeal.Gen.facts Cert.MixBwdRefIdeal.Gen.facts⟩

end Cert.Proof

end
